-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_inproj_finite [hPre_inproj_finite : Cert.Pre_inproj_finite.Facts] (m : (ℓ : Loc Cert.InprojIdeal.nD Cert.InprojIdeal.τ Cert.InprojIdeal.sig) → Buf (Elt Ideal) ℓ) : Prop :=
  ∀ c : Dev Cert.InprojIdeal.nD,
    (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7))).1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7))).2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7))).2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7))).2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7))).2.2.2.2.1 = (fun _ => 1#1)
    ∧ (Cert.Pre_inproj_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7))).2.2.2.2.2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inproj_finite [hPre_inproj_finite : Cert.Pre_inproj_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7))).1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7))).2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7))).2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7))).2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7))).2.2.2.2.1 = (fun _ => 1#1)
    ∧ (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7))).2.2.2.2.2 = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_ple_finite [hPre_ple_finite : Cert.Pre_ple_finite.Facts] (m : (ℓ : Loc Cert.PleIdeal.nD Cert.PleIdeal.τ Cert.PleIdeal.sig) → Buf (Elt Ideal) ℓ) : Prop :=
  ∀ c : Dev Cert.PleIdeal.nD,
    (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).2.2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).2.2.2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).2.2.2.2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).2.2.2.2.2.2.2.1 = (fun _ => 1#1)
    ∧ (Cert.Pre_ple_finite.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6)) (m ((c.tc : Thread Cert.PleIdeal.nD Cert.PleIdeal.τ).loc Cert.PleIdeal.main_arg7)) (m ((c.tc : Thread Cert.PleIdeal.nD Cert.PleIdeal.τ).loc Cert.PleIdeal.main_arg8))).2.2.2.2.2.2.2.2 = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_ple_finite [hPre_ple_finite : Cert.Pre_ple_finite.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).2.2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).2.2.2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).2.2.2.2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).2.2.2.2.2.2.2.1 = (fun _ => 1#1)
    ∧ (Cert.Pre_ple_finite.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5)) (m ((c.tc : Thread Cert.PleRefIdeal.nD Cert.PleRefIdeal.τ).loc Cert.PleRefIdeal.main_arg6)) (m ((c.tc : Thread Cert.PleRefIdeal.nD Cert.PleRefIdeal.τ).loc Cert.PleRefIdeal.main_arg7)) (m ((c.tc : Thread Cert.PleRefIdeal.nD Cert.PleRefIdeal.τ).loc Cert.PleRefIdeal.main_arg8))).2.2.2.2.2.2.2.2 = (fun _ => 1#1)

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_InprojFwd (m : (ℓ : Loc Cert.InprojFwd.nD Cert.InprojFwd.τ Cert.InprojFwd.sig) → Buf (Elt Bits) ℓ) : Prop :=
  True

def Pre_InprojFwdIdeal (m : (ℓ : Loc Cert.InprojFwdIdeal.nD Cert.InprojFwdIdeal.τ Cert.InprojFwdIdeal.sig) → Buf (Elt Ideal) ℓ) : Prop :=
  True

def Pre_InprojFwdRefIdeal (m : (ℓ : Loc Cert.InprojFwdRefIdeal.nD Cert.InprojFwdRefIdeal.τ Cert.InprojFwdRefIdeal.sig) → Buf (Elt Ideal) ℓ) : Prop :=
  True

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightRefIdeal (m : (ℓ : Loc Cert.DownWeightRefIdeal.nD Cert.DownWeightRefIdeal.τ Cert.DownWeightRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_DiagBlocks (m : (ℓ : Loc Cert.DiagBlocks.nD Cert.DiagBlocks.τ Cert.DiagBlocks.sig) → Buf (Elt Bits) ℓ) : Prop :=
  True

def Pre_DiagBlocksIdeal (m : (ℓ : Loc Cert.DiagBlocksIdeal.nD Cert.DiagBlocksIdeal.τ Cert.DiagBlocksIdeal.sig) → Buf (Elt Ideal) ℓ) : Prop :=
  True

def Pre_DiagBlocksRefIdeal (m : (ℓ : Loc Cert.DiagBlocksRefIdeal.nD Cert.DiagBlocksRefIdeal.τ Cert.DiagBlocksRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ r.2.sem = fun _ => 0)

def quiescent_InprojIdeal_pre_inproj_finite [hInprojIdeal : Cert.InprojIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_inproj_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7))
      ∧ r.2.sem = fun _ => 0)

def quiescent_InprojRefIdeal_pre_inproj_finite [hInprojRefIdeal : Cert.InprojRefIdeal.Facts] [hPre_inproj_finite : Cert.Pre_inproj_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inproj_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7)
      ∧ r.2.mem ((c.tc : Thread Cert.Ple.nD Cert.Ple.τ).loc Cert.Ple.main_arg8) = m ((c.tc : Thread Cert.Ple.nD Cert.Ple.τ).loc Cert.Ple.main_arg8))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7)
      ∧ r.2.mem ((c.tc : Thread Cert.PleIdeal.nD Cert.PleIdeal.τ).loc Cert.PleIdeal.main_arg8) = m ((c.tc : Thread Cert.PleIdeal.nD Cert.PleIdeal.τ).loc Cert.PleIdeal.main_arg8))
      ∧ r.2.sem = fun _ => 0)

def quiescent_PleIdeal_pre_ple_finite [hPleIdeal : Cert.PleIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg), Pre_PleIdeal_ple_finite m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7)
      ∧ r.2.mem ((c.tc : Thread Cert.PleIdeal.nD Cert.PleIdeal.τ).loc Cert.PleIdeal.main_arg8) = m ((c.tc : Thread Cert.PleIdeal.nD Cert.PleIdeal.τ).loc Cert.PleIdeal.main_arg8))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7)
      ∧ r.2.mem ((c.tc : Thread Cert.PleRefIdeal.nD Cert.PleRefIdeal.τ).loc Cert.PleRefIdeal.main_arg8) = m ((c.tc : Thread Cert.PleRefIdeal.nD Cert.PleRefIdeal.τ).loc Cert.PleRefIdeal.main_arg8))
      ∧ r.2.sem = fun _ => 0)

def quiescent_PleRefIdeal_pre_ple_finite [hPleRefIdeal : Cert.PleRefIdeal.Facts] [hPre_ple_finite : Cert.Pre_ple_finite.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_ple_finite m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7)
      ∧ r.2.mem ((c.tc : Thread Cert.PleRefIdeal.nD Cert.PleRefIdeal.τ).loc Cert.PleRefIdeal.main_arg8) = m ((c.tc : Thread Cert.PleRefIdeal.nD Cert.PleRefIdeal.τ).loc Cert.PleRefIdeal.main_arg8))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_InprojFwd [hInprojFwd : Cert.InprojFwd.Facts] : Prop :=
  ∀ (m : (ℓ : Loc Cert.InprojFwd.nD Cert.InprojFwd.τ Cert.InprojFwd.sig) → Buf (Elt Bits) ℓ) (g : Dev Cert.InprojFwd.nD → PrngReg), Pre_InprojFwd m →
    θ_run (Cert.InprojFwd.defs (F := Bits)) (onTc (τ := Cert.InprojFwd.τ) (Cert.InprojFwd.main (F := Bits))) ⟨m, fun _ => 0, g⟩ (fun r => (∀ c : Dev Cert.InprojFwd.nD,
      r.2.mem ((c.tc : Thread Cert.InprojFwd.nD Cert.InprojFwd.τ).loc Cert.InprojFwd.main_arg0) = m ((c.tc : Thread Cert.InprojFwd.nD Cert.InprojFwd.τ).loc Cert.InprojFwd.main_arg0)
      ∧ r.2.mem ((c.tc : Thread Cert.InprojFwd.nD Cert.InprojFwd.τ).loc Cert.InprojFwd.main_arg1) = m ((c.tc : Thread Cert.InprojFwd.nD Cert.InprojFwd.τ).loc Cert.InprojFwd.main_arg1)
      ∧ r.2.mem ((c.tc : Thread Cert.InprojFwd.nD Cert.InprojFwd.τ).loc Cert.InprojFwd.main_arg2) = m ((c.tc : Thread Cert.InprojFwd.nD Cert.InprojFwd.τ).loc Cert.InprojFwd.main_arg2)
      ∧ r.2.mem ((c.tc : Thread Cert.InprojFwd.nD Cert.InprojFwd.τ).loc Cert.InprojFwd.main_arg3) = m ((c.tc : Thread Cert.InprojFwd.nD Cert.InprojFwd.τ).loc Cert.InprojFwd.main_arg3))
      ∧ r.2.sem = fun _ => 0)

def quiescent_InprojFwdIdeal [hInprojFwdIdeal : Cert.InprojFwdIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg), Pre_InprojFwdIdeal m →
    θ_run (Cert.InprojFwdIdeal.defs (F := Ideal)) (onTc (τ := Cert.InprojFwdIdeal.τ) (Cert.InprojFwdIdeal.main (F := Ideal))) ⟨m, fun _ => 0, g⟩ (fun r => (∀ c : Dev Cert.InprojFwdIdeal.nD,
      r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
      ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
      ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2)
      ∧ r.2.mem ((c.tc : Thread Cert.InprojFwdIdeal.nD Cert.InprojFwdIdeal.τ).loc Cert.InprojFwdIdeal.main_arg3) = m ((c.tc : Thread Cert.InprojFwdIdeal.nD Cert.InprojFwdIdeal.τ).loc Cert.InprojFwdIdeal.main_arg3))
      ∧ r.2.sem = fun _ => 0)

def quiescent_InprojFwdRefIdeal [hInprojFwdRefIdeal : Cert.InprojFwdRefIdeal.Facts] : Prop :=
  ∀ (m : (ℓ : Loc Cert.InprojFwdRefIdeal.nD Cert.InprojFwdRefIdeal.τ Cert.InprojFwdRefIdeal.sig) → Buf (Elt Ideal) ℓ) (g : Dev Cert.InprojFwdRefIdeal.nD → PrngReg), Pre_InprojFwdRefIdeal m →
    θ_run (Cert.InprojFwdRefIdeal.defs (F := Ideal)) (onTc (τ := Cert.InprojFwdRefIdeal.τ) (Cert.InprojFwdRefIdeal.main (F := Ideal))) ⟨m, fun _ => 0, g⟩ (fun r => (∀ c : Dev Cert.InprojFwdRefIdeal.nD,
      r.2.mem ((c.tc : Thread Cert.InprojFwdRefIdeal.nD Cert.InprojFwdRefIdeal.τ).loc Cert.InprojFwdRefIdeal.main_arg0) = m ((c.tc : Thread Cert.InprojFwdRefIdeal.nD Cert.InprojFwdRefIdeal.τ).loc Cert.InprojFwdRefIdeal.main_arg0)
      ∧ r.2.mem ((c.tc : Thread Cert.InprojFwdRefIdeal.nD Cert.InprojFwdRefIdeal.τ).loc Cert.InprojFwdRefIdeal.main_arg1) = m ((c.tc : Thread Cert.InprojFwdRefIdeal.nD Cert.InprojFwdRefIdeal.τ).loc Cert.InprojFwdRefIdeal.main_arg1)
      ∧ r.2.mem ((c.tc : Thread Cert.InprojFwdRefIdeal.nD Cert.InprojFwdRefIdeal.τ).loc Cert.InprojFwdRefIdeal.main_arg2) = m ((c.tc : Thread Cert.InprojFwdRefIdeal.nD Cert.InprojFwdRefIdeal.τ).loc Cert.InprojFwdRefIdeal.main_arg2)
      ∧ r.2.mem ((c.tc : Thread Cert.InprojFwdRefIdeal.nD Cert.InprojFwdRefIdeal.τ).loc Cert.InprojFwdRefIdeal.main_arg3) = m ((c.tc : Thread Cert.InprojFwdRefIdeal.nD Cert.InprojFwdRefIdeal.τ).loc Cert.InprojFwdRefIdeal.main_arg3))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightRefIdeal [hDownWeightRefIdeal : Cert.DownWeightRefIdeal.Facts] : Prop :=
  ∀ (m : (ℓ : Loc Cert.DownWeightRefIdeal.nD Cert.DownWeightRefIdeal.τ Cert.DownWeightRefIdeal.sig) → Buf (Elt Ideal) ℓ) (g : Dev Cert.DownWeightRefIdeal.nD → PrngReg), Pre_DownWeightRefIdeal m →
    θ_run (Cert.DownWeightRefIdeal.defs (F := Ideal)) (onTc (τ := Cert.DownWeightRefIdeal.τ) (Cert.DownWeightRefIdeal.main (F := Ideal))) ⟨m, fun _ => 0, g⟩ (fun r => (∀ c : Dev Cert.DownWeightRefIdeal.nD,
      r.2.mem ((c.tc : Thread Cert.DownWeightRefIdeal.nD Cert.DownWeightRefIdeal.τ).loc Cert.DownWeightRefIdeal.main_arg0) = m ((c.tc : Thread Cert.DownWeightRefIdeal.nD Cert.DownWeightRefIdeal.τ).loc Cert.DownWeightRefIdeal.main_arg0)
      ∧ r.2.mem ((c.tc : Thread Cert.DownWeightRefIdeal.nD Cert.DownWeightRefIdeal.τ).loc Cert.DownWeightRefIdeal.main_arg1) = m ((c.tc : Thread Cert.DownWeightRefIdeal.nD Cert.DownWeightRefIdeal.τ).loc Cert.DownWeightRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_DiagBlocks [hDiagBlocks : Cert.DiagBlocks.Facts] : Prop :=
  ∀ (m : (ℓ : Loc Cert.DiagBlocks.nD Cert.DiagBlocks.τ Cert.DiagBlocks.sig) → Buf (Elt Bits) ℓ) (g : Dev Cert.DiagBlocks.nD → PrngReg), Pre_DiagBlocks m →
    θ_run (Cert.DiagBlocks.defs (F := Bits)) (onTc (τ := Cert.DiagBlocks.τ) (Cert.DiagBlocks.main (F := Bits))) ⟨m, fun _ => 0, g⟩ (fun r => (∀ c : Dev Cert.DiagBlocks.nD,
      r.2.mem ((c.tc : Thread Cert.DiagBlocks.nD Cert.DiagBlocks.τ).loc Cert.DiagBlocks.main_arg0) = m ((c.tc : Thread Cert.DiagBlocks.nD Cert.DiagBlocks.τ).loc Cert.DiagBlocks.main_arg0)
      ∧ r.2.mem ((c.tc : Thread Cert.DiagBlocks.nD Cert.DiagBlocks.τ).loc Cert.DiagBlocks.main_arg1) = m ((c.tc : Thread Cert.DiagBlocks.nD Cert.DiagBlocks.τ).loc Cert.DiagBlocks.main_arg1)
      ∧ r.2.mem ((c.tc : Thread Cert.DiagBlocks.nD Cert.DiagBlocks.τ).loc Cert.DiagBlocks.main_arg2) = m ((c.tc : Thread Cert.DiagBlocks.nD Cert.DiagBlocks.τ).loc Cert.DiagBlocks.main_arg2))
      ∧ r.2.sem = fun _ => 0)

def quiescent_DiagBlocksIdeal [hDiagBlocksIdeal : Cert.DiagBlocksIdeal.Facts] : Prop :=
  ∀ (m : (ℓ : Loc Cert.DiagBlocksIdeal.nD Cert.DiagBlocksIdeal.τ Cert.DiagBlocksIdeal.sig) → Buf (Elt Ideal) ℓ) (g : Dev Cert.DiagBlocksIdeal.nD → PrngReg), Pre_DiagBlocksIdeal m →
    θ_run (Cert.DiagBlocksIdeal.defs (F := Ideal)) (onTc (τ := Cert.DiagBlocksIdeal.τ) (Cert.DiagBlocksIdeal.main (F := Ideal))) ⟨m, fun _ => 0, g⟩ (fun r => (∀ c : Dev Cert.DiagBlocksIdeal.nD,
      r.2.mem ((c.tc : Thread Cert.DiagBlocksIdeal.nD Cert.DiagBlocksIdeal.τ).loc Cert.DiagBlocksIdeal.main_arg0) = m ((c.tc : Thread Cert.DiagBlocksIdeal.nD Cert.DiagBlocksIdeal.τ).loc Cert.DiagBlocksIdeal.main_arg0)
      ∧ r.2.mem ((c.tc : Thread Cert.DiagBlocksIdeal.nD Cert.DiagBlocksIdeal.τ).loc Cert.DiagBlocksIdeal.main_arg1) = m ((c.tc : Thread Cert.DiagBlocksIdeal.nD Cert.DiagBlocksIdeal.τ).loc Cert.DiagBlocksIdeal.main_arg1)
      ∧ r.2.mem ((c.tc : Thread Cert.DiagBlocksIdeal.nD Cert.DiagBlocksIdeal.τ).loc Cert.DiagBlocksIdeal.main_arg2) = m ((c.tc : Thread Cert.DiagBlocksIdeal.nD Cert.DiagBlocksIdeal.τ).loc Cert.DiagBlocksIdeal.main_arg2))
      ∧ r.2.sem = fun _ => 0)

def quiescent_DiagBlocksRefIdeal [hDiagBlocksRefIdeal : Cert.DiagBlocksRefIdeal.Facts] : Prop :=
  ∀ (m : (ℓ : Loc Cert.DiagBlocksRefIdeal.nD Cert.DiagBlocksRefIdeal.τ Cert.DiagBlocksRefIdeal.sig) → Buf (Elt Ideal) ℓ) (g : Dev Cert.DiagBlocksRefIdeal.nD → PrngReg), Pre_DiagBlocksRefIdeal m →
    θ_run (Cert.DiagBlocksRefIdeal.defs (F := Ideal)) (onTc (τ := Cert.DiagBlocksRefIdeal.τ) (Cert.DiagBlocksRefIdeal.main (F := Ideal))) ⟨m, fun _ => 0, g⟩ (fun r => (∀ c : Dev Cert.DiagBlocksRefIdeal.nD,
      r.2.mem ((c.tc : Thread Cert.DiagBlocksRefIdeal.nD Cert.DiagBlocksRefIdeal.τ).loc Cert.DiagBlocksRefIdeal.main_arg0) = m ((c.tc : Thread Cert.DiagBlocksRefIdeal.nD Cert.DiagBlocksRefIdeal.τ).loc Cert.DiagBlocksRefIdeal.main_arg0)
      ∧ r.2.mem ((c.tc : Thread Cert.DiagBlocksRefIdeal.nD Cert.DiagBlocksRefIdeal.τ).loc Cert.DiagBlocksRefIdeal.main_arg1) = m ((c.tc : Thread Cert.DiagBlocksRefIdeal.nD Cert.DiagBlocksRefIdeal.τ).loc Cert.DiagBlocksRefIdeal.main_arg1)
      ∧ r.2.mem ((c.tc : Thread Cert.DiagBlocksRefIdeal.nD Cert.DiagBlocksRefIdeal.τ).loc Cert.DiagBlocksRefIdeal.main_arg2) = m ((c.tc : Thread Cert.DiagBlocksRefIdeal.nD Cert.DiagBlocksRefIdeal.τ).loc Cert.DiagBlocksRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_v62) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v28_0)) (v1 : (c : Dev Cert.FfnIdeal.nD) → Buf (Elt Ideal) ((c.tc : Thread Cert.FfnIdeal.nD Cert.FfnIdeal.τ).loc Cert.FfnIdeal.main_v28_1)) (v2 : (c : Dev Cert.FfnIdeal.nD) → Buf (Elt Ideal) ((c.tc : Thread Cert.FfnIdeal.nD Cert.FfnIdeal.τ).loc Cert.FfnIdeal.main_v28_2)) (v3 : (c : Dev Cert.FfnIdeal.nD) → Buf (Elt Ideal) ((c.tc : Thread Cert.FfnIdeal.nD Cert.FfnIdeal.τ).loc Cert.FfnIdeal.main_v28_3)) (v4 : (c : Dev Cert.FfnIdeal.nD) → Buf (Elt Ideal) ((c.tc : Thread Cert.FfnIdeal.nD Cert.FfnIdeal.τ).loc Cert.FfnIdeal.main_v28_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v28_0) = v0 c
          ∧ r.2.mem ((c.tc : Thread Cert.FfnIdeal.nD Cert.FfnIdeal.τ).loc Cert.FfnIdeal.main_v28_1) = v1 c
          ∧ r.2.mem ((c.tc : Thread Cert.FfnIdeal.nD Cert.FfnIdeal.τ).loc Cert.FfnIdeal.main_v28_2) = v2 c
          ∧ r.2.mem ((c.tc : Thread Cert.FfnIdeal.nD Cert.FfnIdeal.τ).loc Cert.FfnIdeal.main_v28_3) = v3 c
          ∧ r.2.mem ((c.tc : Thread Cert.FfnIdeal.nD Cert.FfnIdeal.τ).loc Cert.FfnIdeal.main_v28_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v67) = v0 c
          ∧ r.2.mem ((c.tc : Thread Cert.FfnRefIdeal.nD Cert.FfnRefIdeal.τ).loc Cert.FfnRefIdeal.main_v70) = v1 c
          ∧ r.2.mem ((c.tc : Thread Cert.FfnRefIdeal.nD Cert.FfnRefIdeal.τ).loc Cert.FfnRefIdeal.main_v73) = v2 c
          ∧ r.2.mem ((c.tc : Thread Cert.FfnRefIdeal.nD Cert.FfnRefIdeal.τ).loc Cert.FfnRefIdeal.main_v76) = v3 c
          ∧ r.2.mem ((c.tc : Thread Cert.FfnRefIdeal.nD Cert.FfnRefIdeal.τ).loc Cert.FfnRefIdeal.main_v78) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Inproj_InprojIdeal : Prop :=
  True

def algebraic_InprojIdeal_InprojRefIdeal_pre_inproj_finite [hInprojIdeal : Cert.InprojIdeal.Facts] [hInprojRefIdeal : Cert.InprojRefIdeal.Facts] [hPre_inproj_finite : Cert.Pre_inproj_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_inproj_finite m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)) →
    ∃ (v0 : (c : Dev Cert.InprojIdeal.nD) → Buf (Elt Ideal) ((c.tc : Thread Cert.InprojIdeal.nD Cert.InprojIdeal.τ).loc Cert.InprojIdeal.main_v3_0)) (v1 : (c : Dev Cert.InprojIdeal.nD) → Buf (Elt Ideal) ((c.tc : Thread Cert.InprojIdeal.nD Cert.InprojIdeal.τ).loc Cert.InprojIdeal.main_v3_1)) (v2 : (c : Dev Cert.InprojIdeal.nD) → Buf (Elt Ideal) ((c.tc : Thread Cert.InprojIdeal.nD Cert.InprojIdeal.τ).loc Cert.InprojIdeal.main_v3_2)) (v3 : (c : Dev Cert.InprojIdeal.nD) → Buf (Elt Ideal) ((c.tc : Thread Cert.InprojIdeal.nD Cert.InprojIdeal.τ).loc Cert.InprojIdeal.main_v3_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3_0) = v0 c
          ∧ r.2.mem ((c.tc : Thread Cert.InprojIdeal.nD Cert.InprojIdeal.τ).loc Cert.InprojIdeal.main_v3_1) = v1 c
          ∧ r.2.mem ((c.tc : Thread Cert.InprojIdeal.nD Cert.InprojIdeal.τ).loc Cert.InprojIdeal.main_v3_2) = v2 c
          ∧ r.2.mem ((c.tc : Thread Cert.InprojIdeal.nD Cert.InprojIdeal.τ).loc Cert.InprojIdeal.main_v3_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v50) = v0 c
          ∧ r.2.mem ((c.tc : Thread Cert.InprojRefIdeal.nD Cert.InprojRefIdeal.τ).loc Cert.InprojRefIdeal.main_v51) = v1 c
          ∧ r.2.mem ((c.tc : Thread Cert.InprojRefIdeal.nD Cert.InprojRefIdeal.τ).loc Cert.InprojRefIdeal.main_v53) = v2 c
          ∧ r.2.mem ((c.tc : Thread Cert.InprojRefIdeal.nD Cert.InprojRefIdeal.τ).loc Cert.InprojRefIdeal.main_v55) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7))

def preserves_Ple_PleIdeal : Prop :=
  True

def algebraic_PleIdeal_PleRefIdeal_pre_ple_finite [hPleIdeal : Cert.PleIdeal.Facts] [hPleRefIdeal : Cert.PleRefIdeal.Facts] [hPre_ple_finite : Cert.Pre_ple_finite.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_ple_finite m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)
      ∧ m' ((c.tc : Thread Cert.PleRefIdeal.nD Cert.PleRefIdeal.τ).loc Cert.PleRefIdeal.main_arg7) = m ((c.tc : Thread Cert.PleIdeal.nD Cert.PleIdeal.τ).loc Cert.PleIdeal.main_arg7)
      ∧ m' ((c.tc : Thread Cert.PleRefIdeal.nD Cert.PleRefIdeal.τ).loc Cert.PleRefIdeal.main_arg8) = m ((c.tc : Thread Cert.PleIdeal.nD Cert.PleIdeal.τ).loc Cert.PleIdeal.main_arg8)) →
    ∃ (v0 : (c : Dev Cert.PleIdeal.nD) → Buf (Elt Ideal) ((c.tc : Thread Cert.PleIdeal.nD Cert.PleIdeal.τ).loc Cert.PleIdeal.main_v4_0)) (v1 : (c : Dev Cert.PleIdeal.nD) → Buf (Elt Ideal) ((c.tc : Thread Cert.PleIdeal.nD Cert.PleIdeal.τ).loc Cert.PleIdeal.main_v4_1)) (v2 : (c : Dev Cert.PleIdeal.nD) → Buf (Elt Ideal) ((c.tc : Thread Cert.PleIdeal.nD Cert.PleIdeal.τ).loc Cert.PleIdeal.main_v4_2)) (v3 : (c : Dev Cert.PleIdeal.nD) → Buf (Elt Ideal) ((c.tc : Thread Cert.PleIdeal.nD Cert.PleIdeal.τ).loc Cert.PleIdeal.main_v4_3)) (v4 : (c : Dev Cert.PleIdeal.nD) → Buf (Elt Ideal) ((c.tc : Thread Cert.PleIdeal.nD Cert.PleIdeal.τ).loc Cert.PleIdeal.main_v4_4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4_0) = v0 c
          ∧ r.2.mem ((c.tc : Thread Cert.PleIdeal.nD Cert.PleIdeal.τ).loc Cert.PleIdeal.main_v4_1) = v1 c
          ∧ r.2.mem ((c.tc : Thread Cert.PleIdeal.nD Cert.PleIdeal.τ).loc Cert.PleIdeal.main_v4_2) = v2 c
          ∧ r.2.mem ((c.tc : Thread Cert.PleIdeal.nD Cert.PleIdeal.τ).loc Cert.PleIdeal.main_v4_3) = v3 c
          ∧ r.2.mem ((c.tc : Thread Cert.PleIdeal.nD Cert.PleIdeal.τ).loc Cert.PleIdeal.main_v4_4) = v4 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
          ∧ r.2.mem ((c.tc : Thread Cert.PleIdeal.nD Cert.PleIdeal.τ).loc Cert.PleIdeal.main_arg7) = m ((c.tc : Thread Cert.PleIdeal.nD Cert.PleIdeal.τ).loc Cert.PleIdeal.main_arg7)
          ∧ r.2.mem ((c.tc : Thread Cert.PleIdeal.nD Cert.PleIdeal.τ).loc Cert.PleIdeal.main_arg8) = m ((c.tc : Thread Cert.PleIdeal.nD Cert.PleIdeal.τ).loc Cert.PleIdeal.main_arg8))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v141) = v0 c
          ∧ r.2.mem ((c.tc : Thread Cert.PleRefIdeal.nD Cert.PleRefIdeal.τ).loc Cert.PleRefIdeal.main_v210) = v1 c
          ∧ r.2.mem ((c.tc : Thread Cert.PleRefIdeal.nD Cert.PleRefIdeal.τ).loc Cert.PleRefIdeal.main_v211) = v2 c
          ∧ r.2.mem ((c.tc : Thread Cert.PleRefIdeal.nD Cert.PleRefIdeal.τ).loc Cert.PleRefIdeal.main_v212) = v3 c
          ∧ r.2.mem ((c.tc : Thread Cert.PleRefIdeal.nD Cert.PleRefIdeal.τ).loc Cert.PleRefIdeal.main_v214) = v4 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6)
          ∧ r.2.mem ((c.tc : Thread Cert.PleRefIdeal.nD Cert.PleRefIdeal.τ).loc Cert.PleRefIdeal.main_arg7) = m' ((c.tc : Thread Cert.PleRefIdeal.nD Cert.PleRefIdeal.τ).loc Cert.PleRefIdeal.main_arg7)
          ∧ r.2.mem ((c.tc : Thread Cert.PleRefIdeal.nD Cert.PleRefIdeal.τ).loc Cert.PleRefIdeal.main_arg8) = m' ((c.tc : Thread Cert.PleRefIdeal.nD Cert.PleRefIdeal.τ).loc Cert.PleRefIdeal.main_arg8))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v5_0)) (v1 : (c : Dev Cert.MergeFwdIdeal.nD) → Buf (Elt Ideal) ((c.tc : Thread Cert.MergeFwdIdeal.nD Cert.MergeFwdIdeal.τ).loc Cert.MergeFwdIdeal.main_v5_1)) (v2 : (c : Dev Cert.MergeFwdIdeal.nD) → Buf (Elt Ideal) ((c.tc : Thread Cert.MergeFwdIdeal.nD Cert.MergeFwdIdeal.τ).loc Cert.MergeFwdIdeal.main_v5_2)) (v3 : (c : Dev Cert.MergeFwdIdeal.nD) → Buf (Elt Ideal) ((c.tc : Thread Cert.MergeFwdIdeal.nD Cert.MergeFwdIdeal.τ).loc Cert.MergeFwdIdeal.main_v5_3)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v5_0) = v0 c
          ∧ r.2.mem ((c.tc : Thread Cert.MergeFwdIdeal.nD Cert.MergeFwdIdeal.τ).loc Cert.MergeFwdIdeal.main_v5_1) = v1 c
          ∧ r.2.mem ((c.tc : Thread Cert.MergeFwdIdeal.nD Cert.MergeFwdIdeal.τ).loc Cert.MergeFwdIdeal.main_v5_2) = v2 c
          ∧ r.2.mem ((c.tc : Thread Cert.MergeFwdIdeal.nD Cert.MergeFwdIdeal.τ).loc Cert.MergeFwdIdeal.main_v5_3) = v3 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v20) = v0 c
          ∧ r.2.mem ((c.tc : Thread Cert.MergeFwdRefIdeal.nD Cert.MergeFwdRefIdeal.τ).loc Cert.MergeFwdRefIdeal.main_v0) = v1 c
          ∧ r.2.mem ((c.tc : Thread Cert.MergeFwdRefIdeal.nD Cert.MergeFwdRefIdeal.τ).loc Cert.MergeFwdRefIdeal.main_v1) = v2 c
          ∧ r.2.mem ((c.tc : Thread Cert.MergeFwdRefIdeal.nD Cert.MergeFwdRefIdeal.τ).loc Cert.MergeFwdRefIdeal.main_v21) = v3 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v8)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v8) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v6_0)) (v1 : (c : Dev Cert.FfnUpIdeal.nD) → Buf (Elt Ideal) ((c.tc : Thread Cert.FfnUpIdeal.nD Cert.FfnUpIdeal.τ).loc Cert.FfnUpIdeal.main_v6_1)) (v2 : (c : Dev Cert.FfnUpIdeal.nD) → Buf (Elt Ideal) ((c.tc : Thread Cert.FfnUpIdeal.nD Cert.FfnUpIdeal.τ).loc Cert.FfnUpIdeal.main_v6_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v6_0) = v0 c
          ∧ r.2.mem ((c.tc : Thread Cert.FfnUpIdeal.nD Cert.FfnUpIdeal.τ).loc Cert.FfnUpIdeal.main_v6_1) = v1 c
          ∧ r.2.mem ((c.tc : Thread Cert.FfnUpIdeal.nD Cert.FfnUpIdeal.τ).loc Cert.FfnUpIdeal.main_v6_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v12) = v0 c
          ∧ r.2.mem ((c.tc : Thread Cert.FfnUpRefIdeal.nD Cert.FfnUpRefIdeal.τ).loc Cert.FfnUpRefIdeal.main_v16) = v1 c
          ∧ r.2.mem ((c.tc : Thread Cert.FfnUpRefIdeal.nD Cert.FfnUpRefIdeal.τ).loc Cert.FfnUpRefIdeal.main_v20) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_InprojFwd_InprojFwdIdeal : Prop :=
  True

def algebraic_InprojFwdIdeal_InprojFwdRefIdeal [hInprojFwdIdeal : Cert.InprojFwdIdeal.Facts] [hInprojFwdRefIdeal : Cert.InprojFwdRefIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg)
    (m' : (ℓ : Loc Cert.InprojFwdRefIdeal.nD Cert.InprojFwdRefIdeal.τ Cert.InprojFwdRefIdeal.sig) → Buf (Elt Ideal) ℓ) (g' : Dev Cert.InprojFwdRefIdeal.nD → PrngReg), Pre_InprojFwdIdeal m →
    (∀ c : Dev Cert.InprojFwdIdeal.nD,
      m' ((c.tc : Thread Cert.InprojFwdRefIdeal.nD Cert.InprojFwdRefIdeal.τ).loc Cert.InprojFwdRefIdeal.main_arg0) = m ((c.tc : Thread Cert.InprojFwdIdeal.nD Cert.InprojFwdIdeal.τ).loc Cert.InprojFwdIdeal.main_arg0)
      ∧ m' ((c.tc : Thread Cert.InprojFwdRefIdeal.nD Cert.InprojFwdRefIdeal.τ).loc Cert.InprojFwdRefIdeal.main_arg1) = m ((c.tc : Thread Cert.InprojFwdIdeal.nD Cert.InprojFwdIdeal.τ).loc Cert.InprojFwdIdeal.main_arg1)
      ∧ m' ((c.tc : Thread Cert.InprojFwdRefIdeal.nD Cert.InprojFwdRefIdeal.τ).loc Cert.InprojFwdRefIdeal.main_arg2) = m ((c.tc : Thread Cert.InprojFwdIdeal.nD Cert.InprojFwdIdeal.τ).loc Cert.InprojFwdIdeal.main_arg2)
      ∧ m' ((c.tc : Thread Cert.InprojFwdRefIdeal.nD Cert.InprojFwdRefIdeal.τ).loc Cert.InprojFwdRefIdeal.main_arg3) = m ((c.tc : Thread Cert.InprojFwdIdeal.nD Cert.InprojFwdIdeal.τ).loc Cert.InprojFwdIdeal.main_arg3)) →
    ∃ (v0 : (c : Dev Cert.InprojFwdIdeal.nD) → Buf (Elt Ideal) ((c.tc : Thread Cert.InprojFwdIdeal.nD Cert.InprojFwdIdeal.τ).loc Cert.InprojFwdIdeal.main_v3_0)) (v1 : (c : Dev Cert.InprojFwdIdeal.nD) → Buf (Elt Ideal) ((c.tc : Thread Cert.InprojFwdIdeal.nD Cert.InprojFwdIdeal.τ).loc Cert.InprojFwdIdeal.main_v3_1)) (v2 : (c : Dev Cert.InprojFwdIdeal.nD) → Buf (Elt Ideal) ((c.tc : Thread Cert.InprojFwdIdeal.nD Cert.InprojFwdIdeal.τ).loc Cert.InprojFwdIdeal.main_v3_2)) (v3 : (c : Dev Cert.InprojFwdIdeal.nD) → Buf (Elt Ideal) ((c.tc : Thread Cert.InprojFwdIdeal.nD Cert.InprojFwdIdeal.τ).loc Cert.InprojFwdIdeal.main_v3_3)),
      θ_run (Cert.InprojFwdIdeal.defs (F := Ideal)) (onTc (τ := Cert.InprojFwdIdeal.τ) (Cert.InprojFwdIdeal.main (F := Ideal))) ⟨m, fun _ => 0, g⟩ (fun r => ∀ c : Dev Cert.InprojFwdIdeal.nD,
          r.2.mem ((c.tc : Thread Cert.InprojFwdIdeal.nD Cert.InprojFwdIdeal.τ).loc Cert.InprojFwdIdeal.main_v3_0) = v0 c
          ∧ r.2.mem ((c.tc : Thread Cert.InprojFwdIdeal.nD Cert.InprojFwdIdeal.τ).loc Cert.InprojFwdIdeal.main_v3_1) = v1 c
          ∧ r.2.mem ((c.tc : Thread Cert.InprojFwdIdeal.nD Cert.InprojFwdIdeal.τ).loc Cert.InprojFwdIdeal.main_v3_2) = v2 c
          ∧ r.2.mem ((c.tc : Thread Cert.InprojFwdIdeal.nD Cert.InprojFwdIdeal.τ).loc Cert.InprojFwdIdeal.main_v3_3) = v3 c
          ∧ r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
          ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
          ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2)
          ∧ r.2.mem ((c.tc : Thread Cert.InprojFwdIdeal.nD Cert.InprojFwdIdeal.τ).loc Cert.InprojFwdIdeal.main_arg3) = m ((c.tc : Thread Cert.InprojFwdIdeal.nD Cert.InprojFwdIdeal.τ).loc Cert.InprojFwdIdeal.main_arg3))
      ∧ θ_run (Cert.InprojFwdRefIdeal.defs (F := Ideal)) (onTc (τ := Cert.InprojFwdRefIdeal.τ) (Cert.InprojFwdRefIdeal.main (F := Ideal))) ⟨m', fun _ => 0, g'⟩ (fun r => ∀ c : Dev Cert.InprojFwdRefIdeal.nD,
          r.2.mem ((c.tc : Thread Cert.InprojFwdRefIdeal.nD Cert.InprojFwdRefIdeal.τ).loc Cert.InprojFwdRefIdeal.main_v15) = v0 c
          ∧ r.2.mem ((c.tc : Thread Cert.InprojFwdRefIdeal.nD Cert.InprojFwdRefIdeal.τ).loc Cert.InprojFwdRefIdeal.main_v16) = v1 c
          ∧ r.2.mem ((c.tc : Thread Cert.InprojFwdRefIdeal.nD Cert.InprojFwdRefIdeal.τ).loc Cert.InprojFwdRefIdeal.main_v17) = v2 c
          ∧ r.2.mem ((c.tc : Thread Cert.InprojFwdRefIdeal.nD Cert.InprojFwdRefIdeal.τ).loc Cert.InprojFwdRefIdeal.main_v18) = v3 c
          ∧ r.2.mem ((c.tc : Thread Cert.InprojFwdRefIdeal.nD Cert.InprojFwdRefIdeal.τ).loc Cert.InprojFwdRefIdeal.main_arg0) = m' ((c.tc : Thread Cert.InprojFwdRefIdeal.nD Cert.InprojFwdRefIdeal.τ).loc Cert.InprojFwdRefIdeal.main_arg0)
          ∧ r.2.mem ((c.tc : Thread Cert.InprojFwdRefIdeal.nD Cert.InprojFwdRefIdeal.τ).loc Cert.InprojFwdRefIdeal.main_arg1) = m' ((c.tc : Thread Cert.InprojFwdRefIdeal.nD Cert.InprojFwdRefIdeal.τ).loc Cert.InprojFwdRefIdeal.main_arg1)
          ∧ r.2.mem ((c.tc : Thread Cert.InprojFwdRefIdeal.nD Cert.InprojFwdRefIdeal.τ).loc Cert.InprojFwdRefIdeal.main_arg2) = m' ((c.tc : Thread Cert.InprojFwdRefIdeal.nD Cert.InprojFwdRefIdeal.τ).loc Cert.InprojFwdRefIdeal.main_arg2)
          ∧ r.2.mem ((c.tc : Thread Cert.InprojFwdRefIdeal.nD Cert.InprojFwdRefIdeal.τ).loc Cert.InprojFwdRefIdeal.main_arg3) = m' ((c.tc : Thread Cert.InprojFwdRefIdeal.nD Cert.InprojFwdRefIdeal.τ).loc Cert.InprojFwdRefIdeal.main_arg3))

def preserves_DownWeight_DownWeightIdeal : Prop :=
  True

def algebraic_DownWeightIdeal_DownWeightRefIdeal [hDownWeightIdeal : Cert.DownWeightIdeal.Facts] [hDownWeightRefIdeal : Cert.DownWeightRefIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightRefIdeal.nD Cert.DownWeightRefIdeal.τ Cert.DownWeightRefIdeal.sig) → Buf (Elt Ideal) ℓ) (g' : Dev Cert.DownWeightRefIdeal.nD → PrngReg), Pre_DownWeightIdeal m →
    (∀ c : Dev Cert.DownWeightIdeal.nD,
      m' ((c.tc : Thread Cert.DownWeightRefIdeal.nD Cert.DownWeightRefIdeal.τ).loc Cert.DownWeightRefIdeal.main_arg0) = m ((c.tc : Thread Cert.DownWeightIdeal.nD Cert.DownWeightIdeal.τ).loc Cert.DownWeightIdeal.main_arg0)
      ∧ m' ((c.tc : Thread Cert.DownWeightRefIdeal.nD Cert.DownWeightRefIdeal.τ).loc Cert.DownWeightRefIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v3)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v3) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightRefIdeal.defs (F := Ideal)) (onTc (τ := Cert.DownWeightRefIdeal.τ) (Cert.DownWeightRefIdeal.main (F := Ideal))) ⟨m', fun _ => 0, g'⟩ (fun r => ∀ c : Dev Cert.DownWeightRefIdeal.nD,
          r.2.mem ((c.tc : Thread Cert.DownWeightRefIdeal.nD Cert.DownWeightRefIdeal.τ).loc Cert.DownWeightRefIdeal.main_v4) = v0 c
          ∧ r.2.mem ((c.tc : Thread Cert.DownWeightRefIdeal.nD Cert.DownWeightRefIdeal.τ).loc Cert.DownWeightRefIdeal.main_arg0) = m' ((c.tc : Thread Cert.DownWeightRefIdeal.nD Cert.DownWeightRefIdeal.τ).loc Cert.DownWeightRefIdeal.main_arg0)
          ∧ r.2.mem ((c.tc : Thread Cert.DownWeightRefIdeal.nD Cert.DownWeightRefIdeal.τ).loc Cert.DownWeightRefIdeal.main_arg1) = m' ((c.tc : Thread Cert.DownWeightRefIdeal.nD Cert.DownWeightRefIdeal.τ).loc Cert.DownWeightRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_arg1) = v0 c
          ∧ r.2.mem ((c.tc : Thread Cert.AdamWRefIdeal.nD Cert.AdamWRefIdeal.τ).loc Cert.AdamWRefIdeal.main_v23) = v1 c
          ∧ r.2.mem ((c.tc : Thread Cert.AdamWRefIdeal.nD Cert.AdamWRefIdeal.τ).loc Cert.AdamWRefIdeal.main_v4) = v2 c
          ∧ r.2.mem ((c.tc : Thread Cert.AdamWRefIdeal.nD Cert.AdamWRefIdeal.τ).loc Cert.AdamWRefIdeal.main_v10) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_DiagBlocks_DiagBlocksIdeal : Prop :=
  True

def algebraic_DiagBlocksIdeal_DiagBlocksRefIdeal [hDiagBlocksIdeal : Cert.DiagBlocksIdeal.Facts] [hDiagBlocksRefIdeal : Cert.DiagBlocksRefIdeal.Facts] : Prop :=
  ∀ (m : (ℓ : Loc Cert.DiagBlocksIdeal.nD Cert.DiagBlocksIdeal.τ Cert.DiagBlocksIdeal.sig) → Buf (Elt Ideal) ℓ) (g : Dev Cert.DiagBlocksIdeal.nD → PrngReg)
    (m' : (ℓ : Loc Cert.DiagBlocksRefIdeal.nD Cert.DiagBlocksRefIdeal.τ Cert.DiagBlocksRefIdeal.sig) → Buf (Elt Ideal) ℓ) (g' : Dev Cert.DiagBlocksRefIdeal.nD → PrngReg), Pre_DiagBlocksIdeal m →
    (∀ c : Dev Cert.DiagBlocksIdeal.nD,
      m' ((c.tc : Thread Cert.DiagBlocksRefIdeal.nD Cert.DiagBlocksRefIdeal.τ).loc Cert.DiagBlocksRefIdeal.main_arg0) = m ((c.tc : Thread Cert.DiagBlocksIdeal.nD Cert.DiagBlocksIdeal.τ).loc Cert.DiagBlocksIdeal.main_arg0)
      ∧ m' ((c.tc : Thread Cert.DiagBlocksRefIdeal.nD Cert.DiagBlocksRefIdeal.τ).loc Cert.DiagBlocksRefIdeal.main_arg1) = m ((c.tc : Thread Cert.DiagBlocksIdeal.nD Cert.DiagBlocksIdeal.τ).loc Cert.DiagBlocksIdeal.main_arg1)
      ∧ m' ((c.tc : Thread Cert.DiagBlocksRefIdeal.nD Cert.DiagBlocksRefIdeal.τ).loc Cert.DiagBlocksRefIdeal.main_arg2) = m ((c.tc : Thread Cert.DiagBlocksIdeal.nD Cert.DiagBlocksIdeal.τ).loc Cert.DiagBlocksIdeal.main_arg2)) →
    ∃ (v0 : (c : Dev Cert.DiagBlocksIdeal.nD) → Buf (Elt Ideal) ((c.tc : Thread Cert.DiagBlocksIdeal.nD Cert.DiagBlocksIdeal.τ).loc Cert.DiagBlocksIdeal.main_v0_0)) (v1 : (c : Dev Cert.DiagBlocksIdeal.nD) → Buf (Elt Ideal) ((c.tc : Thread Cert.DiagBlocksIdeal.nD Cert.DiagBlocksIdeal.τ).loc Cert.DiagBlocksIdeal.main_v0_1)),
      θ_run (Cert.DiagBlocksIdeal.defs (F := Ideal)) (onTc (τ := Cert.DiagBlocksIdeal.τ) (Cert.DiagBlocksIdeal.main (F := Ideal))) ⟨m, fun _ => 0, g⟩ (fun r => ∀ c : Dev Cert.DiagBlocksIdeal.nD,
          r.2.mem ((c.tc : Thread Cert.DiagBlocksIdeal.nD Cert.DiagBlocksIdeal.τ).loc Cert.DiagBlocksIdeal.main_v0_0) = v0 c
          ∧ r.2.mem ((c.tc : Thread Cert.DiagBlocksIdeal.nD Cert.DiagBlocksIdeal.τ).loc Cert.DiagBlocksIdeal.main_v0_1) = v1 c
          ∧ r.2.mem ((c.tc : Thread Cert.DiagBlocksIdeal.nD Cert.DiagBlocksIdeal.τ).loc Cert.DiagBlocksIdeal.main_arg0) = m ((c.tc : Thread Cert.DiagBlocksIdeal.nD Cert.DiagBlocksIdeal.τ).loc Cert.DiagBlocksIdeal.main_arg0)
          ∧ r.2.mem ((c.tc : Thread Cert.DiagBlocksIdeal.nD Cert.DiagBlocksIdeal.τ).loc Cert.DiagBlocksIdeal.main_arg1) = m ((c.tc : Thread Cert.DiagBlocksIdeal.nD Cert.DiagBlocksIdeal.τ).loc Cert.DiagBlocksIdeal.main_arg1)
          ∧ r.2.mem ((c.tc : Thread Cert.DiagBlocksIdeal.nD Cert.DiagBlocksIdeal.τ).loc Cert.DiagBlocksIdeal.main_arg2) = m ((c.tc : Thread Cert.DiagBlocksIdeal.nD Cert.DiagBlocksIdeal.τ).loc Cert.DiagBlocksIdeal.main_arg2))
      ∧ θ_run (Cert.DiagBlocksRefIdeal.defs (F := Ideal)) (onTc (τ := Cert.DiagBlocksRefIdeal.τ) (Cert.DiagBlocksRefIdeal.main (F := Ideal))) ⟨m', fun _ => 0, g'⟩ (fun r => ∀ c : Dev Cert.DiagBlocksRefIdeal.nD,
          r.2.mem ((c.tc : Thread Cert.DiagBlocksRefIdeal.nD Cert.DiagBlocksRefIdeal.τ).loc Cert.DiagBlocksRefIdeal.main_v17) = v0 c
          ∧ r.2.mem ((c.tc : Thread Cert.DiagBlocksRefIdeal.nD Cert.DiagBlocksRefIdeal.τ).loc Cert.DiagBlocksRefIdeal.main_v19) = v1 c
          ∧ r.2.mem ((c.tc : Thread Cert.DiagBlocksRefIdeal.nD Cert.DiagBlocksRefIdeal.τ).loc Cert.DiagBlocksRefIdeal.main_arg0) = m' ((c.tc : Thread Cert.DiagBlocksRefIdeal.nD Cert.DiagBlocksRefIdeal.τ).loc Cert.DiagBlocksRefIdeal.main_arg0)
          ∧ r.2.mem ((c.tc : Thread Cert.DiagBlocksRefIdeal.nD Cert.DiagBlocksRefIdeal.τ).loc Cert.DiagBlocksRefIdeal.main_arg1) = m' ((c.tc : Thread Cert.DiagBlocksRefIdeal.nD Cert.DiagBlocksRefIdeal.τ).loc Cert.DiagBlocksRefIdeal.main_arg1)
          ∧ r.2.mem ((c.tc : Thread Cert.DiagBlocksRefIdeal.nD Cert.DiagBlocksRefIdeal.τ).loc Cert.DiagBlocksRefIdeal.main_arg2) = m' ((c.tc : Thread Cert.DiagBlocksRefIdeal.nD Cert.DiagBlocksRefIdeal.τ).loc Cert.DiagBlocksRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hPle : Cert.Ple.Facts) (hPleIdeal : Cert.PleIdeal.Facts) (hPleRefIdeal : Cert.PleRefIdeal.Facts) (hMergeFwd : Cert.MergeFwd.Facts) (hMergeFwdIdeal : Cert.MergeFwdIdeal.Facts) (hMergeFwdRefIdeal : Cert.MergeFwdRefIdeal.Facts) (hFfnDown : Cert.FfnDown.Facts) (hFfnDownIdeal : Cert.FfnDownIdeal.Facts) (hFfnDownRefIdeal : Cert.FfnDownRefIdeal.Facts) (hFfnUp : Cert.FfnUp.Facts) (hFfnUpIdeal : Cert.FfnUpIdeal.Facts) (hFfnUpRefIdeal : Cert.FfnUpRefIdeal.Facts) (hInprojFwd : Cert.InprojFwd.Facts) (hInprojFwdIdeal : Cert.InprojFwdIdeal.Facts) (hInprojFwdRefIdeal : Cert.InprojFwdRefIdeal.Facts) (hDownWeight : Cert.DownWeight.Facts) (hDownWeightIdeal : Cert.DownWeightIdeal.Facts) (hDownWeightRefIdeal : Cert.DownWeightRefIdeal.Facts) (hAdamW : Cert.AdamW.Facts) (hAdamWIdeal : Cert.AdamWIdeal.Facts) (hAdamWRefIdeal : Cert.AdamWRefIdeal.Facts) (hDiagBlocks : Cert.DiagBlocks.Facts) (hDiagBlocksIdeal : Cert.DiagBlocksIdeal.Facts) (hDiagBlocksRefIdeal : Cert.DiagBlocksRefIdeal.Facts) (hPre_ffn_finite : Cert.Pre_ffn_finite.Facts) (hPre_inproj_finite : Cert.Pre_inproj_finite.Facts) (hPre_ple_finite : Cert.Pre_ple_finite.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Inproj (hInproj := hInproj)
    ∧ quiescent_InprojIdeal (hInprojIdeal := hInprojIdeal)
    ∧ quiescent_InprojIdeal_pre_inproj_finite (hInprojIdeal := hInprojIdeal) (hPre_inproj_finite := hPre_inproj_finite)
    ∧ quiescent_InprojRefIdeal (hInprojRefIdeal := hInprojRefIdeal)
    ∧ quiescent_InprojRefIdeal_pre_inproj_finite (hInprojRefIdeal := hInprojRefIdeal) (hPre_inproj_finite := hPre_inproj_finite)
    ∧ quiescent_Ple (hPle := hPle)
    ∧ quiescent_PleIdeal (hPleIdeal := hPleIdeal)
    ∧ quiescent_PleIdeal_pre_ple_finite (hPleIdeal := hPleIdeal) (hPre_ple_finite := hPre_ple_finite)
    ∧ quiescent_PleRefIdeal (hPleRefIdeal := hPleRefIdeal)
    ∧ quiescent_PleRefIdeal_pre_ple_finite (hPleRefIdeal := hPleRefIdeal) (hPre_ple_finite := hPre_ple_finite)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_InprojFwd (hInprojFwd := hInprojFwd)
    ∧ quiescent_InprojFwdIdeal (hInprojFwdIdeal := hInprojFwdIdeal)
    ∧ quiescent_InprojFwdRefIdeal (hInprojFwdRefIdeal := hInprojFwdRefIdeal)
    ∧ quiescent_DownWeight (hDownWeight := hDownWeight)
    ∧ quiescent_DownWeightIdeal (hDownWeightIdeal := hDownWeightIdeal)
    ∧ quiescent_DownWeightRefIdeal (hDownWeightRefIdeal := hDownWeightRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_DiagBlocks (hDiagBlocks := hDiagBlocks)
    ∧ quiescent_DiagBlocksIdeal (hDiagBlocksIdeal := hDiagBlocksIdeal)
    ∧ quiescent_DiagBlocksRefIdeal (hDiagBlocksRefIdeal := hDiagBlocksRefIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Inproj_InprojIdeal
    ∧ algebraic_InprojIdeal_InprojRefIdeal_pre_inproj_finite (hInprojIdeal := hInprojIdeal) (hInprojRefIdeal := hInprojRefIdeal) (hPre_inproj_finite := hPre_inproj_finite)
    ∧ preserves_Ple_PleIdeal
    ∧ algebraic_PleIdeal_PleRefIdeal_pre_ple_finite (hPleIdeal := hPleIdeal) (hPleRefIdeal := hPleRefIdeal) (hPre_ple_finite := hPre_ple_finite)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnUp_FfnUpIdeal
    ∧ algebraic_FfnUpIdeal_FfnUpRefIdeal (hFfnUpIdeal := hFfnUpIdeal) (hFfnUpRefIdeal := hFfnUpRefIdeal)
    ∧ preserves_InprojFwd_InprojFwdIdeal
    ∧ algebraic_InprojFwdIdeal_InprojFwdRefIdeal (hInprojFwdIdeal := hInprojFwdIdeal) (hInprojFwdRefIdeal := hInprojFwdRefIdeal)
    ∧ preserves_DownWeight_DownWeightIdeal
    ∧ algebraic_DownWeightIdeal_DownWeightRefIdeal (hDownWeightIdeal := hDownWeightIdeal) (hDownWeightRefIdeal := hDownWeightRefIdeal)
    ∧ preserves_AdamW_AdamWIdeal
    ∧ algebraic_AdamWIdeal_AdamWRefIdeal (hAdamWIdeal := hAdamWIdeal) (hAdamWRefIdeal := hAdamWRefIdeal)
    ∧ preserves_DiagBlocks_DiagBlocksIdeal
    ∧ algebraic_DiagBlocksIdeal_DiagBlocksRefIdeal (hDiagBlocksIdeal := hDiagBlocksIdeal) (hDiagBlocksRefIdeal := hDiagBlocksRefIdeal)
-- ==== Pre_ffn_finite.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S2048x1024 .f32) (main_arg2 : FVec F S1x1024 .f32) (main_arg3 : FVec F S1024x2816 .f32) (main_arg4 : FVec F S1024x2816 .f32) (main_arg5 : FVec F S2816x1024 .f32) : IVec S2048x1024 1 × IVec S2048x1024 1 × IVec S1x1024 1 × IVec S1024x2816 1 × IVec S1024x2816 1 × IVec S2816x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Pre_inproj_finite.lean ====
abbrev S2048x1024 : Shape := ⟨2, ![2048, 1024]⟩
abbrev S2048x512 : Shape := ⟨2, ![2048, 512]⟩
abbrev S2048x2048 : Shape := ⟨2, ![2048, 2048]⟩
abbrev S1x1024 : Shape := ⟨2, ![1, 1024]⟩
abbrev S1024x3584 : Shape := ⟨2, ![1024, 3584]⟩
abbrev S1x3584 : Shape := ⟨2, ![1, 3584]⟩
abbrev S_ : Shape := ⟨0, ![]⟩

class Facts : Prop where
  bcast_S_S2048x1024 : S_.BroadcastsInDim S2048x1024 (![] : Fin 0 → Fin S2048x1024.rank)
  bcast_S_S2048x512 : S_.BroadcastsInDim S2048x512 (![] : Fin 0 → Fin S2048x512.rank)
  bcast_S_S2048x2048 : S_.BroadcastsInDim S2048x2048 (![] : Fin 0 → Fin S2048x2048.rank)
  bcast_S_S1x1024 : S_.BroadcastsInDim S1x1024 (![] : Fin 0 → Fin S1x1024.rank)
  bcast_S_S1024x3584 : S_.BroadcastsInDim S1024x3584 (![] : Fin 0 → Fin S1024x3584.rank)

variable [Facts]

def fn {F : FTy → Type} [FloatOps F] (main_arg0 : FVec F S2048x1024 .f32) (main_arg1 : FVec F S2048x1024 .f32) (main_arg2 : FVec F S2048x512 .f32) (main_arg3 : FVec F S2048x1024 .f32) (main_arg4 : FVec F S2048x2048 .f32) (main_arg5 : FVec F S1x1024 .f32) (main_arg6 : FVec F S1024x3584 .f32) (main_arg7 : FVec F S1x3584 .f32) : IVec S2048x1024 1 × IVec S2048x512 1 × IVec S2048x1024 1 × IVec S2048x2048 1 × IVec S1x1024 1 × IVec S1024x3584 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x512 .f32 := Host.absf main_arg2
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S2048x1024 .f32 := Host.absf main_arg3
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1024x3584 .f32 := Host.absf main_arg6
  let main_cst_4 : FVec F S_ .f32 := constant S_ .f32 0x7F800000#32
  let main_v16 : FVec F S1024x3584 .f32 := broadcastInDim S1024x3584 ![] bcast_S_S1024x3584 main_cst_4
  let main_v17 : IVec S1024x3584 1 := cmpf .olt main_v15 main_v16
  (main_v2, main_v5, main_v8, main_v11, main_v14, main_v17)
-- ==== Pre_ple_finite.lean ====
abbrev S2048x1024 : Shape := ⟨2, ![2048, 1024]⟩
abbrev S2048x256 : Shape := ⟨2, ![2048, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩

class Facts : Prop where
  bcast_S_S2048x1024 : S_.BroadcastsInDim S2048x1024 (![] : Fin 0 → Fin S2048x1024.rank)
  bcast_S_S2048x256 : S_.BroadcastsInDim S2048x256 (![] : Fin 0 → Fin S2048x256.rank)
  bcast_S_S1x1024 : S_.BroadcastsInDim S1x1024 (![] : Fin 0 → Fin S1x1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn_part1 {F : FTy → Type} [FloatOps F] (main_arg6 : FVec F S256x1024 .f32) (main_arg7 : FVec F S1x1024 .f32) (main_arg8 : FVec F S1x1024 .f32) (main_v2 : IVec S2048x1024 1) (main_v5 : IVec S2048x256 1) (main_v8 : IVec S2048x1024 1) (main_v11 : IVec S1x1024 1) (main_v14 : IVec S1024x1024 1) (main_v17 : IVec S1x1024 1) : IVec S2048x1024 1 × IVec S2048x256 1 × IVec S2048x1024 1 × IVec S1x1024 1 × IVec S1024x1024 1 × IVec S1x1024 1 × IVec S256x1024 1 × IVec S1x1024 1 × IVec S1x1024 1 :=
  let main_v18 : FVec F S256x1024 .f32 := Host.absf main_arg6
  let main_cst_5 : FVec F S_ .f32 := constant S_ .f32 0x7F800000#32
  let main_v19 : FVec F S256x1024 .f32 := broadcastInDim S256x1024 ![] bcast_S_S256x1024 main_cst_5
  let main_v20 : IVec S256x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  (main_v2, main_v5, main_v8, main_v11, main_v14, main_v17, main_v20, main_v23, main_v26)

def fn {F : FTy → Type} [FloatOps F] (main_arg0 : FVec F S2048x1024 .f32) (main_arg1 : FVec F S2048x256 .f32) (main_arg2 : FVec F S2048x1024 .f32) (main_arg3 : FVec F S1x1024 .f32) (main_arg4 : FVec F S1024x1024 .f32) (main_arg5 : FVec F S1x1024 .f32) (main_arg6 : FVec F S256x1024 .f32) (main_arg7 : FVec F S1x1024 .f32) (main_arg8 : FVec F S1x1024 .f32) : IVec S2048x1024 1 × IVec S2048x256 1 × IVec S2048x1024 1 × IVec S1x1024 1 × IVec S1024x1024 1 × IVec S1x1024 1 × IVec S256x1024 1 × IVec S1x1024 1 × IVec S1x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x256 .f32 := Host.absf main_arg1
  let main_cst_0 : FVec F S_ .f32 := constant S_ .f32 0x7F800000#32
  let main_v4 : FVec F S2048x256 .f32 := broadcastInDim S2048x256 ![] bcast_S_S2048x256 main_cst_0
  let main_v5 : IVec S2048x256 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_v2 main_v5 main_v8 main_v11 main_v14 main_v17
-- ==== Kernel.lean ====
abbrev S2048x1024 : Shape := ⟨2, ![2048, 1024]⟩
abbrev S2048x2048 : Shape := ⟨2, ![2048, 2048]⟩
abbrev S2048x512 : Shape := ⟨2, ![2048, 512]⟩
abbrev S512x1024 : Shape := ⟨2, ![512, 1024]⟩
abbrev S1024x1024 : Shape := ⟨2, ![1024, 1024]⟩
abbrev S512x4x256 : Shape := ⟨3, ![512, 4, 256]⟩
abbrev S4x512x256 : Shape := ⟨3, ![4, 512, 256]⟩
abbrev S256x1024 : Shape := ⟨2, ![256, 1024]⟩
abbrev S256x2048 : Shape := ⟨2, ![256, 2048]⟩
abbrev S256x512 : Shape := ⟨2, ![256, 512]⟩
abbrev S256x256 : Shape := ⟨2, ![256, 256]⟩
abbrev S1x512x256 : Shape := ⟨3, ![1, 512, 256]⟩
abbrev S512x256 : Shape := ⟨2, ![512, 256]⟩

abbrev nBuf : Space → Nat
  | .hbm => 19
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x512, .f32⟩
  | .hbm, ⟨3, _⟩ => ⟨S2048x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S512x4x256, .f32⟩
  | .hbm, ⟨8, _⟩ => ⟨S4x512x256, .f32⟩
  | .hbm, ⟨9, _⟩ => ⟨S2048x1024, .f32⟩
  | .hbm, ⟨10, _⟩ => ⟨S2048x1024, .f32⟩
  | .hbm, ⟨11, _⟩ => ⟨S4x512x256, .bf16⟩
  | .hbm, ⟨12, _⟩ => ⟨S1024x1024, .bf16⟩
  | .hbm, ⟨13, _⟩ => ⟨S1024x1024, .bf16⟩
  | .hbm, ⟨14, _⟩ => ⟨S2048x512, .f32⟩
  | .hbm, ⟨15, _⟩ => ⟨S2048x1024, .f32⟩
  | .hbm, ⟨16, _⟩ => ⟨S2048x2048, .f32⟩
  | .hbm, ⟨17, _⟩ => ⟨S2048x1024, .bf16⟩
  | .hbm, ⟨18, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S4x512x256, .bf16⟩
  | .local _ .vmem, ⟨9, _⟩ => ⟨S1024x1024, .bf16⟩
  | .local _ .vmem, ⟨10, _⟩ => ⟨S1024x1024, .bf16⟩
  | .local _ .vmem, ⟨11, _⟩ => ⟨S256x512, .f32⟩
  | .local _ .vmem, ⟨12, _⟩ => ⟨S256x512, .f32⟩
  | .local _ .vmem, ⟨13, _⟩ => ⟨S256x1024, .f32⟩
  | .local _ .vmem, ⟨14, _⟩ => ⟨S256x1024, .f32⟩
  | .local _ .vmem, ⟨15, _⟩ => ⟨S256x2048, .f32⟩
  | .local _ .vmem, ⟨16, _⟩ => ⟨S256x2048, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2048x1024 : Shape := ⟨2, ![2048, 1024]⟩
abbrev S2048x2048 : Shape := ⟨2, ![2048, 2048]⟩
abbrev S2048x512 : Shape := ⟨2, ![2048, 512]⟩
abbrev S512x1024 : Shape := ⟨2, ![512, 1024]⟩
abbrev S1024x1024 : Shape := ⟨2, ![1024, 1024]⟩
abbrev S_ : Shape := ⟨0, ![]⟩

abbrev nBuf : Space → Nat
  | .hbm => 82
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x512, .f32⟩
  | .hbm, ⟨3, _⟩ => ⟨S2048x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x2048, .f32⟩
  | .hbm, ⟨47, _⟩ => ⟨S2048x1024, .f32⟩
  | .hbm, ⟨48, _⟩ => ⟨S_, .f32⟩
  | .hbm, ⟨49, _⟩ => ⟨S2048x2048, .f32⟩
  | .hbm, ⟨50, _⟩ => ⟨S2048x2048, .f32⟩
  | .hbm, ⟨51, _⟩ => ⟨S2048x1024, .f32⟩
  | .hbm, ⟨52, _⟩ => ⟨S2048x512, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .bf16⟩
  | .hbm, ⟨81, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Ffn.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩
abbrev S2048x4x704 : Shape := ⟨3, ![2048, 4, 704]⟩
abbrev S4x2048x704 : Shape := ⟨3, ![4, 2048, 704]⟩
abbrev S4x704x1024 : Shape := ⟨3, ![4, 704, 1024]⟩
abbrev S8x1024 : Shape := ⟨2, ![8, 1024]⟩
abbrev S256x1024 : Shape := ⟨2, ![256, 1024]⟩
abbrev S4x256x704 : Shape := ⟨3, ![4, 256, 704]⟩
abbrev S3 : Shape := ⟨1, ![3]⟩
abbrev S1 : Shape := ⟨1, ![1]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256 : Shape := ⟨1, ![256]⟩
abbrev S256x1 : Shape := ⟨2, ![256, 1]⟩
abbrev S1024 : Shape := ⟨1, ![1024]⟩

abbrev nBuf : Space → Nat
  | .hbm => 42
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x2816, .f32⟩
  | .hbm, ⟨22, _⟩ => ⟨S2048x4x704, .f32⟩
  | .hbm, ⟨23, _⟩ => ⟨S4x2048x704, .f32⟩
  | .hbm, ⟨24, _⟩ => ⟨S4x2048x704, .bf16⟩
  | .hbm, ⟨25, _⟩ => ⟨S2048x2816, .f32⟩
  | .hbm, ⟨26, _⟩ => ⟨S2048x4x704, .f32⟩
  | .hbm, ⟨27, _⟩ => ⟨S4x2048x704, .f32⟩
  | .hbm, ⟨28, _⟩ => ⟨S4x2048x704, .bf16⟩
  | .hbm, ⟨29, _⟩ => ⟨S2816x1024, .f32⟩
  | .hbm, ⟨30, _⟩ => ⟨S4x704x1024, .f32⟩
  | .hbm, ⟨31, _⟩ => ⟨S4x704x1024, .bf16⟩
  | .hbm, ⟨32, _⟩ => ⟨S2816x1024, .f32⟩
  | .hbm, ⟨33, _⟩ => ⟨S4x704x1024, .f32⟩
  | .hbm, ⟨34, _⟩ => ⟨S4x704x1024, .bf16⟩
  | .hbm, ⟨35, _⟩ => ⟨S4x704x1024, .f32⟩
  | .hbm, ⟨36, _⟩ => ⟨S4x704x1024, .bf16⟩
  | .hbm, ⟨37, _⟩ => ⟨S2048x1024, .f32⟩
  | .hbm, ⟨38, _⟩ => ⟨S4x2048x704, .bf16⟩
  | .hbm, ⟨39, _⟩ => ⟨S4x2048x704, .bf16⟩
  | .hbm, ⟨40, _⟩ => ⟨S4x2048x704, .bf16⟩
  | .hbm, ⟨41, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x256x704, .bf16⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S4x256x704, .bf16⟩
  | .local _ .vmem, ⟨12, _⟩ => ⟨S4x256x704, .bf16⟩
  | .local _ .vmem, ⟨13, _⟩ => ⟨S4x256x704, .bf16⟩
  | .local _ .vmem, ⟨14, _⟩ => ⟨S4x256x704, .bf16⟩
  | .local _ .vmem, ⟨15, _⟩ => ⟨S4x256x704, .bf16⟩
  | .local _ .vmem, ⟨16, _⟩ => ⟨S4x256x704, .bf16⟩
  | .local _ .vmem, ⟨17, _⟩ => ⟨S8x1024, .f32⟩
  | .local _ .vmem, ⟨18, _⟩ => ⟨S4x704x1024, .bf16⟩
  | .local _ .vmem, ⟨19, _⟩ => ⟨S4x704x1024, .bf16⟩
  | .local _ .vmem, ⟨20, _⟩ => ⟨S4x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev main_v28_3 : Ref sig .tc := ⟨.hbm, 40, rfl⟩
abbrev main_v28_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnRefIdeal.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩
abbrev S1024 : Shape := ⟨1, ![1024]⟩
abbrev S2048x4x704 : Shape := ⟨3, ![2048, 4, 704]⟩
abbrev S4x2048x704 : Shape := ⟨3, ![4, 2048, 704]⟩
abbrev S7x1024 : Shape := ⟨2, ![7, 1024]⟩
abbrev S8x1024 : Shape := ⟨2, ![8, 1024]⟩

abbrev nBuf : Space → Nat
  | .hbm => 121
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S_, .f32⟩
  | .hbm, ⟨25, _⟩ => ⟨S2048x2816, .f32⟩
  | .hbm, ⟨26, _⟩ => ⟨S2048x2816, .f32⟩
  | .hbm, ⟨27, _⟩ => ⟨S_, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S_, .f32⟩
  | .hbm, ⟨34, _⟩ => ⟨S2048x2816, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2048x2816, .f32⟩
  | .hbm, ⟨58, _⟩ => ⟨S_, .f32⟩
  | .hbm, ⟨59, _⟩ => ⟨S2048x2816, .f32⟩
  | .hbm, ⟨60, _⟩ => ⟨S2048x2816, .f32⟩
  | .hbm, ⟨61, _⟩ => ⟨S_, .f32⟩
  | .hbm, ⟨62, _⟩ => ⟨S2048x2816, .f32⟩
  | .hbm, ⟨63, _⟩ => ⟨S2048x2816, .f32⟩
  | .hbm, ⟨64, _⟩ => ⟨S_, .f32⟩
  | .hbm, ⟨65, _⟩ => ⟨S2048x2816, .f32⟩
  | .hbm, ⟨66, _⟩ => ⟨S2048x2816, .f32⟩
  | .hbm, ⟨67, _⟩ => ⟨S2048x2816, .f32⟩
  | .hbm, ⟨68, _⟩ => ⟨S2048x2816, .f32⟩
  | .hbm, ⟨69, _⟩ => ⟨S2048x2816, .f32⟩
  | .hbm, ⟨70, _⟩ => ⟨S2048x2816, .f32⟩
  | .hbm, ⟨71, _⟩ => ⟨S2048x2816, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x2816, .f32⟩
  | .hbm, ⟨76, _⟩ => ⟨S2048x2816, .f32⟩
  | .hbm, ⟨77, _⟩ => ⟨S2048x2816, .f32⟩
  | .hbm, ⟨78, _⟩ => ⟨S2048x1024, .f32⟩
  | .hbm, ⟨79, _⟩ => ⟨S2048x2816, .f32⟩
  | .hbm, ⟨80, _⟩ => ⟨S2048x2816, .f32⟩
  | .hbm, ⟨81, _⟩ => ⟨S2048x2816, .f32⟩
  | .hbm, ⟨82, _⟩ => ⟨S2048x2816, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S_, .f32⟩
  | .hbm, ⟨93, _⟩ => ⟨S2048, .f32⟩
  | .hbm, ⟨94, _⟩ => ⟨S2048x1, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S2048x1, .f32⟩
  | .hbm, ⟨99, _⟩ => ⟨S_, .f32⟩
  | .hbm, ⟨100, _⟩ => ⟨S2048x1, .f32⟩
  | .hbm, ⟨101, _⟩ => ⟨S2048x1, .f32⟩
  | .hbm, ⟨102, _⟩ => ⟨S_, .f32⟩
  | .hbm, ⟨103, _⟩ => ⟨S2048, .f32⟩
  | .hbm, ⟨104, _⟩ => ⟨S2048x1024, .f32⟩
  | .hbm, ⟨105, _⟩ => ⟨S2048x1024, .f32⟩
  | .hbm, ⟨106, _⟩ => ⟨S2048x1024, .f32⟩
  | .hbm, ⟨107, _⟩ => ⟨S2048x1024, .f32⟩
  | .hbm, ⟨108, _⟩ => ⟨S2048x1024, .f32⟩
  | .hbm, ⟨109, _⟩ => ⟨S2048x4x704, .f32⟩
  | .hbm, ⟨110, _⟩ => ⟨S4x2048x704, .f32⟩
  | .hbm, ⟨111, _⟩ => ⟨S4x2048x704, .bf16⟩
  | .hbm, ⟨112, _⟩ => ⟨S2048x4x704, .f32⟩
  | .hbm, ⟨113, _⟩ => ⟨S4x2048x704, .f32⟩
  | .hbm, ⟨114, _⟩ => ⟨S4x2048x704, .bf16⟩
  | .hbm, ⟨115, _⟩ => ⟨S2048x4x704, .f32⟩
  | .hbm, ⟨116, _⟩ => ⟨S4x2048x704, .f32⟩
  | .hbm, ⟨117, _⟩ => ⟨S4x2048x704, .bf16⟩
  | .hbm, ⟨118, _⟩ => ⟨S_, .f32⟩
  | .hbm, ⟨119, _⟩ => ⟨S7x1024, .f32⟩
  | .hbm, ⟨120, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_v34_2 : Ref sig .tc := ⟨.hbm, 63, rfl⟩
abbrev main_call1_cst_1 : Ref sig .tc := ⟨.hbm, 64, rfl⟩
abbrev main_call1_v6 : Ref sig .tc := ⟨.hbm, 65, rfl⟩
abbrev main_call1_v7 : Ref sig .tc := ⟨.hbm, 66, rfl⟩
abbrev main_v34_1 : Ref sig .tc := ⟨.hbm, 67, rfl⟩
abbrev main_v34_0 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_7 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_8 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_9 : Ref sig .tc := ⟨.hbm, 99, rfl⟩
abbrev main_v60 : Ref sig .tc := ⟨.hbm, 100, rfl⟩
abbrev main_v61 : Ref sig .tc := ⟨.hbm, 101, rfl⟩
abbrev main_cst_10 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_11 : Ref sig .tc := ⟨.hbm, 118, rfl⟩
abbrev main_v77 : Ref sig .tc := ⟨.hbm, 119, rfl⟩
abbrev main_v78 : Ref sig .tc := ⟨.hbm, 120, rfl⟩

abbrev nD : Nat := 1
abbrev τ : Topo := Topo.v7x

variable {F : FTy → Type} [FloatOps F]
-- ==== Inproj.lean ====
abbrev S2048x1024 : Shape := ⟨2, ![2048, 1024]⟩
abbrev S2048x512 : Shape := ⟨2, ![2048, 512]⟩
abbrev S2048x2048 : Shape := ⟨2, ![2048, 2048]⟩
abbrev S1x1024 : Shape := ⟨2, ![1, 1024]⟩
abbrev S1024x3584 : Shape := ⟨2, ![1024, 3584]⟩
abbrev S1x3584 : Shape := ⟨2, ![1, 3584]⟩
abbrev S1024x4x896 : Shape := ⟨3, ![1024, 4, 896]⟩
abbrev S4x1024x896 : Shape := ⟨3, ![4, 1024, 896]⟩
abbrev S2048x3584 : Shape := ⟨2, ![2048, 3584]⟩
abbrev S8x1024 : Shape := ⟨2, ![8, 1024]⟩
abbrev S8x3584 : Shape := ⟨2, ![8, 3584]⟩
abbrev S256x1024 : Shape := ⟨2, ![256, 1024]⟩
abbrev S256x512 : Shape := ⟨2, ![256, 512]⟩
abbrev S256x2048 : Shape := ⟨2, ![256, 2048]⟩
abbrev S256x3584 : Shape := ⟨2, ![256, 3584]⟩
abbrev S1 : Shape := ⟨1, ![1]⟩
abbrev S_ : Shape := ⟨0, ![]⟩
abbrev S512 : Shape := ⟨1, ![512]⟩
abbrev S1x512 : Shape := ⟨2, ![1, 512]⟩
abbrev S1024 : Shape := ⟨1, ![1024]⟩
abbrev S2048 : Shape := ⟨1, ![2048]⟩
abbrev S1x2048 : Shape := ⟨2, ![1, 2048]⟩
abbrev S256x896 : Shape := ⟨2, ![256, 896]⟩
abbrev S1x1024x896 : Shape := ⟨3, ![1, 1024, 896]⟩
abbrev S1024x896 : Shape := ⟨2, ![1024, 896]⟩
abbrev S256 : Shape := ⟨1, ![256]⟩
abbrev S256x1 : Shape := ⟨2, ![256, 1]⟩

abbrev nBuf : Space → Nat
  | .hbm => 15
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .f32⟩
  | .hbm, ⟨3, _⟩ => ⟨S2048x1024, .f32⟩
  | .hbm, ⟨4, _⟩ => ⟨S2048x2048, .f32⟩
  | .hbm, ⟨5, _⟩ => ⟨S1x1024, .f32⟩
  | .hbm, ⟨6, _⟩ => ⟨S1024x3584, .f32⟩
  | .hbm, ⟨7, _⟩ => ⟨S1x3584, .f32⟩
  | .hbm, ⟨8, _⟩ => ⟨S1024x4x896, .f32⟩
  | .hbm, ⟨9, _⟩ => ⟨S4x1024x896, .f32⟩
  | .hbm, ⟨10, _⟩ => ⟨S4x1024x896, .bf16⟩
  | .hbm, ⟨11, _⟩ => ⟨S2048x1024, .f32⟩
  | .hbm, ⟨12, _⟩ => ⟨S2048x3584, .bf16⟩
  | .hbm, ⟨13, _⟩ => ⟨S8x1024, .f32⟩
  | .hbm, ⟨14, _⟩ => ⟨S8x3584, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x2048, .f32⟩
  | .local _ .vmem, ⟨9, _⟩ => ⟨S256x2048, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x3584, .bf16⟩
  | .local _ .vmem, ⟨14, _⟩ => ⟨S256x3584, .bf16⟩
  | .local _ .vmem, ⟨15, _⟩ => ⟨S8x1024, .f32⟩
  | .local _ .vmem, ⟨16, _⟩ => ⟨S8x3584, .f32⟩
  | .local _ .vmem, ⟨17, _⟩ => ⟨S4x1024x896, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x3584 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InprojRefIdeal.lean ====
abbrev S2048x1024 : Shape := ⟨2, ![2048, 1024]⟩
abbrev S2048x512 : Shape := ⟨2, ![2048, 512]⟩
abbrev S2048x2048 : Shape := ⟨2, ![2048, 2048]⟩
abbrev S1x1024 : Shape := ⟨2, ![1, 1024]⟩
abbrev S1024x3584 : Shape := ⟨2, ![1024, 3584]⟩
abbrev S1x3584 : Shape := ⟨2, ![1, 3584]⟩
abbrev S_ : Shape := ⟨0, ![]⟩
abbrev S2048x3584 : Shape := ⟨2, ![2048, 3584]⟩
abbrev S2048 : Shape := ⟨1, ![2048]⟩
abbrev S2048x1 : Shape := ⟨2, ![2048, 1]⟩
abbrev S3584 : Shape := ⟨1, ![3584]⟩
abbrev S1024 : Shape := ⟨1, ![1024]⟩
abbrev S7x1024 : Shape := ⟨2, ![7, 1024]⟩
abbrev S8x1024 : Shape := ⟨2, ![8, 1024]⟩
abbrev S7x3584 : Shape := ⟨2, ![7, 3584]⟩
abbrev S8x3584 : Shape := ⟨2, ![8, 3584]⟩

abbrev nBuf : Space → Nat
  | .hbm => 79
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .f32⟩
  | .hbm, ⟨3, _⟩ => ⟨S2048x1024, .f32⟩
  | .hbm, ⟨4, _⟩ => ⟨S2048x2048, .f32⟩
  | .hbm, ⟨5, _⟩ => ⟨S1x1024, .f32⟩
  | .hbm, ⟨6, _⟩ => ⟨S1024x3584, .f32⟩
  | .hbm, ⟨7, _⟩ => ⟨S1x3584, .f32⟩
  | .hbm, ⟨8, _⟩ => ⟨S_, .f32⟩
  | .hbm, ⟨9, _⟩ => ⟨S2048x3584, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x3584, .f32⟩
  | .hbm, ⟨30, _⟩ => ⟨S2048x3584, .f32⟩
  | .hbm, ⟨31, _⟩ => ⟨S2048x3584, .f32⟩
  | .hbm, ⟨32, _⟩ => ⟨S2048x3584, .f32⟩
  | .hbm, ⟨33, _⟩ => ⟨S2048x512, .f32⟩
  | .hbm, ⟨34, _⟩ => ⟨S2048x1024, .f32⟩
  | .hbm, ⟨35, _⟩ => ⟨S2048x2048, .f32⟩
  | .hbm, ⟨36, _⟩ => ⟨S_, .f32⟩
  | .hbm, ⟨37, _⟩ => ⟨S2048x3584, .f32⟩
  | .hbm, ⟨38, _⟩ => ⟨S_, .f32⟩
  | .hbm, ⟨39, _⟩ => ⟨S2048x3584, .f32⟩
  | .hbm, ⟨40, _⟩ => ⟨S2048x3584, .f32⟩
  | .hbm, ⟨41, _⟩ => ⟨S_, .f32⟩
  | .hbm, ⟨42, _⟩ => ⟨S2048x3584, .f32⟩
  | .hbm, ⟨43, _⟩ => ⟨S2048x3584, .f32⟩
  | .hbm, ⟨44, _⟩ => ⟨S_, .f32⟩
  | .hbm, ⟨45, _⟩ => ⟨S3584, .f32⟩
  | .hbm, ⟨46, _⟩ => ⟨S1x3584, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x3584, .bf16⟩
  | .hbm, ⟨73, _⟩ => ⟨S_, .f32⟩
  | .hbm, ⟨74, _⟩ => ⟨S7x1024, .f32⟩
  | .hbm, ⟨75, _⟩ => ⟨S8x1024, .f32⟩
  | .hbm, ⟨76, _⟩ => ⟨S_, .f32⟩
  | .hbm, ⟨77, _⟩ => ⟨S7x3584, .f32⟩
  | .hbm, ⟨78, _⟩ => ⟨S8x3584, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Ple.lean ====
abbrev S2048x1024 : Shape := ⟨2, ![2048, 1024]⟩
abbrev S2048x256 : Shape := ⟨2, ![2048, 256]⟩
abbrev S1x1024 : Shape := ⟨2, ![1, 1024]⟩
abbrev S1024x1024 : Shape := ⟨2, ![1024, 1024]⟩
abbrev S256x1024 : Shape := ⟨2, ![256, 1024]⟩
abbrev S256x4x256 : Shape := ⟨3, ![256, 4, 256]⟩
abbrev S4x256x256 : Shape := ⟨3, ![4, 256, 256]⟩
abbrev S8x1024 : Shape := ⟨2, ![8, 1024]⟩
abbrev S256x256 : Shape := ⟨2, ![256, 256]⟩
abbrev S256 : Shape := ⟨1, ![256]⟩
abbrev S256x1 : Shape := ⟨2, ![256, 1]⟩
abbrev S1x256x256 : Shape := ⟨3, ![1, 256, 256]⟩
abbrev S1024 : Shape := ⟨1, ![1024]⟩

abbrev nBuf : Space → Nat
  | .hbm => 18
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x1024, .f32⟩
  | .hbm, ⟨3, _⟩ => ⟨S1x1024, .f32⟩
  | .hbm, ⟨4, _⟩ => ⟨S1024x1024, .f32⟩
  | .hbm, ⟨5, _⟩ => ⟨S1x1024, .f32⟩
  | .hbm, ⟨6, _⟩ => ⟨S256x1024, .f32⟩
  | .hbm, ⟨7, _⟩ => ⟨S1x1024, .f32⟩
  | .hbm, ⟨8, _⟩ => ⟨S1x1024, .f32⟩
  | .hbm, ⟨9, _⟩ => ⟨S256x4x256, .f32⟩
  | .hbm, ⟨10, _⟩ => ⟨S4x256x256, .f32⟩
  | .hbm, ⟨11, _⟩ => ⟨S1024x1024, .bf16⟩
  | .hbm, ⟨12, _⟩ => ⟨S4x256x256, .bf16⟩
  | .hbm, ⟨13, _⟩ => ⟨S2048x1024, .f32⟩
  | .hbm, ⟨14, _⟩ => ⟨S2048x1024, .bf16⟩
  | .hbm, ⟨15, _⟩ => ⟨S2048x1024, .bf16⟩
  | .hbm, ⟨16, _⟩ => ⟨S2048x1024, .bf16⟩
  | .hbm, ⟨17, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S4x256x256, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PleRefIdeal.lean ====
abbrev S2048x1024 : Shape := ⟨2, ![2048, 1024]⟩
abbrev S2048x256 : Shape := ⟨2, ![2048, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S3x1024 : Shape := ⟨2, ![3, 1024]⟩
abbrev S8x1024 : Shape := ⟨2, ![8, 1024]⟩

abbrev nBuf : Space → Nat
  | .hbm => 278
  | .vmem => 0
  | .smem => 0
  | _ => 0

abbrev hbmTy0_0 (i : Nat) : BufTy := match i % 128 with
  | 0 => ⟨S2048x1024, .f32⟩
  | 1 => ⟨S2048x256, .f32⟩
  | 2 => ⟨S2048x1024, .f32⟩
  | 3 => ⟨S1x1024, .f32⟩
  | 4 => ⟨S1024x1024, .f32⟩
  | 5 => ⟨S1x1024, .f32⟩
  | 6 => ⟨S256x1024, .f32⟩
  | 7 => ⟨S1x1024, .f32⟩
  | 8 => ⟨S1x1024, .f32⟩
  | 9 => ⟨S_, .f32⟩
  | 10 => ⟨S2048x1024, .f32⟩
  | 11 => ⟨S2048x1024, .f32⟩
  | 12 => ⟨S_, .f32⟩
  | 13 => ⟨S2048, .f32⟩
  | 14 => ⟨S2048x1, .f32⟩
  | 15 => ⟨S_, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1, .f32⟩
  | 22 => ⟨S2048x1, .f32⟩
  | 23 => ⟨S_, .f32⟩
  | 24 => ⟨S2048x1, .f32⟩
  | 25 => ⟨S2048x1, .f32⟩
  | 26 => ⟨S2048x1024, .f32⟩
  | 27 => ⟨S2048x1024, .f32⟩
  | 28 => ⟨S2048x1024, .f32⟩
  | 29 => ⟨S2048x1024, .f32⟩
  | 30 => ⟨S2048x1024, .f32⟩
  | 31 => ⟨S2048x1024, .f32⟩
  | 32 => ⟨S2048x1024, .f32⟩
  | 33 => ⟨S2048x1024, .f32⟩
  | 34 => ⟨S2048x1024, .f32⟩
  | 35 => ⟨S2048x1024, .f32⟩
  | 36 => ⟨S_, .f32⟩
  | 37 => ⟨S2048x1024, .f32⟩
  | 38 => ⟨S2048x1024, .f32⟩
  | 39 => ⟨S_, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S2048x1024, .f32⟩
  | 46 => ⟨S2048x1024, .f32⟩
  | 47 => ⟨S2048x1024, .f32⟩
  | 48 => ⟨S2048x1024, .f32⟩
  | 49 => ⟨S_, .f32⟩
  | 50 => ⟨S2048, .f32⟩
  | 51 => ⟨S2048x1, .f32⟩
  | 52 => ⟨S_, .f32⟩
  | 53 => ⟨S2048x1, .f32⟩
  | 54 => ⟨S2048x1, .f32⟩
  | 55 => ⟨S_, .f32⟩
  | 56 => ⟨S2048x1, .f32⟩
  | 57 => ⟨S2048x1, .f32⟩
  | 58 => ⟨S2048x1, .f32⟩
  | 59 => ⟨S2048x1, .f32⟩
  | 60 => ⟨S_, .f32⟩
  | 61 => ⟨S2048x1, .f32⟩
  | 62 => ⟨S2048x1, .f32⟩
  | 63 => ⟨S2048x1024, .f32⟩
  | 64 => ⟨S2048x1024, .f32⟩
  | 65 => ⟨S2048x1024, .f32⟩
  | 66 => ⟨S2048x1024, .f32⟩
  | 67 => ⟨S2048x1024, .f32⟩
  | 68 => ⟨S2048x1024, .f32⟩
  | 69 => ⟨S2048x1024, .f32⟩
  | 70 => ⟨S_, .f32⟩
  | 71 => ⟨S2048, .f32⟩
  | 72 => ⟨S2048x1, .f32⟩
  | 73 => ⟨S_, .f32⟩
  | 74 => ⟨S2048x1, .f32⟩
  | 75 => ⟨S2048x1, .f32⟩
  | 76 => ⟨S_, .f32⟩
  | 77 => ⟨S2048x1, .f32⟩
  | 78 => ⟨S2048x1, .f32⟩
  | 79 => ⟨S2048x1, .f32⟩
  | 80 => ⟨S2048x1, .f32⟩
  | 81 => ⟨S_, .f32⟩
  | 82 => ⟨S2048x1, .f32⟩
  | 83 => ⟨S2048x1, .f32⟩
  | 84 => ⟨S2048x1024, .f32⟩
  | 85 => ⟨S2048x1024, .f32⟩
  | 86 => ⟨S2048x1024, .f32⟩
  | 87 => ⟨S2048x1024, .f32⟩
  | 88 => ⟨S2048x1024, .f32⟩
  | 89 => ⟨S2048x1024, .f32⟩
  | 90 => ⟨S_, .f32⟩
  | 91 => ⟨S2048x1024, .f32⟩
  | 92 => ⟨S2048x1024, .f32⟩
  | 93 => ⟨S_, .f32⟩
  | 94 => ⟨S2048, .f32⟩
  | 95 => ⟨S_, .f32⟩
  | 96 => ⟨S2048, .f32⟩
  | 97 => ⟨S2048, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S2048, .f32⟩
  | 106 => ⟨S_, .f32⟩
  | 107 => ⟨S2048, .f32⟩
  | 108 => ⟨S2048, .f32⟩
  | 109 => ⟨S2048x1024, .f32⟩
  | 110 => ⟨S2048x1024, .f32⟩
  | 111 => ⟨S2048x1024, .f32⟩
  | 112 => ⟨S_, .f32⟩
  | 113 => ⟨S1024, .f32⟩
  | 114 => ⟨S1x1024, .f32⟩
  | 115 => ⟨S2048x1024, .f32⟩
  | 116 => ⟨S2048x1024, .f32⟩
  | 117 => ⟨S2048x1024, .f32⟩
  | 118 => ⟨S_, .f32⟩
  | 119 => ⟨S2048, .f32⟩
  | 120 => ⟨S2048x1, .f32⟩
  | 121 => ⟨S2048x1024, .f32⟩
  | 122 => ⟨S2048x1024, .f32⟩
  | 123 => ⟨S2048x1, .f32⟩
  | 124 => ⟨S_, .f32⟩
  | 125 => ⟨S2048x1, .f32⟩
  | 126 => ⟨S2048x1, .f32⟩
  | 127 => ⟨S_, .f32⟩
  | _ => ⟨S2048x1024, .f32⟩

abbrev hbmTy0_1 (i : Nat) : BufTy := match i % 128 with
  | 0 => ⟨S2048, .f32⟩
  | 1 => ⟨S2048x1024, .f32⟩
  | 2 => ⟨S2048x1024, .f32⟩
  | 3 => ⟨S2048x1024, .f32⟩
  | 4 => ⟨S2048x1024, .f32⟩
  | 5 => ⟨S2048x1024, .f32⟩
  | 6 => ⟨S2048x1024, .f32⟩
  | 7 => ⟨S2048x1024, .f32⟩
  | 8 => ⟨S2048x1024, .f32⟩
  | 9 => ⟨S_, .f32⟩
  | 10 => ⟨S1024, .f32⟩
  | 11 => ⟨S1x1024, .f32⟩
  | 12 => ⟨S2048x1024, .f32⟩
  | 13 => ⟨S2048x1024, .f32⟩
  | 14 => ⟨S2048x1024, .f32⟩
  | 15 => ⟨S_, .f32⟩
  | 16 => ⟨S2048, .f32⟩
  | 17 => ⟨S2048x1, .f32⟩
  | 18 => ⟨S2048x1024, .f32⟩
  | 19 => ⟨S2048x1024, .f32⟩
  | 20 => ⟨S2048x1, .f32⟩
  | 21 => ⟨S_, .f32⟩
  | 22 => ⟨S2048x1, .f32⟩
  | 23 => ⟨S2048x1, .f32⟩
  | 24 => ⟨S_, .f32⟩
  | 25 => ⟨S2048, .f32⟩
  | 26 => ⟨S2048x1024, .f32⟩
  | 27 => ⟨S2048x1024, .f32⟩
  | 28 => ⟨S2048x1024, .f32⟩
  | 29 => ⟨S2048x1024, .f32⟩
  | 30 => ⟨S2048x1024, .f32⟩
  | 31 => ⟨S2048x1024, .f32⟩
  | 32 => ⟨S_, .f32⟩
  | 33 => ⟨S1024, .f32⟩
  | 34 => ⟨S1x1024, .f32⟩
  | 35 => ⟨S2048x1024, .f32⟩
  | 36 => ⟨S2048x1024, .f32⟩
  | 37 => ⟨S_, .f32⟩
  | 38 => ⟨S1024, .f32⟩
  | 39 => ⟨S1x1024, .f32⟩
  | 40 => ⟨S2048x1024, .f32⟩
  | 41 => ⟨S2048x1024, .f32⟩
  | 42 => ⟨S2048x1024, .f32⟩
  | 43 => ⟨S_, .f32⟩
  | 44 => ⟨S2048, .f32⟩
  | 45 => ⟨S2048x1, .f32⟩
  | 46 => ⟨S2048x1024, .f32⟩
  | 47 => ⟨S2048x1024, .f32⟩
  | 48 => ⟨S2048x1024, .f32⟩
  | 49 => ⟨S2048x1, .f32⟩
  | 50 => ⟨S_, .f32⟩
  | 51 => ⟨S2048x1, .f32⟩
  | 52 => ⟨S2048x1, .f32⟩
  | 53 => ⟨S_, .f32⟩
  | 54 => ⟨S2048, .f32⟩
  | 55 => ⟨S2048x1024, .f32⟩
  | 56 => ⟨S2048x1024, .f32⟩
  | 57 => ⟨S2048x1024, .f32⟩
  | 58 => ⟨S2048x1024, .f32⟩
  | 59 => ⟨S2048x1024, .f32⟩
  | 60 => ⟨S2048x1024, .f32⟩
  | 61 => ⟨S_, .f32⟩
  | 62 => ⟨S2048, .f32⟩
  | 63 => ⟨S2048x1, .f32⟩
  | 64 => ⟨S_, .f32⟩
  | 65 => ⟨S2048x1, .f32⟩
  | 66 => ⟨S2048x1, .f32⟩
  | 67 => ⟨S_, .f32⟩
  | 68 => ⟨S2048x1, .f32⟩
  | 69 => ⟨S2048x1, .f32⟩
  | 70 => ⟨S2048x1, .f32⟩
  | 71 => ⟨S2048x1024, .f32⟩
  | 72 => ⟨S2048x1024, .f32⟩
  | 73 => ⟨S2048x1024, .f32⟩
  | 74 => ⟨S2048x1024, .f32⟩
  | 75 => ⟨S2048x1024, .f32⟩
  | 76 => ⟨S2048x1024, .f32⟩
  | 77 => ⟨S2048x1024, .f32⟩
  | 78 => ⟨S2048x1024, .f32⟩
  | 79 => ⟨S2048x1024, .f32⟩
  | 80 => ⟨S2048x1024, .f32⟩
  | 81 => ⟨S_, .f32⟩
  | 82 => ⟨S2048x1024, .f32⟩
  | 83 => ⟨S2048x1024, .f32⟩
  | 84 => ⟨S_, .f32⟩
  | 85 => ⟨S2048x1024, .f32⟩
  | 86 => ⟨S2048x1024, .f32⟩
  | 87 => ⟨S2048x1024, .f32⟩
  | 88 => ⟨S2048x1024, .f32⟩
  | 89 => ⟨S2048x1024, .f32⟩
  | 90 => ⟨S_, .f32⟩
  | 91 => ⟨S2048, .f32⟩
  | 92 => ⟨S2048x1, .f32⟩
  | 93 => ⟨S_, .f32⟩
  | 94 => ⟨S2048x1, .f32⟩
  | 95 => ⟨S2048x1, .f32⟩
  | 96 => ⟨S_, .f32⟩
  | 97 => ⟨S2048x1, .f32⟩
  | 98 => ⟨S2048x1, .f32⟩
  | 99 => ⟨S2048x1, .f32⟩
  | 100 => ⟨S2048x1024, .f32⟩
  | 101 => ⟨S2048x1024, .f32⟩
  | 102 => ⟨S2048x1024, .f32⟩
  | 103 => ⟨S2048x1024, .f32⟩
  | 104 => ⟨S2048x1024, .f32⟩
  | 105 => ⟨S2048x1024, .f32⟩
  | 106 => ⟨S2048x1024, .f32⟩
  | 107 => ⟨S_, .f32⟩
  | 108 => ⟨S2048, .f32⟩
  | 109 => ⟨S2048x1, .f32⟩
  | 110 => ⟨S_, .f32⟩
  | 111 => ⟨S2048x1, .f32⟩
  | 112 => ⟨S2048x1, .f32⟩
  | 113 => ⟨S_, .f32⟩
  | 114 => ⟨S2048x1, .f32⟩
  | 115 => ⟨S2048x1, .f32⟩
  | 116 => ⟨S2048x1, .f32⟩
  | 117 => ⟨S2048x1024, .f32⟩
  | 118 => ⟨S2048x1024, .f32⟩
  | 119 => ⟨S2048x1024, .f32⟩
  | 120 => ⟨S2048x1024, .f32⟩
  | 121 => ⟨S2048x1024, .f32⟩
  | 122 => ⟨S2048x1024, .f32⟩
  | 123 => ⟨S_, .f32⟩
  | 124 => ⟨S1024, .f32⟩
  | 125 => ⟨S1x1024, .f32⟩
  | 126 => ⟨S_, .f32⟩
  | 127 => ⟨S1x1024, .f32⟩
  | _ => ⟨S2048x1024, .f32⟩

abbrev hbmTy0_2 (i : Nat) : BufTy := match i % 128 with
  | 0 => ⟨S1x1024, .f32⟩
  | 1 => ⟨S2048x1024, .f32⟩
  | 2 => ⟨S_, .f32⟩
  | 3 => ⟨S2048, .f32⟩
  | 4 => ⟨S2048x1, .f32⟩
  | 5 => ⟨S_, .f32⟩
  | 6 => ⟨S2048x1, .f32⟩
  | 7 => ⟨S2048x1, .f32⟩
  | 8 => ⟨S_, .f32⟩
  | 9 => ⟨S2048x1, .f32⟩
  | 10 => ⟨S2048x1, .f32⟩
  | 11 => ⟨S2048x1, .f32⟩
  | 12 => ⟨S2048x1024, .f32⟩
  | 13 => ⟨S2048x1024, .f32⟩
  | 14 => ⟨S2048x1024, .f32⟩
  | 15 => ⟨S2048x1024, .f32⟩
  | 16 => ⟨S2048x1024, .bf16⟩
  | 17 => ⟨S2048x1024, .bf16⟩
  | 18 => ⟨S2048x1024, .bf16⟩
  | 19 => ⟨S_, .f32⟩
  | 20 => ⟨S3x1024, .f32⟩
  | 21 => ⟨S8x1024, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_v66 : Ref sig .tc := ⟨.hbm, 92, rfl⟩
abbrev main_cst_16 : Ref sig .tc := ⟨.hbm, 93, rfl⟩
abbrev main_v67 : Ref sig .tc := ⟨.hbm, 94, rfl⟩
abbrev main_cst_17 : Ref sig .tc := ⟨.hbm, 95, rfl⟩
abbrev main_v68 : Ref sig .tc := ⟨.hbm, 96, rfl⟩
abbrev main_v69 : Ref sig .tc := ⟨.hbm, 97, rfl⟩
abbrev main_cst_18 : Ref sig .tc := ⟨.hbm, 98, rfl⟩
abbrev main_v70 : Ref sig .tc := ⟨.hbm, 99, rfl⟩
abbrev main_cst_19 : Ref sig .tc := ⟨.hbm, 100, rfl⟩
abbrev main_v71 : Ref sig .tc := ⟨.hbm, 101, rfl⟩
abbrev main_cst_20 : Ref sig .tc := ⟨.hbm, 102, rfl⟩
abbrev main_cst_21 : Ref sig .tc := ⟨.hbm, 103, rfl⟩
abbrev main_v72 : Ref sig .tc := ⟨.hbm, 104, rfl⟩
abbrev main_v73 : Ref sig .tc := ⟨.hbm, 105, rfl⟩
abbrev main_cst_22 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_23 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_24 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_25 : Ref sig .tc := ⟨.hbm, 124, rfl⟩
abbrev main_v89 : Ref sig .tc := ⟨.hbm, 125, rfl⟩
abbrev main_v90 : Ref sig .tc := ⟨.hbm, 126, rfl⟩
abbrev main_cst_26 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_27 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_28 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_29 : Ref sig .tc := ⟨.hbm, 149, rfl⟩
abbrev main_v110 : Ref sig .tc := ⟨.hbm, 150, rfl⟩
abbrev main_v111 : Ref sig .tc := ⟨.hbm, 151, rfl⟩
abbrev main_cst_30 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_31 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_32 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_33 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_34 : Ref sig .tc := ⟨.hbm, 178, rfl⟩
abbrev main_v134 : Ref sig .tc := ⟨.hbm, 179, rfl⟩
abbrev main_v135 : Ref sig .tc := ⟨.hbm, 180, rfl⟩
abbrev main_cst_35 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_36 : Ref sig .tc := ⟨.hbm, 189, rfl⟩
abbrev main_v143 : Ref sig .tc := ⟨.hbm, 190, rfl⟩
abbrev main_v144 : Ref sig .tc := ⟨.hbm, 191, rfl⟩
abbrev main_cst_37 : Ref sig .tc := ⟨.hbm, 192, rfl⟩
abbrev main_v145 : Ref sig .tc := ⟨.hbm, 193, rfl⟩
abbrev main_v146 : Ref sig .tc := ⟨.hbm, 194, rfl⟩
abbrev main_cst_38 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_cst_39 : Ref sig .tc := ⟨.hbm, 209, rfl⟩
abbrev main_v160 : Ref sig .tc := ⟨.hbm, 210, rfl⟩
abbrev main_v161 : Ref sig .tc := ⟨.hbm, 211, rfl⟩
abbrev main_cst_40 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_cst_41 : Ref sig .tc := ⟨.hbm, 218, rfl⟩
abbrev main_v167 : Ref sig .tc := ⟨.hbm, 219, rfl⟩
abbrev main_v168 : Ref sig .tc := ⟨.hbm, 220, rfl⟩
abbrev main_cst_42 : Ref sig .tc := ⟨.hbm, 221, rfl⟩
abbrev main_v169 : Ref sig .tc := ⟨.hbm, 222, rfl⟩
abbrev main_v170 : Ref sig .tc := ⟨.hbm, 223, rfl⟩
abbrev main_cst_43 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_cst_44 : Ref sig .tc := ⟨.hbm, 235, rfl⟩
abbrev main_v181 : Ref sig .tc := ⟨.hbm, 236, rfl⟩
abbrev main_v182 : Ref sig .tc := ⟨.hbm, 237, rfl⟩
abbrev main_cst_45 : Ref sig .tc := ⟨.hbm, 238, rfl⟩
abbrev main_v183 : Ref sig .tc := ⟨.hbm, 239, rfl⟩
abbrev main_v184 : Ref sig .tc := ⟨.hbm, 240, rfl⟩
abbrev main_cst_46 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_cst_47 : Ref sig .tc := ⟨.hbm, 251, rfl⟩
abbrev main_v194 : Ref sig .tc := ⟨.hbm, 252, rfl⟩
abbrev main_v195 : Ref sig .tc := ⟨.hbm, 253, rfl⟩
abbrev main_cst_48 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_cst_49 : Ref sig .tc := ⟨.hbm, 258, rfl⟩
abbrev main_v199 : Ref sig .tc := ⟨.hbm, 259, rfl⟩
abbrev main_v200 : Ref sig .tc := ⟨.hbm, 260, rfl⟩
abbrev main_cst_50 : Ref sig .tc := ⟨.hbm, 261, rfl⟩
abbrev main_v201 : Ref sig .tc := ⟨.hbm, 262, rfl⟩
abbrev main_v202 : Ref sig .tc := ⟨.hbm, 263, rfl⟩
abbrev main_cst_51 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_cst_52 : Ref sig .tc := ⟨.hbm, 275, rfl⟩
abbrev main_v213 : Ref sig .tc := ⟨.hbm, 276, rfl⟩
abbrev main_v214 : Ref sig .tc := ⟨.hbm, 277, rfl⟩

abbrev nD : Nat := 1
abbrev τ : Topo := Topo.v7x

variable {F : FTy → Type} [FloatOps F]
-- ==== MergeFwd.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1024x1024 : Shape := ⟨2, ![1024, 1024]⟩
abbrev S512x4x256 : Shape := ⟨3, ![512, 4, 256]⟩
abbrev S4x512x256 : Shape := ⟨3, ![4, 512, 256]⟩
abbrev S256x1024 : Shape := ⟨2, ![256, 1024]⟩
abbrev S256x512 : Shape := ⟨2, ![256, 512]⟩
abbrev S256x2048 : Shape := ⟨2, ![256, 2048]⟩
abbrev S1x512x256 : Shape := ⟨3, ![1, 512, 256]⟩
abbrev S512x256 : Shape := ⟨2, ![512, 256]⟩
abbrev S256x256 : Shape := ⟨2, ![256, 256]⟩

abbrev nBuf : Space → Nat
  | .hbm => 16
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x1024, .f32⟩
  | .hbm, ⟨3, _⟩ => ⟨S2048x2048, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S512x4x256, .f32⟩
  | .hbm, ⟨8, _⟩ => ⟨S4x512x256, .f32⟩
  | .hbm, ⟨9, _⟩ => ⟨S4x512x256, .bf16⟩
  | .hbm, ⟨10, _⟩ => ⟨S1024x1024, .bf16⟩
  | .hbm, ⟨11, _⟩ => ⟨S1024x1024, .bf16⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S4x512x256, .bf16⟩
  | .local _ .vmem, ⟨9, _⟩ => ⟨S1024x1024, .bf16⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeFwdRefIdeal.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1024x1024 : Shape := ⟨2, ![1024, 1024]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .f32⟩
  | .hbm, ⟨2, _⟩ => ⟨S2048x1024, .f32⟩
  | .hbm, ⟨3, _⟩ => ⟨S2048x2048, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== FfnDown.lean ====
abbrev S2048x1024 : Shape := ⟨2, ![2048, 1024]⟩
abbrev S2048x2816 : Shape := ⟨2, ![2048, 2816]⟩
abbrev S2816x1024 : Shape := ⟨2, ![2816, 1024]⟩
abbrev S2048x4x704 : Shape := ⟨3, ![2048, 4, 704]⟩
abbrev S4x2048x704 : Shape := ⟨3, ![4, 2048, 704]⟩
abbrev S4x704x1024 : Shape := ⟨3, ![4, 704, 1024]⟩
abbrev S256x1024 : Shape := ⟨2, ![256, 1024]⟩
abbrev S4x256x704 : Shape := ⟨3, ![4, 256, 704]⟩
abbrev S1 : Shape := ⟨1, ![1]⟩
abbrev S_ : Shape := ⟨0, ![]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩

abbrev nBuf : Space → Nat
  | .hbm => 13
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2816x1024, .f32⟩
  | .hbm, ⟨4, _⟩ => ⟨S2048x4x704, .f32⟩
  | .hbm, ⟨5, _⟩ => ⟨S4x2048x704, .f32⟩
  | .hbm, ⟨6, _⟩ => ⟨S4x2048x704, .bf16⟩
  | .hbm, ⟨7, _⟩ => ⟨S2048x4x704, .f32⟩
  | .hbm, ⟨8, _⟩ => ⟨S4x2048x704, .f32⟩
  | .hbm, ⟨9, _⟩ => ⟨S4x2048x704, .bf16⟩
  | .hbm, ⟨10, _⟩ => ⟨S4x704x1024, .f32⟩
  | .hbm, ⟨11, _⟩ => ⟨S4x704x1024, .bf16⟩
  | .hbm, ⟨12, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S4x256x704, .bf16⟩
  | .local _ .vmem, ⟨3, _⟩ => ⟨S4x256x704, .bf16⟩
  | .local _ .vmem, ⟨4, _⟩ => ⟨S4x256x704, .bf16⟩
  | .local _ .vmem, ⟨5, _⟩ => ⟨S4x256x704, .bf16⟩
  | .local _ .vmem, ⟨6, _⟩ => ⟨S256x1024, .f32⟩
  | .local _ .vmem, ⟨7, _⟩ => ⟨S256x1024, .f32⟩
  | .local _ .vmem, ⟨8, _⟩ => ⟨S4x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnDownRefIdeal.lean ====
abbrev S2048x1024 : Shape := ⟨2, ![2048, 1024]⟩
abbrev S2048x2816 : Shape := ⟨2, ![2048, 2816]⟩
abbrev S2816x1024 : Shape := ⟨2, ![2816, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2816x1024, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x1024, .f32⟩
  | .hbm, ⟨15, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩

abbrev nD : Nat := 1
abbrev τ : Topo := Topo.v7x

variable {F : FTy → Type} [FloatOps F]
-- ==== FfnUp.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x2048x704 : Shape := ⟨3, ![4, 2048, 704]⟩
abbrev S256x1024 : Shape := ⟨2, ![256, 1024]⟩
abbrev S4x256x704 : Shape := ⟨3, ![4, 256, 704]⟩
abbrev S2 : Shape := ⟨1, ![2]⟩
abbrev S1 : Shape := ⟨1, ![1]⟩
abbrev S_ : Shape := ⟨0, ![]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 13
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4x704x1024, .f32⟩
  | .hbm, ⟨6, _⟩ => ⟨S4x704x1024, .bf16⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S2048x1024, .bf16⟩
  | .hbm, ⟨11, _⟩ => ⟨S4x2048x704, .bf16⟩
  | .hbm, ⟨12, _⟩ => ⟨S4x2048x704, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x704x1024, .bf16⟩
  | .local _ .vmem, ⟨10, _⟩ => ⟨S4x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnUpRefIdeal.lean ====
abbrev S2048x1024 : Shape := ⟨2, ![2048, 1024]⟩
abbrev S1x1024 : Shape := ⟨2, ![1, 1024]⟩
abbrev S1024x2816 : Shape := ⟨2, ![1024, 2816]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | .hbm, ⟨20, _⟩ => ⟨S2048x2816, .f32⟩
  | .hbm, ⟨21, _⟩ => ⟨S2048x4x704, .f32⟩
  | .hbm, ⟨22, _⟩ => ⟨S4x2048x704, .f32⟩
  | .hbm, ⟨23, _⟩ => ⟨S4x2048x704, .bf16⟩
  | .hbm, ⟨24, _⟩ => ⟨S2048x2816, .f32⟩
  | .hbm, ⟨25, _⟩ => ⟨S2048x4x704, .f32⟩
  | .hbm, ⟨26, _⟩ => ⟨S4x2048x704, .f32⟩
  | .hbm, ⟨27, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== InprojFwd.lean ====
abbrev S2048x1024 : Shape := ⟨2, ![2048, 1024]⟩
abbrev S1x1024 : Shape := ⟨2, ![1, 1024]⟩
abbrev S1024x3584 : Shape := ⟨2, ![1024, 3584]⟩
abbrev S1x3584 : Shape := ⟨2, ![1, 3584]⟩
abbrev S1024x4x896 : Shape := ⟨3, ![1024, 4, 896]⟩
abbrev S4x1024x896 : Shape := ⟨3, ![4, 1024, 896]⟩
abbrev S2048x512 : Shape := ⟨2, ![2048, 512]⟩
abbrev S2048x2048 : Shape := ⟨2, ![2048, 2048]⟩
abbrev S256x1024 : Shape := ⟨2, ![256, 1024]⟩
abbrev S256x512 : Shape := ⟨2, ![256, 512]⟩
abbrev S256x2048 : Shape := ⟨2, ![256, 2048]⟩
abbrev S1 : Shape := ⟨1, ![1]⟩
abbrev S_ : Shape := ⟨0, ![]⟩
abbrev S256 : Shape := ⟨1, ![256]⟩
abbrev S256x1 : Shape := ⟨2, ![256, 1]⟩
abbrev S1x1024x896 : Shape := ⟨3, ![1, 1024, 896]⟩
abbrev S1024x896 : Shape := ⟨2, ![1024, 896]⟩
abbrev S256x896 : Shape := ⟨2, ![256, 896]⟩
abbrev S1x896 : Shape := ⟨2, ![1, 896]⟩
abbrev S256x384 : Shape := ⟨2, ![256, 384]⟩
abbrev S256x640 : Shape := ⟨2, ![256, 640]⟩
abbrev S256x256 : Shape := ⟨2, ![256, 256]⟩

abbrev nBuf : Space → Nat
  | .hbm => 11
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3584, .f32⟩
  | .hbm, ⟨3, _⟩ => ⟨S1x3584, .f32⟩
  | .hbm, ⟨4, _⟩ => ⟨S1024x4x896, .f32⟩
  | .hbm, ⟨5, _⟩ => ⟨S4x1024x896, .f32⟩
  | .hbm, ⟨6, _⟩ => ⟨S4x1024x896, .bf16⟩
  | .hbm, ⟨7, _⟩ => ⟨S2048x1024, .bf16⟩
  | .hbm, ⟨8, _⟩ => ⟨S2048x512, .f32⟩
  | .hbm, ⟨9, _⟩ => ⟨S2048x1024, .f32⟩
  | .hbm, ⟨10, _⟩ => ⟨S2048x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x3584, .f32⟩
  | .local _ .vmem, ⟨4, _⟩ => ⟨S256x1024, .bf16⟩
  | .local _ .vmem, ⟨5, _⟩ => ⟨S256x1024, .bf16⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S4x1024x896, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InprojFwdRefIdeal.lean ====
abbrev S2048x1024 : Shape := ⟨2, ![2048, 1024]⟩
abbrev S1x1024 : Shape := ⟨2, ![1, 1024]⟩
abbrev S1024x3584 : Shape := ⟨2, ![1024, 3584]⟩
abbrev S1x3584 : Shape := ⟨2, ![1, 3584]⟩
abbrev S_ : Shape := ⟨0, ![]⟩
abbrev S2048 : Shape := ⟨1, ![2048]⟩
abbrev S2048x1 : Shape := ⟨2, ![2048, 1]⟩
abbrev S2048x3584 : Shape := ⟨2, ![2048, 3584]⟩
abbrev S2048x512 : Shape := ⟨2, ![2048, 512]⟩
abbrev S2048x2048 : Shape := ⟨2, ![2048, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3584, .f32⟩
  | .hbm, ⟨3, _⟩ => ⟨S1x3584, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x3584, .f32⟩
  | .hbm, ⟨20, _⟩ => ⟨S2048x3584, .f32⟩
  | .hbm, ⟨21, _⟩ => ⟨S2048x3584, .f32⟩
  | .hbm, ⟨22, _⟩ => ⟨S2048x1024, .bf16⟩
  | .hbm, ⟨23, _⟩ => ⟨S2048x512, .f32⟩
  | .hbm, ⟨24, _⟩ => ⟨S2048x1024, .f32⟩
  | .hbm, ⟨25, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== DownWeight.lean ====
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x4x704, .f32⟩
  | .hbm, ⟨3, _⟩ => ⟨S4x2048x704, .f32⟩
  | .hbm, ⟨4, _⟩ => ⟨S4x2048x704, .bf16⟩
  | .hbm, ⟨5, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S1x704x1024, .f32⟩
  | .local _ .vmem, ⟨4, _⟩ => ⟨S1x704x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownWeightRefIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S4x704x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamW.lean ====
abbrev S704x1024 : Shape := ⟨2, ![704, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== DiagBlocks.lean ====
abbrev S2048x512 : Shape := ⟨2, ![2048, 512]⟩
abbrev S2048x2048 : Shape := ⟨2, ![2048, 2048]⟩
abbrev S16x2048 : Shape := ⟨2, ![16, 2048]⟩
abbrev S1024x512 : Shape := ⟨2, ![1024, 512]⟩
abbrev S1024x2048 : Shape := ⟨2, ![1024, 2048]⟩
abbrev S4x128x512 : Shape := ⟨3, ![4, 128, 512]⟩
abbrev S1x128x512 : Shape := ⟨3, ![1, 128, 512]⟩
abbrev S128x512 : Shape := ⟨2, ![128, 512]⟩
abbrev S1024x128 : Shape := ⟨2, ![1024, 128]⟩
abbrev S8x16x512 : Shape := ⟨3, ![8, 16, 512]⟩
abbrev S16x512 : Shape := ⟨2, ![16, 512]⟩

abbrev nBuf : Space → Nat
  | .hbm => 5
  | .vmem => 10
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S2048x2048, .f32⟩
  | .hbm, ⟨3, _⟩ => ⟨S16x2048, .f32⟩
  | .hbm, ⟨4, _⟩ => ⟨S16x2048, .f32⟩
  | .local _ .vmem, ⟨0, _⟩ => ⟨S1024x512, .f32⟩
  | .local _ .vmem, ⟨1, _⟩ => ⟨S1024x512, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | .local _ .vmem, ⟨6, _⟩ => ⟨S16x2048, .f32⟩
  | .local _ .vmem, ⟨7, _⟩ => ⟨S16x2048, .f32⟩
  | .local _ .vmem, ⟨8, _⟩ => ⟨S4x128x512, .f32⟩
  | .local _ .vmem, ⟨9, _⟩ => ⟨S4x128x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v81 : BitVec 1 := Scalar.cmpi .eq arg0 c1_i32
  let v82 : BitVec 32 := Scalar.extui v81
  let c0_i32_58 : BitVec 32 := 0#32
  let v83 : BitVec 1 := Scalar.cmpi .ne v82 c0_i32_58
  v83

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DiagBlocksRefIdeal.lean ====
abbrev S2048x512 : Shape := ⟨2, ![2048, 512]⟩
abbrev S2048x2048 : Shape := ⟨2, ![2048, 2048]⟩
abbrev S_ : Shape := ⟨0, ![]⟩
abbrev S32x16x64 : Shape := ⟨3, ![32, 16, 64]⟩
abbrev S2048x32x16 : Shape := ⟨3, ![2048, 32, 16]⟩
abbrev S32x64x2048 : Shape := ⟨3, ![32, 64, 2048]⟩
abbrev S2048x32x64 : Shape := ⟨3, ![2048, 32, 64]⟩
abbrev S32x64x16 : Shape := ⟨3, ![32, 64, 16]⟩
abbrev S16x32x64 : Shape := ⟨3, ![16, 32, 64]⟩
abbrev S16x2048 : Shape := ⟨2, ![16, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S32x16x64, .f32⟩
  | .hbm, ⟨5, _⟩ => ⟨S2048x32x16, .f32⟩
  | .hbm, ⟨6, _⟩ => ⟨S32x64x2048, .f32⟩
  | .hbm, ⟨7, _⟩ => ⟨S2048x32x64, .f32⟩
  | .hbm, ⟨8, _⟩ => ⟨S2048x2048, .f32⟩
  | .hbm, ⟨9, _⟩ => ⟨S32x64x2048, .f32⟩
  | .hbm, ⟨10, _⟩ => ⟨S2048x32x64, .f32⟩
  | .hbm, ⟨11, _⟩ => ⟨S2048x2048, .f32⟩
  | .hbm, ⟨12, _⟩ => ⟨S2048x32x64, .f32⟩
  | .hbm, ⟨13, _⟩ => ⟨S32x64x2048, .f32⟩
  | .hbm, ⟨14, _⟩ => ⟨S32x64x16, .f32⟩
  | .hbm, ⟨15, _⟩ => ⟨S32x16x64, .f32⟩
  | .hbm, ⟨16, _⟩ => ⟨S2048x32x64, .f32⟩
  | .hbm, ⟨17, _⟩ => ⟨S32x64x2048, .f32⟩
  | .hbm, ⟨18, _⟩ => ⟨S32x64x16, .f32⟩
  | .hbm, ⟨19, _⟩ => ⟨S32x16x64, .f32⟩
  | .hbm, ⟨20, _⟩ => ⟨S16x32x64, .f32⟩
  | .hbm, ⟨21, _⟩ => ⟨S16x2048, .f32⟩
  | .hbm, ⟨22, _⟩ => ⟨S16x32x64, .f32⟩
  | .hbm, ⟨23, _⟩ => ⟨S16x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Proof.Merge.lean ====
module

public import proofs.«01_k».proof.Proof.Gen.KernelIdeal.Value
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value
open Cert.KernelIdeal Cert.KernelIdeal.Gen

variable (m : (ℓ : Loc nD τ sig) → Buf (Elt Ideal) ℓ)

theorem idxs : ∀ t : Fin cfg0.N, win0_0.index t = ![t.val, 0]
    ∧ win0_1.index t = ![t.val, 0]
    ∧ win0_2.index t = ![t.val, 0]
    ∧ win0_3.index t = ![t.val, 0]
    ∧ win0_4.index t = ![0, 0, 0]
    ∧ win0_5.index t = ![0, 0]
    ∧ win0_6.index t = ![0, 0]
    ∧ win0_7.index t = ![t.val, 0]
    ∧ win0_8.index t = ![t.val, 0]
    ∧ win0_9.index t = ![t.val, 0]
    ∧ win0_10.index t = ![t.val, 0]
    ∧ win0_11.index t = ![t.val, 0] :=
  (by decide +kernel : ∀ t : Fin grid0.N, _)

open Cert.ReferenceIdeal.Gen in
abbrev gateR (o : Fin 2 → ℕ) (h : Cert.ReferenceIdeal.S2048x2048.Slices o Cert.ReferenceIdeal.S2048x1024) (gp : FVec Ideal Cert.ReferenceIdeal.S2048x2048 .f32) : FVec Ideal Cert.ReferenceIdeal.S2048x1024 .f32 :=
  Host.divf (broadcastInDim Cert.ReferenceIdeal.S2048x1024 ![] bcast_S_S2048x1024 (constant Cert.ReferenceIdeal.S_ .f32 0x3F800000#32)) (addf (broadcastInDim Cert.ReferenceIdeal.S2048x1024 ![] bcast_S_S2048x1024 (constant Cert.ReferenceIdeal.S_ .f32 0x3F800000#32)) (Host.exp (Host.negf (extractStridedSlice Cert.ReferenceIdeal.S2048x1024 o gp h))))

abbrev dmR (x : FVec Ideal Cert.ReferenceIdeal.S2048x1024 .f32) (w : FVec Ideal Cert.ReferenceIdeal.S1024x1024 .f32) : FVec Ideal Cert.ReferenceIdeal.S2048x1024 .f32 :=
  Host.dotGeneral Cert.ReferenceIdeal.dot_S2048x1024_S1024x1024_S2048x1024_1_1_0_0_n_n none x w

abbrev sl0 := Cert.ReferenceIdeal.Gen.slices_S2048x2048_S2048x1024_0_0
abbrev sl1 := Cert.ReferenceIdeal.Gen.slices_S2048x2048_S2048x1024_0_1024

abbrev daR (x : FVec Ideal Cert.ReferenceIdeal.S2048x1024 .f32) (gp : FVec Ideal Cert.ReferenceIdeal.S2048x2048 .f32) (w : FVec Ideal Cert.ReferenceIdeal.S1024x1024 .f32) : FVec Ideal Cert.ReferenceIdeal.S2048x1024 .f32 := mulf (gateR ![0, 0] sl0 gp) (dmR x w)
abbrev dbR (x : FVec Ideal Cert.ReferenceIdeal.S2048x1024 .f32) (gp : FVec Ideal Cert.ReferenceIdeal.S2048x2048 .f32) (w : FVec Ideal Cert.ReferenceIdeal.S1024x1024 .f32) : FVec Ideal Cert.ReferenceIdeal.S2048x1024 .f32 := mulf (gateR ![0, 1024] sl1 gp) (dmR x w)

def dyaR (x : FVec Ideal Cert.ReferenceIdeal.S2048x1024 .f32) (gp : FVec Ideal Cert.ReferenceIdeal.S2048x2048 .f32) (w : FVec Ideal Cert.ReferenceIdeal.S1024x1024 .f32) (wa : FVec Ideal Cert.ReferenceIdeal.S512x1024 .f32) : FVec Ideal Cert.ReferenceIdeal.S2048x512 .f32 :=
  Host.dotGeneral Cert.ReferenceIdeal.dot_S2048x1024_S512x1024_S2048x512_1_1_0_0_n_n none (daR x gp w) wa

open Cert.ReferenceIdeal.Gen in
def dgR (X : FVec Ideal Cert.ReferenceIdeal.S2048x1024 .f32) (gp : FVec Ideal Cert.ReferenceIdeal.S2048x2048 .f32)
  (pa pb : FVec Ideal Cert.ReferenceIdeal.S2048x1024 .f32)
  (w : FVec Ideal Cert.ReferenceIdeal.S1024x1024 .f32) : FVec Ideal Cert.ReferenceIdeal.S2048x2048 .f32 :=
  addf (pad Cert.ReferenceIdeal.S2048x2048 ![0, 1024] ![0, 0] ![0, 0]
      (mulf (mulf (dmR X w) pb)
        (mulf (gateR ![0, 1024] sl1 gp) (subf (broadcastInDim Cert.ReferenceIdeal.S2048x1024 ![] bcast_S_S2048x1024 (constant Cert.ReferenceIdeal.S_ .f32 0x3F800000#32)) (gateR ![0, 1024] sl1 gp))))
      (constant Cert.ReferenceIdeal.S_ .f32 0x00000000#32) pads_S2048x1024_S2048x2048_000_102400 h_S_)
    (pad Cert.ReferenceIdeal.S2048x2048 ![0, 0] ![0, 1024] ![0, 0]
      (mulf (mulf (dmR X w) pa)
        (mulf (gateR ![0, 0] sl0 gp) (subf (broadcastInDim Cert.ReferenceIdeal.S2048x1024 ![] bcast_S_S2048x1024 (constant Cert.ReferenceIdeal.S_ .f32 0x3F800000#32)) (gateR ![0, 0] sl0 gp))))
      (constant Cert.ReferenceIdeal.S_ .f32 0x00000000#32) pads_S2048x1024_S2048x2048_000_010240 h_S_)

def dgE (d p g : EReal) : EReal := d * p * Ideal.logistic g * (1 - Ideal.logistic g)

theorem pay10_at (P0 : Vec Ideal S256x1024 .f32) (P1 : Vec Ideal S1024x1024 .bf16) (P2 : Vec Ideal S256x2048 .f32) (P3 : Vec Ideal S256x1024 .f32) (a : Fin 256) (b : Fin 1024) :
    k0_pay10 P0 P1 P2 P3 (ix2 a b) = dgE (∑ k : Fin 1024, P0 (ix2 a k) * P1 (ix2 b k)) (P3 (ix2 a b)) (P2 (ix2 a ⟨b.val, by omega⟩)) := by
  pointwise [k0_pay10, k0_pay3, k0_pay4]
  rfl

theorem pay11_at (P0 : Vec Ideal S256x1024 .f32) (P1 : Vec Ideal S1024x1024 .bf16) (P2 : Vec Ideal S256x2048 .f32) (P3 : Vec Ideal S256x1024 .f32) (a : Fin 256) (b : Fin 1024) :
    k0_pay11 P0 P1 P2 P3 (ix2 a b) = dgE (∑ k : Fin 1024, P0 (ix2 a k) * P1 (ix2 b k)) (P3 (ix2 a b)) (P2 (ix2 a ⟨1024 + b.val, by omega⟩)) := by
  pointwise [k0_pay11, k0_pay3, k0_pay5]
  rfl

theorem dgR_lo (X gp pa pb w) (i : Fin 2048) (j : Fin 1024) :
    dgR X gp pa pb w (ix2 i ⟨j.val, by omega⟩) = dgE (∑ k : Fin 1024, X (ix2 i k) * w (ix2 j k)) (pa (ix2 i j)) (gp (ix2 i ⟨j.val, by omega⟩)) := by
  pointwise [dgR, dmR, gateR]
  rw [dif_neg (by tauto), zero_add, ← mul_assoc]
  rfl

theorem dgR_hi (X gp pa pb w) (i : Fin 2048) (j : Fin 1024) :
    dgR X gp pa pb w (ix2 i ⟨1024 + j.val, by omega⟩) = dgE (∑ k : Fin 1024, X (ix2 i k) * w (ix2 j k)) (pb (ix2 i j)) (gp (ix2 i ⟨1024 + j.val, by omega⟩)) := by
  pointwise [dgR, dmR, gateR]
  rw [← mul_assoc]
  rfl

theorem V_pa (c : Dev nD) : (V m c main_v2 : FVec Ideal Cert.ReferenceIdeal.S2048x1024 .f32)
    = (Host.dotGeneral Cert.ReferenceIdeal.dot_S2048x512_S512x1024_S2048x1024_1_0_0_1_n_n (φ₁ := .f32) (φ₂ := .f32) none (m ((c : Thread nD τ).loc main_arg2)) (m ((c : Thread nD τ).loc main_arg4)) : FVec Ideal Cert.ReferenceIdeal.S2048x1024 .f32) := by
  entry_read
  rfl
theorem V_pb (c : Dev nD) : (V m c main_v3 : FVec Ideal Cert.ReferenceIdeal.S2048x1024 .f32)
    = (Host.dotGeneral Cert.ReferenceIdeal.dot_S2048x1024_S1024x1024_S2048x1024_1_0_0_1_n_n (φ₁ := .f32) (φ₂ := .f32) none (m ((c : Thread nD τ).loc main_arg3)) (m ((c : Thread nD τ).loc main_arg5)) : FVec Ideal Cert.ReferenceIdeal.S2048x1024 .f32) := by
  entry_read
  rfl

theorem blk0 (c : Dev nD) (t : Fin cfg0.N) (a : Fin 256) (b : Fin 1024) (i : Fin 2048) (hi : i.val = 256 * t.val + a.val) : iblk m c 0 t (ix2 a b) = m ((c : Thread nD τ).loc main_arg0) (ix2 i b) := by
  blk_ext [iblk, V, idxs t]
theorem blk1 (c : Dev nD) (t : Fin cfg0.N) (a : Fin 256) (b : Fin 2048) (i : Fin 2048) (hi : i.val = 256 * t.val + a.val) : iblk m c 1 t (ix2 a b) = m ((c : Thread nD τ).loc main_arg1) (ix2 i b) := by
  blk_ext [iblk, V, idxs t]
theorem blk2 (c : Dev nD) (t : Fin cfg0.N) (a : Fin 256) (b : Fin 1024) (i : Fin 2048) (hi : i.val = 256 * t.val + a.val) : iblk m c 2 t (ix2 a b) = V m c main_v2 (ix2 i b) := by
  show V m c main_v2 (((cfg0.win 2).blk t).view.emb (ix2 a b)) = _
  blk_ext [idxs t]
theorem blk3 (c : Dev nD) (t : Fin cfg0.N) (a : Fin 256) (b : Fin 1024) (i : Fin 2048) (hi : i.val = 256 * t.val + a.val) : iblk m c 3 t (ix2 a b) = V m c main_v3 (ix2 i b) := by
  show V m c main_v3 (((cfg0.win 3).blk t).view.emb (ix2 a b)) = _
  blk_ext [idxs t]
theorem blk6 (c : Dev nD) (t : Fin cfg0.N) (a b : Fin 1024) : iblk m c 6 t (ix2 a b) = m ((c : Thread nD τ).loc main_arg6) (ix2 a b) := by
  blk_ext! [iblk, V, idxs t]

theorem emb9 (t : Fin cfg0.N) (y : S256x2048.Idx) (b : Fin 2048) (hb : (y 1).val = b.val) (i : Fin 2048) (hi : i.val = 256 * t.val + (y 0).val) : ((cfg0.win 9).blk t).view.emb y = ix2 i b := by
  obtain ⟨p, q, rfl⟩ : ∃ p q, y = ix2 p q := ⟨y 0, y 1, eq_ix2 y⟩
  change q.val = b.val at hb
  change i.val = 256 * t.val + p.val at hi
  funext a
  match a with
  | ⟨0, _⟩ => exact Fin.ext (by blk_simp [idxs t]; omega)
  | ⟨1, _⟩ => exact Fin.ext (by blk_simp [idxs t]; omega)

theorem ld_0 (P : Vec Ideal S256x1024 .f32) : View.ld P r0_0 = P := View.ld_unit_lit _ P (by decide)
theorem ld_1 (P : Vec Ideal S1024x1024 .bf16) : View.ld P r0_1 = P := View.ld_unit_lit _ P (by decide)
theorem ld_2 (P : Vec Ideal S256x2048 .f32) : View.ld P r0_2 = P := View.ld_unit_lit _ P (by decide)

theorem point9 (c : Dev nD) (t : Fin cfg0.N) (y) :
    out0_9 (iblk m c 0 t) (iblk m c 1 t) (iblk m c 2 t) (iblk m c 3 t) (iblk m c 4 t) (iblk m c 5 t) (iblk m c 6 t) y
      = dgR (m ((c : Thread nD τ).loc main_arg0)) (m ((c : Thread nD τ).loc main_arg1)) (V m c main_v2) (V m c main_v3)
         (m ((c : Thread nD τ).loc main_arg6)) (((cfg0.win 9).blk t).view.emb y) := by
  have ht : t.val < 8 := t.isLt
  canon_tiles x h
  all_goals
    obtain ⟨p, q, rfl⟩ : ∃ (p : Fin 256) (q : Fin 1024), x = ix2 p q := ⟨x 0, x 1, eq_ix2 x⟩
    have hi : 256 * t.val + p.val < 2048 := by omega
    change (y 0).val = p.val at h0
    rw [ld_0, ld_1, ld_2, ld_0]
  · rw [emb9 t y ⟨1024 + q.val, by omega⟩ h1 ⟨_, hi⟩ (by rw [h0]), dgR_hi _ _ _ _ _ ⟨_, hi⟩ q, pay11_at,
      blk1 m c t _ _ ⟨_, hi⟩ rfl, blk3 m c t _ _ ⟨_, hi⟩ rfl]
    simp only [blk0 m c t _ _ ⟨_, hi⟩ rfl, blk6]
  · rw [emb9 t y ⟨q.val, by omega⟩ h1 ⟨_, hi⟩ (by rw [h0]), dgR_lo _ _ _ _ _ ⟨_, hi⟩ q, pay10_at,
      blk1 m c t _ _ ⟨_, hi⟩ rfl, blk2 m c t _ _ ⟨_, hi⟩ rfl]
    simp only [blk0 m c t _ _ ⟨_, hi⟩ rfl, blk6]
theorem point10 (c : Dev nD) (t : Fin cfg0.N) (y) :
    k0_pay8 (iblk m c 0 t) (iblk m c 6 t) (iblk m c 1 t) y
      = (truncf .bf16 (daR (m ((c : Thread nD τ).loc main_arg0)) (m ((c : Thread nD τ).loc main_arg1)) (m ((c : Thread nD τ).loc main_arg6))) Cert.ReferenceIdeal.Gen.bitsLt_bf16_f32) (((cfg0.win 10).blk t).view.emb y) := by
  pointwise [k0_pay8, k0_pay6, k0_pay3, k0_pay4, gateR, dmR, daR]
  rw [mul_comm, Ideal.logistic]
  blk_point [iblk, V, idxs t]

theorem point8 (c : Dev nD) (t : Fin cfg0.N) (y) :
    k0_pay2 (k0_pay7 (iblk m c 0 t) (iblk m c 6 t) (iblk m c 1 t)) (iblk m c 5 t) y
      = (Host.dotGeneral Cert.ReferenceIdeal.dot_S2048x1024_S1024x1024_S2048x1024_1_1_0_0_n_n (φ₂ := .f32) none (dbR (m ((c : Thread nD τ).loc main_arg0)) (m ((c : Thread nD τ).loc main_arg1)) (m ((c : Thread nD τ).loc main_arg6))) (m ((c : Thread nD τ).loc main_arg5) : FVec Ideal S1024x1024 .f32)) (((cfg0.win 8).blk t).view.emb y) := by
  pointwise [k0_pay2, k0_pay7, k0_pay3, k0_pay5, gateR, dmR, dbR]
  simp only [Ideal.logistic]
  blk_point [iblk, V, idxs t]

theorem point11 (c : Dev nD) (t : Fin cfg0.N) (y) :
    k0_pay9 (iblk m c 0 t) (iblk m c 6 t) (iblk m c 1 t) y
      = (truncf .bf16 (dbR (m ((c : Thread nD τ).loc main_arg0)) (m ((c : Thread nD τ).loc main_arg1)) (m ((c : Thread nD τ).loc main_arg6))) Cert.ReferenceIdeal.Gen.bitsLt_bf16_f32) (((cfg0.win 11).blk t).view.emb y) := by
  pointwise [k0_pay9, k0_pay7, k0_pay3, k0_pay5, gateR, dmR, dbR]
  rw [mul_comm, Ideal.logistic]
  blk_point [iblk, V, idxs t]

theorem sum_quarters {M : Type*} [AddCommMonoid M] {N : ℕ} (n : ℕ) (h : N = n + n + n + n) (f : Fin N → M) :
    ∑ k, f k = ∑ x : Fin n, f ⟨x.val, by omega⟩ + ∑ x : Fin n, f ⟨n + x.val, by omega⟩
      + ∑ x : Fin n, f ⟨n + n + x.val, by omega⟩ + ∑ x : Fin n, f ⟨n + n + n + x.val, by omega⟩ := by
  subst h
  rw [Fin.sum_univ_add, Fin.sum_univ_add, Fin.sum_univ_add]
  rfl

theorem point7 (c : Dev nD) (t : Fin cfg0.N) (y) :
    out0_7 (iblk m c 0 t) (iblk m c 1 t) (iblk m c 2 t) (iblk m c 3 t) (iblk m c 4 t) (iblk m c 5 t) (iblk m c 6 t) y
      = dyaR (m ((c : Thread nD τ).loc main_arg0)) (m ((c : Thread nD τ).loc main_arg1)) (m ((c : Thread nD τ).loc main_arg6)) (m ((c : Thread nD τ).loc main_arg4)) (((cfg0.win 7).blk t).view.emb y) := by
  frame_out
  pointwise [dyaR, k0_pay1, k0_pay6, k0_pay3, k0_pay4, gateR, dmR, daR]
  simp only [Ideal.logistic]
  conv_rhs => rw [sum_quarters (N := 1024) 256 rfl]
  blk_point [iblk, V, idxs t]
/-- The call's result `dyb`, whole. -/
theorem final_8 (c : Dev nD) : (dats m 0 c).arrAt 8 (cfgs 0).N = (Host.dotGeneral Cert.ReferenceIdeal.dot_S2048x1024_S1024x1024_S2048x1024_1_1_0_0_n_n (φ₂ := .f32) none (dbR (m ((c : Thread nD τ).loc main_arg0)) (m ((c : Thread nD τ).loc main_arg1)) (m ((c : Thread nD τ).loc main_arg6))) (m ((c : Thread nD τ).loc main_arg5) : FVec Ideal S1024x1024 .f32) : FVec Ideal S2048x1024 .f32) := by
  refine (dats m 0 c).arrAt_eq_of_covers 8 _ (by decide +kernel) fun t _ y => ?_
  rw [after0_8]
  frame_out
  exact point8 m c t y

/-- The call's result `dpa`, whole. -/
theorem final_10 (c : Dev nD) : (dats m 0 c).arrAt 10 (cfgs 0).N = truncf .bf16 (daR (m ((c : Thread nD τ).loc main_arg0)) (m ((c : Thread nD τ).loc main_arg1)) (m ((c : Thread nD τ).loc main_arg6))) Cert.ReferenceIdeal.Gen.bitsLt_bf16_f32 := by
  refine (dats m 0 c).arrAt_eq_of_covers 10 _ (by decide +kernel) fun t _ y => ?_
  rw [after0_10]
  frame_out
  exact point10 m c t y

/-- The call's result `dpb`, whole. -/
theorem final_11 (c : Dev nD) : (dats m 0 c).arrAt 11 (cfgs 0).N = truncf .bf16 (dbR (m ((c : Thread nD τ).loc main_arg0)) (m ((c : Thread nD τ).loc main_arg1)) (m ((c : Thread nD τ).loc main_arg6))) Cert.ReferenceIdeal.Gen.bitsLt_bf16_f32 := by
  refine (dats m 0 c).arrAt_eq_of_covers 11 _ (by decide +kernel) fun t _ y => ?_
  rw [after0_11]
  frame_out
  exact point11 m c t y

/-- The call's result `dya`, whole. -/
theorem final_7 (c : Dev nD) : (dats m 0 c).arrAt 7 (cfgs 0).N = dyaR (m ((c : Thread nD τ).loc main_arg0)) (m ((c : Thread nD τ).loc main_arg1)) (m ((c : Thread nD τ).loc main_arg6)) (m ((c : Thread nD τ).loc main_arg4)) := by
  refine (dats m 0 c).arrAt_eq_of_covers 7 _ (by decide +kernel) fun t _ y => ?_
  refine (congrFun (after0_7 m c t) y).trans ?_
  exact point7 m c t y

/-- The call's result `dgp`, whole. -/
theorem final_9 (c : Dev nD) : (dats m 0 c).arrAt 9 (cfgs 0).N = dgR (m ((c : Thread nD τ).loc main_arg0)) (m ((c : Thread nD τ).loc main_arg1)) (Host.dotGeneral Cert.ReferenceIdeal.dot_S2048x512_S512x1024_S2048x1024_1_0_0_1_n_n (φ₁ := .f32) (φ₂ := .f32) none (m ((c : Thread nD τ).loc main_arg2)) (m ((c : Thread nD τ).loc main_arg4))) (Host.dotGeneral Cert.ReferenceIdeal.dot_S2048x1024_S1024x1024_S2048x1024_1_0_0_1_n_n (φ₁ := .f32) (φ₂ := .f32) none (m ((c : Thread nD τ).loc main_arg3)) (m ((c : Thread nD τ).loc main_arg5))) (m ((c : Thread nD τ).loc main_arg6)) := by
  refine (dats m 0 c).arrAt_eq_of_covers 9 _ (by decide +kernel) fun t _ y => ?_
  rw [← V_pa m c, ← V_pb m c]
  refine (congrFun (after0_9 m c t) y).trans ?_
  exact point9 m c t y

end Cert.KernelIdeal.Value
-- ==== Proof.Norm.lean ====
module

public import Idealize.ShloMosaic.Lib.Pipeline.ValueKit

@[expose] public section

noncomputable section

open Idealize.ShloMosaic
open scoped BigOperators

/-! # Finite entries, the constants, and the gradient of an rms norm

The claims about a norm's gradient hold where the arguments are finite, since the kernel and the reference distribute
their products differently. Here are the extended reals that are numbers, and the one identity between the two. -/

namespace Norm

/-- An extended real that is a number. -/
def Fin' (x : EReal) : Prop := ∃ r : ℝ, x = (r : EReal)

theorem Fin'.coe (r : ℝ) : Fin' (r : EReal) := ⟨r, rfl⟩
theorem Fin'.zero : Fin' 0 := ⟨0, rfl⟩
theorem Fin'.one : Fin' 1 := ⟨1, rfl⟩
theorem Fin'.add {x y : EReal} : Fin' x → Fin' y → Fin' (x + y) := fun ⟨a, ha⟩ ⟨b, hb⟩ => ⟨a + b, by rw [ha, hb, EReal.coe_add]⟩
theorem Fin'.sub {x y : EReal} : Fin' x → Fin' y → Fin' (x - y) := fun ⟨a, ha⟩ ⟨b, hb⟩ => ⟨a - b, by rw [ha, hb, EReal.coe_sub]⟩
theorem Fin'.mul {x y : EReal} : Fin' x → Fin' y → Fin' (x * y) := fun ⟨a, ha⟩ ⟨b, hb⟩ => ⟨a * b, by rw [ha, hb, EReal.coe_mul]⟩

/-- The coercion of a finite sum of numbers. -/
theorem coe_sum {ι : Type*} (s : Finset ι) (f : ι → ℝ) : ((∑ k ∈ s, f k : ℝ) : EReal) = ∑ k ∈ s, (f k : EReal) := by
  classical
  induction s using Finset.induction_on with
  | empty => rfl
  | insert a s ha ih => rw [Finset.sum_insert ha, Finset.sum_insert ha, EReal.coe_add, ih]

theorem Fin'.sum {ι : Type*} (s : Finset ι) (f : ι → EReal) (h : ∀ k, Fin' (f k)) : Fin' (∑ k ∈ s, f k) := by
  choose g hg using h
  exact ⟨∑ k ∈ s, g k, by rw [coe_sum]; exact Finset.sum_congr rfl fun k _ => hg k⟩

theorem Fin'.logistic {x : EReal} : Fin' x → Fin' (Ideal.logistic x) := fun ⟨a, ha⟩ => ⟨_, by rw [ha]; exact Ideal.logistic_coe a⟩

/-- An entry whose magnitude is below infinity is a number. -/
theorem fin_of_abs_lt {x : EReal} (h : max x (-x) < ⊤) : Fin' x := by
  induction x with
  | bot => simp at h
  | top => simp at h
  | coe r => exact ⟨r, rfl⟩

theorem ofBits_1024 : Ideal.ofBits .f32 0x44800000#32 = ((1024 : ℝ) : EReal) := by
  simp [Ideal.ofBits, Ideal.ieee, -EReal.coe_mul]; norm_num

/-- The norm's epsilon is a positive number. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

theorem ofBits_neg_half : Ideal.ofBits .f32 0xBF000000#32 = ((-1 / 2 : ℝ) : EReal) := by
  simp [Ideal.ofBits, Ideal.ieee, -EReal.coe_mul]; norm_num

/-- The mean square plus epsilon of a row of 1024 entries. -/
def msq (x : Fin 1024 → EReal) : EReal := Ideal.div (∑ k, x k * x k) (Ideal.ofBits .f32 0x44800000#32) + Ideal.ofBits .f32 0x358637BD#32

/-- The scale of an rms norm: one over the root of that. -/
def rinv (x : Fin 1024 → EReal) : EReal := Ideal.rsqrt (msq x)

/-- The gradient of an rms norm as the kernel writes it: `d` is the gradient at the normed row, `x` the row. -/
def bwdK (x d : Fin 1024 → EReal) (k : Fin 1024) : EReal :=
  rinv x * (d k - x k * rinv x * Ideal.div (∑ j, d j * (x j * rinv x)) (Ideal.ofBits .f32 0x44800000#32))

/-- The coefficient that the derivative of the mean square hands to each entry. -/
def coefR (x d : Fin 1024 → EReal) : EReal :=
  Ideal.div ((∑ j, x j * d j) * (Ideal.ofBits .f32 0xBF000000#32 * Ideal.div (rinv x) (msq x))) (Ideal.ofBits .f32 0x44800000#32)

theorem msq_pos (x : Fin 1024 → EReal) (hx : ∀ k, Fin' (x k)) : ∃ v : ℝ, 0 < v ∧ msq x = (v : EReal) := by
  obtain ⟨e, he, hE⟩ := ofBits_eps
  choose g hg using hx
  refine ⟨(∑ k, g k * g k) * (1 / 1024) + e, ?_, ?_⟩
  · have : 0 ≤ ∑ k, g k * g k := Finset.sum_nonneg fun k _ => mul_self_nonneg _
    positivity
  · unfold msq
    rw [hE, ofBits_1024, Ideal.div_coe (by norm_num), EReal.coe_add, EReal.coe_mul, coe_sum]
    simp only [hg, EReal.coe_mul]

theorem Fin'.rinv {x : Fin 1024 → EReal} (hx : ∀ k, Fin' (x k)) : Fin' (rinv x) := by
  obtain ⟨v, hv, hV⟩ := msq_pos x hx
  refine ⟨(√v)⁻¹, ?_⟩
  unfold Norm.rinv
  rw [hV, Ideal.rsqrt_coe, if_neg (not_lt.mpr hv.le), if_neg hv.ne']

theorem Fin'.bwdK {x d : Fin 1024 → EReal} (hx : ∀ k, Fin' (x k)) (hd : ∀ k, Fin' (d k)) (k : Fin 1024) : Fin' (bwdK x d k) := by
  have hr := Fin'.rinv hx
  unfold Norm.bwdK
  rw [ofBits_1024, Ideal.div_coe (by norm_num)]
  exact hr.mul ((hd k).sub (((hx k).mul hr).mul ((Fin'.sum _ _ fun j => (hd j).mul ((hx j).mul hr)).mul (.coe _))))

/-- The derivative of an rms norm, summed up as the chain rule finds it, is the kernel's form. -/
theorem bwd_eq (x d : Fin 1024 → EReal) (hx : ∀ k, Fin' (x k)) (hd : ∀ k, Fin' (d k)) (k : Fin 1024) :
    d k * rinv x + (x k * coefR x d + coefR x d * x k) = bwdK x d k := by
  obtain ⟨v, hv, hV⟩ := msq_pos x hx
  have hR : rinv x = (((√v)⁻¹ : ℝ) : EReal) := by
    unfold rinv
    rw [hV, Ideal.rsqrt_coe, if_neg (not_lt.mpr hv.le), if_neg hv.ne']
  unfold coefR bwdK
  rw [hR, hV, ofBits_1024, ofBits_neg_half]
  choose g hg using hx
  choose f hf using hd
  simp only [hg, hf]
  rw [Ideal.div_coe hv.ne', Ideal.div_coe (by norm_num), Ideal.div_coe (by norm_num)]
  simp only [← EReal.coe_mul, ← coe_sum, ← EReal.coe_add, ← EReal.coe_sub]
  congr 1
  have hs : ∑ j, f j * (g j * (√v)⁻¹) = (∑ j, g j * f j) * (√v)⁻¹ := by
    rw [Finset.sum_mul]; exact Finset.sum_congr rfl fun j _ => by ring
  rw [hs]
  have hq : (√v)⁻¹ * (√v)⁻¹ = 1 / v := by rw [← mul_inv, Real.mul_self_sqrt hv.le, one_div]
  generalize ∑ j, g j * f j = S
  generalize (√v)⁻¹ = r at hq ⊢
  rw [← hq]
  ring

end Norm

end
-- ==== Proof.Finite.lean ====
module

public import proofs.«01_k».proof.Proof.Norm
public import Idealize.ShloMosaic.Lib.Pipeline.ValueKit

@[expose] public section

noncomputable section

open Idealize.ShloMosaic

/-! # What a precondition of finiteness says -/

namespace Norm

/-- An array whose magnitudes all compare below infinity has real entries. -/
theorem fin_of_pre {s : Shape} (X : FVec Ideal s .f32) (hb : (⟨0, ![]⟩ : Shape).BroadcastsInDim s ![])
    (e : cmpf .olt (Host.absf X) (broadcastInDim s ![] hb (constant ⟨0, ![]⟩ .f32 0x7F800000#32)) = fun _ => 1#1) (y : s.Idx) : Fin' (X y) := by
  have h := congrFun e y
  pointwise [] at h
  have htop : Ideal.ofBits .f32 0x7F800000#32 = ⊤ := by simp [Ideal.ofBits, Ideal.ieee]
  rw [htop] at h
  by_cases hx : max (X y) (-(X y)) < ⊤
  · exact fin_of_abs_lt hx
  · exact absurd h (by rw [show (FloatOps.absf (F := Ideal) (φ := .f32) (X y) : EReal) = max (X y) (-(X y)) from rfl, decide_eq_false hx]; decide)

end Norm

end
-- ==== Proof.Rows.lean ====
module

public import Idealize.ShloMosaic.Lib.Pipeline.ValueKit
public import Idealize.ShloMosaic.Lib.Pipeline.ReadBack

@[expose] public section

noncomputable section

open Idealize.ShloMosaic
open scoped BigOperators

/-! # A row stored into an eight-row block, and sums cut in parts

The kernels keep their row sums in a block of eight rows: the first rows are added into at every point, the others stay
zero. -/

namespace Rows

variable {Val : EltTy → Type} {e : EltTy} {N C : ℕ}

/-- An index of the block lies in a stored row just where its row is that one. -/
theorem mem_row (r : ℕ) (inb : ∀ a, ![r, 0] a + ![1, C] a ≤ (⟨2, ![N, C]⟩ : Shape).size a) (p : Fin N) (q : Fin C) :
    ix2 p q ∈ (Rect.unit (s := ⟨2, ![N, C]⟩) ![r, 0] ![1, C] inb).set ↔ p.val = r := by
  rw [Rect.mem_set_unit]
  constructor
  · intro h
    have := h 0
    simp at this
    omega
  · intro h a
    match a with
    | ⟨0, _⟩ => simp; omega
    | ⟨1, _⟩ => simp

/-- Where a stored row's index lands. -/
theorem emb_row (r : ℕ) (inb : ∀ a, ![r, 0] a + ![1, C] a ≤ (⟨2, ![N, C]⟩ : Shape).size a) (p : Fin N) (hp : p.val = r) (q : Fin C) :
    (Rect.unit (s := ⟨2, ![N, C]⟩) ![r, 0] ![1, C] inb).emb (ix2 (0 : Fin 1) q) = ix2 p q := by
  funext a
  match a with
  | ⟨0, _⟩ => exact Fin.ext (by simp [hp])
  | ⟨1, _⟩ => exact Fin.ext (by simp)

/-- What a list of stores leaves, its last store being a row. -/
theorem canon_row [∀ e, Nonempty (Val e)] (r : ℕ) (inb : ∀ a, ![r, 0] a + ![1, C] a ≤ (⟨2, ![N, C]⟩ : Shape).size a)
    (w : (Rect.unit (s := ⟨2, ![N, C]⟩) ![r, 0] ![1, C] inb).shape.Idx → Val e) (L : List (View.Piece Val ⟨2, ![N, C]⟩ e)) (p : Fin N) (q : Fin C) :
    View.canon (⟨Rect.unit (s := ⟨2, ![N, C]⟩) ![r, 0] ![1, C] inb, w⟩ :: L) (ix2 p q)
      = if p.val = r then w (ix2 (0 : Fin 1) q) else View.canon L (ix2 p q) := by
  split_ifs with h
  · rw [← emb_row r inb p h q]
    exact View.canon_cons_emb _ w L _
  · exact View.canon_cons_of_not_mem _ L (by rw [mem_row]; exact h)

/-- The same over what a whole buffer held before. -/
theorem read_row {sig : RefSig} {κ : Kind} {sp : Space} (M : Memref sig κ sp ⟨2, ![N, C]⟩ e) (hM : M.IsWhole) (P : (⟨2, ![N, C]⟩ : Shape).Idx → Val e)
    (r : ℕ) (inb : ∀ a, ![r, 0] a + ![1, C] a ≤ (⟨2, ![N, C]⟩ : Shape).size a)
    (w : (Rect.unit (s := ⟨2, ![N, C]⟩) ![r, 0] ![1, C] inb).shape.Idx → Val e) (L : List (View.Piece Val ⟨2, ![N, C]⟩ e)) (p : Fin N) (q : Fin C) :
    M.view.read Val (M.view.writes Val (hM.unread P) (⟨Rect.unit (s := ⟨2, ![N, C]⟩) ![r, 0] ![1, C] inb, w⟩ :: L)) (ix2 p q)
      = if p.val = r then w (ix2 (0 : Fin 1) q) else M.view.read Val (M.view.writes Val (hM.unread P) L) (ix2 p q) := by
  split_ifs with h
  · rw [← emb_row r inb p h q]
    exact View.read_writes_cons_emb _ _ _ w L _
  · rw [View.writes_cons, View.read_slice_write_of_not_mem _ _ _ _ (by rw [Rect.map_emb_univ, mem_row]; exact h)]

/-- A load of a row of a block. -/
theorem ld_row (r : ℕ) (inb : ∀ a, ![r, 0] a + ![1, C] a ≤ (⟨2, ![N, C]⟩ : Shape).size a) (P : (⟨2, ![N, C]⟩ : Shape).Idx → Val e) (p : Fin N)
    (hp : p.val = r) (q : Fin C) : View.ld P (Rect.unit (s := ⟨2, ![N, C]⟩) ![r, 0] ![1, C] inb) (ix2 (0 : Fin 1) q) = P (ix2 p q) := by
  show P _ = _
  exact congrArg P (emb_row r inb p hp q)

/-- An index of a block of parts lies in a stored part just where its part is that one. -/
theorem mem_part {A : ℕ} (r : ℕ) (inb : ∀ a, ![r, 0, 0] a + ![1, A, C] a ≤ (⟨3, ![N, A, C]⟩ : Shape).size a) (p : Fin N) (i : Fin A) (q : Fin C) :
    ix3 p i q ∈ (Rect.unit (s := ⟨3, ![N, A, C]⟩) ![r, 0, 0] ![1, A, C] inb).set ↔ p.val = r := by
  rw [Rect.mem_set_unit]
  constructor
  · intro h
    have := h 0
    simp at this
    omega
  · intro h a
    match a with
    | ⟨0, _⟩ => simp; omega
    | ⟨1, _⟩ => simp
    | ⟨2, _⟩ => simp

/-- Where a stored part's index lands. -/
theorem emb_part {A : ℕ} (r : ℕ) (inb : ∀ a, ![r, 0, 0] a + ![1, A, C] a ≤ (⟨3, ![N, A, C]⟩ : Shape).size a) (p : Fin N) (hp : p.val = r) (i : Fin A) (q : Fin C) :
    (Rect.unit (s := ⟨3, ![N, A, C]⟩) ![r, 0, 0] ![1, A, C] inb).emb (ix3 (0 : Fin 1) i q) = ix3 p i q := by
  funext a
  match a with
  | ⟨0, _⟩ => exact Fin.ext (by simp [hp])
  | ⟨1, _⟩ => exact Fin.ext (by simp)
  | ⟨2, _⟩ => exact Fin.ext (by simp)

/-- What a list of stores leaves, its last store being a part. -/
theorem canon_part [∀ e, Nonempty (Val e)] {A : ℕ} (r : ℕ) (inb : ∀ a, ![r, 0, 0] a + ![1, A, C] a ≤ (⟨3, ![N, A, C]⟩ : Shape).size a)
    (w : (Rect.unit (s := ⟨3, ![N, A, C]⟩) ![r, 0, 0] ![1, A, C] inb).shape.Idx → Val e) (L : List (View.Piece Val ⟨3, ![N, A, C]⟩ e)) (p : Fin N) (i : Fin A) (q : Fin C) :
    View.canon (⟨Rect.unit (s := ⟨3, ![N, A, C]⟩) ![r, 0, 0] ![1, A, C] inb, w⟩ :: L) (ix3 p i q)
      = if p.val = r then w (ix3 (0 : Fin 1) i q) else View.canon L (ix3 p i q) := by
  split_ifs with h
  · rw [← emb_part r inb p h i q]
    exact View.canon_cons_emb _ w L _
  · exact View.canon_cons_of_not_mem _ L (by rw [mem_part]; exact h)

/-- A load of a part of a block. -/
theorem ld_part {A : ℕ} (r : ℕ) (inb : ∀ a, ![r, 0, 0] a + ![1, A, C] a ≤ (⟨3, ![N, A, C]⟩ : Shape).size a) (P : (⟨3, ![N, A, C]⟩ : Shape).Idx → Val e) (p : Fin N)
    (hp : p.val = r) (i : Fin A) (q : Fin C) : View.ld P (Rect.unit (s := ⟨3, ![N, A, C]⟩) ![r, 0, 0] ![1, A, C] inb) (ix3 (0 : Fin 1) i q) = P (ix3 p i q) := by
  show P _ = _
  exact congrArg P (emb_part r inb p hp i q)

/-- What four stores of four parts leave. -/
theorem canon_parts [∀ e, Nonempty (Val e)] {A : ℕ} (w0 w1 w2 w3 : (⟨3, ![1, A, C]⟩ : Shape).Idx → Val e) (i0 i1 i2 i3) (L : List (View.Piece Val ⟨3, ![4, A, C]⟩ e))
    (c : Fin 4) (a : Fin A) (q : Fin C) (f : Fin 4 → Val e)
    (h0 : w0 (ix3 (0 : Fin 1) a q) = f 0) (h1 : w1 (ix3 (0 : Fin 1) a q) = f 1) (h2 : w2 (ix3 (0 : Fin 1) a q) = f 2) (h3 : w3 (ix3 (0 : Fin 1) a q) = f 3) :
    View.canon (⟨Rect.unit (s := ⟨3, ![4, A, C]⟩) ![3, 0, 0] ![1, A, C] i3, w3⟩ :: ⟨Rect.unit (s := ⟨3, ![4, A, C]⟩) ![2, 0, 0] ![1, A, C] i2, w2⟩
      :: ⟨Rect.unit (s := ⟨3, ![4, A, C]⟩) ![1, 0, 0] ![1, A, C] i1, w1⟩ :: ⟨Rect.unit (s := ⟨3, ![4, A, C]⟩) ![0, 0, 0] ![1, A, C] i0, w0⟩ :: L) (ix3 c a q) = f c := by
  rw [canon_part 3, canon_part 2, canon_part 1, canon_part 0]
  split_ifs with g3 g2 g1 g0
  · exact h3.trans (congrArg f (Fin.ext g3.symm))
  · exact h2.trans (congrArg f (Fin.ext g2.symm))
  · exact h1.trans (congrArg f (Fin.ext g1.symm))
  · exact h0.trans (congrArg f (Fin.ext g0.symm))
  · omega

/-- A sum cut in four equal parts. -/
theorem sum_quarters {M : Type*} [AddCommMonoid M] {N : ℕ} (n : ℕ) (h : N = n + n + n + n) (f : Fin N → M) :
    ∑ k, f k = ∑ x : Fin n, f ⟨x.val, by omega⟩ + ∑ x : Fin n, f ⟨n + x.val, by omega⟩
      + ∑ x : Fin n, f ⟨n + n + x.val, by omega⟩ + ∑ x : Fin n, f ⟨n + n + n + x.val, by omega⟩ := by
  subst h
  rw [Fin.sum_univ_add, Fin.sum_univ_add, Fin.sum_univ_add]
  rfl

/-- What a list of stores leaves, its last store being the whole block. -/
theorem canon_fill [∀ e, Nonempty (Val e)] (inb : ∀ a, ![0, 0] a + ![N, C] a ≤ (⟨2, ![N, C]⟩ : Shape).size a)
    (w : (⟨2, ![N, C]⟩ : Shape).Idx → Val e) (L : List (View.Piece Val ⟨2, ![N, C]⟩ e)) :
    View.canon (⟨Rect.unit (s := ⟨2, ![N, C]⟩) ![0, 0] ![N, C] inb, w⟩ :: L) = w := by
  funext y
  have h := View.canon_cons_emb (Rect.unit (s := ⟨2, ![N, C]⟩) ![0, 0] ![N, C] inb) w L y
  rwa [show (Rect.unit (s := ⟨2, ![N, C]⟩) ![0, 0] ![N, C] inb).emb y = y from by
    funext a
    match a with
    | ⟨0, _⟩ => exact Fin.ext (by simp)
    | ⟨1, _⟩ => exact Fin.ext (by simp)] at h

/-- A load through a box of what covering or uncovering stores left. -/
theorem rd [∀ e, Nonempty (Val e)] {sig : RefSig} {κ : Kind} {sp : Space} {s : Shape} (v : View sig κ sp s e) (L : List (View.Piece Val s e)) (r : Rect s) :
    v.readCov L r.toLoadRect = View.ld (View.canon L) r := View.readCov_eq_canon' v L r.toLoadRect

/-- What one store of everything leaves. -/
theorem canon_all [∀ e, Nonempty (Val e)] {s : Shape} (w : s.Idx → Val e) : View.canon [⟨Rect.whole s, w⟩] = w := by
  funext y
  have h := View.canon_cons_emb (Rect.whole s) w [] y
  rwa [show (Rect.whole s).emb y = y from by funext a; exact Fin.ext (by simp)] at h

/-- A sum over the rows, block after block. -/
theorem sum_blocks {M : Type*} [AddCommMonoid M] (f : Fin 2048 → M) :
    ∑ t : Fin 8, ∑ a : Fin 256, f ⟨256 * t.val + a.val, by omega⟩ = ∑ i, f i :=
  Fin.sum_mul_add_congr (fun s k hl => congrArg f (Fin.ext (by simp; omega))) (by norm_num)

end Rows

end
-- ==== Proof.InprojMath.lean ====
module

public import proofs.«01_k».proof.Proof.Gen.InprojIdeal.Skeleton
public import proofs.«01_k».proof.Proof.Gen.InprojRefIdeal.Run
public import proofs.«01_k».proof.Proof.Norm
public import proofs.«01_k».proof.Proof.Rows

@[expose] public section

set_option maxRecDepth 16384

noncomputable section

open Idealize.ShloMosaic
open scoped BigOperators

/-! # The input projection's backward call: its arithmetic

What the kernel computes on one block of tokens, and what the reference's terms are, entry by entry. -/

namespace Cert.InprojIdeal.Value
open Cert.InprojIdeal Cert.InprojIdeal.Gen

/-! ## The reference's terms -/

/-- The gradient at the projection: the three parts side by side. -/
def dzR (A : FVec Ideal S2048x512 .f32) (B : FVec Ideal S2048x1024 .f32) (G : FVec Ideal S2048x2048 .f32) : FVec Ideal S2048x3584 .f32 :=
  addf (addf (pad S2048x3584 ![0, 1536] ![0, 0] ![0, 0] G (constant S_ .f32 0x00000000#32) Cert.InprojRefIdeal.Gen.pads_S2048x2048_S2048x3584_000_153600 Cert.InprojRefIdeal.Gen.h_S_)
    (pad S2048x3584 ![0, 512] ![0, 2048] ![0, 0] B (constant S_ .f32 0x00000000#32) Cert.InprojRefIdeal.Gen.pads_S2048x1024_S2048x3584_000_51220480 Cert.InprojRefIdeal.Gen.h_S_))
    (pad S2048x3584 ![0, 0] ![0, 3072] ![0, 0] A (constant S_ .f32 0x00000000#32) Cert.InprojRefIdeal.Gen.pads_S2048x512_S2048x3584_000_030720 Cert.InprojRefIdeal.Gen.h_S_)

theorem dzR_a (A B G) (i : Fin 2048) (j : Fin 512) : dzR A B G (ix2 i ⟨j.val, by omega⟩) = A (ix2 i j) := by
  pointwise [dzR]
  have h1 : ¬ 1536 ≤ j.val := by omega
  have h2 : ¬ 512 ≤ j.val := by omega
  simp only [h1, h2, false_and, dite_false, zero_add]

theorem dzR_b (A B G) (i : Fin 2048) (j : Fin 1024) : dzR A B G (ix2 i ⟨512 + j.val, by omega⟩) = B (ix2 i j) := by
  pointwise [dzR]
  rw [dif_neg (by have := j.isLt; omega), zero_add]

theorem dzR_c (A B G) (i : Fin 2048) (j : Fin 2048) : dzR A B G (ix2 i ⟨1536 + j.val, by omega⟩) = G (ix2 i j) := by
  pointwise [dzR]
  rw [dif_neg (by have := j.isLt; omega), dif_neg (by have := j.isLt; omega), add_zero, add_zero]

/-- The gradient at the normed input. -/
def dhR (A : FVec Ideal S2048x512 .f32) (B : FVec Ideal S2048x1024 .f32) (G : FVec Ideal S2048x2048 .f32) (W : FVec Ideal S1024x3584 .f32) :
    FVec Ideal S2048x1024 .f32 :=
  Host.dotGeneral Cert.InprojRefIdeal.dot_S2048x3584_S1024x3584_S2048x1024_1_1_0_0_n_n none (dzR A B G) W

theorem dhR_at (A B G W) (i : Fin 2048) (j : Fin 1024) :
    dhR A B G W (ix2 i j) = ∑ k : Fin 3584, dzR A B G (ix2 i k) * W (ix2 j k) := by
  pointwise [dhR]

open Cert.InprojRefIdeal.Gen Cert.InprojRefIdeal in
/-- The mean square of each row plus epsilon. -/
def msR (X : FVec Ideal S2048x1024 .f32) : FVec Ideal S2048x1 .f32 :=
  addf (Host.divf (broadcastInDim S2048x1 ![0] bcast_S2048_S2048x1_0 (Host.reduceAdd (mulf X X) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

theorem msR_at (X) (i : Fin 2048) : msR X (ix2 i 0) = Norm.msq (fun k => X (ix2 i k)) := by
  pointwise [msR, Norm.msq]

open Cert.InprojRefIdeal.Gen Cert.InprojRefIdeal in
/-- The rows' gradients at the weighted norm. -/
def dxR (DH : FVec Ideal S2048x1024 .f32) (g : FVec Ideal S1x1024 .f32) : FVec Ideal S2048x1024 .f32 :=
  mulf DH (broadcastInDim S2048x1024 ![0, 1] bcast_S1x1024_S2048x1024_0_1 g)

open Cert.InprojRefIdeal.Gen Cert.InprojRefIdeal in
/-- The coefficient of each row. -/
def coR (X : FVec Ideal S2048x1024 .f32) (DX : FVec Ideal S2048x1024 .f32) : FVec Ideal S2048x1024 .f32 :=
  broadcastInDim S2048x1024 ![0] bcast_S2048_S2048x1024_0 (Host.reduceAdd (Host.divf (mulf (shapeCast _ (Host.reduceAdd (mulf X DX) (constant S_ .f32 0x00000000#32) reducesTo_S2048x1024_S2048_d1 h_S_) shapeCasts_S2048_S2048x1) (mulf (broadcastInDim S2048x1 ![] bcast_S_S2048x1 (constant S_ .f32 0xBF000000#32)) (Host.divf (Host.rsqrt (msR X)) (msR X)))) (broadcastInDim S2048x1 ![] bcast_S_S2048x1 (constant S_ .f32 0x44800000#32))) (constant S_ .f32 0x00000000#32) reducesTo_S2048x1_S2048_d1 h_S_)

theorem coR_at (X DX) (i : Fin 2048) (j : Fin 1024) : coR X DX (ix2 i j) = Norm.coefR (fun k => X (ix2 i k)) (fun k => DX (ix2 i k)) := by
  pointwise [coR, Norm.coefR, Norm.rinv]
  rw [Fin.sum_univ_one, msR_at]

open Cert.InprojRefIdeal.Gen Cert.InprojRefIdeal in
/-- The gradient of the input. -/
def gxR (X D1 : FVec Ideal S2048x1024 .f32) (DH : FVec Ideal S2048x1024 .f32) (g : FVec Ideal S1x1024 .f32) : FVec Ideal S2048x1024 .f32 :=
  addf (addf (addf D1 (mulf (dxR DH g) (broadcastInDim S2048x1024 ![0, 1] bcast_S2048x1_S2048x1024_0_1 (Host.rsqrt (msR X))))) (mulf X (coR X (dxR DH g)))) (mulf (coR X (dxR DH g)) X)

theorem dxR_at (DH g) (i : Fin 2048) (j : Fin 1024) : dxR DH g (ix2 i j) = DH (ix2 i j) * g (ix2 0 j) := by
  pointwise [dxR]

theorem gxR_at (X D1 DH g) (hX : ∀ y, Norm.Fin' (X y)) (hD : ∀ y, Norm.Fin' (DH y)) (hg : ∀ y, Norm.Fin' (g y)) (i : Fin 2048) (j : Fin 1024) :
    gxR X D1 DH g (ix2 i j) = D1 (ix2 i j) + Norm.bwdK (fun k => X (ix2 i k)) (fun k => DH (ix2 i k) * g (ix2 0 k)) j := by
  have h := Norm.bwd_eq (fun k => X (ix2 i k)) (fun k => DH (ix2 i k) * g (ix2 0 k)) (fun k => hX _) (fun k => (hD _).mul (hg _)) j
  rw [← h]
  have e : gxR X D1 DH g (ix2 i j) = D1 (ix2 i j) + dxR DH g (ix2 i j) * Ideal.rsqrt (msR X (ix2 i 0)) + X (ix2 i j) * coR X (dxR DH g) (ix2 i j) + coR X (dxR DH g) (ix2 i j) * X (ix2 i j) := by
    pointwise [gxR]
  rw [e, coR_at, msR_at, dxR_at, add_assoc, add_assoc]
  simp only [dxR_at]
  rfl

open Cert.InprojRefIdeal.Gen Cert.InprojRefIdeal in
/-- The gradient of the norm's weight, in the first of eight rows. -/
def dgR (X DH : FVec Ideal S2048x1024 .f32) : FVec Ideal S8x1024 .f32 :=
  concatenate S8x1024 0 [⟨S1x1024, (shapeCast _ (Host.reduceAdd (mulf (mulf X (broadcastInDim S2048x1024 ![0, 1] bcast_S2048x1_S2048x1024_0_1 (Host.rsqrt (msR X)))) DH) (constant S_ .f32 0x00000000#32) reducesTo_S2048x1024_S1024_d0 h_S_) Cert.InprojRefIdeal.Gen.shapeCasts_S1024_S1x1024)⟩, ⟨S7x1024, (broadcastInDim S7x1024 ![] bcast_S_S7x1024 (constant S_ .f32 0x00000000#32))⟩] concatenates_S1x1024_S7x1024_S8x1024_d0

open Cert.InprojRefIdeal.Gen Cert.InprojRefIdeal in
/-- The gradient of the bias, in the first of eight rows. -/
def dbR (D : FVec Ideal S2048x3584 .f32) : FVec Ideal S8x3584 .f32 :=
  concatenate S8x3584 0 [⟨S1x3584, (shapeCast _ (Host.reduceAdd D (constant S_ .f32 0x00000000#32) reducesTo_S2048x3584_S3584_d0 h_S_) shapeCasts_S3584_S1x3584)⟩, ⟨S7x3584, (broadcastInDim S7x3584 ![] bcast_S_S7x3584 (constant S_ .f32 0x00000000#32))⟩] concatenates_S1x3584_S7x3584_S8x3584_d0

/-- One row's term of the weight's gradient. -/
def dgT (x d : Fin 1024 → EReal) (q : Fin 1024) : EReal := d q * (x q * Norm.rinv x)

theorem dgR_at (X DH) (p : Fin 8) (q : Fin 1024) :
    dgR X DH (ix2 p q) = if p.val = 0 then ∑ i : Fin 2048, dgT (fun k => X (ix2 i k)) (fun k => DH (ix2 i k)) q else 0 := by
  have e : dgR X DH (ix2 p q) = if p.val = 0 then ∑ i : Fin 2048, X (ix2 i q) * Ideal.rsqrt (msR X (ix2 i 0)) * DH (ix2 i q) else 0 := by
    pointwise [dgR]
    simp
  rw [e]
  split_ifs
  · exact Finset.sum_congr rfl fun i _ => by rw [msR_at, mul_comm]; rfl
  · rfl

theorem dbR_at (D) (p : Fin 8) (q : Fin 3584) : dbR D (ix2 p q) = if p.val = 0 then ∑ i : Fin 2048, D (ix2 i q) else 0 := by
  pointwise [dbR]
  simp

/-! ## The kernel's payloads -/

/-- Loads of the three shapes the kernel's products read. -/
theorem ld_dz {e : EltTy} (D : S256x3584.Idx → Elt Ideal e) (o : ℕ) (inb : ∀ a, ![0, o] a + ![256, 896] a ≤ S256x3584.size a) (h : o + 896 ≤ 3584)
    (a : Fin 256) (q : Fin 896) : View.ld D (Rect.unit (s := S256x3584) ![0, o] ![256, 896] inb) (ix2 a q) = D (ix2 a ⟨o + q.val, by omega⟩) := by
  refine congrArg D (funext fun x => ?_)
  match x with
  | ⟨0, _⟩ => exact Fin.ext (by simp)
  | ⟨1, _⟩ => exact Fin.ext (by simp)

theorem ld_w {e : EltTy} (W : S4x1024x896.Idx → Elt Ideal e) (k : ℕ) (inb : ∀ a, ![k, 0, 0] a + ![1, 1024, 896] a ≤ S4x1024x896.size a) (h : k < 4)
    (b : Fin 1024) (q : Fin 896) : View.ld W (Rect.unit (s := S4x1024x896) ![k, 0, 0] ![1, 1024, 896] inb) (ix3 0 b q) = W (ix3 ⟨k, h⟩ b q) := by
  refine congrArg W (funext fun x => ?_)
  match x with
  | ⟨0, _⟩ => exact Fin.ext (by simp)
  | ⟨1, _⟩ => exact Fin.ext (by simp)
  | ⟨2, _⟩ => exact Fin.ext (by simp)

theorem pay13_raw (v30 v36 v42 v48 : Vec Ideal S256x896 .bf16) (v32 v38 v44 v50 : Vec Ideal S1x1024x896 .bf16) (a : Fin 256) (b : Fin 1024) :
    k0_pay13 v30 v32 v36 v38 v42 v44 v48 v50 (ix2 a b)
      = ∑ q : Fin 896, v30 (ix2 a q) * v32 (ix3 0 b q) + ∑ q : Fin 896, v36 (ix2 a q) * v38 (ix3 0 b q)
        + ∑ q : Fin 896, v42 (ix2 a q) * v44 (ix3 0 b q) + ∑ q : Fin 896, v48 (ix2 a q) * v50 (ix3 0 b q) := by
  pointwise [k0_pay13]

/-- The block of the gradient at the normed input: the products over the four parts are one product. -/
theorem pay13_at (D : Vec Ideal S256x3584 .bf16) (W : Vec Ideal S4x1024x896 .bf16) (W' : S1024x3584.Idx → EReal)
    (hW : ∀ (k : Fin 4) (b : Fin 1024) (q : Fin 896), W (ix3 k b q) = W' (ix2 b ⟨896 * k.val + q.val, by omega⟩))
    (i0 i1 i2 i3) (j0 j1 j2 j3) (a : Fin 256) (b : Fin 1024) :
    k0_pay13 (View.ld D (Rect.unit (s := S256x3584) ![0, 0] ![256, 896] i0)) (View.ld W (Rect.unit (s := S4x1024x896) ![0, 0, 0] ![1, 1024, 896] j0))
      (View.ld D (Rect.unit (s := S256x3584) ![0, 896] ![256, 896] i1)) (View.ld W (Rect.unit (s := S4x1024x896) ![1, 0, 0] ![1, 1024, 896] j1))
      (View.ld D (Rect.unit (s := S256x3584) ![0, 1792] ![256, 896] i2)) (View.ld W (Rect.unit (s := S4x1024x896) ![2, 0, 0] ![1, 1024, 896] j2))
      (View.ld D (Rect.unit (s := S256x3584) ![0, 2688] ![256, 896] i3)) (View.ld W (Rect.unit (s := S4x1024x896) ![3, 0, 0] ![1, 1024, 896] j3)) (ix2 a b)
      = ∑ k : Fin 3584, D (ix2 a k) * W' (ix2 b k) := by
  rw [pay13_raw, Rows.sum_quarters 896 (by norm_num) (fun k : Fin 3584 => D (ix2 a k) * W' (ix2 b k))]
  simp only [ld_dz D _ _ (by norm_num : 0 + 896 ≤ 3584), ld_dz D _ _ (by norm_num : 896 + 896 ≤ 3584), ld_dz D _ _ (by norm_num : 1792 + 896 ≤ 3584),
    ld_dz D _ _ (by norm_num : 2688 + 896 ≤ 3584), ld_w W 0 _ (by norm_num), ld_w W 1 _ (by norm_num), ld_w W 2 _ (by norm_num), ld_w W 3 _ (by norm_num), hW]
  simp

theorem pay1_at (P : Vec Ideal S256x1024 .f32) (a : Fin 256) : k0_pay1 (k0_pay14 P) (ix2 a 0) = Norm.rinv (fun k => P (ix2 a k)) := by
  pointwise [k0_pay1, k0_pay14, Norm.rinv, Norm.msq]

theorem pay4_at (DH X D1 : Vec Ideal S256x1024 .f32) (g : Vec Ideal S1x1024 .f32) (a : Fin 256) (b : Fin 1024) :
    k0_pay4 DH X (k0_pay14 X) D1 g (ix2 a b) = D1 (ix2 a b) + Norm.bwdK (fun k => X (ix2 a k)) (fun k => DH (ix2 a k) * g (ix2 0 k)) b := by
  have e : k0_pay4 DH X (k0_pay14 X) D1 g (ix2 a b) = D1 (ix2 a b) + k0_pay1 (k0_pay14 X) (ix2 a 0) *
      (DH (ix2 a b) * g (ix2 0 b) - X (ix2 a b) * k0_pay1 (k0_pay14 X) (ix2 a 0) *
        Ideal.div (∑ k : Fin 1024, DH (ix2 a k) * g (ix2 0 k) * (X (ix2 a k) * k0_pay1 (k0_pay14 X) (ix2 a 0))) (Ideal.ofBits .f32 0x44800000#32)) := by
    pointwise [k0_pay4, k0_pay2]
  rw [e, pay1_at]
  rfl

theorem pay3_at (DH X : Vec Ideal S256x1024 .f32) (P : Vec Ideal S1x1024 .f32) (q : Fin 1024) :
    k0_pay3 DH X (k0_pay14 X) P (ix2 0 q) = P (ix2 0 q) + ∑ a : Fin 256, dgT (fun k => X (ix2 a k)) (fun k => DH (ix2 a k)) q := by
  have e : k0_pay3 DH X (k0_pay14 X) P (ix2 0 q) = P (ix2 0 q) + ∑ a : Fin 256, DH (ix2 a q) * (X (ix2 a q) * k0_pay1 (k0_pay14 X) (ix2 a 0)) := by
    pointwise [k0_pay3, k0_pay2]
  rw [e]
  simp only [pay1_at]
  rfl

theorem pay11_a (A B G) (q : Fin 512) : k0_pay11 (F := Ideal) A B G (ix2 0 ⟨q.val, by omega⟩) = ∑ a : Fin 256, A (ix2 a q) := by
  pointwise [k0_pay11]
theorem pay11_b (A B G) (q : Fin 1024) : k0_pay11 (F := Ideal) A B G (ix2 0 ⟨512 + q.val, by omega⟩) = ∑ a : Fin 256, B (ix2 a q) := by
  pointwise [k0_pay11]
theorem pay11_c (A B G) (q : Fin 2048) : k0_pay11 (F := Ideal) A B G (ix2 0 ⟨1536 + q.val, by omega⟩) = ∑ a : Fin 256, G (ix2 a q) := by
  pointwise [k0_pay11]
  rw [dif_neg (by omega), dif_neg (by omega)]
  exact Finset.sum_congr rfl fun x _ => congrArg G (congrArg (ix2 x) (Fin.ext (by simp; omega)))

/-- The block of the gradient at the projection, as it is stored. -/
def dzB (A : Vec Ideal S256x512 .f32) (B : Vec Ideal S256x1024 .f32) (G : Vec Ideal S256x2048 .f32) : S256x3584.Idx → EReal :=
  View.canon (Val := Elt Ideal) (e := .bf16) [⟨Rect.unit (s := S256x3584) ![0, 1536] S256x2048.size inb_S256x3584_S256x2048_0_1536, k0_pay9 G⟩,
    ⟨Rect.unit (s := S256x3584) ![0, 512] S256x1024.size inb_S256x3584_S256x1024_0_512, k0_pay8 B⟩,
    ⟨Rect.unit (s := S256x3584) ![0, 0] S256x512.size inb_S256x3584_S256x512_0_0, k0_pay7 A⟩]

/-- Where each third of the columns comes from. -/
theorem thirds (k : Fin 3584) : (∃ j : Fin 512, k = ⟨j.val, by omega⟩) ∨ (∃ j : Fin 1024, k = ⟨512 + j.val, by omega⟩) ∨ ∃ j : Fin 2048, k = ⟨1536 + j.val, by omega⟩ := by
  rcases lt_or_ge k.val 512 with h | h
  · exact .inl ⟨⟨k.val, h⟩, rfl⟩
  rcases lt_or_ge k.val 1536 with h' | h'
  · exact .inr (.inl ⟨⟨k.val - 512, by omega⟩, Fin.ext (by simp; omega)⟩)
  · exact .inr (.inr ⟨⟨k.val - 1536, by omega⟩, Fin.ext (by simp; omega)⟩)

theorem dzB_a (A B G) (a : Fin 256) (j : Fin 512) : dzB A B G (ix2 a ⟨j.val, by omega⟩) = A (ix2 a j) := by
  unfold dzB
  rw [View.canon_cons_of_not_mem _ _ (by rw [Rect.mem_set_unit]; intro h; have := h 1; simp at this; omega),
    View.canon_cons_of_not_mem _ _ (by rw [Rect.mem_set_unit]; intro h; have := h 1; simp at this; omega)]
  have e : (ix2 a ⟨j.val, by omega⟩ : S256x3584.Idx) = (Rect.unit (s := S256x3584) ![0, 0] S256x512.size inb_S256x3584_S256x512_0_0).emb (ix2 a j) := by
    funext x
    match x with
    | ⟨0, _⟩ => exact Fin.ext (by simp)
    | ⟨1, _⟩ => exact Fin.ext (by simp)
  rw [e, View.canon_cons_emb]
  pointwise [k0_pay7]

theorem dzB_b (A B G) (a : Fin 256) (j : Fin 1024) : dzB A B G (ix2 a ⟨512 + j.val, by omega⟩) = B (ix2 a j) := by
  unfold dzB
  rw [View.canon_cons_of_not_mem _ _ (by rw [Rect.mem_set_unit]; intro h; have := h 1; simp at this; omega)]
  have e : (ix2 a ⟨512 + j.val, by omega⟩ : S256x3584.Idx) = (Rect.unit (s := S256x3584) ![0, 512] S256x1024.size inb_S256x3584_S256x1024_0_512).emb (ix2 a j) := by
    funext x
    match x with
    | ⟨0, _⟩ => exact Fin.ext (by simp)
    | ⟨1, _⟩ => exact Fin.ext (by simp)
  rw [e, View.canon_cons_emb]
  pointwise [k0_pay8]

theorem dzB_c (A B G) (a : Fin 256) (j : Fin 2048) : dzB A B G (ix2 a ⟨1536 + j.val, by omega⟩) = G (ix2 a j) := by
  unfold dzB
  have e : (ix2 a ⟨1536 + j.val, by omega⟩ : S256x3584.Idx) = (Rect.unit (s := S256x3584) ![0, 1536] S256x2048.size inb_S256x3584_S256x2048_0_1536).emb (ix2 a j) := by
    funext x
    match x with
    | ⟨0, _⟩ => exact Fin.ext (by simp)
    | ⟨1, _⟩ => exact Fin.ext (by simp)
  rw [e, View.canon_cons_emb]
  pointwise [k0_pay9]

/-- The block's gradient at the projection is the reference's, on the block's rows. -/
theorem dzB_eq (A B G) (A' B' G') (a : Fin 256) (i : Fin 2048) (hA : ∀ q, A (ix2 a q) = A' (ix2 i q)) (hB : ∀ q, B (ix2 a q) = B' (ix2 i q))
    (hG : ∀ q, G (ix2 a q) = G' (ix2 i q)) (k : Fin 3584) : dzB A B G (ix2 a k) = dzR A' B' G' (ix2 i k) := by
  rcases thirds k with ⟨j, rfl⟩ | ⟨j, rfl⟩ | ⟨j, rfl⟩
  · rw [dzB_a, dzR_a, hA]
  · rw [dzB_b, dzR_b, hB]
  · rw [dzB_c, dzR_c, hG]

/-- The block's column sums are those of the reference's rows. -/
theorem pay11_eq (A B G) (A' B' G') (i : Fin 256 → Fin 2048) (hA : ∀ a q, A (ix2 a q) = A' (ix2 (i a) q)) (hB : ∀ a q, B (ix2 a q) = B' (ix2 (i a) q))
    (hG : ∀ a q, G (ix2 a q) = G' (ix2 (i a) q)) (k : Fin 3584) : k0_pay11 (F := Ideal) A B G (ix2 0 k) = ∑ a : Fin 256, dzR A' B' G' (ix2 (i a) k) := by
  rcases thirds k with ⟨j, rfl⟩ | ⟨j, rfl⟩ | ⟨j, rfl⟩
  · rw [pay11_a]; exact Finset.sum_congr rfl fun a _ => by rw [dzR_a, hA]
  · rw [pay11_b]; exact Finset.sum_congr rfl fun a _ => by rw [dzR_b, hB]
  · rw [pay11_c]; exact Finset.sum_congr rfl fun a _ => by rw [dzR_c, hG]

end Cert.InprojIdeal.Value

end
-- ==== Proof.Inproj.lean ====
module

public import proofs.«01_k».proof.Proof.Gen.InprojIdeal.Value
public import proofs.«01_k».proof.Proof.InprojMath
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

/-! # The input projection's backward call: its results

Each block of the two tiled results is the reference's, and the two row sums, added up over the blocks, are the
reference's sums over all rows. -/

namespace Cert.InprojIdeal.Value
open Cert.InprojIdeal Cert.InprojIdeal.Gen

variable (m : (ℓ : Loc nD τ sig) → Buf (Elt Ideal) ℓ)

theorem idxs : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![t.val, 0] ∧ win0_7.index t = ![t.val, 0] ∧ win0_8.index t = ![0, 0]
    ∧ win0_9.index t = ![0, 0] := (by decide +kernel : ∀ t : Fin grid0.N, _)

theorem blk0 (c : Dev nD) (t : Fin cfg0.N) (a : Fin 256) (b : Fin 1024) (i : Fin 2048) (hi : i.val = 256 * t.val + a.val) : iblk m c 0 t (ix2 a b) = m ((c : Thread nD τ).loc main_arg0) (ix2 i b) := by
  blk_ext [iblk, V, idxs t]
theorem blk1 (c : Dev nD) (t : Fin cfg0.N) (a : Fin 256) (b : Fin 1024) (i : Fin 2048) (hi : i.val = 256 * t.val + a.val) : iblk m c 1 t (ix2 a b) = m ((c : Thread nD τ).loc main_arg1) (ix2 i b) := by
  blk_ext [iblk, V, idxs t]
theorem blk2 (c : Dev nD) (t : Fin cfg0.N) (a : Fin 256) (b : Fin 512) (i : Fin 2048) (hi : i.val = 256 * t.val + a.val) : iblk m c 2 t (ix2 a b) = m ((c : Thread nD τ).loc main_arg2) (ix2 i b) := by
  blk_ext [iblk, V, idxs t]
theorem blk3 (c : Dev nD) (t : Fin cfg0.N) (a : Fin 256) (b : Fin 1024) (i : Fin 2048) (hi : i.val = 256 * t.val + a.val) : iblk m c 3 t (ix2 a b) = m ((c : Thread nD τ).loc main_arg3) (ix2 i b) := by
  blk_ext [iblk, V, idxs t]
theorem blk4 (c : Dev nD) (t : Fin cfg0.N) (a : Fin 256) (b : Fin 2048) (i : Fin 2048) (hi : i.val = 256 * t.val + a.val) : iblk m c 4 t (ix2 a b) = m ((c : Thread nD τ).loc main_arg4) (ix2 i b) := by
  blk_ext [iblk, V, idxs t]
theorem blk5 (c : Dev nD) (t : Fin cfg0.N) (a : Fin 1) (b : Fin 1024) : iblk m c 5 t (ix2 a b) = m ((c : Thread nD τ).loc main_arg5) (ix2 a b) := by
  blk_ext! [iblk, V, idxs t]

/-- The weight as the kernel takes it: its columns in four parts. -/
theorem V_w (c : Dev nD) (k : Fin 4) (b : Fin 1024) (q : Fin 896) :
    V m c main_v2 (ix3 k b q) = m ((c : Thread nD τ).loc main_arg6) (ix2 b ⟨896 * k.val + q.val, by omega⟩) := by
  entry_read
  pointwise []
  exact congrArg (m ((c : Thread nD τ).loc main_arg6)) (congrArg (ix2 b) (Fin.ext (by simp; omega)))

/-- The block of the gradient at the projection. -/
abbrev dzT (c : Dev nD) (t : Fin cfg0.N) : S256x3584.Idx → EReal := dzB (iblk m c 2 t) (iblk m c 3 t) (iblk m c 4 t)

/-- The block of the gradient at the normed input. -/
def dhT (c : Dev nD) (t : Fin cfg0.N) : Vec Ideal S256x1024 .f32 :=
  k0_pay13 (View.ld (dzT m c t) (Rect.unit (s := S256x3584) ![0, 0] ![256, 896] inb_S256x3584_S256x896_0_0))
    (View.ld (V m c main_v2) (Rect.unit (s := S4x1024x896) ![0, 0, 0] ![1, 1024, 896] inb_S4x1024x896_S1x1024x896_0_0_0))
    (View.ld (dzT m c t) (Rect.unit (s := S256x3584) ![0, 896] ![256, 896] inb_S256x3584_S256x896_0_896))
    (View.ld (V m c main_v2) (Rect.unit (s := S4x1024x896) ![1, 0, 0] ![1, 1024, 896] inb_S4x1024x896_S1x1024x896_1_0_0))
    (View.ld (dzT m c t) (Rect.unit (s := S256x3584) ![0, 1792] ![256, 896] inb_S256x3584_S256x896_0_1792))
    (View.ld (V m c main_v2) (Rect.unit (s := S4x1024x896) ![2, 0, 0] ![1, 1024, 896] inb_S4x1024x896_S1x1024x896_2_0_0))
    (View.ld (dzT m c t) (Rect.unit (s := S256x3584) ![0, 2688] ![256, 896] inb_S256x3584_S256x896_0_2688))
    (View.ld (V m c main_v2) (Rect.unit (s := S4x1024x896) ![3, 0, 0] ![1, 1024, 896] inb_S4x1024x896_S1x1024x896_3_0_0))

/-- The reference's two gradients, of the whole arrays. -/
abbrev dzM (c : Dev nD) : FVec Ideal S2048x3584 .f32 :=
  dzR (m ((c : Thread nD τ).loc main_arg2)) (m ((c : Thread nD τ).loc main_arg3)) (m ((c : Thread nD τ).loc main_arg4))
abbrev dhM (c : Dev nD) : FVec Ideal S2048x1024 .f32 :=
  dhR (m ((c : Thread nD τ).loc main_arg2)) (m ((c : Thread nD τ).loc main_arg3)) (m ((c : Thread nD τ).loc main_arg4)) (m ((c : Thread nD τ).loc main_arg6))

theorem dzT_at (c : Dev nD) (t : Fin cfg0.N) (a : Fin 256) (i : Fin 2048) (hi : i.val = 256 * t.val + a.val) (k : Fin 3584) :
    dzT m c t (ix2 a k) = dzM m c (ix2 i k) :=
  dzB_eq _ _ _ _ _ _ a i (fun q => blk2 m c t a q i hi) (fun q => blk3 m c t a q i hi) (fun q => blk4 m c t a q i hi) k

theorem dhT_at (c : Dev nD) (t : Fin cfg0.N) (a : Fin 256) (b : Fin 1024) (i : Fin 2048) (hi : i.val = 256 * t.val + a.val) :
    dhT m c t (ix2 a b) = dhM m c (ix2 i b) := by
  unfold dhT
  rw [pay13_at (dzT m c t) (V m c main_v2) (m ((c : Thread nD τ).loc main_arg6)) (V_w m c)]
  refine Eq.trans ?_ (dhR_at _ _ _ _ i b).symm
  exact Finset.sum_congr rfl fun k _ => by rw [dzT_at m c t a i hi]

/-! ## The weight in scratch -/

theorem canon_w (c : Dev nD) (w) (h : w = ReadAs.same.apply (View.read (Elt Ideal) (View.whole main_v2) (V m c main_v2))) :
    View.canon [⟨Rect.whole S4x1024x896, w⟩] = V m c main_v2 := by
  subst h
  exact Rows.canon_all _

theorem scrA (c : Dev nD) (t : Fin cfg0.N) (h0 : t.val % 8 = 0) : (outsAt0 m c t.val t.isLt).2.2.2.2 = V m c main_v2 := by
  rw [outsAt0_A m c t h0 h0]
  funext y
  frame_out
  rw [canon_w m c _ rfl]

theorem scrB (c : Dev nD) (t : Fin cfg0.N) (h0 : ¬t.val % 8 = 0) :
    (outsAt0 m c t.val t.isLt).2.2.2.2 = (outsAt0 m c (t.val - 1) (Nat.lt_of_le_of_lt (Nat.sub_le _ _) t.isLt)).2.2.2.2 := by
  rw [outsAt0_B m c t h0 h0]
  unfold sout0_B_0
  rfl

/-- The weight is in scratch after every point. -/
theorem scr (c : Dev nD) (n : ℕ) (h : n < cfg0.N) : (outsAt0 m c n h).2.2.2.2 = V m c main_v2 := by
  induction n with
  | zero => exact scrA m c ⟨0, h⟩ rfl
  | succ n ih =>
    have h0 : ¬ (n + 1) % 8 = 0 := by have : n + 1 < 8 := h; omega
    exact (scrB m c ⟨n + 1, h⟩ h0).trans (ih _)

/-! ## What each point leaves -/

theorem dz_at (c : Dev nD) (t : Fin cfg0.N) (y) : (outsAt0 m c t.val t.isLt).2.1 y = dzT m c t y := by
  by_cases h0 : t.val % 8 = 0
  · rw [outsAt0_A m c t h0 h0]
    frame_out
    rfl
  · rw [outsAt0_B m c t h0 h0]
    frame_out
    rfl

theorem gx_A (c : Dev nD) (t : Fin cfg0.N) (h0 : t.val % 8 = 0) (y) : (outsAt0 m c t.val t.isLt).1 y
    = k0_pay4 (dhT m c t) (iblk m c 0 t) (k0_pay14 (iblk m c 0 t)) (iblk m c 1 t) (iblk m c 5 t) y := by
  rw [outsAt0_A m c t h0 h0]
  frame_out
  rw [Rows.rd, Rows.rd, Rows.rd, Rows.rd, Rows.rd, Rows.rd, Rows.rd, Rows.rd, canon_w m c _ rfl]
  rfl
theorem gx_B (c : Dev nD) (t : Fin cfg0.N) (h0 : ¬t.val % 8 = 0) (y) : (outsAt0 m c t.val t.isLt).1 y
    = k0_pay4 (dhT m c t) (iblk m c 0 t) (k0_pay14 (iblk m c 0 t)) (iblk m c 1 t) (iblk m c 5 t) y := by
  rw [outsAt0_B m c t h0 h0]
  frame_out
  rw [Rows.rd, Rows.rd, Rows.rd, Rows.rd, read_unread_whole, scr m c]
  rfl

/-- One block's sums of the two row sums. -/
def dgS (c : Dev nD) (t : Fin cfg0.N) (q : Fin 1024) : EReal :=
  ∑ a : Fin 256, dgT (fun k => iblk m c 0 t (ix2 a k)) (fun k => dhT m c t (ix2 a k)) q
def dbS (c : Dev nD) (t : Fin cfg0.N) (q : Fin 3584) : EReal := k0_pay11 (F := Ideal) (iblk m c 2 t) (iblk m c 3 t) (iblk m c 4 t) (ix2 0 q)

theorem pay5_at (p : Fin 8) (q : Fin 1024) : k0_pay5 (F := Ideal) (ix2 p q) = 0 := by
  pointwise [k0_pay5]
theorem pay6_at (p : Fin 8) (q : Fin 3584) : k0_pay6 (F := Ideal) (ix2 p q) = 0 := by
  pointwise [k0_pay6]
theorem pay12_at (P Q : Vec Ideal S1x3584 .f32) (q : Fin 3584) : k0_pay12 (k0_pay10 P) Q (ix2 0 q) = P (ix2 0 q) + Q (ix2 0 q) := by
  pointwise [k0_pay12, k0_pay10]

theorem dg_A (c : Dev nD) (t : Fin cfg0.N) (h0 : t.val % 8 = 0) (p : Fin 8) (q : Fin 1024) : (outsAt0 m c t.val t.isLt).2.2.1 (ix2 p q)
    = 0 + if p.val = 0 then dgS m c t q else 0 := by
  rw [outsAt0_A m c t h0 h0]
  frame_out
  rw [Rows.rd, Rows.rd, Rows.rd, Rows.rd, Rows.rd, Rows.rd, Rows.rd, Rows.rd, Rows.rd, canon_w m c _ rfl]
  refine (Rows.canon_row 0 _ _ _ p q).trans ?_
  rw [Rows.canon_fill]
  split_ifs with hp
  · refine (pay3_at (dhT m c t) (iblk m c 0 t) _ q).trans ?_
    rw [Rows.ld_row 0 _ _ p hp q, pay5_at]
    rfl
  · rw [pay5_at, add_zero]
theorem dg_B (c : Dev nD) (t : Fin cfg0.N) (h0 : ¬t.val % 8 = 0) (p : Fin 8) (q : Fin 1024) : (outsAt0 m c t.val t.isLt).2.2.1 (ix2 p q)
    = (outsAt0 m c (t.val - 1) (Nat.lt_of_le_of_lt (Nat.sub_le _ _) t.isLt)).2.2.1 (ix2 p q) + if p.val = 0 then dgS m c t q else 0 := by
  rw [outsAt0_B m c t h0 h0]
  frame_out
  rw [Rows.rd, Rows.rd, Rows.rd, Rows.rd, read_unread_whole, scr m c]
  refine (Rows.read_row _ _ _ 0 _ _ _ p q).trans ?_
  split_ifs with hp
  · refine (pay3_at (dhT m c t) (iblk m c 0 t) _ q).trans ?_
    rw [Rows.ld_row 0 _ _ p hp q]
    rfl
  · rw [add_zero, View.writes_nil, Memref.IsWhole.read_unread]
theorem db_A (c : Dev nD) (t : Fin cfg0.N) (h0 : t.val % 8 = 0) (p : Fin 8) (q : Fin 3584) : (outsAt0 m c t.val t.isLt).2.2.2.1 (ix2 p q)
    = 0 + if p.val = 0 then dbS m c t q else 0 := by
  rw [outsAt0_A m c t h0 h0]
  frame_out
  rw [Rows.rd]
  refine (Rows.canon_row 0 _ _ _ p q).trans ?_
  rw [Rows.canon_fill]
  split_ifs with hp
  · rw [pay12_at, Rows.ld_row 0 _ _ p hp q, pay6_at]
    rfl
  · rw [pay6_at, add_zero]
theorem db_B (c : Dev nD) (t : Fin cfg0.N) (h0 : ¬t.val % 8 = 0) (p : Fin 8) (q : Fin 3584) : (outsAt0 m c t.val t.isLt).2.2.2.1 (ix2 p q)
    = (outsAt0 m c (t.val - 1) (Nat.lt_of_le_of_lt (Nat.sub_le _ _) t.isLt)).2.2.2.1 (ix2 p q) + if p.val = 0 then dbS m c t q else 0 := by
  rw [outsAt0_B m c t h0 h0]
  frame_out
  refine (Rows.read_row _ _ _ 0 _ _ _ p q).trans ?_
  split_ifs with hp
  · rw [pay12_at, Rows.ld_row 0 _ _ p hp q]
    rfl
  · rw [add_zero, View.writes_nil, Memref.IsWhole.read_unread]
/-! ## The sums over the points -/

/-- The last point. -/
abbrev tL : Fin cfg0.N := ⟨7, by rw [show cfg0.N = 8 from N_0]; norm_num⟩

theorem dg_sum (c : Dev nD) (p : Fin 8) (q : Fin 1024) : (outsAt0 m c tL.val tL.isLt).2.2.1 (ix2 p q) = dgR (m ((c : Thread nD τ).loc main_arg0)) (dhM m c) (ix2 p q) := by
  have h := Pipeline.eq_sum_fin_of_reset_step_apply_last (N := cfg0.N) (fun n h (_ : Unit) => (outsAt0 m c n h).2.2.1 (ix2 p q)) 8 (fun _ => 0)
    (fun t _ => if p.val = 0 then dgS m c t q else 0) (fun t h _ => dg_A m c t h p q) (fun t h _ => dg_B m c t h p q) (le_of_eq N_0) tL rfl ()
  refine h.trans ?_
  rw [dgR_at, zero_add]
  split_ifs with hp
  · rw [← Rows.sum_blocks]
    refine Finset.sum_congr rfl fun t _ => Finset.sum_congr rfl fun a _ => ?_
    have hi : 256 * t.val + a.val < 2048 := by have : t.val < 8 := t.isLt; omega
    simp only [blk0 m c t a _ ⟨_, hi⟩ rfl, dhT_at m c t a _ ⟨_, hi⟩ rfl]
  · exact Finset.sum_const_zero

theorem db_sum (c : Dev nD) (p : Fin 8) (q : Fin 3584) : (outsAt0 m c tL.val tL.isLt).2.2.2.1 (ix2 p q) = dbR (dzM m c) (ix2 p q) := by
  have h := Pipeline.eq_sum_fin_of_reset_step_apply_last (N := cfg0.N) (fun n h (_ : Unit) => (outsAt0 m c n h).2.2.2.1 (ix2 p q)) 8 (fun _ => 0)
    (fun t _ => if p.val = 0 then dbS m c t q else 0) (fun t h _ => db_A m c t h p q) (fun t h _ => db_B m c t h p q) (le_of_eq N_0) tL rfl ()
  refine h.trans ?_
  rw [dbR_at, zero_add]
  split_ifs with hp
  · rw [← Rows.sum_blocks]
    refine Finset.sum_congr rfl fun t _ => ?_
    have ht : t.val < 8 := t.isLt
    exact pay11_eq _ _ _ _ _ _ (fun a => ⟨256 * t.val + a.val, by omega⟩) (fun a q => blk2 m c t a q _ rfl) (fun a q => blk3 m c t a q _ rfl)
      (fun a q => blk4 m c t a q _ rfl) q
  · exact Finset.sum_const_zero

/-! ## The four results, whole -/

theorem emb6 (t : Fin cfg0.N) (a : Fin 256) (b : Fin 1024) (i : Fin 2048) (hi : i.val = 256 * t.val + a.val) :
    ((cfg0.win 6).blk t).view.emb (ix2 a b) = ix2 i b := by
  funext x
  match x with
  | ⟨0, _⟩ => exact Fin.ext (by blk_simp [idxs t]; omega)
  | ⟨1, _⟩ => exact Fin.ext (by blk_simp [idxs t])
theorem emb7 (t : Fin cfg0.N) (a : Fin 256) (b : Fin 3584) (i : Fin 2048) (hi : i.val = 256 * t.val + a.val) :
    ((cfg0.win 7).blk t).view.emb (ix2 a b) = ix2 i b := by
  funext x
  match x with
  | ⟨0, _⟩ => exact Fin.ext (by blk_simp [idxs t]; omega)
  | ⟨1, _⟩ => exact Fin.ext (by blk_simp [idxs t])
theorem emb8 (t : Fin cfg0.N) (a : Fin 8) (b : Fin 1024) : ((cfg0.win 8).blk t).view.emb (ix2 a b) = ix2 a b := by
  funext x
  match x with
  | ⟨0, _⟩ => exact Fin.ext (by blk_simp [idxs t])
  | ⟨1, _⟩ => exact Fin.ext (by blk_simp [idxs t])
theorem emb9 (t : Fin cfg0.N) (a : Fin 8) (b : Fin 3584) : ((cfg0.win 9).blk t).view.emb (ix2 a b) = ix2 a b := by
  funext x
  match x with
  | ⟨0, _⟩ => exact Fin.ext (by blk_simp [idxs t])
  | ⟨1, _⟩ => exact Fin.ext (by blk_simp [idxs t])

/-- The gradient at the projection. -/
theorem final_7 (c : Dev nD) : (dats m 0 c).arrAt 7 (cfgs 0).N = truncf .bf16 (dzM m c) Cert.InprojRefIdeal.Gen.bitsLt_bf16_f32 := by
  refine (dats m 0 c).arrAt_eq_of_covers 7 _ (by decide +kernel) fun t _ y => ?_
  refine (congrFun (after0_7 m c t) y).trans ((dz_at m c t y).trans ?_)
  obtain ⟨a, b, rfl⟩ : ∃ (a : Fin 256) (b : Fin 3584), y = ix2 a b := ⟨y 0, y 1, eq_ix2 y⟩
  have ht : t.val < 8 := t.isLt
  rw [dzT_at m c t a ⟨256 * t.val + a.val, by omega⟩ rfl b]
  exact congrArg (dzM m c) (emb7 t a b _ rfl).symm

theorem fin_dz (A B G) (hA : ∀ y, Norm.Fin' (A y)) (hB : ∀ y, Norm.Fin' (B y)) (hG : ∀ y, Norm.Fin' (G y)) (i : Fin 2048) (k : Fin 3584) :
    Norm.Fin' (dzR A B G (ix2 i k)) := by
  rcases thirds k with ⟨j, rfl⟩ | ⟨j, rfl⟩ | ⟨j, rfl⟩
  · rw [dzR_a]; exact hA _
  · rw [dzR_b]; exact hB _
  · rw [dzR_c]; exact hG _

theorem fin_dh (A B G W) (hA : ∀ y, Norm.Fin' (A y)) (hB : ∀ y, Norm.Fin' (B y)) (hG : ∀ y, Norm.Fin' (G y)) (hW : ∀ y, Norm.Fin' (W y)) (y) :
    Norm.Fin' (dhR A B G W y) := by
  obtain ⟨i, j, rfl⟩ : ∃ (i : Fin 2048) (j : Fin 1024), y = ix2 i j := ⟨y 0, y 1, eq_ix2 y⟩
  rw [dhR_at]
  exact Norm.Fin'.sum _ _ fun k => (fin_dz A B G hA hB hG i k).mul (hW _)

/-- The gradient of the input, where its arguments are finite. -/
theorem final_6 (c : Dev nD) (h0 : ∀ y, Norm.Fin' (m ((c : Thread nD τ).loc main_arg0) y)) (h2 : ∀ y, Norm.Fin' (m ((c : Thread nD τ).loc main_arg2) y))
    (h3 : ∀ y, Norm.Fin' (m ((c : Thread nD τ).loc main_arg3) y)) (h4 : ∀ y, Norm.Fin' (m ((c : Thread nD τ).loc main_arg4) y))
    (h5 : ∀ y, Norm.Fin' (m ((c : Thread nD τ).loc main_arg5) y)) (h6 : ∀ y, Norm.Fin' (m ((c : Thread nD τ).loc main_arg6) y)) :
    (dats m 0 c).arrAt 6 (cfgs 0).N = gxR (m ((c : Thread nD τ).loc main_arg0)) (m ((c : Thread nD τ).loc main_arg1)) (dhM m c) (m ((c : Thread nD τ).loc main_arg5)) := by
  refine (dats m 0 c).arrAt_eq_of_covers 6 _ (by decide +kernel) fun t _ y => ?_
  refine (congrFun (after0_6 m c t) y).trans ?_
  have e : (outsAt0 m c t.val t.isLt).1 y = k0_pay4 (dhT m c t) (iblk m c 0 t) (k0_pay14 (iblk m c 0 t)) (iblk m c 1 t) (iblk m c 5 t) y := by
    by_cases h : t.val % 8 = 0
    · exact gx_A m c t h y
    · exact gx_B m c t h y
  refine e.trans ?_
  obtain ⟨a, b, rfl⟩ : ∃ (a : Fin 256) (b : Fin 1024), y = ix2 a b := ⟨y 0, y 1, eq_ix2 y⟩
  have ht : t.val < 8 := t.isLt
  have hi : 256 * t.val + a.val < 2048 := by omega
  rw [emb6 t a b ⟨_, hi⟩ rfl]
  refine (pay4_at _ _ _ _ a b).trans ?_
  rw [gxR_at _ _ _ _ h0 (fin_dh _ _ _ _ h2 h3 h4 h6) h5]
  simp only [blk0 m c t a _ ⟨_, hi⟩ rfl, blk1 m c t a _ ⟨_, hi⟩ rfl, blk5, dhT_at m c t a _ ⟨_, hi⟩ rfl]

theorem last8 : ∀ t : Fin cfg0.N, (cfg0.win 8).flush t = true → t.val = 7 := (by decide +kernel : ∀ t : Fin grid0.N, (cfg0.win 8).flush t = true → t.val = 7)
theorem last9 : ∀ t : Fin cfg0.N, (cfg0.win 9).flush t = true → t.val = 7 := (by decide +kernel : ∀ t : Fin grid0.N, (cfg0.win 9).flush t = true → t.val = 7)

/-- The gradient of the norm's weight. -/
theorem final_8 (c : Dev nD) : (dats m 0 c).arrAt 8 (cfgs 0).N = dgR (m ((c : Thread nD τ).loc main_arg0)) (dhM m c) := by
  refine (dats m 0 c).arrAt_eq_of_covers 8 _ (by decide +kernel) fun t hf y => ?_
  refine (congrFun (after0_8 m c t) y).trans ?_
  obtain rfl : t = tL := Fin.ext (last8 t hf)
  obtain ⟨a, b, rfl⟩ : ∃ (a : Fin 8) (b : Fin 1024), y = ix2 a b := ⟨y 0, y 1, eq_ix2 y⟩
  refine (dg_sum m c a b).trans ?_
  exact congrArg (dgR (m ((c : Thread nD τ).loc main_arg0)) (dhM m c)) (emb8 _ a b).symm

/-- The gradient of the bias. -/
theorem final_9 (c : Dev nD) : (dats m 0 c).arrAt 9 (cfgs 0).N = dbR (dzM m c) := by
  refine (dats m 0 c).arrAt_eq_of_covers 9 _ (by decide +kernel) fun t hf y => ?_
  refine (congrFun (after0_9 m c t) y).trans ?_
  obtain rfl : t = tL := Fin.ext (last9 t hf)
  obtain ⟨a, b, rfl⟩ : ∃ (a : Fin 8) (b : Fin 3584), y = ix2 a b := ⟨y 0, y 1, eq_ix2 y⟩
  refine (db_sum m c a b).trans ?_
  exact congrArg (dbR (dzM m c)) (emb9 _ a b).symm

end Cert.InprojIdeal.Value
end
-- ==== Proof.InprojClaim.lean ====
module

public import proofs.«01_k».proof.Defs
public import proofs.«01_k».proof.Proof.Gen.InprojIdeal.Value
public import proofs.«01_k».proof.Proof.Gen.InprojRefIdeal.Run
public import proofs.«01_k».proof.Proof.Finite
public import proofs.«01_k».proof.Proof.Inproj
public import Idealize.ShloMosaic.Adequacy
public import Idealize.ShloMosaic.Init

@[expose] public section

noncomputable section

namespace Cert.Proof

open Idealize.ShloMosaic Idealize.SL.Sem

/-- The reference of the input projection's backward call ends with its arguments as they were. -/
theorem frame_inproj_reference [Cert.InprojRefIdeal.Facts] : Cert.quiescent_InprojRefIdeal := fun m ρ _ =>
  (θ_run Cert.InprojRefIdeal.defs _ _).mono (fun r h => ⟨fun c => (h c).2.2.2.2,
      Idealize.ShloMosaic.sem_eq_zero_of_no_sems (by decide) r.2⟩)
    (Cert.InprojRefIdeal.Value.run (F := Ideal) m ρ)

open Cert.InprojRefIdeal in
/-- The reference's gradient of the input, by its parts. -/
theorem gx_reference (m' : (ℓ : Loc nD τ sig) → Buf (Elt Ideal) ℓ) (c : Dev nD) : Cert.InprojRefIdeal.Value.res_main_v50 m' c
    = Cert.InprojIdeal.Value.gxR (m' ((c.tc : Thread nD τ).loc main_arg0)) (m' ((c.tc : Thread nD τ).loc main_arg1))
        (Cert.InprojIdeal.Value.dhR (m' ((c.tc : Thread nD τ).loc main_arg2)) (m' ((c.tc : Thread nD τ).loc main_arg3)) (m' ((c.tc : Thread nD τ).loc main_arg4))
          (m' ((c.tc : Thread nD τ).loc main_arg6))) (m' ((c.tc : Thread nD τ).loc main_arg5)) := by
  unfold Cert.InprojRefIdeal.Value.res_main_v50 Cert.InprojIdeal.Value.gxR Cert.InprojIdeal.Value.coR Cert.InprojIdeal.Value.dxR Cert.InprojIdeal.Value.msR
    Cert.InprojIdeal.Value.dhR Cert.InprojIdeal.Value.dzR
  with_reducible rfl

open Cert.InprojRefIdeal Cert.InprojRefIdeal.Gen in
/-- The reference's gradient of the bias, by its parts. -/
theorem db_reference (A : FVec Ideal S2048x512 .f32) (B : FVec Ideal S2048x1024 .f32) (G : FVec Ideal S2048x2048 .f32) :
  concatenate S8x3584 0 [⟨S1x3584, (shapeCast _ (Host.reduceAdd (addf (addf (pad S2048x3584 ![0, 1536] ![0, 0] ![0, 0] G (constant S_ .f32 0x00000000#32) pads_S2048x2048_S2048x3584_000_153600 h_S_) (pad S2048x3584 ![0, 512] ![0, 2048] ![0, 0] B (constant S_ .f32 0x00000000#32) pads_S2048x1024_S2048x3584_000_51220480 h_S_)) (pad S2048x3584 ![0, 0] ![0, 3072] ![0, 0] A (constant S_ .f32 0x00000000#32) pads_S2048x512_S2048x3584_000_030720 h_S_)) (constant S_ .f32 0x00000000#32) reducesTo_S2048x3584_S3584_d0 h_S_) shapeCasts_S3584_S1x3584)⟩, ⟨S7x3584, (broadcastInDim S7x3584 ![] bcast_S_S7x3584 (constant S_ .f32 0x00000000#32))⟩] concatenates_S1x3584_S7x3584_S8x3584_d0 = Cert.InprojIdeal.Value.dbR (Cert.InprojIdeal.Value.dzR A B G) := by
  unfold Cert.InprojIdeal.Value.dbR Cert.InprojIdeal.Value.dzR
  with_reducible rfl

open Cert.InprojRefIdeal Cert.InprojRefIdeal.Gen in
/-- The reference's gradient of the norm's weight, by its parts. -/
theorem dg_reference (X : FVec Ideal S2048x1024 .f32) (A : FVec Ideal S2048x512 .f32) (B : FVec Ideal S2048x1024 .f32) (G : FVec Ideal S2048x2048 .f32) (W : FVec Ideal S1024x3584 .f32) :
  concatenate S8x1024 0 [⟨S1x1024, (shapeCast _ (Host.reduceAdd (mulf (mulf X (broadcastInDim S2048x1024 ![0, 1] bcast_S2048x1_S2048x1024_0_1 (Host.rsqrt (addf (Host.divf (broadcastInDim S2048x1 ![0] bcast_S2048_S2048x1_0 (Host.reduceAdd (mulf X X) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (Host.dotGeneral dot_S2048x3584_S1024x3584_S2048x1024_1_1_0_0_n_n none (addf (addf (pad S2048x3584 ![0, 1536] ![0, 0] ![0, 0] G (constant S_ .f32 0x00000000#32) pads_S2048x2048_S2048x3584_000_153600 h_S_) (pad S2048x3584 ![0, 512] ![0, 2048] ![0, 0] B (constant S_ .f32 0x00000000#32) pads_S2048x1024_S2048x3584_000_51220480 h_S_)) (pad S2048x3584 ![0, 0] ![0, 3072] ![0, 0] A (constant S_ .f32 0x00000000#32) pads_S2048x512_S2048x3584_000_030720 h_S_)) W)) (constant S_ .f32 0x00000000#32) reducesTo_S2048x1024_S1024_d0 h_S_) shapeCasts_S1024_S1x1024)⟩, ⟨S7x1024, (broadcastInDim S7x1024 ![] bcast_S_S7x1024 (constant S_ .f32 0x00000000#32))⟩] concatenates_S1x1024_S7x1024_S8x1024_d0
    = Cert.InprojIdeal.Value.dgR X (Cert.InprojIdeal.Value.dhR A B G W) := by
  unfold Cert.InprojIdeal.Value.dgR Cert.InprojIdeal.Value.msR Cert.InprojIdeal.Value.dhR Cert.InprojIdeal.Value.dzR
  with_reducible rfl

open Cert.InprojRefIdeal in
/-- What the reference ends with, by its parts. -/
theorem inproj_reference (m : (ℓ : Loc nD τ sig) → Buf (Elt Ideal) ℓ) (ρ : Dev nD → PrngReg) :
    θ_run (Cert.InprojRefIdeal.defs (F := Ideal)) (onTc (τ := τ) (main (F := Ideal))) ⟨m, fun _ => 0, ρ⟩ fun r => ∀ c : Dev nD,
      r.2.mem ((c.tc : Thread nD τ).loc main_v50) = Cert.InprojIdeal.Value.gxR (m ((c.tc : Thread nD τ).loc main_arg0)) (m ((c.tc : Thread nD τ).loc main_arg1))
        (Cert.InprojIdeal.Value.dhR (m ((c.tc : Thread nD τ).loc main_arg2)) (m ((c.tc : Thread nD τ).loc main_arg3)) (m ((c.tc : Thread nD τ).loc main_arg4))
          (m ((c.tc : Thread nD τ).loc main_arg6))) (m ((c.tc : Thread nD τ).loc main_arg5))
      ∧ r.2.mem ((c.tc : Thread nD τ).loc main_v51) = truncf .bf16 (Cert.InprojIdeal.Value.dzR (m ((c.tc : Thread nD τ).loc main_arg2))
          (m ((c.tc : Thread nD τ).loc main_arg3)) (m ((c.tc : Thread nD τ).loc main_arg4))) Cert.InprojRefIdeal.Gen.bitsLt_bf16_f32
      ∧ r.2.mem ((c.tc : Thread nD τ).loc main_v53) = Cert.InprojIdeal.Value.dgR (m ((c.tc : Thread nD τ).loc main_arg0))
        (Cert.InprojIdeal.Value.dhR (m ((c.tc : Thread nD τ).loc main_arg2)) (m ((c.tc : Thread nD τ).loc main_arg3)) (m ((c.tc : Thread nD τ).loc main_arg4))
          (m ((c.tc : Thread nD τ).loc main_arg6)))
      ∧ r.2.mem ((c.tc : Thread nD τ).loc main_v55) = Cert.InprojIdeal.Value.dbR (Cert.InprojIdeal.Value.dzR (m ((c.tc : Thread nD τ).loc main_arg2))
          (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun r h c => ⟨(h c).1.trans (gx_reference m c),
      (h c).2.1,
      (h c).2.2.1.trans (dg_reference (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg6))),
      (h c).2.2.2.1.trans (db_reference (m ((c.tc : Thread nD τ).loc main_arg2)) (m ((c.tc : Thread nD τ).loc main_arg3)) (m ((c.tc : Thread nD τ).loc main_arg4))),
      (h c).2.2.2.2⟩) (Cert.InprojRefIdeal.Value.run (F := Ideal) m ρ)

set_option maxHeartbeats 4000000 in
/-- All four results of the input projection's backward call are the derivatives, where its arguments are finite. -/
theorem inproj [Cert.Pre_inproj_finite.Facts] : @Cert.algebraic_InprojIdeal_InprojRefIdeal_pre_inproj_finite Cert.InprojIdeal.Gen.facts Cert.InprojRefIdeal.Gen.facts _ := by
  pair_intro
  · run_from Cert.InprojIdeal.Value.run_blocks m g
  run_from inproj_reference m' g'
  · obtain ⟨h0, h2, h3, h4, h5, h6⟩ := hpre c
    exact (Cert.InprojIdeal.Value.final_6 m c (Norm.fin_of_pre _ _ h0) (Norm.fin_of_pre _ _ h2) (Norm.fin_of_pre _ _ h3)
      (Norm.fin_of_pre _ _ h4) (Norm.fin_of_pre _ _ h5) (Norm.fin_of_pre _ _ h6)).symm
  · exact (Cert.InprojIdeal.Value.final_7 m c).symm
  · exact (Cert.InprojIdeal.Value.final_8 m c).symm
  · exact (Cert.InprojIdeal.Value.final_9 m c).symm

end Cert.Proof

end
-- ==== Proof.FfnMath.lean ====
module

public import proofs.«01_k».proof.Proof.Gen.FfnIdeal.Skeleton
public import proofs.«01_k».proof.Proof.Gen.FfnRefIdeal.Run
public import proofs.«01_k».proof.Proof.InprojMath

@[expose] public section

set_option maxRecDepth 16384

noncomputable section

open Idealize.ShloMosaic
open scoped BigOperators

/-! # The feed-forward block's backward call: its arithmetic

What the kernel computes on one block of tokens, and what the reference's terms are, entry by entry. The norm's part is
the one of the input projection's call. -/

namespace Cert.FfnIdeal.Value
open Cert.FfnIdeal Cert.FfnIdeal.Gen

/-! ## The gate, one entry -/

/-- The gated product, from the gate's input and the other factor. -/
def actk (g u : EReal) : EReal := g * Ideal.logistic g * u
/-- The gradient at the gate's input: `d` is the gradient at the gated product. -/
def dgk (d g u : EReal) : EReal := d * u * Ideal.logistic g * (1 + g * (1 - Ideal.logistic g))
/-- The gradient at the other factor. -/
def duk (d g : EReal) : EReal := d * (g * Ideal.logistic g)

theorem fin_dgk {d g u : EReal} (hd : Norm.Fin' d) (hg : Norm.Fin' g) (hu : Norm.Fin' u) : Norm.Fin' (dgk d g u) :=
  ((hd.mul hu).mul hg.logistic).mul (Norm.Fin'.one.add (hg.mul (Norm.Fin'.one.sub hg.logistic)))
theorem fin_duk {d g : EReal} (hd : Norm.Fin' d) (hg : Norm.Fin' g) : Norm.Fin' (duk d g) := hd.mul (hg.mul hg.logistic)

/-- The gate's gradient as the product rule sums it up. -/
theorem dgk_eq {d g u : EReal} (hd : Norm.Fin' d) (hg : Norm.Fin' g) (hu : Norm.Fin' u) :
    d * u * Ideal.logistic g + g * (d * u) * (Ideal.logistic g * (1 - Ideal.logistic g)) = dgk d g u := by
  unfold dgk
  obtain ⟨s, hs⟩ := hg.logistic
  rw [hs]
  obtain ⟨d, rfl⟩ := hd
  obtain ⟨g, rfl⟩ := hg
  obtain ⟨u, rfl⟩ := hu
  rw [← EReal.coe_one]
  simp only [← EReal.coe_mul, ← EReal.coe_sub, ← EReal.coe_add]
  congr 1
  ring

/-! ## The reference's terms -/

open Cert.FfnRefIdeal.Gen Cert.FfnRefIdeal in
/-- The normed input. -/
def h2R (X : FVec Ideal S2048x1024 .f32) (g : FVec Ideal S1x1024 .f32) : FVec Ideal S2048x1024 .f32 :=
  mulf (mulf X (broadcastInDim S2048x1024 ![0, 1] Cert.FfnRefIdeal.Gen.bcast_S2048x1_S2048x1024_0_1 (Host.rsqrt (Cert.InprojIdeal.Value.msR X)))) (broadcastInDim S2048x1024 ![0, 1] Cert.FfnRefIdeal.Gen.bcast_S1x1024_S2048x1024_0_1 g)

open Cert.FfnRefIdeal in
/-- Its product with one of the two weights. -/
def guR (X : FVec Ideal S2048x1024 .f32) (g : FVec Ideal S1x1024 .f32) (W : FVec Ideal S1024x2816 .f32) : FVec Ideal S2048x2816 .f32 :=
  Host.dotGeneral Cert.FfnRefIdeal.dot_S2048x1024_S1024x2816_S2048x2816_1_0_0_1_n_n none (h2R X g) W

open Cert.FfnRefIdeal.Gen Cert.FfnRefIdeal in
/-- The gradient at the gated product. -/
def daR (D2 : FVec Ideal S2048x1024 .f32) (W : FVec Ideal S2816x1024 .f32) : FVec Ideal S2048x2816 .f32 :=
  Host.dotGeneral Cert.FfnRefIdeal.dot_S2048x1024_S2816x1024_S2048x2816_1_1_0_0_n_n none (shapeCast _ D2 shapeCasts_S2048x1024_S2048x1024) W

open Cert.FfnRefIdeal.Gen Cert.FfnRefIdeal in
def oneR : FVec Ideal S2048x2816 .f32 := broadcastInDim S2048x2816 ![] bcast_S_S2048x2816 (constant S_ .f32 0x3F800000#32)
open Cert.FfnRefIdeal.Gen Cert.FfnRefIdeal in
def zeroR : FVec Ideal S2048x2816 .f32 := broadcastInDim S2048x2816 ![] bcast_S_S2048x2816 (constant S_ .f32 0x00000000#32)

open Cert.FfnRefIdeal in
/-- The sigmoid. -/
def sgR (G : FVec Ideal S2048x2816 .f32) : FVec Ideal S2048x2816 .f32 := Host.divf oneR (addf oneR (Host.exp (Host.negf G)))

open Cert.FfnRefIdeal in
def actR (G U : FVec Ideal S2048x2816 .f32) : FVec Ideal S2048x2816 .f32 := mulf (mulf G (sgR G)) U
open Cert.FfnRefIdeal in
def duR (G A : FVec Ideal S2048x2816 .f32) : FVec Ideal S2048x2816 .f32 := mulf (mulf (addf G zeroR) (sgR (addf G zeroR))) A
open Cert.FfnRefIdeal in
def dgateR (G U A : FVec Ideal S2048x2816 .f32) : FVec Ideal S2048x2816 .f32 :=
  addf (mulf (mulf A (addf U zeroR)) (sgR (addf G zeroR))) (mulf (mulf (addf G zeroR) (mulf A (addf U zeroR))) (mulf (sgR (addf G zeroR)) (subf oneR (sgR (addf G zeroR)))))

open Cert.FfnRefIdeal in
/-- The gradient at the normed input. -/
def dh2R (DG DU : FVec Ideal S2048x2816 .f32) (Wg Wu : FVec Ideal S1024x2816 .f32) : FVec Ideal S2048x1024 .f32 :=
  addf (Host.dotGeneral Cert.FfnRefIdeal.dot_S2048x2816_S1024x2816_S2048x1024_1_1_0_0_n_n none DU Wu) (Host.dotGeneral Cert.FfnRefIdeal.dot_S2048x2816_S1024x2816_S2048x1024_1_1_0_0_n_n none DG Wg)

open Cert.FfnRefIdeal.Gen Cert.FfnRefIdeal in
/-- Cut into four parts by columns. -/
def cutR (A : FVec Ideal S2048x2816 .f32) : FVec Ideal S4x2048x704 .bf16 :=
  truncf .bf16 (transpose S4x2048x704 [1, 0, 2] (shapeCast _ A Cert.FfnRefIdeal.Gen.shapeCasts_S2048x2816_S2048x4x704) Cert.FfnRefIdeal.Gen.transposes_S2048x4x704_S4x2048x704_1_0_2) Cert.FfnRefIdeal.Gen.bitsLt_bf16_f32

/-- A column of one of the four parts, among all of them. -/
abbrev col (c : Fin 4) (q : Fin 704) : Fin 2816 := ⟨704 * c.val + q.val, by omega⟩

theorem cutR_at (A) (c : Fin 4) (i : Fin 2048) (q : Fin 704) : cutR A (ix3 c i q) = A (ix2 i (col c q)) := by
  pointwise [cutR]
  exact congrArg A (congrArg (ix2 i) (Fin.ext (by simp; omega)))

theorem sgR_at (G) (i : Fin 2048) (j : Fin 2816) : sgR G (ix2 i j) = Ideal.logistic (G (ix2 i j)) := by
  pointwise [sgR, oneR, Ideal.logistic]

theorem actR_at (G U) (i : Fin 2048) (j : Fin 2816) : actR G U (ix2 i j) = actk (G (ix2 i j)) (U (ix2 i j)) := by
  have e : actR G U (ix2 i j) = G (ix2 i j) * sgR G (ix2 i j) * U (ix2 i j) := by pointwise [actR]
  rw [e, sgR_at]; rfl

theorem addz (G) : addf G zeroR = G := by
  funext y
  obtain ⟨i, j, rfl⟩ : ∃ (i : Fin 2048) (j : Fin 2816), y = ix2 i j := ⟨y 0, y 1, eq_ix2 y⟩
  pointwise [zeroR]

theorem duR_at (G A) (i : Fin 2048) (j : Fin 2816) : duR G A (ix2 i j) = duk (A (ix2 i j)) (G (ix2 i j)) := by
  have e : duR G A (ix2 i j) = G (ix2 i j) * sgR G (ix2 i j) * A (ix2 i j) := by
    unfold duR; rw [addz]; pointwise []
  rw [e, sgR_at, mul_comm]; rfl

theorem dgateR_at (G U A) (i : Fin 2048) (j : Fin 2816) (hA : Norm.Fin' (A (ix2 i j))) (hG : Norm.Fin' (G (ix2 i j))) (hU : Norm.Fin' (U (ix2 i j))) :
    dgateR G U A (ix2 i j) = dgk (A (ix2 i j)) (G (ix2 i j)) (U (ix2 i j)) := by
  have e : dgateR G U A (ix2 i j) = A (ix2 i j) * U (ix2 i j) * sgR G (ix2 i j) + G (ix2 i j) * (A (ix2 i j) * U (ix2 i j)) * (sgR G (ix2 i j) * (1 - sgR G (ix2 i j))) := by
    unfold dgateR; rw [addz, addz]; pointwise [oneR]
  rw [e, sgR_at, dgk_eq hA hG hU]

theorem h2R_at (X g) (i : Fin 2048) (j : Fin 1024) : h2R X g (ix2 i j) = X (ix2 i j) * Norm.rinv (fun k => X (ix2 i k)) * g (ix2 0 j) := by
  have e : h2R X g (ix2 i j) = X (ix2 i j) * Ideal.rsqrt (Cert.InprojIdeal.Value.msR X (ix2 i 0)) * g (ix2 0 j) := by pointwise [h2R]
  rw [e, Cert.InprojIdeal.Value.msR_at]; rfl

theorem guR_at (X g W) (i : Fin 2048) (j : Fin 2816) : guR X g W (ix2 i j) = ∑ k : Fin 1024, h2R X g (ix2 i k) * W (ix2 k j) := by
  pointwise [guR]

theorem daR_at (D2 W) (i : Fin 2048) (j : Fin 2816) : daR D2 W (ix2 i j) = ∑ k : Fin 1024, D2 (ix2 i k) * W (ix2 j k) := by
  pointwise [daR]

theorem dh2R_at (DG DU Wg Wu) (i : Fin 2048) (j : Fin 1024) :
    dh2R DG DU Wg Wu (ix2 i j) = ∑ k : Fin 2816, DU (ix2 i k) * Wu (ix2 j k) + ∑ k : Fin 2816, DG (ix2 i k) * Wg (ix2 j k) := by
  pointwise [dh2R]

theorem fin_gu (X g W) (hX : ∀ y, Norm.Fin' (X y)) (hg : ∀ y, Norm.Fin' (g y)) (hW : ∀ y, Norm.Fin' (W y)) (i : Fin 2048) (j : Fin 2816) :
    Norm.Fin' (guR X g W (ix2 i j)) := by
  rw [guR_at]
  refine Norm.Fin'.sum _ _ fun k => Norm.Fin'.mul ?_ (hW _)
  rw [h2R_at]
  exact ((hX _).mul (Norm.Fin'.rinv fun k => hX _)).mul (hg _)

theorem fin_da (D2 W) (hD : ∀ y, Norm.Fin' (D2 y)) (hW : ∀ y, Norm.Fin' (W y)) (i : Fin 2048) (j : Fin 2816) : Norm.Fin' (daR D2 W (ix2 i j)) := by
  rw [daR_at]
  exact Norm.Fin'.sum _ _ fun k => (hD _).mul (hW _)

/-! ## The kernel's payloads -/

theorem pay9_at (x : Vec Ideal S256x1024 .f32) (w : Vec Ideal S1x704x1024 .bf16) (a : Fin 256) (q : Fin 704) :
    k0_pay9 x w (ix2 a q) = ∑ k : Fin 1024, x (ix2 a k) * w (ix3 0 q k) := by
  pointwise [k0_pay9, k0_pay2]

theorem pay8_at (g u : Vec Ideal S1x256x704 .bf16) (a : Fin 256) (q : Fin 704) : k0_pay8 g u (ix3 0 a q) = actk (g (ix3 0 a q)) (u (ix3 0 a q)) := by
  pointwise [k0_pay8, k0_pay7, k0_pay6, k0_pay5, k0_pay4, actk]

theorem pay10_at (x : Vec Ideal S256x1024 .f32) (g u : Vec Ideal S1x256x704 .bf16) (w : Vec Ideal S1x704x1024 .bf16) (a : Fin 256) (q : Fin 704) :
    k0_pay10 x g u w (ix2 a q) = dgk (k0_pay9 x w (ix2 a q)) (g (ix3 0 a q)) (u (ix3 0 a q)) := by
  pointwise [k0_pay10, k0_pay6, k0_pay5, k0_pay4, dgk]

/-- The gradient at the other factor, of one part. -/
def duB (x : Vec Ideal S256x1024 .f32) (g : Vec Ideal S1x256x704 .bf16) (w : Vec Ideal S1x704x1024 .bf16) : FVec Ideal S256x704 .bf16 :=
  k0_pay11 (k0_pay7 g) (k0_pay9 x w)

theorem duB_at (x : Vec Ideal S256x1024 .f32) (g : Vec Ideal S1x256x704 .bf16) (w : Vec Ideal S1x704x1024 .bf16) (a : Fin 256) (q : Fin 704) :
    duB x g w (ix2 a q) = duk (k0_pay9 x w (ix2 a q)) (g (ix3 0 a q)) := by
  pointwise [duB, k0_pay11, k0_pay7, k0_pay6, k0_pay4, duk]

theorem up_at (v : FVec Ideal S256x704 .bf16) (a : Fin 256) (q : Fin 704) : k0_pay12 v (ix3 0 a q) = v (ix2 a q) := by
  pointwise [k0_pay12]

theorem sh2 (x : Vec Ideal S256x1024 .f32) (g u : Vec Ideal S1x256x704 .bf16) (w : Vec Ideal S1x704x1024 .bf16) :
    k0_pay22 (k0_pay2 x) (k0_pay15 g) (k0_pay16 u) (k0_pay17 g) (k0_pay20 w) = k0_pay10 x g u w := rfl
theorem sh3 (x : Vec Ideal S256x1024 .f32) (g u : Vec Ideal S1x256x704 .bf16) (w : Vec Ideal S1x704x1024 .bf16) :
    k0_pay34 (k0_pay2 x) (k0_pay27 g) (k0_pay28 u) (k0_pay29 g) w = k0_pay10 x g u w := rfl
theorem sh4 (x : Vec Ideal S256x1024 .f32) (g u : Vec Ideal S1x256x704 .bf16) (w : Vec Ideal S1x704x1024 .bf16) :
    k0_pay45 (k0_pay2 x) g u w = k0_pay10 x g u w := rfl
theorem su2 (x : Vec Ideal S256x1024 .f32) (g : Vec Ideal S1x256x704 .bf16) (w : Vec Ideal S1x704x1024 .bf16) :
    k0_pay23 (k0_pay2 x) (k0_pay18 g) (k0_pay20 w) = duB x g w := rfl
theorem su3 (x : Vec Ideal S256x1024 .f32) (g : Vec Ideal S1x256x704 .bf16) (w : Vec Ideal S1x704x1024 .bf16) :
    k0_pay35 (k0_pay2 x) (k0_pay30 g) w = duB x g w := rfl
theorem su4 (x : Vec Ideal S256x1024 .f32) (g : Vec Ideal S1x256x704 .bf16) (w : Vec Ideal S1x704x1024 .bf16) :
    k0_pay46 (k0_pay2 x) g w = duB x g w := rfl

/-- Two products added to what was there. -/
theorem two_at (v : FVec Ideal S256x1024 .f32) (x : Vec Ideal S256x1024 .f32) (g u : Vec Ideal S1x256x704 .bf16) (w wg wu : Vec Ideal S1x704x1024 .bf16)
    (a : Fin 256) (b : Fin 1024) : k0_pay14 v (k0_pay7 g) (k0_pay9 x w) (k0_pay10 x g u w) wg wu (ix2 a b)
      = v (ix2 a b) + ∑ q : Fin 704, k0_pay10 x g u w (ix2 a q) * wg (ix3 0 q b) + ∑ q : Fin 704, duB x g w (ix2 a q) * wu (ix3 0 q b) := by
  pointwise [k0_pay14, duB]

theorem st2 (v : FVec Ideal S256x1024 .f32) (x : Vec Ideal S256x1024 .f32) (g u : Vec Ideal S1x256x704 .bf16) (w wg wu : Vec Ideal S1x704x1024 .bf16) :
    k0_pay26 (k0_pay2 x) v (k0_pay15 g) (k0_pay16 u) (k0_pay17 g) (k0_pay18 g) (k0_pay20 w) wg wu = k0_pay14 v (k0_pay7 g) (k0_pay9 x w) (k0_pay10 x g u w) wg wu := rfl
theorem st3 (v : FVec Ideal S256x1024 .f32) (x : Vec Ideal S256x1024 .f32) (g u : Vec Ideal S1x256x704 .bf16) (w wg wu : Vec Ideal S1x704x1024 .bf16) :
    k0_pay38 (k0_pay2 x) v (k0_pay27 g) (k0_pay28 u) (k0_pay29 g) (k0_pay30 g) w wg wu = k0_pay14 v (k0_pay7 g) (k0_pay9 x w) (k0_pay10 x g u w) wg wu := rfl
theorem st4 (v : FVec Ideal S256x1024 .f32) (x : Vec Ideal S256x1024 .f32) (g u : Vec Ideal S1x256x704 .bf16) (w wg wu : Vec Ideal S1x704x1024 .bf16) :
    k0_pay50 v (k0_pay45 (k0_pay2 x) g u w) (k0_pay46 (k0_pay2 x) g w) (k0_pay49 wg) wu = k0_pay14 v (k0_pay7 g) (k0_pay9 x w) (k0_pay10 x g u w) wg wu := rfl

/-- One part of a block of tokens, and one part of a weight. -/
abbrev tk (k : ℕ) (inb : ∀ a, ![k, 0, 0] a + ![1, 256, 704] a ≤ S4x256x704.size a) (G : Vec Ideal S4x256x704 .bf16) : Vec Ideal S1x256x704 .bf16 :=
  View.ld G (Rect.unit (s := S4x256x704) ![k, 0, 0] ![1, 256, 704] inb)
abbrev wt (k : ℕ) (inb : ∀ a, ![k, 0, 0] a + ![1, 704, 1024] a ≤ S4x704x1024.size a) (W : Vec Ideal S4x704x1024 .bf16) : Vec Ideal S1x704x1024 .bf16 :=
  View.ld W (Rect.unit (s := S4x704x1024) ![k, 0, 0] ![1, 704, 1024] inb)

/-- Loads of one of the four parts. -/
theorem ld_t (G : Vec Ideal S4x256x704 .bf16) (k : ℕ) (inb : ∀ a, ![k, 0, 0] a + ![1, 256, 704] a ≤ S4x256x704.size a) (h : k < 4)
    (a : Fin 256) (q : Fin 704) : tk k inb G (ix3 0 a q) = G (ix3 ⟨k, h⟩ a q) := by
  refine congrArg G (funext fun x => ?_)
  match x with
  | ⟨0, _⟩ => exact Fin.ext (by simp)
  | ⟨1, _⟩ => exact Fin.ext (by simp)
  | ⟨2, _⟩ => exact Fin.ext (by simp)
theorem ld_w (W : Vec Ideal S4x704x1024 .bf16) (k : ℕ) (inb : ∀ a, ![k, 0, 0] a + ![1, 704, 1024] a ≤ S4x704x1024.size a) (h : k < 4)
    (q : Fin 704) (b : Fin 1024) : wt k inb W (ix3 0 q b) = W (ix3 ⟨k, h⟩ q b) := by
  refine congrArg W (funext fun x => ?_)
  match x with
  | ⟨0, _⟩ => exact Fin.ext (by simp)
  | ⟨1, _⟩ => exact Fin.ext (by simp)
  | ⟨2, _⟩ => exact Fin.ext (by simp)

/-- The products of the first three parts, the last of the third still to come; and the factors of the last part. -/
def d3B (x : Vec Ideal S256x1024 .f32) (G U : Vec Ideal S4x256x704 .bf16) (Wg Wu Wd : Vec Ideal S4x704x1024 .bf16) : FVec Ideal S256x1024 .f32 :=
  k0_pay38 (k0_pay2 x) (k0_pay26 (k0_pay2 x)
    (k0_pay14 k0_pay3 (k0_pay7 (tk 0 inb_S4x256x704_S1x256x704_0_0_0 G)) (k0_pay9 x (wt 0 inb_S4x704x1024_S1x704x1024_0_0_0 Wd)) (k0_pay10 x (tk 0 inb_S4x256x704_S1x256x704_0_0_0 G) (tk 0 inb_S4x256x704_S1x256x704_0_0_0 U) (wt 0 inb_S4x704x1024_S1x704x1024_0_0_0 Wd)) (wt 0 inb_S4x704x1024_S1x704x1024_0_0_0 Wg) (wt 0 inb_S4x704x1024_S1x704x1024_0_0_0 Wu))
    (k0_pay15 (tk 1 inb_S4x256x704_S1x256x704_1_0_0 G)) (k0_pay16 (tk 1 inb_S4x256x704_S1x256x704_1_0_0 U)) (k0_pay17 (tk 1 inb_S4x256x704_S1x256x704_1_0_0 G)) (k0_pay18 (tk 1 inb_S4x256x704_S1x256x704_1_0_0 G)) (k0_pay20 (wt 1 inb_S4x704x1024_S1x704x1024_1_0_0 Wd)) (wt 1 inb_S4x704x1024_S1x704x1024_1_0_0 Wg) (wt 1 inb_S4x704x1024_S1x704x1024_1_0_0 Wu))
    (k0_pay27 (tk 2 inb_S4x256x704_S1x256x704_2_0_0 G)) (k0_pay28 (tk 2 inb_S4x256x704_S1x256x704_2_0_0 U)) (k0_pay29 (tk 2 inb_S4x256x704_S1x256x704_2_0_0 G)) (k0_pay30 (tk 2 inb_S4x256x704_S1x256x704_2_0_0 G)) (wt 2 inb_S4x704x1024_S1x704x1024_2_0_0 Wd) (wt 2 inb_S4x704x1024_S1x704x1024_2_0_0 Wg) (wt 2 inb_S4x704x1024_S1x704x1024_2_0_0 Wu)
abbrev dgB3 (x : Vec Ideal S256x1024 .f32) (G U : Vec Ideal S4x256x704 .bf16) (Wd : Vec Ideal S4x704x1024 .bf16) : FVec Ideal S256x704 .bf16 := k0_pay45 (k0_pay2 x) (tk 3 inb_S4x256x704_S1x256x704_3_0_0 G) (tk 3 inb_S4x256x704_S1x256x704_3_0_0 U) (wt 3 inb_S4x704x1024_S1x704x1024_3_0_0 Wd)
abbrev duB3 (x : Vec Ideal S256x1024 .f32) (G : Vec Ideal S4x256x704 .bf16) (Wd : Vec Ideal S4x704x1024 .bf16) : FVec Ideal S256x704 .bf16 := k0_pay46 (k0_pay2 x) (tk 3 inb_S4x256x704_S1x256x704_3_0_0 G) (wt 3 inb_S4x704x1024_S1x704x1024_3_0_0 Wd)
abbrev wgB3 (Wg : Vec Ideal S4x704x1024 .bf16) : FVec Ideal S704x1024 .bf16 := k0_pay49 (wt 3 inb_S4x704x1024_S1x704x1024_3_0_0 Wg)
abbrev wuB3 (Wu : Vec Ideal S4x704x1024 .bf16) : Vec Ideal S1x704x1024 .bf16 := wt 3 inb_S4x704x1024_S1x704x1024_3_0_0 Wu

/-- The block of the gradient at the normed input. -/
def dhB (x : Vec Ideal S256x1024 .f32) (G U : Vec Ideal S4x256x704 .bf16) (Wg Wu Wd : Vec Ideal S4x704x1024 .bf16) : FVec Ideal S256x1024 .f32 :=
  k0_pay50 (d3B x G U Wg Wu Wd) (dgB3 x G U Wd) (duB3 x G Wd) (wgB3 Wg) (wuB3 Wu)

/-- The gradient at the gated product, of one entry of a block. -/
def dab (x : Vec Ideal S256x1024 .f32) (Wd : Vec Ideal S4x704x1024 .bf16) (c : Fin 4) (a : Fin 256) (q : Fin 704) : EReal :=
  ∑ k : Fin 1024, x (ix2 a k) * Wd (ix3 c q k)
def dgb (x : Vec Ideal S256x1024 .f32) (G U : Vec Ideal S4x256x704 .bf16) (Wd : Vec Ideal S4x704x1024 .bf16) (c : Fin 4) (a : Fin 256) (q : Fin 704) : EReal :=
  dgk (dab x Wd c a q) (G (ix3 c a q)) (U (ix3 c a q))
def dub (x : Vec Ideal S256x1024 .f32) (G : Vec Ideal S4x256x704 .bf16) (Wd : Vec Ideal S4x704x1024 .bf16) (c : Fin 4) (a : Fin 256) (q : Fin 704) : EReal :=
  duk (dab x Wd c a q) (G (ix3 c a q))

theorem pay9_part (x : Vec Ideal S256x1024 .f32) (Wd : Vec Ideal S4x704x1024 .bf16) (k : ℕ) (h : k < 4) (j) (a : Fin 256) (q : Fin 704) :
    k0_pay9 x (wt k j Wd) (ix2 a q) = dab x Wd ⟨k, h⟩ a q := by
  rw [pay9_at]
  exact Finset.sum_congr rfl fun k' _ => congrArg _ (ld_w Wd k j h q k')

theorem dg_part (x : Vec Ideal S256x1024 .f32) (G U : Vec Ideal S4x256x704 .bf16) (Wd : Vec Ideal S4x704x1024 .bf16) (k : ℕ) (h : k < 4) (i j) (a : Fin 256) (q : Fin 704) :
    k0_pay10 x (tk k i G) (tk k i U) (wt k j Wd) (ix2 a q) = dgb x G U Wd ⟨k, h⟩ a q := by
  rw [pay10_at, pay9_part x Wd k h, ld_t G k i h, ld_t U k i h]; rfl

theorem du_part (x : Vec Ideal S256x1024 .f32) (G : Vec Ideal S4x256x704 .bf16) (Wd : Vec Ideal S4x704x1024 .bf16) (k : ℕ) (h : k < 4) (i j) (a : Fin 256) (q : Fin 704) :
    duB x (tk k i G) (wt k j Wd) (ix2 a q) = dub x G Wd ⟨k, h⟩ a q := by
  rw [duB_at, pay9_part x Wd k h, ld_t G k i h]; rfl

theorem act_part (G U : Vec Ideal S4x256x704 .bf16) (k : ℕ) (h : k < 4) (i) (a : Fin 256) (q : Fin 704) :
    k0_pay8 (tk k i G) (tk k i U) (ix3 0 a q) = actk (G (ix3 ⟨k, h⟩ a q)) (U (ix3 ⟨k, h⟩ a q)) := by
  rw [pay8_at, ld_t G k i h, ld_t U k i h]

/-- The four parts as they are stored: the later ones are written with other intermediate names, and are the first one's. -/
theorem sa2 (g u : Vec Ideal S1x256x704 .bf16) : k0_pay19 g u = k0_pay8 g u := rfl
theorem sa3 (g u : Vec Ideal S1x256x704 .bf16) : k0_pay32 (k0_pay31 g u) = k0_pay8 g u := rfl
theorem sa4 (g u : Vec Ideal S1x256x704 .bf16) : k0_pay43 g u = k0_pay8 g u := rfl
theorem sG2 (x : Vec Ideal S256x1024 .f32) (g u : Vec Ideal S1x256x704 .bf16) (w : Vec Ideal S1x704x1024 .bf16) :
    k0_pay24 (k0_pay2 x) (k0_pay15 g) (k0_pay16 u) (k0_pay17 g) (k0_pay20 w) = k0_pay12 (k0_pay10 x g u w) := rfl
theorem sG3 (x : Vec Ideal S256x1024 .f32) (g u : Vec Ideal S1x256x704 .bf16) (w : Vec Ideal S1x704x1024 .bf16) :
    k0_pay36 (k0_pay2 x) (k0_pay27 g) (k0_pay28 u) (k0_pay29 g) w = k0_pay12 (k0_pay10 x g u w) := rfl
theorem sG4 (x : Vec Ideal S256x1024 .f32) (g u : Vec Ideal S1x256x704 .bf16) (w : Vec Ideal S1x704x1024 .bf16) :
    k0_pay47 (k0_pay2 x) g u w = k0_pay12 (k0_pay10 x g u w) := rfl
theorem sU1 (x : Vec Ideal S256x1024 .f32) (g : Vec Ideal S1x256x704 .bf16) (w : Vec Ideal S1x704x1024 .bf16) :
    k0_pay13 (k0_pay7 g) (k0_pay9 x w) = k0_pay12 (duB x g w) := rfl
theorem sU2 (x : Vec Ideal S256x1024 .f32) (g : Vec Ideal S1x256x704 .bf16) (w : Vec Ideal S1x704x1024 .bf16) :
    k0_pay25 (k0_pay2 x) (k0_pay18 g) (k0_pay20 w) = k0_pay12 (duB x g w) := rfl
theorem sU3 (x : Vec Ideal S256x1024 .f32) (g : Vec Ideal S1x256x704 .bf16) (w : Vec Ideal S1x704x1024 .bf16) :
    k0_pay37 (k0_pay2 x) (k0_pay30 g) w = k0_pay12 (duB x g w) := rfl
theorem sU4 (x : Vec Ideal S256x1024 .f32) (g : Vec Ideal S1x256x704 .bf16) (w : Vec Ideal S1x704x1024 .bf16) :
    k0_pay48 (k0_pay2 x) g w = k0_pay12 (duB x g w) := rfl

/-- The stores of one point into each of the three tiled results of the gate. -/
abbrev actL (G U : Vec Ideal S4x256x704 .bf16) : List (View.Piece (Elt Ideal) S4x256x704 .bf16) :=
  [⟨Rect.unit (s := S4x256x704) ![3, 0, 0] S1x256x704.size inb_S4x256x704_S1x256x704_3_0_0, k0_pay43 (tk 3 inb_S4x256x704_S1x256x704_3_0_0 G) (tk 3 inb_S4x256x704_S1x256x704_3_0_0 U)⟩,
   ⟨Rect.unit (s := S4x256x704) ![2, 0, 0] S1x256x704.size inb_S4x256x704_S1x256x704_2_0_0, k0_pay32 (k0_pay31 (tk 2 inb_S4x256x704_S1x256x704_2_0_0 G) (tk 2 inb_S4x256x704_S1x256x704_2_0_0 U))⟩,
   ⟨Rect.unit (s := S4x256x704) ![1, 0, 0] S1x256x704.size inb_S4x256x704_S1x256x704_1_0_0, k0_pay19 (tk 1 inb_S4x256x704_S1x256x704_1_0_0 G) (tk 1 inb_S4x256x704_S1x256x704_1_0_0 U)⟩,
   ⟨Rect.unit (s := S4x256x704) ![0, 0, 0] S1x256x704.size inb_S4x256x704_S1x256x704_0_0_0, k0_pay8 (tk 0 inb_S4x256x704_S1x256x704_0_0_0 G) (tk 0 inb_S4x256x704_S1x256x704_0_0_0 U)⟩]
abbrev dgL (x : Vec Ideal S256x1024 .f32) (G U : Vec Ideal S4x256x704 .bf16) (Wd : Vec Ideal S4x704x1024 .bf16) : List (View.Piece (Elt Ideal) S4x256x704 .bf16) :=
  [⟨Rect.unit (s := S4x256x704) ![3, 0, 0] S1x256x704.size inb_S4x256x704_S1x256x704_3_0_0, k0_pay47 (k0_pay2 x) (tk 3 inb_S4x256x704_S1x256x704_3_0_0 G) (tk 3 inb_S4x256x704_S1x256x704_3_0_0 U) (wt 3 inb_S4x704x1024_S1x704x1024_3_0_0 Wd)⟩,
   ⟨Rect.unit (s := S4x256x704) ![2, 0, 0] S1x256x704.size inb_S4x256x704_S1x256x704_2_0_0, k0_pay36 (k0_pay2 x) (k0_pay27 (tk 2 inb_S4x256x704_S1x256x704_2_0_0 G)) (k0_pay28 (tk 2 inb_S4x256x704_S1x256x704_2_0_0 U)) (k0_pay29 (tk 2 inb_S4x256x704_S1x256x704_2_0_0 G)) (wt 2 inb_S4x704x1024_S1x704x1024_2_0_0 Wd)⟩,
   ⟨Rect.unit (s := S4x256x704) ![1, 0, 0] S1x256x704.size inb_S4x256x704_S1x256x704_1_0_0, k0_pay24 (k0_pay2 x) (k0_pay15 (tk 1 inb_S4x256x704_S1x256x704_1_0_0 G)) (k0_pay16 (tk 1 inb_S4x256x704_S1x256x704_1_0_0 U)) (k0_pay17 (tk 1 inb_S4x256x704_S1x256x704_1_0_0 G)) (k0_pay20 (wt 1 inb_S4x704x1024_S1x704x1024_1_0_0 Wd))⟩,
   ⟨Rect.unit (s := S4x256x704) ![0, 0, 0] S1x256x704.size inb_S4x256x704_S1x256x704_0_0_0, k0_pay12 (k0_pay10 x (tk 0 inb_S4x256x704_S1x256x704_0_0_0 G) (tk 0 inb_S4x256x704_S1x256x704_0_0_0 U) (wt 0 inb_S4x704x1024_S1x704x1024_0_0_0 Wd))⟩]
abbrev duL (x : Vec Ideal S256x1024 .f32) (G : Vec Ideal S4x256x704 .bf16) (Wd : Vec Ideal S4x704x1024 .bf16) : List (View.Piece (Elt Ideal) S4x256x704 .bf16) :=
  [⟨Rect.unit (s := S4x256x704) ![3, 0, 0] S1x256x704.size inb_S4x256x704_S1x256x704_3_0_0, k0_pay48 (k0_pay2 x) (tk 3 inb_S4x256x704_S1x256x704_3_0_0 G) (wt 3 inb_S4x704x1024_S1x704x1024_3_0_0 Wd)⟩,
   ⟨Rect.unit (s := S4x256x704) ![2, 0, 0] S1x256x704.size inb_S4x256x704_S1x256x704_2_0_0, k0_pay37 (k0_pay2 x) (k0_pay30 (tk 2 inb_S4x256x704_S1x256x704_2_0_0 G)) (wt 2 inb_S4x704x1024_S1x704x1024_2_0_0 Wd)⟩,
   ⟨Rect.unit (s := S4x256x704) ![1, 0, 0] S1x256x704.size inb_S4x256x704_S1x256x704_1_0_0, k0_pay25 (k0_pay2 x) (k0_pay18 (tk 1 inb_S4x256x704_S1x256x704_1_0_0 G)) (k0_pay20 (wt 1 inb_S4x704x1024_S1x704x1024_1_0_0 Wd))⟩,
   ⟨Rect.unit (s := S4x256x704) ![0, 0, 0] S1x256x704.size inb_S4x256x704_S1x256x704_0_0_0, k0_pay13 (k0_pay7 (tk 0 inb_S4x256x704_S1x256x704_0_0_0 G)) (k0_pay9 x (wt 0 inb_S4x704x1024_S1x704x1024_0_0_0 Wd))⟩]

theorem act_all (G U : Vec Ideal S4x256x704 .bf16) (p : Fin 4) (a : Fin 256) (q : Fin 704) :
    View.canon (actL G U) (ix3 p a q) = actk (G (ix3 p a q)) (U (ix3 p a q)) := by
  refine Rows.canon_parts (Val := Elt Ideal) (e := .bf16) (A := 256) (C := 704) _ _ _ _ _ _ _ _ _ p a q (fun p => actk (G (ix3 p a q)) (U (ix3 p a q))) ?_ ?_ ?_ ?_
  · exact act_part G U 0 (by norm_num) _ a q
  · rw [sa2]; exact act_part G U 1 (by norm_num) _ a q
  · rw [sa3]; exact act_part G U 2 (by norm_num) _ a q
  · rw [sa4]; exact act_part G U 3 (by norm_num) _ a q
theorem dg_all (x : Vec Ideal S256x1024 .f32) (G U : Vec Ideal S4x256x704 .bf16) (Wd : Vec Ideal S4x704x1024 .bf16) (p : Fin 4) (a : Fin 256) (q : Fin 704) :
    View.canon (dgL x G U Wd) (ix3 p a q) = dgb x G U Wd p a q := by
  refine Rows.canon_parts (Val := Elt Ideal) (e := .bf16) (A := 256) (C := 704) _ _ _ _ _ _ _ _ _ p a q (fun p => dgb x G U Wd p a q) ?_ ?_ ?_ ?_
  · rw [up_at]; exact dg_part x G U Wd 0 (by norm_num) _ _ a q
  · rw [sG2, up_at]; exact dg_part x G U Wd 1 (by norm_num) _ _ a q
  · rw [sG3, up_at]; exact dg_part x G U Wd 2 (by norm_num) _ _ a q
  · rw [sG4, up_at]; exact dg_part x G U Wd 3 (by norm_num) _ _ a q
theorem du_all (x : Vec Ideal S256x1024 .f32) (G : Vec Ideal S4x256x704 .bf16) (Wd : Vec Ideal S4x704x1024 .bf16) (p : Fin 4) (a : Fin 256) (q : Fin 704) :
    View.canon (duL x G Wd) (ix3 p a q) = dub x G Wd p a q := by
  refine Rows.canon_parts (Val := Elt Ideal) (e := .bf16) (A := 256) (C := 704) _ _ _ _ _ _ _ _ _ p a q (fun p => dub x G Wd p a q) ?_ ?_ ?_ ?_
  · rw [sU1, up_at]; exact du_part x G Wd 0 (by norm_num) _ _ a q
  · rw [sU2, up_at]; exact du_part x G Wd 1 (by norm_num) _ _ a q
  · rw [sU3, up_at]; exact du_part x G Wd 2 (by norm_num) _ _ a q
  · rw [sU4, up_at]; exact du_part x G Wd 3 (by norm_num) _ _ a q

theorem pay3_at (y) : k0_pay3 (F := Ideal) y = 0 := by
  obtain ⟨i, j, rfl⟩ : ∃ (i : Fin 256) (j : Fin 1024), y = ix2 i j := ⟨y 0, y 1, eq_ix2 y⟩
  pointwise [k0_pay3]

/-- The eight products are the two of the reference. -/
theorem dhB_at (x : Vec Ideal S256x1024 .f32) (G U : Vec Ideal S4x256x704 .bf16) (Wg Wu Wd : Vec Ideal S4x704x1024 .bf16)
    (DG DU : Fin 2816 → EReal) (Wg' Wu' : Fin 2816 → EReal) (a : Fin 256) (b : Fin 1024) (hG : ∀ c q, dgb x G U Wd c a q = DG (col c q)) (hU : ∀ c q, dub x G Wd c a q = DU (col c q))
    (hg : ∀ c q, Wg (ix3 c q b) = Wg' (col c q)) (hu : ∀ c q, Wu (ix3 c q b) = Wu' (col c q)) :
    dhB x G U Wg Wu Wd (ix2 a b) = ∑ k : Fin 2816, DU k * Wu' k + ∑ k : Fin 2816, DG k * Wg' k := by
  unfold dhB d3B
  rw [st4, two_at, st3, two_at, st2, two_at, two_at, pay3_at, zero_add]
  simp only [dg_part x G U Wd 0 (by norm_num), dg_part x G U Wd 1 (by norm_num), dg_part x G U Wd 2 (by norm_num), dg_part x G U Wd 3 (by norm_num),
    du_part x G Wd 0 (by norm_num), du_part x G Wd 1 (by norm_num), du_part x G Wd 2 (by norm_num), du_part x G Wd 3 (by norm_num),
    ld_w Wg 0 _ (by norm_num), ld_w Wg 1 _ (by norm_num), ld_w Wg 2 _ (by norm_num), ld_w Wg 3 _ (by norm_num),
    ld_w Wu 0 _ (by norm_num), ld_w Wu 1 _ (by norm_num), ld_w Wu 2 _ (by norm_num), ld_w Wu 3 _ (by norm_num), hG, hU, hg, hu]
  rw [Rows.sum_quarters 704 (by norm_num) (fun k : Fin 2816 => DU k * Wu' k), Rows.sum_quarters 704 (by norm_num) (fun k : Fin 2816 => DG k * Wg' k)]
  have e0 : ∀ q : Fin 704, col 0 q = ⟨q.val, by omega⟩ := fun q => Fin.ext (by simp)
  have e1 : ∀ q : Fin 704, col 1 q = ⟨704 + q.val, by omega⟩ := fun q => Fin.ext (by simp)
  have e2 : ∀ q : Fin 704, col 2 q = ⟨704 + 704 + q.val, by omega⟩ := fun q => Fin.ext (by simp)
  have e3 : ∀ q : Fin 704, col 3 q = ⟨704 + 704 + 704 + q.val, by omega⟩ := fun q => Fin.ext (by simp)
  simp only [← e0, ← e1, ← e2, ← e3]
  have f0 : (⟨0, by norm_num⟩ : Fin 4) = 0 := rfl
  have f1 : (⟨1, by norm_num⟩ : Fin 4) = 1 := rfl
  have f2 : (⟨2, by norm_num⟩ : Fin 4) = 2 := rfl
  have f3 : (⟨3, by norm_num⟩ : Fin 4) = 3 := rfl
  simp only [f0, f1, f2, f3]
  abel

theorem pay51_at (P : Vec Ideal S256x1024 .f32) (a : Fin 256) : k0_pay51 P (ix2 a 0) = Norm.rinv (fun k => P (ix2 a k)) := by
  pointwise [k0_pay51, Norm.rinv, Norm.msq]

theorem pay54_at (D2 : Vec Ideal S256x1024 .f32) (v131 : FVec Ideal S256x1024 .f32) (v156 v158 : FVec Ideal S256x704 .bf16) (v166 : FVec Ideal S704x1024 .bf16)
    (v169 : Vec Ideal S1x704x1024 .bf16) (X : Vec Ideal S256x1024 .f32) (g : Vec Ideal S1x1024 .f32) (a : Fin 256) (b : Fin 1024) :
    k0_pay54 D2 v131 v156 v158 v166 v169 X g (ix2 a b)
      = D2 (ix2 a b) + Norm.bwdK (fun k => X (ix2 a k)) (fun k => k0_pay50 v131 v156 v158 v166 v169 (ix2 a k) * g (ix2 0 k)) b := by
  have e : k0_pay54 D2 v131 v156 v158 v166 v169 X g (ix2 a b) = D2 (ix2 a b) + k0_pay51 X (ix2 a 0) *
      (k0_pay50 v131 v156 v158 v166 v169 (ix2 a b) * g (ix2 0 b) - X (ix2 a b) * k0_pay51 X (ix2 a 0) *
        Ideal.div (∑ k : Fin 1024, k0_pay50 v131 v156 v158 v166 v169 (ix2 a k) * g (ix2 0 k) * (X (ix2 a k) * k0_pay51 X (ix2 a 0))) (Ideal.ofBits .f32 0x44800000#32)) := by
    pointwise [k0_pay54, k0_pay52]
  rw [e, pay51_at]
  rfl

theorem pay53_at (v131 : FVec Ideal S256x1024 .f32) (v156 v158 : FVec Ideal S256x704 .bf16) (v166 : FVec Ideal S704x1024 .bf16)
    (v169 : Vec Ideal S1x704x1024 .bf16) (X : Vec Ideal S256x1024 .f32) (P : Vec Ideal S1x1024 .f32) (q : Fin 1024) :
    k0_pay53 v131 v156 v158 v166 v169 X P (ix2 0 q)
      = P (ix2 0 q) + ∑ a : Fin 256, Cert.InprojIdeal.Value.dgT (fun k => X (ix2 a k)) (fun k => k0_pay50 v131 v156 v158 v166 v169 (ix2 a k)) q := by
  have e : k0_pay53 v131 v156 v158 v166 v169 X P (ix2 0 q) = P (ix2 0 q) + ∑ a : Fin 256, k0_pay50 v131 v156 v158 v166 v169 (ix2 a q) * (X (ix2 a q) * k0_pay51 X (ix2 a 0)) := by
    pointwise [k0_pay53, k0_pay52]
  rw [e]
  simp only [pay51_at]
  rfl

theorem pay1_at (p : Fin 8) (q : Fin 1024) : k0_pay1 (F := Ideal) (ix2 p q) = 0 := by
  pointwise [k0_pay1]

end Cert.FfnIdeal.Value

end
-- ==== Proof.Ffn.lean ====
module

public import proofs.«01_k».proof.Proof.Gen.FfnIdeal.Frame
public import proofs.«01_k».proof.Proof.FfnMath
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

/-! # The feed-forward block's backward call: its results

Each block of the four tiled results is the reference's, and the row sum, added up over the blocks, is the reference's sum
over all rows. -/

namespace Cert.FfnIdeal.Value
open Cert.FfnIdeal Cert.FfnIdeal.Gen

variable (m : (ℓ : Loc nD τ sig) → Buf (Elt Ideal) ℓ)

theorem idxs : ∀ t : Fin cfg0.N, win0_0.index t = ![t.val, 0] ∧ win0_1.index t = ![t.val, 0] ∧ win0_2.index t = ![0, t.val, 0] ∧ win0_3.index t = ![0, t.val, 0]
    ∧ win0_4.index t = ![0, 0] ∧ win0_5.index t = ![t.val, 0] ∧ win0_6.index t = ![0, t.val, 0] ∧ win0_7.index t = ![0, t.val, 0] ∧ win0_8.index t = ![0, t.val, 0]
    ∧ win0_9.index t = ![0, 0] := (by decide +kernel : ∀ t : Fin grid0.N, _)

/-- The reference's arguments and its terms of the whole arrays. -/
abbrev aX (c : Dev nD) : FVec Ideal S2048x1024 .f32 := m ((c : Thread nD τ).loc main_arg0)
abbrev aD (c : Dev nD) : FVec Ideal S2048x1024 .f32 := m ((c : Thread nD τ).loc main_arg1)
abbrev ag (c : Dev nD) : FVec Ideal S1x1024 .f32 := m ((c : Thread nD τ).loc main_arg2)
abbrev aWg (c : Dev nD) : FVec Ideal S1024x2816 .f32 := m ((c : Thread nD τ).loc main_arg3)
abbrev aWu (c : Dev nD) : FVec Ideal S1024x2816 .f32 := m ((c : Thread nD τ).loc main_arg4)
abbrev aWd (c : Dev nD) : FVec Ideal S2816x1024 .f32 := m ((c : Thread nD τ).loc main_arg5)
abbrev GM (c : Dev nD) : FVec Ideal S2048x2816 .f32 := guR (aX m c) (ag m c) (aWg m c)
abbrev UM (c : Dev nD) : FVec Ideal S2048x2816 .f32 := guR (aX m c) (ag m c) (aWu m c)
abbrev AM (c : Dev nD) : FVec Ideal S2048x2816 .f32 := daR (aD m c) (aWd m c)
abbrev DGM (c : Dev nD) : FVec Ideal S2048x2816 .f32 := dgateR (GM m c) (UM m c) (AM m c)
abbrev DUM (c : Dev nD) : FVec Ideal S2048x2816 .f32 := duR (GM m c) (AM m c)
abbrev dhM (c : Dev nD) : FVec Ideal S2048x1024 .f32 := dh2R (DGM m c) (DUM m c) (aWg m c) (aWu m c)

/-! ## What the call is given -/

/-- The gate's input and the other factor, made on the host. -/
theorem V_g (c : Dev nD) : V m c main_v15 = cutR (GM m c) := by
  funext y
  entry_read
  rfl
theorem V_u (c : Dev nD) : V m c main_v19 = cutR (UM m c) := by
  funext y
  entry_read
  rfl

/-- The weights as the kernel takes them: their columns, or rows, in four parts. -/
theorem V_wg (c : Dev nD) (k : Fin 4) (q : Fin 704) (b : Fin 1024) : V m c main_v22 (ix3 k q b) = aWg m c (ix2 b (col k q)) := by
  entry_read
  pointwise []
  exact congrArg (aWg m c) (congrArg (ix2 b) (Fin.ext (by simp; omega)))
theorem V_wu (c : Dev nD) (k : Fin 4) (q : Fin 704) (b : Fin 1024) : V m c main_v25 (ix3 k q b) = aWu m c (ix2 b (col k q)) := by
  entry_read
  pointwise []
  exact congrArg (aWu m c) (congrArg (ix2 b) (Fin.ext (by simp; omega)))
theorem V_wd (c : Dev nD) (k : Fin 4) (q : Fin 704) (b : Fin 1024) : V m c main_v27 (ix3 k q b) = aWd m c (ix2 (col k q) b) := by
  entry_read
  pointwise []
  exact congrArg (aWd m c) (congrArg (fun z => ix2 z b) (Fin.ext (by simp; omega)))

theorem blk0 (c : Dev nD) (t : Fin cfg0.N) (a : Fin 256) (b : Fin 1024) (i : Fin 2048) (hi : i.val = 256 * t.val + a.val) : iblk m c 0 t (ix2 a b) = aX m c (ix2 i b) := by
  blk_ext [iblk, V, idxs t]
theorem blk1 (c : Dev nD) (t : Fin cfg0.N) (a : Fin 256) (b : Fin 1024) (i : Fin 2048) (hi : i.val = 256 * t.val + a.val) : iblk m c 1 t (ix2 a b) = aD m c (ix2 i b) := by
  blk_ext [iblk, V, idxs t]
theorem blk4 (c : Dev nD) (t : Fin cfg0.N) (a : Fin 1) (b : Fin 1024) : iblk m c 4 t (ix2 a b) = ag m c (ix2 a b) := by
  blk_ext! [iblk, V, idxs t]

theorem emb2 (t : Fin cfg0.N) (p : Fin 4) (a : Fin 256) (b : Fin 704) (i : Fin 2048) (hi : i.val = 256 * t.val + a.val) :
    ((cfg0.win 2).blk t).view.emb (ix3 p a b) = ix3 p i b := by
  funext x
  match x with
  | ⟨0, _⟩ => exact Fin.ext (by blk_simp [idxs t])
  | ⟨1, _⟩ => exact Fin.ext (by blk_simp [idxs t]; omega)
  | ⟨2, _⟩ => exact Fin.ext (by blk_simp [idxs t])
theorem emb3 (t : Fin cfg0.N) (p : Fin 4) (a : Fin 256) (b : Fin 704) (i : Fin 2048) (hi : i.val = 256 * t.val + a.val) :
    ((cfg0.win 3).blk t).view.emb (ix3 p a b) = ix3 p i b := by
  funext x
  match x with
  | ⟨0, _⟩ => exact Fin.ext (by blk_simp [idxs t])
  | ⟨1, _⟩ => exact Fin.ext (by blk_simp [idxs t]; omega)
  | ⟨2, _⟩ => exact Fin.ext (by blk_simp [idxs t])

theorem blk2 (c : Dev nD) (t : Fin cfg0.N) (p : Fin 4) (a : Fin 256) (b : Fin 704) (i : Fin 2048) (hi : i.val = 256 * t.val + a.val) :
    iblk m c 2 t (ix3 p a b) = GM m c (ix2 i (col p b)) := by
  show V m c main_v15 (((cfg0.win 2).blk t).view.emb (ix3 p a b)) = _
  rw [emb2 t p a b i hi, V_g, cutR_at]
theorem blk3 (c : Dev nD) (t : Fin cfg0.N) (p : Fin 4) (a : Fin 256) (b : Fin 704) (i : Fin 2048) (hi : i.val = 256 * t.val + a.val) :
    iblk m c 3 t (ix3 p a b) = UM m c (ix2 i (col p b)) := by
  show V m c main_v19 (((cfg0.win 3).blk t).view.emb (ix3 p a b)) = _
  rw [emb3 t p a b i hi, V_u, cutR_at]

/-! ## The weights in scratch -/

theorem canon_w (v) (w : Vec Ideal S4x704x1024 .bf16) (h : w = v) : View.canon [⟨Rect.whole S4x704x1024, w⟩] = v := by
  subst h
  exact Rows.canon_all _

/-- The three weights in scratch. -/
abbrev ScrIs (c : Dev nD) (x : Vec Ideal S4x704x1024 .bf16 × Vec Ideal S4x704x1024 .bf16 × Vec Ideal S4x704x1024 .bf16) : Prop :=
  x = (V m c main_v22, V m c main_v25, V m c main_v27)

abbrev cwg (c : Dev nD) := canon_w (V m c main_v22) (ReadAs.same.apply (View.read (Elt Ideal) (View.whole main_v22) (V m c main_v22))) rfl
abbrev cwu (c : Dev nD) := canon_w (V m c main_v25) (ReadAs.same.apply (View.read (Elt Ideal) (View.whole main_v25) (V m c main_v25))) rfl
abbrev cwd (c : Dev nD) := canon_w (V m c main_v27) (ReadAs.same.apply (View.read (Elt Ideal) (View.whole main_v27) (V m c main_v27))) rfl

theorem scrA (c : Dev nD) (t : Fin cfg0.N) (h0 : t.val % 8 = 0) : ScrIs m c (outsAt0 m c t.val t.isLt).2.2.2.2.2 := by
  rw [outsAt0_A m c t h0 h0]
  refine Prod.ext ?_ (Prod.ext ?_ ?_)
  · funext y
    frame_out
    rw [cwg m c]
  · funext y
    frame_out
    rw [cwu m c]
  · funext y
    frame_out
    rw [cwd m c]

theorem scrB (c : Dev nD) (t : Fin cfg0.N) (h0 : ¬t.val % 8 = 0) :
    (outsAt0 m c t.val t.isLt).2.2.2.2.2 = (outsAt0 m c (t.val - 1) (Nat.lt_of_le_of_lt (Nat.sub_le _ _) t.isLt)).2.2.2.2.2 := by
  rw [outsAt0_B m c t h0 h0]
  unfold sout0_B_0 sout0_B_1 sout0_B_2
  rfl

/-- They are there after every point. -/
theorem scr (c : Dev nD) (n : ℕ) (h : n < cfg0.N) : ScrIs m c (outsAt0 m c n h).2.2.2.2.2 := by
  induction n with
  | zero => exact scrA m c ⟨0, h⟩ rfl
  | succ n ih =>
    have h0 : ¬ (n + 1) % 8 = 0 := by have : n + 1 < 8 := h; omega
    exact (scrB m c ⟨n + 1, h⟩ h0).trans (ih _)
theorem sg (c : Dev nD) (n : ℕ) (h : n < cfg0.N) : (outsAt0 m c n h).2.2.2.2.2.1 = V m c main_v22 := congrArg (fun x => x.1) (scr m c n h)
theorem su (c : Dev nD) (n : ℕ) (h : n < cfg0.N) : (outsAt0 m c n h).2.2.2.2.2.2.1 = V m c main_v25 := congrArg (fun x => x.2.1) (scr m c n h)
theorem sd (c : Dev nD) (n : ℕ) (h : n < cfg0.N) : (outsAt0 m c n h).2.2.2.2.2.2.2 = V m c main_v27 := congrArg (fun x => x.2.2) (scr m c n h)

/-! ## What each point leaves -/

theorem act_at (c : Dev nD) (t : Fin cfg0.N) (y) : (outsAt0 m c t.val t.isLt).2.1 y = View.canon (actL (iblk m c 2 t) (iblk m c 3 t)) y := by
  by_cases h0 : t.val % 8 = 0
  · rw [outsAt0_A m c t h0 h0]
    frame_out
  · rw [outsAt0_B m c t h0 h0]
    frame_out

theorem dg_at (c : Dev nD) (t : Fin cfg0.N) (y) :
    (outsAt0 m c t.val t.isLt).2.2.1 y = View.canon (dgL (iblk m c 1 t) (iblk m c 2 t) (iblk m c 3 t) (V m c main_v27)) y := by
  by_cases h0 : t.val % 8 = 0
  · rw [outsAt0_A m c t h0 h0]
    frame_out
    rw [Rows.rd, Rows.rd, Rows.rd, Rows.rd, cwd m c]
  · rw [outsAt0_B m c t h0 h0]
    frame_out
    rw [read_unread_whole, sd m c]

theorem du_at (c : Dev nD) (t : Fin cfg0.N) (y) :
    (outsAt0 m c t.val t.isLt).2.2.2.1 y = View.canon (duL (iblk m c 1 t) (iblk m c 2 t) (V m c main_v27)) y := by
  by_cases h0 : t.val % 8 = 0
  · rw [outsAt0_A m c t h0 h0]
    frame_out
    rw [Rows.rd, Rows.rd, Rows.rd, Rows.rd, cwd m c]
  · rw [outsAt0_B m c t h0 h0]
    frame_out
    rw [read_unread_whole, sd m c]

/-- The block of the gradient at the normed input. -/
abbrev dhT (c : Dev nD) (t : Fin cfg0.N) : FVec Ideal S256x1024 .f32 :=
  dhB (iblk m c 1 t) (iblk m c 2 t) (iblk m c 3 t) (V m c main_v22) (V m c main_v25) (V m c main_v27)

/-- The block of the gradient of the input. -/
def gxT (c : Dev nD) (t : Fin cfg0.N) : FVec Ideal S256x1024 .f32 :=
  k0_pay54 (iblk m c 1 t) (d3B (iblk m c 1 t) (iblk m c 2 t) (iblk m c 3 t) (V m c main_v22) (V m c main_v25) (V m c main_v27))
    (dgB3 (iblk m c 1 t) (iblk m c 2 t) (iblk m c 3 t) (V m c main_v27)) (duB3 (iblk m c 1 t) (iblk m c 2 t) (V m c main_v27)) (wgB3 (V m c main_v22)) (wuB3 (V m c main_v25))
    (iblk m c 0 t) (iblk m c 4 t)

theorem gx_A (c : Dev nD) (t : Fin cfg0.N) (h0 : t.val % 8 = 0) (y) : (outsAt0 m c t.val t.isLt).1 y = gxT m c t y := by
  rw [outsAt0_A m c t h0 h0]
  frame_out
  simp only [Rows.rd]
  rw [cwg m c, cwu m c, cwd m c]
  rfl
theorem gx_B (c : Dev nD) (t : Fin cfg0.N) (h0 : ¬t.val % 8 = 0) (y) : (outsAt0 m c t.val t.isLt).1 y = gxT m c t y := by
  rw [outsAt0_B m c t h0 h0]
  frame_out
  simp only [Rows.rd, read_unread_whole]
  rw [sg m c, su m c, sd m c]
  rfl

/-- One block's part of the row sum. -/
def dgS (c : Dev nD) (t : Fin cfg0.N) (q : Fin 1024) : EReal :=
  ∑ a : Fin 256, Cert.InprojIdeal.Value.dgT (fun k => iblk m c 0 t (ix2 a k)) (fun k => dhT m c t (ix2 a k)) q

theorem dgn_A (c : Dev nD) (t : Fin cfg0.N) (h0 : t.val % 8 = 0) (p : Fin 8) (q : Fin 1024) : (outsAt0 m c t.val t.isLt).2.2.2.2.1 (ix2 p q)
    = 0 + if p.val = 0 then dgS m c t q else 0 := by
  rw [outsAt0_A m c t h0 h0]
  frame_out
  simp only [Rows.rd]
  rw [cwg m c, cwu m c, cwd m c]
  refine (Rows.canon_row 0 _ _ _ p q).trans ?_
  rw [Rows.canon_fill]
  split_ifs with hp
  · refine (pay53_at _ _ _ _ _ (iblk m c 0 t) _ q).trans ?_
    rw [Rows.ld_row 0 _ _ p hp q, pay1_at]
    rfl
  · rw [pay1_at, add_zero]
theorem dgn_B (c : Dev nD) (t : Fin cfg0.N) (h0 : ¬t.val % 8 = 0) (p : Fin 8) (q : Fin 1024) : (outsAt0 m c t.val t.isLt).2.2.2.2.1 (ix2 p q)
    = (outsAt0 m c (t.val - 1) (Nat.lt_of_le_of_lt (Nat.sub_le _ _) t.isLt)).2.2.2.2.1 (ix2 p q) + if p.val = 0 then dgS m c t q else 0 := by
  rw [outsAt0_B m c t h0 h0]
  frame_out
  simp only [Rows.rd, read_unread_whole]
  rw [sg m c, su m c, sd m c]
  refine (Rows.read_row _ _ _ 0 _ _ _ p q).trans ?_
  split_ifs with hp
  · refine (pay53_at _ _ _ _ _ (iblk m c 0 t) _ q).trans ?_
    rw [Rows.ld_row 0 _ _ p hp q]
    rfl
  · rw [add_zero, View.writes_nil, Memref.IsWhole.read_unread]

/-! ## A block is the reference's -/

section
variable (c : Dev nD) (t : Fin cfg0.N) (a : Fin 256) (i : Fin 2048) (hi : i.val = 256 * t.val + a.val)
include hi

theorem dab_eq (p : Fin 4) (q : Fin 704) : dab (iblk m c 1 t) (V m c main_v27) p a q = AM m c (ix2 i (col p q)) := by
  refine Eq.trans ?_ (daR_at (aD m c) (aWd m c) i (col p q)).symm
  exact Finset.sum_congr rfl fun k _ => by rw [blk1 m c t a k i hi, V_wd]

theorem dub_eq (p : Fin 4) (q : Fin 704) : dub (iblk m c 1 t) (iblk m c 2 t) (V m c main_v27) p a q = DUM m c (ix2 i (col p q)) := by
  refine Eq.trans ?_ (duR_at (GM m c) (AM m c) i (col p q)).symm
  rw [dub, dab_eq m c t a i hi, blk2 m c t p a q i hi]

theorem dgb_eq (hX : ∀ y, Norm.Fin' (aX m c y)) (hD : ∀ y, Norm.Fin' (aD m c y)) (hg : ∀ y, Norm.Fin' (ag m c y))
    (hWg : ∀ y, Norm.Fin' (aWg m c y)) (hWu : ∀ y, Norm.Fin' (aWu m c y)) (hWd : ∀ y, Norm.Fin' (aWd m c y)) (p : Fin 4) (q : Fin 704) :
    dgb (iblk m c 1 t) (iblk m c 2 t) (iblk m c 3 t) (V m c main_v27) p a q = DGM m c (ix2 i (col p q)) := by
  refine Eq.trans ?_ (dgateR_at (GM m c) (UM m c) (AM m c) i (col p q) (fin_da _ _ hD hWd _ _) (fin_gu _ _ _ hX hg hWg _ _) (fin_gu _ _ _ hX hg hWu _ _)).symm
  rw [dgb, dab_eq m c t a i hi, blk2 m c t p a q i hi,
    blk3 m c t p a q i hi]

theorem dhT_at (hX : ∀ y, Norm.Fin' (aX m c y)) (hD : ∀ y, Norm.Fin' (aD m c y)) (hg : ∀ y, Norm.Fin' (ag m c y))
    (hWg : ∀ y, Norm.Fin' (aWg m c y)) (hWu : ∀ y, Norm.Fin' (aWu m c y)) (hWd : ∀ y, Norm.Fin' (aWd m c y)) (b : Fin 1024) :
    dhT m c t (ix2 a b) = dhM m c (ix2 i b) := by
  refine Eq.trans ?_ (dh2R_at (DGM m c) (DUM m c) (aWg m c) (aWu m c) i b).symm
  exact dhB_at _ _ _ _ _ _ (fun k => DGM m c (ix2 i k)) (fun k => DUM m c (ix2 i k)) (fun k => aWg m c (ix2 b k)) (fun k => aWu m c (ix2 b k)) a b
    (fun p q => dgb_eq m c t a i hi hX hD hg hWg hWu hWd p q) (fun p q => dub_eq m c t a i hi p q) (fun p q => V_wg m c p q b) (fun p q => V_wu m c p q b)

end

theorem fin_dh (c : Dev nD) (hX : ∀ y, Norm.Fin' (aX m c y)) (hD : ∀ y, Norm.Fin' (aD m c y)) (hg : ∀ y, Norm.Fin' (ag m c y))
    (hWg : ∀ y, Norm.Fin' (aWg m c y)) (hWu : ∀ y, Norm.Fin' (aWu m c y)) (hWd : ∀ y, Norm.Fin' (aWd m c y)) (y) : Norm.Fin' (dhM m c y) := by
  obtain ⟨i, j, rfl⟩ : ∃ (i : Fin 2048) (j : Fin 1024), y = ix2 i j := ⟨y 0, y 1, eq_ix2 y⟩
  rw [show dhM m c (ix2 i j) = _ from dh2R_at (DGM m c) (DUM m c) (aWg m c) (aWu m c) i j]
  refine (Norm.Fin'.sum _ _ fun k => ?_).add (Norm.Fin'.sum _ _ fun k => ?_)
  · rw [show DUM m c (ix2 i k) = _ from duR_at (GM m c) (AM m c) i k]
    exact (fin_duk (fin_da _ _ hD hWd _ _) (fin_gu _ _ _ hX hg hWg _ _)).mul (hWu _)
  · rw [show DGM m c (ix2 i k) = _ from dgateR_at (GM m c) (UM m c) (AM m c) i k (fin_da _ _ hD hWd _ _) (fin_gu _ _ _ hX hg hWg _ _) (fin_gu _ _ _ hX hg hWu _ _)]
    exact (fin_dgk (fin_da _ _ hD hWd _ _) (fin_gu _ _ _ hX hg hWg _ _) (fin_gu _ _ _ hX hg hWu _ _)).mul (hWg _)

/-! ## The sum over the points -/

/-- The last point. -/
abbrev tL : Fin cfg0.N := ⟨7, by rw [show cfg0.N = 8 from N_0]; norm_num⟩

theorem dgn_sum (c : Dev nD) (hX : ∀ y, Norm.Fin' (aX m c y)) (hD : ∀ y, Norm.Fin' (aD m c y)) (hg : ∀ y, Norm.Fin' (ag m c y))
    (hWg : ∀ y, Norm.Fin' (aWg m c y)) (hWu : ∀ y, Norm.Fin' (aWu m c y)) (hWd : ∀ y, Norm.Fin' (aWd m c y)) (p : Fin 8) (q : Fin 1024) :
    (outsAt0 m c tL.val tL.isLt).2.2.2.2.1 (ix2 p q) = Cert.InprojIdeal.Value.dgR (aX m c) (dhM m c) (ix2 p q) := by
  have h := Pipeline.eq_sum_fin_of_reset_step_apply_last (N := cfg0.N) (fun n h (_ : Unit) => (outsAt0 m c n h).2.2.2.2.1 (ix2 p q)) 8 (fun _ => 0)
    (fun t _ => if p.val = 0 then dgS m c t q else 0) (fun t h _ => dgn_A m c t h p q) (fun t h _ => dgn_B m c t h p q) (le_of_eq N_0) tL rfl ()
  refine h.trans ?_
  rw [Cert.InprojIdeal.Value.dgR_at, zero_add]
  split_ifs with hp
  · rw [← Rows.sum_blocks]
    refine Finset.sum_congr rfl fun t _ => Finset.sum_congr rfl fun a _ => ?_
    have hi : 256 * t.val + a.val < 2048 := by have : t.val < 8 := t.isLt; omega
    simp only [blk0 m c t a _ ⟨_, hi⟩ rfl, dhT_at m c t a ⟨_, hi⟩ rfl hX hD hg hWg hWu hWd]
  · exact Finset.sum_const_zero

/-! ## The five results, whole -/

theorem emb5 (t : Fin cfg0.N) (a : Fin 256) (b : Fin 1024) (i : Fin 2048) (hi : i.val = 256 * t.val + a.val) :
    ((cfg0.win 5).blk t).view.emb (ix2 a b) = ix2 i b := by
  funext x
  match x with
  | ⟨0, _⟩ => exact Fin.ext (by blk_simp [idxs t]; omega)
  | ⟨1, _⟩ => exact Fin.ext (by blk_simp [idxs t])
theorem emb6 (t : Fin cfg0.N) (p : Fin 4) (a : Fin 256) (b : Fin 704) (i : Fin 2048) (hi : i.val = 256 * t.val + a.val) :
    ((cfg0.win 6).blk t).view.emb (ix3 p a b) = ix3 p i b := by
  funext x
  match x with
  | ⟨0, _⟩ => exact Fin.ext (by blk_simp [idxs t])
  | ⟨1, _⟩ => exact Fin.ext (by blk_simp [idxs t]; omega)
  | ⟨2, _⟩ => exact Fin.ext (by blk_simp [idxs t])
theorem emb7 (t : Fin cfg0.N) (p : Fin 4) (a : Fin 256) (b : Fin 704) (i : Fin 2048) (hi : i.val = 256 * t.val + a.val) :
    ((cfg0.win 7).blk t).view.emb (ix3 p a b) = ix3 p i b := by
  funext x
  match x with
  | ⟨0, _⟩ => exact Fin.ext (by blk_simp [idxs t])
  | ⟨1, _⟩ => exact Fin.ext (by blk_simp [idxs t]; omega)
  | ⟨2, _⟩ => exact Fin.ext (by blk_simp [idxs t])
theorem emb8 (t : Fin cfg0.N) (p : Fin 4) (a : Fin 256) (b : Fin 704) (i : Fin 2048) (hi : i.val = 256 * t.val + a.val) :
    ((cfg0.win 8).blk t).view.emb (ix3 p a b) = ix3 p i b := by
  funext x
  match x with
  | ⟨0, _⟩ => exact Fin.ext (by blk_simp [idxs t])
  | ⟨1, _⟩ => exact Fin.ext (by blk_simp [idxs t]; omega)
  | ⟨2, _⟩ => exact Fin.ext (by blk_simp [idxs t])
theorem emb9 (t : Fin cfg0.N) (a : Fin 8) (b : Fin 1024) : ((cfg0.win 9).blk t).view.emb (ix2 a b) = ix2 a b := by
  funext x
  match x with
  | ⟨0, _⟩ => exact Fin.ext (by blk_simp [idxs t])
  | ⟨1, _⟩ => exact Fin.ext (by blk_simp [idxs t])

/-- The gradient of the input, where its arguments are finite. -/
theorem final_5 (c : Dev nD) (hX : ∀ y, Norm.Fin' (aX m c y)) (hD : ∀ y, Norm.Fin' (aD m c y)) (hg : ∀ y, Norm.Fin' (ag m c y))
    (hWg : ∀ y, Norm.Fin' (aWg m c y)) (hWu : ∀ y, Norm.Fin' (aWu m c y)) (hWd : ∀ y, Norm.Fin' (aWd m c y)) :
    (dats m 0 c).arrAt 5 (cfgs 0).N = Cert.InprojIdeal.Value.gxR (aX m c) (aD m c) (dhM m c) (ag m c) := by
  refine (dats m 0 c).arrAt_eq_of_covers 5 _ (by decide +kernel) fun t _ y => ?_
  refine (congrFun (after0_5 m c t) y).trans ?_
  have e : (outsAt0 m c t.val t.isLt).1 y = gxT m c t y := by
    by_cases h : t.val % 8 = 0
    · exact gx_A m c t h y
    · exact gx_B m c t h y
  refine e.trans ?_
  obtain ⟨a, b, rfl⟩ : ∃ (a : Fin 256) (b : Fin 1024), y = ix2 a b := ⟨y 0, y 1, eq_ix2 y⟩
  have ht : t.val < 8 := t.isLt
  have hi : 256 * t.val + a.val < 2048 := by omega
  rw [emb5 t a b ⟨_, hi⟩ rfl]
  refine (pay54_at _ _ _ _ _ _ _ _ a b).trans ?_
  rw [Cert.InprojIdeal.Value.gxR_at _ _ _ _ hX (fin_dh m c hX hD hg hWg hWu hWd) hg]
  have hd : ∀ k, k0_pay50 (d3B (iblk m c 1 t) (iblk m c 2 t) (iblk m c 3 t) (V m c main_v22) (V m c main_v25) (V m c main_v27))
    (dgB3 (iblk m c 1 t) (iblk m c 2 t) (iblk m c 3 t) (V m c main_v27)) (duB3 (iblk m c 1 t) (iblk m c 2 t) (V m c main_v27)) (wgB3 (V m c main_v22)) (wuB3 (V m c main_v25)) (ix2 a k)
      = dhM m c (ix2 ⟨_, hi⟩ k) := fun k => dhT_at m c t a ⟨_, hi⟩ rfl hX hD hg hWg hWu hWd k
  simp only [blk0 m c t a _ ⟨_, hi⟩ rfl, blk1 m c t a _ ⟨_, hi⟩ rfl, blk4, hd]

/-- The gated product. -/
theorem final_6 (c : Dev nD) : (dats m 0 c).arrAt 6 (cfgs 0).N = cutR (actR (GM m c) (UM m c)) := by
  refine (dats m 0 c).arrAt_eq_of_covers 6 _ (by decide +kernel) fun t _ y => ?_
  refine (congrFun (after0_6 m c t) y).trans ((act_at m c t y).trans ?_)
  obtain ⟨p, a, q, rfl⟩ : ∃ (p : Fin 4) (a : Fin 256) (q : Fin 704), y = ix3 p a q := ⟨y 0, y 1, y 2, eq_ix3 y⟩
  have hi : 256 * t.val + a.val < 2048 := by have : t.val < 8 := t.isLt; omega
  rw [act_all, blk2 m c t p a q ⟨_, hi⟩ rfl, blk3 m c t p a q ⟨_, hi⟩ rfl, emb6 t p a q ⟨_, hi⟩ rfl, cutR_at, actR_at]

/-- The gradient at the gate's input, where its arguments are finite. -/
theorem final_7 (c : Dev nD) (hX : ∀ y, Norm.Fin' (aX m c y)) (hD : ∀ y, Norm.Fin' (aD m c y)) (hg : ∀ y, Norm.Fin' (ag m c y))
    (hWg : ∀ y, Norm.Fin' (aWg m c y)) (hWu : ∀ y, Norm.Fin' (aWu m c y)) (hWd : ∀ y, Norm.Fin' (aWd m c y)) :
    (dats m 0 c).arrAt 7 (cfgs 0).N = cutR (DGM m c) := by
  refine (dats m 0 c).arrAt_eq_of_covers 7 _ (by decide +kernel) fun t _ y => ?_
  refine (congrFun (after0_7 m c t) y).trans ((dg_at m c t y).trans ?_)
  obtain ⟨p, a, q, rfl⟩ : ∃ (p : Fin 4) (a : Fin 256) (q : Fin 704), y = ix3 p a q := ⟨y 0, y 1, y 2, eq_ix3 y⟩
  have hi : 256 * t.val + a.val < 2048 := by have : t.val < 8 := t.isLt; omega
  rw [dg_all, dgb_eq m c t a ⟨_, hi⟩ rfl hX hD hg hWg hWu hWd, emb7 t p a q ⟨_, hi⟩ rfl, cutR_at]

/-- The gradient at the other factor. -/
theorem final_8 (c : Dev nD) : (dats m 0 c).arrAt 8 (cfgs 0).N = cutR (DUM m c) := by
  refine (dats m 0 c).arrAt_eq_of_covers 8 _ (by decide +kernel) fun t _ y => ?_
  refine (congrFun (after0_8 m c t) y).trans ((du_at m c t y).trans ?_)
  obtain ⟨p, a, q, rfl⟩ : ∃ (p : Fin 4) (a : Fin 256) (q : Fin 704), y = ix3 p a q := ⟨y 0, y 1, y 2, eq_ix3 y⟩
  have hi : 256 * t.val + a.val < 2048 := by have : t.val < 8 := t.isLt; omega
  rw [du_all, dub_eq m c t a ⟨_, hi⟩ rfl, emb8 t p a q ⟨_, hi⟩ rfl, cutR_at]

theorem last9 : ∀ t : Fin cfg0.N, (cfg0.win 9).flush t = true → t.val = 7 := (by decide +kernel : ∀ t : Fin grid0.N, (cfg0.win 9).flush t = true → t.val = 7)

/-- The gradient of the norm's weight. -/
theorem final_9 (c : Dev nD) (hX : ∀ y, Norm.Fin' (aX m c y)) (hD : ∀ y, Norm.Fin' (aD m c y)) (hg : ∀ y, Norm.Fin' (ag m c y))
    (hWg : ∀ y, Norm.Fin' (aWg m c y)) (hWu : ∀ y, Norm.Fin' (aWu m c y)) (hWd : ∀ y, Norm.Fin' (aWd m c y)) :
    (dats m 0 c).arrAt 9 (cfgs 0).N = Cert.InprojIdeal.Value.dgR (aX m c) (dhM m c) := by
  refine (dats m 0 c).arrAt_eq_of_covers 9 _ (by decide +kernel) fun t hf y => ?_
  refine (congrFun (after0_9 m c t) y).trans ?_
  obtain rfl : t = tL := Fin.ext (last9 t hf)
  obtain ⟨a, b, rfl⟩ : ∃ (a : Fin 8) (b : Fin 1024), y = ix2 a b := ⟨y 0, y 1, eq_ix2 y⟩
  refine (dgn_sum m c hX hD hg hWg hWu hWd a b).trans ?_
  exact congrArg (Cert.InprojIdeal.Value.dgR (aX m c) (dhM m c)) (emb9 _ a b).symm

end Cert.FfnIdeal.Value
end
-- ==== Proof.FfnClaim.lean ====
module

public import proofs.«01_k».proof.Defs
public import proofs.«01_k».proof.Proof.Gen.FfnIdeal.Frame
public import proofs.«01_k».proof.Proof.Gen.FfnRefIdeal.Run
public import proofs.«01_k».proof.Proof.Finite
public import proofs.«01_k».proof.Proof.Ffn
public import Idealize.ShloMosaic.Adequacy
public import Idealize.ShloMosaic.Init

@[expose] public section

noncomputable section

namespace Cert.Proof

open Idealize.ShloMosaic Idealize.SL.Sem

/-- The reference of the feed-forward block's backward call ends with its arguments as they were. -/
theorem frame_ffn_reference [Cert.FfnRefIdeal.Facts] : Cert.quiescent_FfnRefIdeal := fun m ρ _ =>
  (θ_run Cert.FfnRefIdeal.defs _ _).mono (fun r h => ⟨fun c => (h c).2.2.2.2.2,
      Idealize.ShloMosaic.sem_eq_zero_of_no_sems (by decide) r.2⟩)
    (Cert.FfnRefIdeal.Value.run (F := Ideal) m ρ)

section
open Cert.FfnRefIdeal
variable (m : (ℓ : Loc nD τ sig) → Buf (Elt Ideal) ℓ) (c : Dev nD)

/-- The reference's terms, of its arguments. -/
abbrev ffnG := Cert.FfnIdeal.Value.guR (m ((c.tc : Thread nD τ).loc main_arg0)) (m ((c.tc : Thread nD τ).loc main_arg2)) (m ((c.tc : Thread nD τ).loc main_arg3))
abbrev ffnU := Cert.FfnIdeal.Value.guR (m ((c.tc : Thread nD τ).loc main_arg0)) (m ((c.tc : Thread nD τ).loc main_arg2)) (m ((c.tc : Thread nD τ).loc main_arg4))
abbrev ffnA := Cert.FfnIdeal.Value.daR (m ((c.tc : Thread nD τ).loc main_arg1)) (m ((c.tc : Thread nD τ).loc main_arg5))
abbrev ffnDh := Cert.FfnIdeal.Value.dh2R (Cert.FfnIdeal.Value.dgateR (ffnG m c) (ffnU m c) (ffnA m c)) (Cert.FfnIdeal.Value.duR (ffnG m c) (ffnA m c))
  (m ((c.tc : Thread nD τ).loc main_arg3)) (m ((c.tc : Thread nD τ).loc main_arg4))

theorem ffn_gx_reference : Cert.FfnRefIdeal.Value.res_main_v67 m c
    = Cert.InprojIdeal.Value.gxR (m ((c.tc : Thread nD τ).loc main_arg0)) (m ((c.tc : Thread nD τ).loc main_arg1)) (ffnDh m c) (m ((c.tc : Thread nD τ).loc main_arg2)) := by
  unfold ffnDh ffnG ffnU ffnA Cert.FfnRefIdeal.Value.res_main_v67 Cert.InprojIdeal.Value.gxR Cert.InprojIdeal.Value.coR Cert.InprojIdeal.Value.dxR Cert.FfnIdeal.Value.dh2R
    Cert.FfnIdeal.Value.dgateR Cert.FfnIdeal.Value.duR Cert.FfnIdeal.Value.sgR Cert.FfnIdeal.Value.oneR Cert.FfnIdeal.Value.zeroR Cert.FfnIdeal.Value.guR Cert.FfnIdeal.Value.daR
    Cert.FfnIdeal.Value.h2R Cert.InprojIdeal.Value.msR
  with_reducible rfl

theorem ffn_dgate_reference : Cert.FfnRefIdeal.Value.res_main_v73 m c
    = Cert.FfnIdeal.Value.cutR (Cert.FfnIdeal.Value.dgateR (ffnG m c) (ffnU m c) (ffnA m c)) := by
  unfold ffnG ffnU ffnA Cert.FfnRefIdeal.Value.res_main_v73 Cert.FfnIdeal.Value.cutR
    Cert.FfnIdeal.Value.dgateR Cert.FfnIdeal.Value.sgR Cert.FfnIdeal.Value.oneR Cert.FfnIdeal.Value.zeroR Cert.FfnIdeal.Value.guR Cert.FfnIdeal.Value.daR
    Cert.FfnIdeal.Value.h2R Cert.InprojIdeal.Value.msR
  with_reducible rfl

theorem ffn_dg_reference : Cert.FfnRefIdeal.Value.res_main_v78 m c
    = Cert.InprojIdeal.Value.dgR (m ((c.tc : Thread nD τ).loc main_arg0)) (ffnDh m c) := by
  unfold ffnDh ffnG ffnU ffnA Cert.FfnRefIdeal.Value.res_main_v78 Cert.InprojIdeal.Value.dgR Cert.FfnIdeal.Value.dh2R
    Cert.FfnIdeal.Value.dgateR Cert.FfnIdeal.Value.duR Cert.FfnIdeal.Value.sgR Cert.FfnIdeal.Value.oneR Cert.FfnIdeal.Value.zeroR Cert.FfnIdeal.Value.guR Cert.FfnIdeal.Value.daR
    Cert.FfnIdeal.Value.h2R Cert.InprojIdeal.Value.msR
  with_reducible rfl

end

open Cert.FfnRefIdeal in
/-- What the reference ends with, by its parts. -/
theorem ffn_reference (m : (ℓ : Loc nD τ sig) → Buf (Elt Ideal) ℓ) (ρ : Dev nD → PrngReg) :
    θ_run (Cert.FfnRefIdeal.defs (F := Ideal)) (onTc (τ := τ) (main (F := Ideal))) ⟨m, fun _ => 0, ρ⟩ fun r => ∀ c : Dev nD,
      r.2.mem ((c.tc : Thread nD τ).loc main_v67) = Cert.InprojIdeal.Value.gxR (m ((c.tc : Thread nD τ).loc main_arg0)) (m ((c.tc : Thread nD τ).loc main_arg1)) (ffnDh m c) (m ((c.tc : Thread nD τ).loc main_arg2))
      ∧ r.2.mem ((c.tc : Thread nD τ).loc main_v70) = Cert.FfnIdeal.Value.cutR (Cert.FfnIdeal.Value.actR (ffnG m c) (ffnU m c))
      ∧ r.2.mem ((c.tc : Thread nD τ).loc main_v73) = Cert.FfnIdeal.Value.cutR (Cert.FfnIdeal.Value.dgateR (ffnG m c) (ffnU m c) (ffnA m c))
      ∧ r.2.mem ((c.tc : Thread nD τ).loc main_v76) = Cert.FfnIdeal.Value.cutR (Cert.FfnIdeal.Value.duR (ffnG m c) (ffnA m c))
      ∧ r.2.mem ((c.tc : Thread nD τ).loc main_v78) = Cert.InprojIdeal.Value.dgR (m ((c.tc : Thread nD τ).loc main_arg0)) (ffnDh m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c).1.trans (ffn_gx_reference m c),
      (h c).2.1.trans (by
        unfold ffnG ffnU Cert.FfnIdeal.Value.cutR Cert.FfnIdeal.Value.actR Cert.FfnIdeal.Value.sgR Cert.FfnIdeal.Value.oneR Cert.FfnIdeal.Value.guR Cert.FfnIdeal.Value.h2R
          Cert.InprojIdeal.Value.msR
        with_reducible rfl),
      (h c).2.2.1.trans (ffn_dgate_reference m c),
      (h c).2.2.2.1.trans (by
        unfold ffnG ffnA Cert.FfnIdeal.Value.cutR Cert.FfnIdeal.Value.duR Cert.FfnIdeal.Value.sgR Cert.FfnIdeal.Value.oneR Cert.FfnIdeal.Value.zeroR Cert.FfnIdeal.Value.guR
          Cert.FfnIdeal.Value.daR Cert.FfnIdeal.Value.h2R Cert.InprojIdeal.Value.msR
        with_reducible rfl),
      (h c).2.2.2.2.1.trans (ffn_dg_reference m c),
      (h c).2.2.2.2.2⟩) (Cert.FfnRefIdeal.Value.run (F := Ideal) m ρ)

open Cert.FfnIdeal Cert.FfnIdeal.Gen in
/-- What the kernel ends with: its five results as the points leave them. -/
theorem ffn_run_blocks (m : (ℓ : Loc nD τ sig) → Buf (Elt Ideal) ℓ) (ρ : Dev nD → PrngReg) :
    θ_run (Cert.FfnIdeal.defs (F := Ideal)) (onTc (τ := τ) (main (F := Ideal))) ⟨m, fun _ => 0, ρ⟩ fun r => ∀ c : Dev nD,
      r.2.mem ((c.tc : Thread nD τ).loc main_v28_0) = (dats m 0 c).arrAt 5 cfg0.N
      ∧ r.2.mem ((c.tc : Thread nD τ).loc main_v28_1) = (dats m 0 c).arrAt 6 cfg0.N
      ∧ r.2.mem ((c.tc : Thread nD τ).loc main_v28_2) = (dats m 0 c).arrAt 7 cfg0.N
      ∧ r.2.mem ((c.tc : Thread nD τ).loc main_v28_3) = (dats m 0 c).arrAt 8 cfg0.N
      ∧ r.2.mem ((c.tc : Thread nD τ).loc main_v28_4) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h.1 c).1 5, (h.1 c).1 6, (h.1 c).1 7, (h.1 c).1 8, (h.1 c).1 9, h.2 c⟩)
    (θ_run_and (run_main (F := Ideal) m ρ) (unchanged (F := Ideal) m ρ))

set_option maxHeartbeats 4000000 in
/-- All five results of the feed-forward block's backward call are the derivatives, where its arguments are finite. -/
theorem ffn [Cert.Pre_ffn_finite.Facts] : @Cert.algebraic_FfnIdeal_FfnRefIdeal_pre_ffn_finite Cert.FfnIdeal.Gen.facts Cert.FfnRefIdeal.Gen.facts _ := by
  pair_intro
  · run_from ffn_run_blocks m g
  run_from ffn_reference m' g'
  · obtain ⟨e0, e1, e2, e3, e4, e5⟩ := hagree c
    obtain ⟨h0, h1, h2, h3, h4, h5⟩ := hpre c
    simp only [ffnDh, ffnG, ffnU, ffnA, e0, e1, e2, e3, e4, e5]
    exact (Cert.FfnIdeal.Value.final_5 m c (Norm.fin_of_pre _ _ h0) (Norm.fin_of_pre _ _ h1) (Norm.fin_of_pre _ _ h2)
      (Norm.fin_of_pre _ _ h3) (Norm.fin_of_pre _ _ h4) (Norm.fin_of_pre _ _ h5)).symm
  · obtain ⟨e0, e1, e2, e3, e4, e5⟩ := hagree c
    simp only [ffnG, ffnU, e0, e1, e2, e3, e4, e5]
    exact (Cert.FfnIdeal.Value.final_6 m c).symm
  · obtain ⟨e0, e1, e2, e3, e4, e5⟩ := hagree c
    obtain ⟨h0, h1, h2, h3, h4, h5⟩ := hpre c
    simp only [ffnG, ffnU, ffnA, e0, e1, e2, e3, e4, e5]
    exact (Cert.FfnIdeal.Value.final_7 m c (Norm.fin_of_pre _ _ h0) (Norm.fin_of_pre _ _ h1) (Norm.fin_of_pre _ _ h2)
      (Norm.fin_of_pre _ _ h3) (Norm.fin_of_pre _ _ h4) (Norm.fin_of_pre _ _ h5)).symm
  · obtain ⟨e0, e1, e2, e3, e4, e5⟩ := hagree c
    simp only [ffnG, ffnA, e0, e1, e2, e3, e4, e5]
    exact (Cert.FfnIdeal.Value.final_8 m c).symm
  · obtain ⟨e0, e1, e2, e3, e4, e5⟩ := hagree c
    obtain ⟨h0, h1, h2, h3, h4, h5⟩ := hpre c
    simp only [ffnDh, ffnG, ffnU, ffnA, e0, e1, e2, e3, e4, e5]
    exact (Cert.FfnIdeal.Value.final_9 m c (Norm.fin_of_pre _ _ h0) (Norm.fin_of_pre _ _ h1) (Norm.fin_of_pre _ _ h2)
      (Norm.fin_of_pre _ _ h3) (Norm.fin_of_pre _ _ h4) (Norm.fin_of_pre _ _ h5)).symm

end Cert.Proof

end
-- ==== Proof.PleMath.lean ====
module

public import proofs.«01_k».proof.Proof.Gen.PleIdeal.Skeleton
public import proofs.«01_k».proof.Proof.Gen.PleRefIdeal.Run
public import proofs.«01_k».proof.Proof.InprojMath

@[expose] public section

set_option maxRecDepth 16384

noncomputable section

open Idealize.ShloMosaic
open scoped BigOperators

/-! # The embedding's gate, the last norm and the loss: the arithmetic

What the call computes of one token is written once, as functions of a row; the kernel's block and the reference's arrays
are both read as those. -/

namespace Cert.PleIdeal.Value
open Cert.PleIdeal Cert.PleIdeal.Gen

/-! ## One token -/

/-- What the loss of one token is made of: the block's output, the embedding, the gate's input, the target and two weights. -/
structure Row where
  x : Fin 1024 → EReal
  e0 : Fin 1024 → EReal
  pre : Fin 1024 → EReal
  tg : Fin 1024 → EReal
  gp : Fin 1024 → EReal
  gf : Fin 1024 → EReal

/-- Every entry is a number. -/
structure Row.Ok (r : Row) : Prop where
  x : ∀ k, Norm.Fin' (r.x k)
  e0 : ∀ k, Norm.Fin' (r.e0 k)
  pre : ∀ k, Norm.Fin' (r.pre k)
  tg : ∀ k, Norm.Fin' (r.tg k)
  gp : ∀ k, Norm.Fin' (r.gp k)
  gf : ∀ k, Norm.Fin' (r.gf k)

namespace Row
variable (r : Row)
/-- The gate, the normed embedding and its weighted form. -/
def g (k : Fin 1024) : EReal := Ideal.logistic (r.pre k)
def eh (k : Fin 1024) : EReal := r.e0 k * Norm.rinv r.e0
def e (k : Fin 1024) : EReal := r.eh k * r.gp k
/-- The last norm's input, and its normed form. -/
def x3 (k : Fin 1024) : EReal := r.x k + r.g k * r.e k
def xh (k : Fin 1024) : EReal := r.x3 k * Norm.rinv r.x3
/-- The prediction's distance from the target, and the gradient there. -/
def df (k : Fin 1024) : EReal := r.xh k * r.gf k - r.tg k
def dy (k : Fin 1024) : EReal := r.df k * Ideal.ofBits .f32 0x3A800000#32
/-- The gradients at the last norm's input, at the embedding and at the gate's input. -/
def dx (k : Fin 1024) : EReal := Norm.bwdK r.x3 (fun j => r.dy j * r.gf j) k
def de (k : Fin 1024) : EReal := r.dx k * r.g k
def de0 (k : Fin 1024) : EReal := Norm.bwdK r.e0 (fun j => r.de j * r.gp j) k
def dp (k : Fin 1024) : EReal := r.dx k * r.e k * r.g k * (1 - r.g k)

theorem ofBits_inv1024 : Ideal.ofBits .f32 0x3A800000#32 = ((1 / 1024 : ℝ) : EReal) := by
  simp [Ideal.ofBits, Ideal.ieee, -EReal.coe_mul]; norm_num

variable {r}
theorem Ok.fg (h : r.Ok) (k) : Norm.Fin' (r.g k) := (h.pre k).logistic
theorem Ok.feh (h : r.Ok) (k) : Norm.Fin' (r.eh k) := (h.e0 k).mul (Norm.Fin'.rinv h.e0)
theorem Ok.fe (h : r.Ok) (k) : Norm.Fin' (r.e k) := (h.feh k).mul (h.gp k)
theorem Ok.fx3 (h : r.Ok) (k) : Norm.Fin' (r.x3 k) := (h.x k).add ((h.fg k).mul (h.fe k))
theorem Ok.fxh (h : r.Ok) (k) : Norm.Fin' (r.xh k) := (h.fx3 k).mul (Norm.Fin'.rinv h.fx3)
theorem Ok.fdf (h : r.Ok) (k) : Norm.Fin' (r.df k) := ((h.fxh k).mul (h.gf k)).sub (h.tg k)
theorem Ok.fdy (h : r.Ok) (k) : Norm.Fin' (r.dy k) := (h.fdf k).mul ⟨_, ofBits_inv1024⟩
theorem Ok.fdx (h : r.Ok) (k) : Norm.Fin' (r.dx k) := Norm.Fin'.bwdK h.fx3 (fun j => (h.fdy j).mul (h.gf j)) k
theorem Ok.fde (h : r.Ok) (k) : Norm.Fin' (r.de k) := (h.fdx k).mul (h.fg k)
theorem Ok.fdp (h : r.Ok) (k) : Norm.Fin' (r.dp k) := (((h.fdx k).mul (h.fe k)).mul (h.fg k)).mul (Norm.Fin'.one.sub (h.fg k))
end Row

/-- The gate's input, of a token's row. -/
def preK (x gpg bpg : Fin 1024 → EReal) (W : Fin 1024 → Fin 1024 → EReal) (k : Fin 1024) : EReal :=
  ∑ j, x j * Norm.rinv x * gpg j * W j k + bpg k
/-- The gradient at the gate's normed input. -/
def dnK (d : Fin 1024 → EReal) (W : Fin 1024 → Fin 1024 → EReal) (k : Fin 1024) : EReal := ∑ j, d j * W k j

theorem fin_preK {x gpg bpg : Fin 1024 → EReal} {W : Fin 1024 → Fin 1024 → EReal} (hx : ∀ k, Norm.Fin' (x k)) (hg : ∀ k, Norm.Fin' (gpg k))
    (hb : ∀ k, Norm.Fin' (bpg k)) (hW : ∀ j k, Norm.Fin' (W j k)) (k) : Norm.Fin' (preK x gpg bpg W k) :=
  (Norm.Fin'.sum _ _ fun j => (((hx j).mul (Norm.Fin'.rinv hx)).mul (hg j)).mul (hW j k)).add (hb k)
theorem fin_dnK {d : Fin 1024 → EReal} {W : Fin 1024 → Fin 1024 → EReal} (hd : ∀ k, Norm.Fin' (d k)) (hW : ∀ j k, Norm.Fin' (W j k)) (k) :
    Norm.Fin' (dnK d W k) := Norm.Fin'.sum _ _ fun j => (hd j).mul (hW k j)

/-- A factor that is a number may be taken out of a sum of numbers. -/
theorem sum_mul {ι : Type*} (s : Finset ι) (f : ι → EReal) (h : ∀ k, Norm.Fin' (f k)) (z : EReal) (hz : Norm.Fin' z) : (∑ k ∈ s, f k) * z = ∑ k ∈ s, f k * z := by
  choose g hg using h
  obtain ⟨z, rfl⟩ := hz
  simp only [hg, ← EReal.coe_mul, ← Norm.coe_sum, Finset.sum_mul]

theorem ofBits_half1024 : Ideal.ofBits .f32 0x3A000000#32 = ((1 / 2048 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- The mean's and the square's factors are one. -/
theorem dy_eq (d : EReal) : Ideal.div (Ideal.ofBits .f32 0x3F000000#32 * 1) (Ideal.ofBits .f32 0x44800000#32) * (Ideal.ofBits .f32 0x40000000#32 * d)
    = d * Ideal.ofBits .f32 0x3A800000#32 := by
  rw [mul_one, ofBits_half, Norm.ofBits_1024, ofBits_two, Row.ofBits_inv1024, Ideal.div_coe (by norm_num), ← mul_assoc, ← EReal.coe_mul, ← EReal.coe_mul, mul_comm]
  norm_num

/-! ## The reference's terms -/

section
open Cert.PleRefIdeal

/-- A row of weights beside every token, and a token's number along its row. -/
abbrev bw (g : FVec Ideal S1x1024 .f32) : FVec Ideal S2048x1024 .f32 := broadcastInDim S2048x1024 ![0, 1] Cert.PleRefIdeal.Gen.bcast_S1x1024_S2048x1024_0_1 g
abbrev bt (v : FVec Ideal S2048x1 .f32) : FVec Ideal S2048x1024 .f32 := broadcastInDim S2048x1024 ![0, 1] Cert.PleRefIdeal.Gen.bcast_S2048x1_S2048x1024_0_1 v
abbrev zR : FVec Ideal S2048x1024 .f32 := broadcastInDim S2048x1024 ![] Cert.PleRefIdeal.Gen.bcast_S_S2048x1024 (constant S_ .f32 0x00000000#32)
abbrev oR : FVec Ideal S2048x1024 .f32 := broadcastInDim S2048x1024 ![] Cert.PleRefIdeal.Gen.bcast_S_S2048x1024 (constant S_ .f32 0x3F800000#32)

/-- The rms norm without its weight. -/
def nrmR (X : FVec Ideal S2048x1024 .f32) : FVec Ideal S2048x1024 .f32 := mulf X (bt (Host.rsqrt (Cert.InprojIdeal.Value.msR X)))
/-- The gate's input. -/
def preR (X : FVec Ideal S2048x1024 .f32) (g b : FVec Ideal S1x1024 .f32) (W : FVec Ideal S1024x1024 .f32) : FVec Ideal S2048x1024 .f32 :=
  addf (addf (Host.dotGeneral Cert.PleRefIdeal.dot_S2048x1024_S1024x1024_S2048x1024_1_0_0_1_n_n none (mulf (nrmR X) (bw g)) W) (bw b)) zR
def gtR (A : FVec Ideal S2048x1024 .f32) : FVec Ideal S2048x1024 .f32 := Host.divf oR (addf oR (Host.exp (Host.negf A)))
/-- The embedding. -/
def emR (P : FVec Ideal S2048x256 .f32) (W : FVec Ideal S256x1024 .f32) : FVec Ideal S2048x1024 .f32 :=
  addf (Host.dotGeneral Cert.PleRefIdeal.dot_S2048x256_S256x1024_S2048x1024_1_0_0_1_n_n none P W) zR
def nwR (X : FVec Ideal S2048x1024 .f32) (g : FVec Ideal S1x1024 .f32) : FVec Ideal S2048x1024 .f32 := mulf (nrmR X) (bw g)
def x3R (X A E : FVec Ideal S2048x1024 .f32) (g : FVec Ideal S1x1024 .f32) : FVec Ideal S2048x1024 .f32 := addf X (mulf (gtR A) (nwR E g))
def dfR (X3 T : FVec Ideal S2048x1024 .f32) (g : FVec Ideal S1x1024 .f32) : FVec Ideal S2048x1024 .f32 := subf (nwR X3 g) T
def dyR (D : FVec Ideal S2048x1024 .f32) : FVec Ideal S2048x1024 .f32 :=
  mulf (broadcastInDim S2048x1024 ![0] Cert.PleRefIdeal.Gen.bcast_S2048_S2048x1024_0 (Host.divf (broadcastInDim S2048 ![] Cert.PleRefIdeal.Gen.bcast_S_S2048 (mulf (constant S_ .f32 0x3F000000#32) (constant S_ .f32 0x3F800000#32))) (broadcastInDim S2048 ![] Cert.PleRefIdeal.Gen.bcast_S_S2048 (constant S_ .f32 0x44800000#32)))) (mulf (broadcastInDim S2048x1024 ![] Cert.PleRefIdeal.Gen.bcast_S_S2048x1024 (constant S_ .f32 0x40000000#32)) D)
/-- The gradient of the rms norm; `D` is the gradient at its weighted form. -/
def nbR (X D : FVec Ideal S2048x1024 .f32) (g : FVec Ideal S1x1024 .f32) : FVec Ideal S2048x1024 .f32 :=
  addf (addf (mulf (mulf D (bw g)) (bt (Host.rsqrt (Cert.InprojIdeal.Value.msR X)))) (mulf X (Cert.InprojIdeal.Value.coR X (mulf D (bw g))))) (mulf (Cert.InprojIdeal.Value.coR X (mulf D (bw g))) X)
def dpR (DX A E : FVec Ideal S2048x1024 .f32) (g : FVec Ideal S1x1024 .f32) : FVec Ideal S2048x1024 .f32 :=
  mulf (mulf DX (nwR E g)) (mulf (gtR A) (subf oR (gtR A)))
def dnR (D : FVec Ideal S2048x1024 .f32) (W : FVec Ideal S1024x1024 .f32) : FVec Ideal S2048x1024 .f32 :=
  Host.dotGeneral Cert.PleRefIdeal.dot_S2048x1024_S1024x1024_S2048x1024_1_1_0_0_n_n none D W
/-- The sums over the tokens, one below the other. -/
def acR (D0 D1 D2 D3 D4 : FVec Ideal S2048x1024 .f32) : FVec Ideal S8x1024 .f32 :=
  concatenate S8x1024 0 [⟨S1x1024, (shapeCast _ (Host.reduceAdd D0 (constant S_ .f32 0x00000000#32) Cert.PleRefIdeal.Gen.reducesTo_S2048x1024_S1024_d0 Cert.PleRefIdeal.Gen.h_S_) Cert.PleRefIdeal.Gen.shapeCasts_S1024_S1x1024)⟩,
    ⟨S1x1024, (shapeCast _ (Host.reduceAdd D1 (constant S_ .f32 0x00000000#32) Cert.PleRefIdeal.Gen.reducesTo_S2048x1024_S1024_d0 Cert.PleRefIdeal.Gen.h_S_) Cert.PleRefIdeal.Gen.shapeCasts_S1024_S1x1024)⟩,
    ⟨S1x1024, (shapeCast _ (Host.reduceAdd D2 (constant S_ .f32 0x00000000#32) Cert.PleRefIdeal.Gen.reducesTo_S2048x1024_S1024_d0 Cert.PleRefIdeal.Gen.h_S_) Cert.PleRefIdeal.Gen.shapeCasts_S1024_S1x1024)⟩,
    ⟨S1x1024, (shapeCast _ (Host.reduceAdd D3 (constant S_ .f32 0x00000000#32) Cert.PleRefIdeal.Gen.reducesTo_S2048x1024_S1024_d0 Cert.PleRefIdeal.Gen.h_S_) Cert.PleRefIdeal.Gen.shapeCasts_S1024_S1x1024)⟩,
    ⟨S1x1024, (mulf (broadcastInDim S1x1024 ![1] Cert.PleRefIdeal.Gen.bcast_S1024_S1x1024_1 (Host.reduceAdd D4 (constant S_ .f32 0x00000000#32) Cert.PleRefIdeal.Gen.reducesTo_S2048x1024_S1024_d0 Cert.PleRefIdeal.Gen.h_S_)) (broadcastInDim S1x1024 ![] Cert.PleRefIdeal.Gen.bcast_S_S1x1024 (constant S_ .f32 0x3A000000#32)))⟩,
    ⟨S3x1024, (broadcastInDim S3x1024 ![] Cert.PleRefIdeal.Gen.bcast_S_S3x1024 (constant S_ .f32 0x00000000#32))⟩] Cert.PleRefIdeal.Gen.concatenates_S1x1024_S1x1024_S1x1024_S1x1024_S1x1024_S3x1024_S8x1024_d0

end

section
variable (i : Fin 2048) (j : Fin 1024)

theorem nrmR_at (X) : nrmR X (ix2 i j) = X (ix2 i j) * Norm.rinv (fun k => X (ix2 i k)) := by
  have e : nrmR X (ix2 i j) = X (ix2 i j) * Ideal.rsqrt (Cert.InprojIdeal.Value.msR X (ix2 i 0)) := by pointwise [nrmR]
  rw [e, Cert.InprojIdeal.Value.msR_at]; rfl

theorem preR_at (X g b W) : preR X g b W (ix2 i j) = preK (fun k => X (ix2 i k)) (fun k => g (ix2 0 k)) (fun k => b (ix2 0 k)) (fun a b => W (ix2 a b)) j := by
  have e : preR X g b W (ix2 i j) = ∑ k : Fin 1024, nrmR X (ix2 i k) * g (ix2 0 k) * W (ix2 k j) + b (ix2 0 j) := by pointwise [preR]
  rw [e]; simp only [nrmR_at]; rfl

theorem gtR_at (A) : gtR A (ix2 i j) = Ideal.logistic (A (ix2 i j)) := by
  pointwise [gtR, Ideal.logistic]

theorem emR_at (P W) : emR P W (ix2 i j) = ∑ k : Fin 256, P (ix2 i k) * W (ix2 k j) := by
  pointwise [emR]

theorem nwR_at (X g) : nwR X g (ix2 i j) = X (ix2 i j) * Norm.rinv (fun k => X (ix2 i k)) * g (ix2 0 j) := by
  have e : nwR X g (ix2 i j) = nrmR X (ix2 i j) * g (ix2 0 j) := by pointwise [nwR]
  rw [e, nrmR_at]

theorem x3R_at (X A E g) : x3R X A E g (ix2 i j) = X (ix2 i j) + gtR A (ix2 i j) * nwR E g (ix2 i j) := by
  pointwise [x3R]
theorem dfR_at (X T g) : dfR X T g (ix2 i j) = nwR X g (ix2 i j) - T (ix2 i j) := by
  pointwise [dfR]
theorem dyR_at (D) : dyR D (ix2 i j) = D (ix2 i j) * Ideal.ofBits .f32 0x3A800000#32 := by
  rw [← dy_eq]
  pointwise [dyR]
theorem nbR_at (X D g) (hX : ∀ k, Norm.Fin' (X (ix2 i k))) (hD : ∀ k, Norm.Fin' (D (ix2 i k))) (hg : ∀ k, Norm.Fin' (g (ix2 0 k))) :
    nbR X D g (ix2 i j) = Norm.bwdK (fun k => X (ix2 i k)) (fun k => D (ix2 i k) * g (ix2 0 k)) j := by
  have h := Norm.bwd_eq (fun k => X (ix2 i k)) (fun k => D (ix2 i k) * g (ix2 0 k)) hX (fun k => (hD k).mul (hg k)) j
  rw [← h]
  have e : nbR X D g (ix2 i j) = D (ix2 i j) * g (ix2 0 j) * Ideal.rsqrt (Cert.InprojIdeal.Value.msR X (ix2 i 0))
      + X (ix2 i j) * Cert.InprojIdeal.Value.coR X (mulf D (bw g)) (ix2 i j) + Cert.InprojIdeal.Value.coR X (mulf D (bw g)) (ix2 i j) * X (ix2 i j) := by
    pointwise [nbR]
  have e' : ∀ k, mulf D (bw g) (ix2 i k) = D (ix2 i k) * g (ix2 0 k) := fun k => by pointwise []
  rw [e, Cert.InprojIdeal.Value.coR_at, Cert.InprojIdeal.Value.msR_at, add_assoc]
  simp only [e']
  rfl
theorem dpR_at (DX A E g) : dpR DX A E g (ix2 i j) = DX (ix2 i j) * nwR E g (ix2 i j) * gtR A (ix2 i j) * (1 - gtR A (ix2 i j)) := by
  rw [mul_assoc]
  pointwise [dpR]
theorem dnR_at (D W) : dnR D W (ix2 i j) = dnK (fun k => D (ix2 i k)) (fun a b => W (ix2 a b)) j := by
  unfold dnK
  pointwise [dnR]

end
theorem acR_at (D0 D1 D2 D3 D4) (p : Fin 8) (q : Fin 1024) : acR D0 D1 D2 D3 D4 (ix2 p q)
    = if p.val = 0 then ∑ i : Fin 2048, D0 (ix2 i q) else if p.val = 1 then ∑ i : Fin 2048, D1 (ix2 i q) else if p.val = 2 then ∑ i : Fin 2048, D2 (ix2 i q)
      else if p.val = 3 then ∑ i : Fin 2048, D3 (ix2 i q) else if p.val = 4 then (∑ i : Fin 2048, D4 (ix2 i q)) * Ideal.ofBits .f32 0x3A000000#32 else 0 := by
  match p with
  | ⟨0, _⟩ => pointwise [acR]
  | ⟨1, _⟩ => pointwise [acR]
  | ⟨2, _⟩ => pointwise [acR]
  | ⟨3, _⟩ => pointwise [acR]
  | ⟨4, _⟩ => pointwise [acR]
  | ⟨5, _⟩ => pointwise [acR]
  | ⟨6, _⟩ => pointwise [acR]
  | ⟨7, _⟩ => pointwise [acR]

/-! ## The kernel's payloads -/

/-- A block of the call's inputs: tokens, and the weights whole; the embedding's weight is in four parts. -/
structure Blk where
  X : Vec Ideal S256x1024 .f32
  P : Vec Ideal S256x256 .f32
  T : Vec Ideal S256x1024 .f32
  gpg : Vec Ideal S1x1024 .f32
  W : Vec Ideal S1024x1024 .bf16
  b : Vec Ideal S1x1024 .f32
  w0 : Vec Ideal S1x256x256 .bf16
  w1 : Vec Ideal S1x256x256 .bf16
  w2 : Vec Ideal S1x256x256 .bf16
  w3 : Vec Ideal S1x256x256 .bf16
  gp : Vec Ideal S1x1024 .f32
  gf : Vec Ideal S1x1024 .f32

namespace Blk
variable (B : Blk)
def G : FVec Ideal S256x1024 .f32 := k0_pay7 B.X B.gpg B.W B.b
def E0 : FVec Ideal S256x1024 .f32 := k0_pay10 (k0_pay8 B.P) (k0_pay9 B.P B.w0) B.w1 B.w2 B.w3
def re : FVec Ideal S256x1 .f32 := k0_pay11 (k0_pay8 B.P) (k0_pay9 B.P B.w0) B.w1 B.w2 B.w3
def eh : FVec Ideal S256x1024 .f32 := k0_pay12 (k0_pay8 B.P) (k0_pay9 B.P B.w0) B.w1 B.w2 B.w3
def e : FVec Ideal S256x1024 .f32 := k0_pay13 (k0_pay8 B.P) (k0_pay9 B.P B.w0) B.w1 B.w2 B.w3 B.gp
def x3 : FVec Ideal S256x1024 .f32 := k0_pay14 B.X B.G (k0_pay8 B.P) (k0_pay9 B.P B.w0) B.w1 B.w2 B.w3 B.gp
def r3 : FVec Ideal S256x1 .f32 := k0_pay15 B.X B.G (k0_pay8 B.P) (k0_pay9 B.P B.w0) B.w1 B.w2 B.w3 B.gp
def xh : FVec Ideal S256x1024 .f32 := k0_pay16 B.X B.G (k0_pay8 B.P) (k0_pay9 B.P B.w0) B.w1 B.w2 B.w3 B.gp
def df : FVec Ideal S256x1024 .f32 := k0_pay17 B.X B.G (k0_pay8 B.P) (k0_pay9 B.P B.w0) B.w1 B.w2 B.w3 B.gp B.gf B.T
def dx : FVec Ideal S256x1024 .f32 := k0_pay21 B.r3 B.xh B.df B.gf
def de : FVec Ideal S256x1024 .f32 := k0_pay22 B.G B.r3 B.xh B.df B.gf
def dn : FVec Ideal S256x1024 .f32 := k0_pay28 B.G B.e B.dx B.W
/-- The five blocks and row sums that are stored. -/
def n2 : FVec Ideal S256x1024 .bf16 := k0_pay6 B.X B.gpg
def dpS : FVec Ideal S256x1024 .bf16 := k0_pay27 B.G B.e B.dx
def de0 : FVec Ideal S256x1024 .bf16 := k0_pay24 B.re B.eh B.de B.gp
def dx2 : FVec Ideal S256x1024 .f32 := k0_pay2 (k0_pay4 B.X) (k0_pay5 B.X) B.dx B.dn B.gpg
def a4 (R : Vec Ideal S1x1024 .f32) : FVec Ideal S1x1024 .f32 := k0_pay18 B.df R
def a3 (R : Vec Ideal S1x1024 .f32) : FVec Ideal S1x1024 .f32 := k0_pay20 B.xh B.df R
def a2 (R : Vec Ideal S1x1024 .f32) : FVec Ideal S1x1024 .f32 := k0_pay23 B.G B.eh B.r3 B.xh B.df B.gf R
def a1 (R : Vec Ideal S1x1024 .f32) : FVec Ideal S1x1024 .f32 := k0_pay26 B.G B.e B.dx R
def a0 (R : Vec Ideal S1x1024 .f32) : FVec Ideal S1x1024 .f32 := k0_pay1 (k0_pay29 R) (k0_pay30 (k0_pay5 B.X) B.G B.e B.dx B.W)

/-- One token of the block. -/
def row (a : Fin 256) : Row where
  x k := B.X (ix2 a k)
  e0 k := B.E0 (ix2 a k)
  pre k := preK (fun k => B.X (ix2 a k)) (fun k => B.gpg (ix2 0 k)) (fun k => B.b (ix2 0 k)) (fun a b => B.W (ix2 a b)) k
  tg k := B.T (ix2 a k)
  gp k := B.gp (ix2 0 k)
  gf k := B.gf (ix2 0 k)
/-- The gradient at the gate's normed input, of one token. -/
def dnr (a : Fin 256) (k : Fin 1024) : EReal := dnK (B.row a).dp (fun a b => B.W (ix2 a b)) k

variable (a : Fin 256) (k : Fin 1024)

theorem r_at (X : Vec Ideal S256x1024 .f32) : k0_pay4 X (ix2 a 0) = Norm.rinv (fun k => X (ix2 a k)) := by
  pointwise [k0_pay4, Norm.rinv, Norm.msq]
theorem xn_at (X : Vec Ideal S256x1024 .f32) : k0_pay5 X (ix2 a k) = X (ix2 a k) * Norm.rinv (fun k => X (ix2 a k)) := by
  rw [← r_at]
  pointwise [k0_pay5]
theorem n2_at : B.n2 (ix2 a k) = B.X (ix2 a k) * Norm.rinv (fun k => B.X (ix2 a k)) * B.gpg (ix2 0 k) := by
  rw [← xn_at]
  pointwise [n2, k0_pay6]
theorem G_at : B.G (ix2 a k) = (B.row a).g k := by
  have e : B.G (ix2 a k) = Ideal.logistic (∑ j : Fin 1024, B.n2 (ix2 a j) * B.W (ix2 j k) + B.b (ix2 0 k)) := by
    pointwise [G, k0_pay7, n2]
  rw [e]
  simp only [n2_at]
  rfl

theorem p9_at (P : Vec Ideal S256x256 .f32) (w : Vec Ideal S1x256x256 .bf16) (q : Fin 256) : k0_pay9 P w (ix2 a q) = ∑ j : Fin 256, P (ix2 a j) * w (ix3 0 j q) := by
  pointwise [k0_pay9, k0_pay8]

/-- The embedding: its four parts are the product's columns. -/
theorem E0_at (W' : Fin 256 → Fin 1024 → EReal)
    (h0 : ∀ (j q : Fin 256), B.w0 (ix3 0 j q) = W' j ⟨q.val, by omega⟩) (h1 : ∀ (j q : Fin 256), B.w1 (ix3 0 j q) = W' j ⟨256 + q.val, by omega⟩)
    (h2 : ∀ (j q : Fin 256), B.w2 (ix3 0 j q) = W' j ⟨512 + q.val, by omega⟩) (h3 : ∀ (j q : Fin 256), B.w3 (ix3 0 j q) = W' j ⟨768 + q.val, by omega⟩) :
    B.E0 (ix2 a k) = ∑ j : Fin 256, B.P (ix2 a j) * W' j k := by
  have c0 : ∀ q : Fin 256, B.E0 (ix2 a ⟨q.val, by omega⟩) = ∑ j : Fin 256, B.P (ix2 a j) * B.w0 (ix3 0 j q) := fun q => by
    rw [← p9_at]
    pointwise [E0, k0_pay10]
  have c1 : ∀ q : Fin 256, B.E0 (ix2 a ⟨256 + q.val, by omega⟩) = ∑ j : Fin 256, B.P (ix2 a j) * B.w1 (ix3 0 j q) := fun q => by
    pointwise [E0, k0_pay10, k0_pay8]
  have c2 : ∀ q : Fin 256, B.E0 (ix2 a ⟨512 + q.val, by omega⟩) = ∑ j : Fin 256, B.P (ix2 a j) * B.w2 (ix3 0 j q) := fun q => by
    pointwise [E0, k0_pay10, k0_pay8]
    rw [dif_neg (by omega), dif_neg (by omega), dif_pos (by omega)]
    exact Finset.sum_congr rfl fun x _ => congrArg _ (congrArg B.w2 (congrArg (ix3 0 x) (Fin.ext (by simp; omega))))
  have c3 : ∀ q : Fin 256, B.E0 (ix2 a ⟨768 + q.val, by omega⟩) = ∑ j : Fin 256, B.P (ix2 a j) * B.w3 (ix3 0 j q) := fun q => by
    pointwise [E0, k0_pay10, k0_pay8]
    rw [dif_neg (by omega), dif_neg (by omega), dif_neg (by omega)]
    exact Finset.sum_congr rfl fun x _ => congrArg _ (congrArg B.w3 (congrArg (ix3 0 x) (Fin.ext (by simp; omega))))
  rcases lt_or_ge k.val 256 with h | h
  · obtain ⟨q, hq⟩ : ∃ q : Fin 256, k = ⟨q.val, by omega⟩ := ⟨⟨k.val, h⟩, rfl⟩
    have e := c0 q
    rw [← hq] at e
    rw [e]; simp only [h0, ← hq]
  rcases lt_or_ge k.val 512 with h' | h'
  · obtain ⟨q, hq⟩ : ∃ q : Fin 256, k = ⟨256 + q.val, by omega⟩ := ⟨⟨k.val - 256, by omega⟩, Fin.ext (by simp; omega)⟩
    have e := c1 q
    rw [← hq] at e
    rw [e]; simp only [h1, ← hq]
  rcases lt_or_ge k.val 768 with h'' | h''
  · obtain ⟨q, hq⟩ : ∃ q : Fin 256, k = ⟨512 + q.val, by omega⟩ := ⟨⟨k.val - 512, by omega⟩, Fin.ext (by simp; omega)⟩
    have e := c2 q
    rw [← hq] at e
    rw [e]; simp only [h2, ← hq]
  · obtain ⟨q, hq⟩ : ∃ q : Fin 256, k = ⟨768 + q.val, by omega⟩ := ⟨⟨k.val - 768, by omega⟩, Fin.ext (by simp; omega)⟩
    have e := c3 q
    rw [← hq] at e
    rw [e]; simp only [h3, ← hq]

theorem re_at : B.re (ix2 a 0) = Norm.rinv (B.row a).e0 := by
  show B.re (ix2 a 0) = Norm.rinv (fun k => B.E0 (ix2 a k))
  pointwise [re, k0_pay11, Norm.rinv, Norm.msq, E0]
theorem eh_at : B.eh (ix2 a k) = (B.row a).eh k := by
  have e : B.eh (ix2 a k) = B.E0 (ix2 a k) * B.re (ix2 a 0) := by pointwise [eh, k0_pay12, E0, re]
  rw [e, re_at]; rfl
theorem e_at : B.e (ix2 a k) = (B.row a).e k := by
  have e : B.e (ix2 a k) = B.eh (ix2 a k) * B.gp (ix2 0 k) := by pointwise [Blk.e, k0_pay13, eh]
  rw [e, eh_at]; rfl
theorem x3_at : B.x3 (ix2 a k) = (B.row a).x3 k := by
  have e : B.x3 (ix2 a k) = B.X (ix2 a k) + B.G (ix2 a k) * B.e (ix2 a k) := by pointwise [x3, k0_pay14, Blk.e]
  rw [e, G_at, e_at]; rfl
theorem r3_at : B.r3 (ix2 a 0) = Norm.rinv (B.row a).x3 := by
  rw [show (B.row a).x3 = fun k => B.x3 (ix2 a k) from funext fun k => (B.x3_at a k).symm]
  pointwise [r3, k0_pay15, Norm.rinv, Norm.msq, x3]
theorem xh_at : B.xh (ix2 a k) = (B.row a).xh k := by
  have e : B.xh (ix2 a k) = B.x3 (ix2 a k) * B.r3 (ix2 a 0) := by pointwise [xh, k0_pay16, x3, r3]
  rw [e, r3_at, x3_at]; rfl
theorem df_at : B.df (ix2 a k) = (B.row a).df k := by
  have e : B.df (ix2 a k) = B.xh (ix2 a k) * B.gf (ix2 0 k) - B.T (ix2 a k) := by pointwise [df, k0_pay17, xh]
  rw [e, xh_at]; rfl
theorem dy_at : k0_pay19 B.df (ix2 a k) = (B.row a).dy k := by
  have e : k0_pay19 B.df (ix2 a k) = B.df (ix2 a k) * Ideal.ofBits .f32 0x3A800000#32 := by pointwise [k0_pay19]
  rw [e, df_at]; rfl
theorem dx_at : B.dx (ix2 a k) = (B.row a).dx k := by
  have e : B.dx (ix2 a k) = B.r3 (ix2 a 0) * (k0_pay19 B.df (ix2 a k) * B.gf (ix2 0 k) - B.xh (ix2 a k) *
      Ideal.div (∑ j : Fin 1024, k0_pay19 B.df (ix2 a j) * B.gf (ix2 0 j) * B.xh (ix2 a j)) (Ideal.ofBits .f32 0x44800000#32)) := by pointwise [dx, k0_pay21]
  rw [e, r3_at]
  simp only [dy_at, xh_at]
  rfl
theorem de_at : B.de (ix2 a k) = (B.row a).de k := by
  have e : B.de (ix2 a k) = B.dx (ix2 a k) * B.G (ix2 a k) := by pointwise [de, k0_pay22, dx]
  rw [e, dx_at, G_at]; rfl
theorem de0_at : B.de0 (ix2 a k) = (B.row a).de0 k := by
  have e : B.de0 (ix2 a k) = B.re (ix2 a 0) * (B.de (ix2 a k) * B.gp (ix2 0 k) - B.eh (ix2 a k) *
      Ideal.div (∑ j : Fin 1024, B.de (ix2 a j) * B.gp (ix2 0 j) * B.eh (ix2 a j)) (Ideal.ofBits .f32 0x44800000#32)) := by pointwise [de0, k0_pay24]
  rw [e, re_at]
  simp only [de_at, eh_at]
  rfl
theorem dpr_at : k0_pay25 B.G B.e B.dx (ix2 a k) = (B.row a).dp k := by
  have e : k0_pay25 B.G B.e B.dx (ix2 a k) = B.dx (ix2 a k) * B.e (ix2 a k) * B.G (ix2 a k) * (1 - B.G (ix2 a k)) := by pointwise [k0_pay25]
  rw [e, dx_at, G_at, e_at]; rfl
theorem dp_at : B.dpS (ix2 a k) = (B.row a).dp k := by
  rw [← dpr_at]
  pointwise [dpS, k0_pay27]
theorem dn_at : B.dn (ix2 a k) = B.dnr a k := by
  have e : B.dn (ix2 a k) = ∑ j : Fin 1024, B.dpS (ix2 a j) * B.W (ix2 k j) := by pointwise [dn, k0_pay28, dpS]
  rw [e]
  simp only [dp_at]
  rfl
theorem dx2_at : B.dx2 (ix2 a k) = (B.row a).dx k + Norm.bwdK (B.row a).x (fun j => B.dnr a j * B.gpg (ix2 0 j)) k := by
  have e : B.dx2 (ix2 a k) = B.dx (ix2 a k) + k0_pay4 B.X (ix2 a 0) * (B.dn (ix2 a k) * B.gpg (ix2 0 k) - k0_pay5 B.X (ix2 a k) *
      Ideal.div (∑ j : Fin 1024, B.dn (ix2 a j) * B.gpg (ix2 0 j) * k0_pay5 B.X (ix2 a j)) (Ideal.ofBits .f32 0x44800000#32)) := by pointwise [dx2, k0_pay2]
  rw [e, r_at]
  simp only [dn_at, xn_at, dx_at]
  rfl

variable (R : Vec Ideal S1x1024 .f32)
theorem a4_at : B.a4 R (ix2 0 k) = R (ix2 0 k) + (∑ a : Fin 256, (B.row a).df k * (B.row a).df k) * Ideal.ofBits .f32 0x3A000000#32 := by
  have e : B.a4 R (ix2 0 k) = R (ix2 0 k) + (∑ a : Fin 256, B.df (ix2 a k) * B.df (ix2 a k)) * Ideal.ofBits .f32 0x3A000000#32 := by pointwise [a4, k0_pay18]
  rw [e]; simp only [df_at]
theorem a3_at : B.a3 R (ix2 0 k) = R (ix2 0 k) + ∑ a : Fin 256, (B.row a).dy k * (B.row a).xh k := by
  have e : B.a3 R (ix2 0 k) = R (ix2 0 k) + ∑ a : Fin 256, k0_pay19 B.df (ix2 a k) * B.xh (ix2 a k) := by pointwise [a3, k0_pay20]
  rw [e]; simp only [dy_at, xh_at]
theorem a2_at : B.a2 R (ix2 0 k) = R (ix2 0 k) + ∑ a : Fin 256, (B.row a).de k * (B.row a).eh k := by
  have e : B.a2 R (ix2 0 k) = R (ix2 0 k) + ∑ a : Fin 256, B.de (ix2 a k) * B.eh (ix2 a k) := by pointwise [a2, k0_pay23, de]
  rw [e]; simp only [de_at, eh_at]
theorem a1_at : B.a1 R (ix2 0 k) = R (ix2 0 k) + ∑ a : Fin 256, (B.row a).dp k := by
  have e : B.a1 R (ix2 0 k) = R (ix2 0 k) + ∑ a : Fin 256, k0_pay25 B.G B.e B.dx (ix2 a k) := by pointwise [a1, k0_pay26]
  rw [e]; simp only [dpr_at]
theorem a0_at : B.a0 R (ix2 0 k) = R (ix2 0 k) + ∑ a : Fin 256, B.dnr a k * (B.X (ix2 a k) * Norm.rinv (fun k => B.X (ix2 a k))) := by
  have e : B.a0 R (ix2 0 k) = R (ix2 0 k) + ∑ a : Fin 256, B.dn (ix2 a k) * k0_pay5 B.X (ix2 a k) := by pointwise [a0, k0_pay1, k0_pay29, k0_pay30, dn]
  rw [e]; simp only [dn_at, xn_at]
end Blk

theorem pay3_at (p : Fin 8) (q : Fin 1024) : k0_pay3 (F := Ideal) (ix2 p q) = 0 := by
  pointwise [k0_pay3]

end Cert.PleIdeal.Value

end
-- ==== Proof.Ple.lean ====
module

public import proofs.«01_k».proof.Proof.Gen.PleIdeal.Value
public import proofs.«01_k».proof.Proof.PleMath
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

/-! # The embedding's gate, the last norm and the loss: the call's results

Each block of the four tiled results is the reference's, and the five row sums, added up over the blocks, are the
reference's sums over all tokens. -/

namespace Cert.PleIdeal.Value
open Cert.PleIdeal Cert.PleIdeal.Gen

variable (m : (ℓ : Loc nD τ sig) → Buf (Elt Ideal) ℓ)

theorem idxs : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0]
    ∧ win0_13.index t = ![0, 0] := (by decide +kernel : ∀ t : Fin grid0.N, _)

/-- The reference's arguments and its terms of the whole arrays. -/
abbrev aX (c : Dev nD) : FVec Ideal S2048x1024 .f32 := m ((c : Thread nD τ).loc main_arg0)
abbrev aP (c : Dev nD) : FVec Ideal S2048x256 .f32 := m ((c : Thread nD τ).loc main_arg1)
abbrev aT (c : Dev nD) : FVec Ideal S2048x1024 .f32 := m ((c : Thread nD τ).loc main_arg2)
abbrev agg (c : Dev nD) : FVec Ideal S1x1024 .f32 := m ((c : Thread nD τ).loc main_arg3)
abbrev aW (c : Dev nD) : FVec Ideal S1024x1024 .f32 := m ((c : Thread nD τ).loc main_arg4)
abbrev ab (c : Dev nD) : FVec Ideal S1x1024 .f32 := m ((c : Thread nD τ).loc main_arg5)
abbrev aWe (c : Dev nD) : FVec Ideal S256x1024 .f32 := m ((c : Thread nD τ).loc main_arg6)
abbrev agp (c : Dev nD) : FVec Ideal S1x1024 .f32 := m ((c : Thread nD τ).loc main_arg7)
abbrev agf (c : Dev nD) : FVec Ideal S1x1024 .f32 := m ((c : Thread nD τ).loc main_arg8)

/-- All arguments are finite. -/
structure Ok (c : Dev nD) : Prop where
  X : ∀ y, Norm.Fin' (aX m c y)
  P : ∀ y, Norm.Fin' (aP m c y)
  T : ∀ y, Norm.Fin' (aT m c y)
  gg : ∀ y, Norm.Fin' (agg m c y)
  W : ∀ y, Norm.Fin' (aW m c y)
  b : ∀ y, Norm.Fin' (ab m c y)
  We : ∀ y, Norm.Fin' (aWe m c y)
  gp : ∀ y, Norm.Fin' (agp m c y)
  gf : ∀ y, Norm.Fin' (agf m c y)

abbrev preM (c : Dev nD) : FVec Ideal S2048x1024 .f32 := preR (aX m c) (agg m c) (ab m c) (aW m c)
abbrev emM (c : Dev nD) : FVec Ideal S2048x1024 .f32 := emR (aP m c) (aWe m c)
abbrev x3M (c : Dev nD) : FVec Ideal S2048x1024 .f32 := x3R (aX m c) (preM m c) (emM m c) (agp m c)
abbrev dfM (c : Dev nD) : FVec Ideal S2048x1024 .f32 := dfR (x3M m c) (aT m c) (agf m c)
abbrev dyM (c : Dev nD) : FVec Ideal S2048x1024 .f32 := dyR (dfM m c)
abbrev dxM (c : Dev nD) : FVec Ideal S2048x1024 .f32 := nbR (x3M m c) (dyM m c) (agf m c)
abbrev deM (c : Dev nD) : FVec Ideal S2048x1024 .f32 := mulf (gtR (preM m c)) (dxM m c)
abbrev dpM (c : Dev nD) : FVec Ideal S2048x1024 .f32 := dpR (dxM m c) (preM m c) (emM m c) (agp m c)
abbrev dnM (c : Dev nD) : FVec Ideal S2048x1024 .f32 := dnR (dpM m c) (aW m c)
abbrev acM (c : Dev nD) : FVec Ideal S8x1024 .f32 :=
  acR (mulf (nrmR (aX m c)) (dnM m c)) (dpM m c) (mulf (nrmR (emM m c)) (deM m c)) (mulf (nrmR (x3M m c)) (dyM m c)) (mulf (dfM m c) (dfM m c))

/-! ## One token of the reference -/

/-- One token of the reference's arrays. -/
def rowM (c : Dev nD) (i : Fin 2048) : Row where
  x k := aX m c (ix2 i k)
  e0 k := emM m c (ix2 i k)
  pre k := preM m c (ix2 i k)
  tg k := aT m c (ix2 i k)
  gp k := agp m c (ix2 0 k)
  gf k := agf m c (ix2 0 k)

theorem rowM_ok (c : Dev nD) (h : Ok m c) (i : Fin 2048) : (rowM m c i).Ok where
  x k := h.X _
  e0 k := by
    show Norm.Fin' (emM m c (ix2 i k))
    rw [show emM m c (ix2 i k) = _ from emR_at i k (aP m c) (aWe m c)]
    exact Norm.Fin'.sum _ _ fun j => (h.P _).mul (h.We _)
  pre k := by
    show Norm.Fin' (preM m c (ix2 i k))
    rw [show preM m c (ix2 i k) = _ from preR_at i k (aX m c) (agg m c) (ab m c) (aW m c)]
    exact fin_preK (fun k => h.X _) (fun k => h.gg _) (fun k => h.b _) (fun j k => h.W _) k
  tg k := h.T _
  gp k := h.gp _
  gf k := h.gf _

section
variable (c : Dev nD) (i : Fin 2048) (k : Fin 1024)

theorem gM_at : gtR (preM m c) (ix2 i k) = (rowM m c i).g k := gtR_at i k (preM m c)
theorem eM_at : nwR (emM m c) (agp m c) (ix2 i k) = (rowM m c i).e k := nwR_at i k (emM m c) (agp m c)
theorem ehM_at : nrmR (emM m c) (ix2 i k) = (rowM m c i).eh k := nrmR_at i k (emM m c)
theorem x3M_at : x3M m c (ix2 i k) = (rowM m c i).x3 k := by
  refine (x3R_at i k (aX m c) (preM m c) (emM m c) (agp m c)).trans ?_
  rw [gM_at, eM_at]; rfl
theorem x3M_row : (fun k => x3M m c (ix2 i k)) = (rowM m c i).x3 := funext fun k => x3M_at m c i k
theorem xhM_at : nrmR (x3M m c) (ix2 i k) = (rowM m c i).xh k := by
  rw [nrmR_at, x3M_row, x3M_at]; rfl
theorem dfM_at : dfM m c (ix2 i k) = (rowM m c i).df k := by
  refine (dfR_at i k (x3M m c) (aT m c) (agf m c)).trans ?_
  rw [nwR_at, x3M_row, x3M_at]; rfl
theorem dyM_at : dyM m c (ix2 i k) = (rowM m c i).dy k := by
  refine (dyR_at i k (dfM m c)).trans ?_
  rw [dfM_at]; rfl

variable (h : Ok m c)
include h
theorem dxM_at : dxM m c (ix2 i k) = (rowM m c i).dx k := by
  refine (nbR_at i k (x3M m c) (dyM m c) (agf m c) (fun k => ?_) (fun k => ?_) (fun k => h.gf _)).trans ?_
  · rw [x3M_at]; exact (rowM_ok m c h i).fx3 k
  · rw [dyM_at]; exact (rowM_ok m c h i).fdy k
  · simp only [dyM_at]
    rw [x3M_row]; rfl
theorem deM_at : deM m c (ix2 i k) = (rowM m c i).de k := by
  have e : deM m c (ix2 i k) = gtR (preM m c) (ix2 i k) * dxM m c (ix2 i k) := rfl
  rw [e, gM_at, dxM_at m c i k h, mul_comm]; rfl
theorem dpM_at : dpM m c (ix2 i k) = (rowM m c i).dp k := by
  refine (dpR_at i k (dxM m c) (preM m c) (emM m c) (agp m c)).trans ?_
  rw [gM_at, eM_at, dxM_at m c i k h]; rfl
theorem dnM_at : dnM m c (ix2 i k) = dnK (rowM m c i).dp (fun a b => aW m c (ix2 a b)) k := by
  refine (dnR_at i k (dpM m c) (aW m c)).trans ?_
  simp only [dpM_at m c i _ h]
theorem fin_dnM : Norm.Fin' (dnM m c (ix2 i k)) := by
  rw [dnM_at m c i k h]
  exact fin_dnK (rowM_ok m c h i).fdp (fun j k => h.W _) k
theorem de0M_at : nbR (emM m c) (deM m c) (agp m c) (ix2 i k) = (rowM m c i).de0 k := by
  refine (nbR_at i k (emM m c) (deM m c) (agp m c) (fun k => (rowM_ok m c h i).e0 k) (fun k => ?_) (fun k => h.gp _)).trans ?_
  · rw [deM_at m c i k h]; exact (rowM_ok m c h i).fde k
  · simp only [deM_at m c i _ h]; rfl
end

/-! ## What the call is given -/

theorem V_W (c : Dev nD) (a b : Fin 1024) : V m c main_v2 (ix2 a b) = aW m c (ix2 a b) := by
  entry_read
  pointwise []
theorem V_We (c : Dev nD) (k : Fin 4) (j q : Fin 256) : V m c main_v3 (ix3 k j q) = aWe m c (ix2 j ⟨256 * k.val + q.val, by omega⟩) := by
  entry_read
  pointwise []
  exact congrArg (aWe m c) (congrArg (ix2 j) (Fin.ext (by simp; omega)))

theorem blk0 (c : Dev nD) (t : Fin cfg0.N) (a : Fin 256) (b : Fin 1024) (i : Fin 2048) (hi : i.val = 256 * t.val + a.val) : iblk m c 0 t (ix2 a b) = aX m c (ix2 i b) := by
  blk_ext [iblk, V, idxs t]
theorem blk1 (c : Dev nD) (t : Fin cfg0.N) (a : Fin 256) (b : Fin 256) (i : Fin 2048) (hi : i.val = 256 * t.val + a.val) : iblk m c 1 t (ix2 a b) = aP m c (ix2 i b) := by
  blk_ext [iblk, V, idxs t]
theorem blk2 (c : Dev nD) (t : Fin cfg0.N) (a : Fin 256) (b : Fin 1024) (i : Fin 2048) (hi : i.val = 256 * t.val + a.val) : iblk m c 2 t (ix2 a b) = aT m c (ix2 i b) := by
  blk_ext [iblk, V, idxs t]
theorem blk3 (c : Dev nD) (t : Fin cfg0.N) (a : Fin 1) (b : Fin 1024) : iblk m c 3 t (ix2 a b) = agg m c (ix2 a b) := by
  blk_ext! [iblk, V, idxs t]
theorem blk5 (c : Dev nD) (t : Fin cfg0.N) (a : Fin 1) (b : Fin 1024) : iblk m c 5 t (ix2 a b) = ab m c (ix2 a b) := by
  blk_ext! [iblk, V, idxs t]
theorem blk7 (c : Dev nD) (t : Fin cfg0.N) (a : Fin 1) (b : Fin 1024) : iblk m c 7 t (ix2 a b) = agp m c (ix2 a b) := by
  blk_ext! [iblk, V, idxs t]
theorem blk8 (c : Dev nD) (t : Fin cfg0.N) (a : Fin 1) (b : Fin 1024) : iblk m c 8 t (ix2 a b) = agf m c (ix2 a b) := by
  blk_ext! [iblk, V, idxs t]

theorem emb4 (t : Fin cfg0.N) (a b : Fin 1024) : ((cfg0.win 4).blk t).view.emb (ix2 a b) = ix2 a b := by
  funext x
  match x with
  | ⟨0, _⟩ => exact Fin.ext (by blk_simp [idxs t])
  | ⟨1, _⟩ => exact Fin.ext (by blk_simp [idxs t])
theorem emb6 (t : Fin cfg0.N) (p : Fin 4) (a b : Fin 256) : ((cfg0.win 6).blk t).view.emb (ix3 p a b) = ix3 p a b := by
  funext x
  match x with
  | ⟨0, _⟩ => exact Fin.ext (by blk_simp [idxs t])
  | ⟨1, _⟩ => exact Fin.ext (by blk_simp [idxs t])
  | ⟨2, _⟩ => exact Fin.ext (by blk_simp [idxs t])
theorem blk4 (c : Dev nD) (t : Fin cfg0.N) (a b : Fin 1024) : iblk m c 4 t (ix2 a b) = aW m c (ix2 a b) := by
  show V m c main_v2 (((cfg0.win 4).blk t).view.emb (ix2 a b)) = _
  rw [emb4 t a b, V_W]
theorem blk6 (c : Dev nD) (t : Fin cfg0.N) (p : Fin 4) (a b : Fin 256) : iblk m c 6 t (ix3 p a b) = aWe m c (ix2 a ⟨256 * p.val + b.val, by omega⟩) := by
  show V m c main_v3 (((cfg0.win 6).blk t).view.emb (ix3 p a b)) = _
  rw [emb6 t p a b, V_We]

/-- The call's inputs at one point. -/
def blk (c : Dev nD) (t : Fin cfg0.N) : Blk where
  X := iblk m c 0 t
  P := iblk m c 1 t
  T := iblk m c 2 t
  gpg := iblk m c 3 t
  W := iblk m c 4 t
  b := iblk m c 5 t
  w0 := View.ld (iblk m c 6 t) (Rect.unit (s := S4x256x256) ![0, 0, 0] ![1, 256, 256] inb_S4x256x256_S1x256x256_0_0_0)
  w1 := View.ld (iblk m c 6 t) (Rect.unit (s := S4x256x256) ![1, 0, 0] ![1, 256, 256] inb_S4x256x256_S1x256x256_1_0_0)
  w2 := View.ld (iblk m c 6 t) (Rect.unit (s := S4x256x256) ![2, 0, 0] ![1, 256, 256] inb_S4x256x256_S1x256x256_2_0_0)
  w3 := View.ld (iblk m c 6 t) (Rect.unit (s := S4x256x256) ![3, 0, 0] ![1, 256, 256] inb_S4x256x256_S1x256x256_3_0_0)
  gp := iblk m c 7 t
  gf := iblk m c 8 t

/-- A token of the block is a token of the arrays. -/
theorem row_eq (c : Dev nD) (t : Fin cfg0.N) (a : Fin 256) (i : Fin 2048) (hi : i.val = 256 * t.val + a.val) : (blk m c t).row a = rowM m c i := by
  have hx : ∀ k, (blk m c t).X (ix2 a k) = aX m c (ix2 i k) := fun k => blk0 m c t a k i hi
  have hg : ∀ k, (blk m c t).gpg (ix2 0 k) = agg m c (ix2 0 k) := fun k => blk3 m c t 0 k
  have hb : ∀ k, (blk m c t).b (ix2 0 k) = ab m c (ix2 0 k) := fun k => blk5 m c t 0 k
  have hW : ∀ j k, (blk m c t).W (ix2 j k) = aW m c (ix2 j k) := fun j k => blk4 m c t j k
  have hP : ∀ k, (blk m c t).P (ix2 a k) = aP m c (ix2 i k) := fun k => blk1 m c t a k i hi
  have he : ∀ k, (blk m c t).E0 (ix2 a k) = emM m c (ix2 i k) := fun k => by
    refine ((blk m c t).E0_at a k (fun j k => aWe m c (ix2 j k)) (fun j q => ?_) (fun j q => ?_) (fun j q => ?_) (fun j q => ?_)).trans ?_
    · exact (Rows.ld_part 0 _ _ 0 rfl j q).trans ((blk6 m c t 0 j q).trans (congrArg (aWe m c) (congrArg (ix2 j) (Fin.ext (by simp)))))
    · exact (Rows.ld_part 1 _ _ 1 rfl j q).trans ((blk6 m c t 1 j q).trans (congrArg (aWe m c) (congrArg (ix2 j) (Fin.ext (by simp)))))
    · exact (Rows.ld_part 2 _ _ 2 rfl j q).trans ((blk6 m c t 2 j q).trans (congrArg (aWe m c) (congrArg (ix2 j) (Fin.ext (by simp)))))
    · exact (Rows.ld_part 3 _ _ 3 rfl j q).trans ((blk6 m c t 3 j q).trans (congrArg (aWe m c) (congrArg (ix2 j) (Fin.ext (by simp)))))
    · refine Eq.trans ?_ (emR_at i k (aP m c) (aWe m c)).symm
      simp only [hP]
  have hp : ∀ k, preK (fun k => (blk m c t).X (ix2 a k)) (fun k => (blk m c t).gpg (ix2 0 k)) (fun k => (blk m c t).b (ix2 0 k)) (fun a b => (blk m c t).W (ix2 a b)) k
      = preM m c (ix2 i k) := fun k => by
    refine Eq.trans ?_ (preR_at i k (aX m c) (agg m c) (ab m c) (aW m c)).symm
    simp only [hx, hg, hb, hW]
  have hT : ∀ k, (blk m c t).T (ix2 a k) = aT m c (ix2 i k) := fun k => blk2 m c t a k i hi
  have h7 : ∀ k, (blk m c t).gp (ix2 0 k) = agp m c (ix2 0 k) := fun k => blk7 m c t 0 k
  have h8 : ∀ k, (blk m c t).gf (ix2 0 k) = agf m c (ix2 0 k) := fun k => blk8 m c t 0 k
  unfold Blk.row rowM
  simp only [hp]
  simp only [he, hT, h7, h8, hx]

theorem dnr_eq (c : Dev nD) (h : Ok m c) (t : Fin cfg0.N) (a : Fin 256) (i : Fin 2048) (hi : i.val = 256 * t.val + a.val) (k : Fin 1024) :
    (blk m c t).dnr a k = dnM m c (ix2 i k) := by
  have hW : ∀ j k, (blk m c t).W (ix2 j k) = aW m c (ix2 j k) := fun j k => blk4 m c t j k
  rw [dnM_at m c i k h, Blk.dnr, row_eq m c t a i hi]
  simp only [hW]

/-! ## What each point leaves -/

set_option maxHeartbeats 1000000 in
theorem dx2_pt (c : Dev nD) (t : Fin cfg0.N) (y) : (outsAt0 m c t.val t.isLt).1 y = (blk m c t).dx2 y := by
  by_cases h0 : t.val % 8 = 0
  · rw [outsAt0_A m c t h0]
    frame_out
    rfl
  · rw [outsAt0_B m c t h0]
    frame_out
    rfl
set_option maxHeartbeats 1000000 in
theorem n2_pt (c : Dev nD) (t : Fin cfg0.N) (y) : (outsAt0 m c t.val t.isLt).2.1 y = (blk m c t).n2 y := by
  by_cases h0 : t.val % 8 = 0
  · rw [outsAt0_A m c t h0]
    frame_out
    rfl
  · rw [outsAt0_B m c t h0]
    frame_out
    rfl
set_option maxHeartbeats 1000000 in
theorem dp_pt (c : Dev nD) (t : Fin cfg0.N) (y) : (outsAt0 m c t.val t.isLt).2.2.1 y = (blk m c t).dpS y := by
  by_cases h0 : t.val % 8 = 0
  · rw [outsAt0_A m c t h0]
    frame_out
    rfl
  · rw [outsAt0_B m c t h0]
    frame_out
    rfl
set_option maxHeartbeats 1000000 in
theorem de0_pt (c : Dev nD) (t : Fin cfg0.N) (y) : (outsAt0 m c t.val t.isLt).2.2.2.1 y = (blk m c t).de0 y := by
  by_cases h0 : t.val % 8 = 0
  · rw [outsAt0_A m c t h0]
    frame_out
    rfl
  · rw [outsAt0_B m c t h0]
    frame_out
    rfl

end Cert.PleIdeal.Value
end
-- ==== Proof.PleSum.lean ====
module

public import proofs.«01_k».proof.Proof.Ple
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

/-! # The embedding's gate, the last norm and the loss: the row sums, and the five results whole -/

namespace Cert.PleIdeal.Value
open Cert.PleIdeal Cert.PleIdeal.Gen

variable (m : (ℓ : Loc nD τ sig) → Buf (Elt Ideal) ℓ)

/-! ## The row sums -/

section
variable (f0 f1 f2 f3 f4 : Vec Ideal S1x1024 .f32 → FVec Ideal S1x1024 .f32)

/-- A store of one row. -/
abbrev pc (r : ℕ) (inb : ∀ a, ![r, 0] a + ![1, 1024] a ≤ S8x1024.size a) (w : Vec Ideal S1x1024 .f32) : View.Piece (Elt Ideal) S8x1024 .f32 :=
  ⟨Rect.unit (s := S8x1024) ![r, 0] ![1, 1024] inb, w⟩

/-- The stores of a later point. -/
def acP (R : Vec Ideal S8x1024 .f32) : List (View.Piece (Elt Ideal) S8x1024 .f32) :=
  [pc 0 inb_S8x1024_S1x1024_0_0 (f0 (View.ld R (Rect.unit (s := S8x1024) ![0, 0] ![1, 1024] inb_S8x1024_S1x1024_0_0))),
    pc 1 inb_S8x1024_S1x1024_1_0 (f1 (View.ld R (Rect.unit (s := S8x1024) ![1, 0] ![1, 1024] inb_S8x1024_S1x1024_1_0))),
    pc 2 inb_S8x1024_S1x1024_2_0 (f2 (View.ld R (Rect.unit (s := S8x1024) ![2, 0] ![1, 1024] inb_S8x1024_S1x1024_2_0))),
    pc 3 inb_S8x1024_S1x1024_3_0 (f3 (View.ld R (Rect.unit (s := S8x1024) ![3, 0] ![1, 1024] inb_S8x1024_S1x1024_3_0))),
    pc 4 inb_S8x1024_S1x1024_4_0 (f4 (View.ld R (Rect.unit (s := S8x1024) ![4, 0] ![1, 1024] inb_S8x1024_S1x1024_4_0)))]

/-- The stores of the first point, over one of everything. -/
def acF (R : Vec Ideal S8x1024 .f32) (w : View.Piece (Elt Ideal) S8x1024 .f32) : List (View.Piece (Elt Ideal) S8x1024 .f32) :=
  [pc 0 inb_S8x1024_S1x1024_0_0 (f0 (View.ld R (Rect.unit (s := S8x1024) ![0, 0] ![1, 1024] inb_S8x1024_S1x1024_0_0))),
    pc 1 inb_S8x1024_S1x1024_1_0 (f1 (View.ld R (Rect.unit (s := S8x1024) ![1, 0] ![1, 1024] inb_S8x1024_S1x1024_1_0))),
    pc 2 inb_S8x1024_S1x1024_2_0 (f2 (View.ld R (Rect.unit (s := S8x1024) ![2, 0] ![1, 1024] inb_S8x1024_S1x1024_2_0))),
    pc 3 inb_S8x1024_S1x1024_3_0 (f3 (View.ld R (Rect.unit (s := S8x1024) ![3, 0] ![1, 1024] inb_S8x1024_S1x1024_3_0))),
    pc 4 inb_S8x1024_S1x1024_4_0 (f4 (View.ld R (Rect.unit (s := S8x1024) ![4, 0] ![1, 1024] inb_S8x1024_S1x1024_4_0))), w]

/-- A load of a row does not see a store of another one. -/
theorem ld_skip (r r' : ℕ) (h : r ≠ r') (inb : ∀ a, ![r, 0] a + ![1, 1024] a ≤ S8x1024.size a) (inb' : ∀ a, ![r', 0] a + ![1, 1024] a ≤ S8x1024.size a)
    (w : Vec Ideal S1x1024 .f32) (L : List (View.Piece (Elt Ideal) S8x1024 .f32)) :
    View.ld (View.canon (⟨Rect.unit (s := S8x1024) ![r', 0] ![1, 1024] inb', w⟩ :: L)) (Rect.unit (s := S8x1024) ![r, 0] ![1, 1024] inb)
      = View.ld (View.canon L) (Rect.unit (s := S8x1024) ![r, 0] ![1, 1024] inb) := by
  have hr : r < 8 := by
    have := inb 0
    simp at this
    omega
  funext y
  obtain ⟨a, q, rfl⟩ : ∃ (a : Fin 1) (q : Fin 1024), y = ix2 a q := ⟨y 0, y 1, eq_ix2 y⟩
  obtain rfl : a = 0 := Subsingleton.elim _ _
  refine (Rows.ld_row r inb _ ⟨r, hr⟩ rfl q).trans (Eq.trans ?_ (Rows.ld_row r inb _ ⟨r, hr⟩ rfl q).symm)
  exact (Rows.canon_row r' inb' w L ⟨r, hr⟩ q).trans (if_neg h)

variable (s0 s1 s2 s3 s4 : Fin 1024 → EReal)
/-- The five rows, and nothing below. -/
def acV (p : Fin 8) (q : Fin 1024) : EReal :=
  if p.val = 0 then s0 q else if p.val = 1 then s1 q else if p.val = 2 then s2 q else if p.val = 3 then s3 q else if p.val = 4 then s4 q else 0

variable (h0 : ∀ R q, f0 R (ix2 0 q) = R (ix2 0 q) + s0 q) (h1 : ∀ R q, f1 R (ix2 0 q) = R (ix2 0 q) + s1 q) (h2 : ∀ R q, f2 R (ix2 0 q) = R (ix2 0 q) + s2 q)
  (h3 : ∀ R q, f3 R (ix2 0 q) = R (ix2 0 q) + s3 q) (h4 : ∀ R q, f4 R (ix2 0 q) = R (ix2 0 q) + s4 q)
include h0 h1 h2 h3 h4
theorem acA_at (R : Vec Ideal S8x1024 .f32) (w : View.Piece (Elt Ideal) S8x1024 .f32) (p : Fin 8) (q : Fin 1024) (hL : View.canon [w] = R) :
    View.canon (acF f0 f1 f2 f3 f4 R w) (ix2 p q) = R (ix2 p q) + acV s0 s1 s2 s3 s4 p q := by
  subst hL
  unfold acF
  refine (Rows.canon_row 0 _ _ _ p q).trans ?_
  rw [Rows.canon_row 1, Rows.canon_row 2, Rows.canon_row 3, Rows.canon_row 4]
  rw [h0, h1, h2, h3, h4, acV]
  split_ifs with e0 e1 e2 e3 e4
  · rw [Rows.ld_row 0 _ _ p e0 q]
  · rw [Rows.ld_row 1 _ _ p e1 q]
  · rw [Rows.ld_row 2 _ _ p e2 q]
  · rw [Rows.ld_row 3 _ _ p e3 q]
  · rw [Rows.ld_row 4 _ _ p e4 q]
  · rw [add_zero]
theorem acP_at {sig : RefSig} {κ : Kind} {sp : Space} (M : Memref sig κ sp S8x1024 .f32) (hM : M.IsWhole) (R : Vec Ideal S8x1024 .f32) (p : Fin 8) (q : Fin 1024) :
    M.view.read (Elt Ideal) (M.view.writes (Elt Ideal) (hM.unread R) (acP f0 f1 f2 f3 f4 R)) (ix2 p q) = R (ix2 p q) + acV s0 s1 s2 s3 s4 p q := by
  refine (Rows.read_row M hM R 0 _ _ _ p q).trans ?_
  rw [Rows.read_row M hM R 1, Rows.read_row M hM R 2, Rows.read_row M hM R 3, Rows.read_row M hM R 4, View.writes_nil, Memref.IsWhole.read_unread,
    h0, h1, h2, h3, h4, acV]
  split_ifs with e0 e1 e2 e3 e4
  · rw [Rows.ld_row 0 _ R p e0 q]
  · rw [Rows.ld_row 1 _ R p e1 q]
  · rw [Rows.ld_row 2 _ R p e2 q]
  · rw [Rows.ld_row 3 _ R p e3 q]
  · rw [Rows.ld_row 4 _ R p e4 q]
  · rw [add_zero]
end

/-- One block's parts of the five row sums. -/
def acS (c : Dev nD) (t : Fin cfg0.N) (p : Fin 8) (q : Fin 1024) : EReal :=
  acV (fun q => ∑ a : Fin 256, (blk m c t).dnr a q * ((blk m c t).X (ix2 a q) * Norm.rinv (fun k => (blk m c t).X (ix2 a k))))
    (fun q => ∑ a : Fin 256, ((blk m c t).row a).dp q) (fun q => ∑ a : Fin 256, ((blk m c t).row a).de q * ((blk m c t).row a).eh q)
    (fun q => ∑ a : Fin 256, ((blk m c t).row a).dy q * ((blk m c t).row a).xh q)
    (fun q => (∑ a : Fin 256, ((blk m c t).row a).df q * ((blk m c t).row a).df q) * Ideal.ofBits .f32 0x3A000000#32) p q

set_option maxHeartbeats 1000000 in
theorem ac_A (c : Dev nD) (t : Fin cfg0.N) (h0 : t.val % 8 = 0) (p : Fin 8) (q : Fin 1024) : (outsAt0 m c t.val t.isLt).2.2.2.2 (ix2 p q) = 0 + acS m c t p q := by
  rw [outsAt0_A m c t h0]
  frame_out
  simp only [Rows.rd]
  simp only [ld_skip 0 1 (by decide), ld_skip 0 2 (by decide), ld_skip 0 3 (by decide), ld_skip 0 4 (by decide), ld_skip 1 2 (by decide), ld_skip 1 3 (by decide),
    ld_skip 1 4 (by decide), ld_skip 2 3 (by decide), ld_skip 2 4 (by decide), ld_skip 3 4 (by decide)]
  have z : View.canon [(⟨Rect.unit (s := S8x1024) ![0, 0] ![8, 1024] inb_S8x1024_S8x1024_0_0, (k0_pay3 (F := Ideal) : Vec Ideal S8x1024 .f32)⟩ : View.Piece (Elt Ideal) S8x1024 .f32)]
      (ix2 p q) = 0 := (congrFun (Rows.canon_fill _ _ _) (ix2 p q)).trans (pay3_at p q)
  refine Eq.trans ?_ (congrArg (· + acS m c t p q) z)
  refine Eq.trans ?_ (acA_at (blk m c t).a0 (blk m c t).a1 (blk m c t).a2 (blk m c t).a3 (blk m c t).a4 _ _ _ _ _ (fun R q => (blk m c t).a0_at q R) (fun R q => (blk m c t).a1_at q R)
    (fun R q => (blk m c t).a2_at q R) (fun R q => (blk m c t).a3_at q R) (fun R q => (blk m c t).a4_at q R) _ (⟨Rect.unit (s := S8x1024) ![0, 0] ![8, 1024] inb_S8x1024_S8x1024_0_0, (k0_pay3 (F := Ideal) : Vec Ideal S8x1024 .f32)⟩ : View.Piece (Elt Ideal) S8x1024 .f32) p q rfl)
  refine congrFun (congrArg View.canon ?_) _
  unfold acF
  refine congrArg₂ List.cons ?_ (congrArg₂ List.cons ?_ (congrArg₂ List.cons ?_ (congrArg₂ List.cons ?_ (congrArg₂ List.cons ?_ rfl))))
  · rfl
  · rfl
  · rfl
  · rfl
  · rfl
set_option maxHeartbeats 1000000 in
theorem ac_B (c : Dev nD) (t : Fin cfg0.N) (h0 : ¬t.val % 8 = 0) (p : Fin 8) (q : Fin 1024) : (outsAt0 m c t.val t.isLt).2.2.2.2 (ix2 p q)
    = (outsAt0 m c (t.val - 1) (Nat.lt_of_le_of_lt (Nat.sub_le _ _) t.isLt)).2.2.2.2 (ix2 p q) + acS m c t p q := by
  rw [outsAt0_B m c t h0]
  frame_out
  exact acP_at (blk m c t).a0 (blk m c t).a1 (blk m c t).a2 (blk m c t).a3 (blk m c t).a4 _ _ _ _ _ (fun R q => (blk m c t).a0_at q R) (fun R q => (blk m c t).a1_at q R)
    (fun R q => (blk m c t).a2_at q R) (fun R q => (blk m c t).a3_at q R) (fun R q => (blk m c t).a4_at q R) _ _ _ p q

/-- The last point. -/
abbrev tL : Fin cfg0.N := ⟨7, by rw [show cfg0.N = 8 from N_0]; norm_num⟩

theorem ac_sum (c : Dev nD) (h : Ok m c) (p : Fin 8) (q : Fin 1024) : (outsAt0 m c tL.val tL.isLt).2.2.2.2 (ix2 p q) = acM m c (ix2 p q) := by
  have e := Pipeline.eq_sum_fin_of_reset_step_apply_last (N := cfg0.N) (fun n h (_ : Unit) => (outsAt0 m c n h).2.2.2.2 (ix2 p q)) 8 (fun _ => 0)
    (fun t _ => acS m c t p q) (fun t h _ => ac_A m c t h p q) (fun t h _ => ac_B m c t h p q) (le_of_eq N_0) tL rfl ()
  refine e.trans ?_
  refine Eq.trans ?_ (acR_at _ _ _ _ _ p q).symm
  rw [zero_add]
  unfold acS acV
  have hi : ∀ (t : Fin 8) (a : Fin 256), 256 * t.val + a.val < 2048 := fun t a => by omega
  split_ifs
  · rw [← Rows.sum_blocks]
    refine Finset.sum_congr rfl fun t _ => Finset.sum_congr rfl fun a _ => ?_
    have e' : mulf (nrmR (aX m c)) (dnM m c) (ix2 ⟨_, hi t a⟩ q) = nrmR (aX m c) (ix2 ⟨_, hi t a⟩ q) * dnM m c (ix2 ⟨_, hi t a⟩ q) := rfl
    rw [e', mul_comm, nrmR_at]
    refine congrArg₂ (· * ·) ?_ (dnr_eq m c h t a ⟨_, hi t a⟩ rfl q)
    have hx : ∀ k, (blk m c t).X (ix2 a k) = aX m c (ix2 ⟨_, hi t a⟩ k) := fun k => blk0 m c t a k ⟨_, hi t a⟩ rfl
    simp only [hx]
  · rw [← Rows.sum_blocks]
    refine Finset.sum_congr rfl fun t _ => Finset.sum_congr rfl fun a _ => ?_
    rw [dpM_at m c _ q h, row_eq m c t a ⟨_, hi t a⟩ rfl]
  · rw [← Rows.sum_blocks]
    refine Finset.sum_congr rfl fun t _ => Finset.sum_congr rfl fun a _ => ?_
    have e' : mulf (nrmR (emM m c)) (deM m c) (ix2 ⟨_, hi t a⟩ q) = nrmR (emM m c) (ix2 ⟨_, hi t a⟩ q) * deM m c (ix2 ⟨_, hi t a⟩ q) := rfl
    rw [e', mul_comm, ehM_at, deM_at m c _ q h, row_eq m c t a ⟨_, hi t a⟩ rfl]
  · rw [← Rows.sum_blocks]
    refine Finset.sum_congr rfl fun t _ => Finset.sum_congr rfl fun a _ => ?_
    have e' : mulf (nrmR (x3M m c)) (dyM m c) (ix2 ⟨_, hi t a⟩ q) = nrmR (x3M m c) (ix2 ⟨_, hi t a⟩ q) * dyM m c (ix2 ⟨_, hi t a⟩ q) := rfl
    rw [e', mul_comm, xhM_at, dyM_at, row_eq m c t a ⟨_, hi t a⟩ rfl]
  · rw [← Rows.sum_blocks, sum_mul _ _ (fun t => Norm.Fin'.sum _ _ fun a => ?_) _ ⟨_, ofBits_half1024⟩]
    · refine Finset.sum_congr rfl fun t _ => congrArg (· * _) (Finset.sum_congr rfl fun a _ => ?_)
      have e' : mulf (dfM m c) (dfM m c) (ix2 ⟨_, hi t a⟩ q) = dfM m c (ix2 ⟨_, hi t a⟩ q) * dfM m c (ix2 ⟨_, hi t a⟩ q) := rfl
      rw [e', dfM_at, row_eq m c t a ⟨_, hi t a⟩ rfl]
    · have e' : mulf (dfM m c) (dfM m c) (ix2 ⟨_, hi t a⟩ q) = dfM m c (ix2 ⟨_, hi t a⟩ q) * dfM m c (ix2 ⟨_, hi t a⟩ q) := rfl
      rw [e', dfM_at]
      exact ((rowM_ok m c h _).fdf q).mul ((rowM_ok m c h _).fdf q)
  · exact Finset.sum_const_zero

/-! ## The five results, whole -/

theorem emb9 (t : Fin cfg0.N) (a : Fin 256) (b : Fin 1024) (i : Fin 2048) (hi : i.val = 256 * t.val + a.val) : ((cfg0.win 9).blk t).view.emb (ix2 a b) = ix2 i b := by
  funext x
  match x with
  | ⟨0, _⟩ => exact Fin.ext (by blk_simp [idxs t]; omega)
  | ⟨1, _⟩ => exact Fin.ext (by blk_simp [idxs t])
theorem emb10 (t : Fin cfg0.N) (a : Fin 256) (b : Fin 1024) (i : Fin 2048) (hi : i.val = 256 * t.val + a.val) : ((cfg0.win 10).blk t).view.emb (ix2 a b) = ix2 i b := by
  funext x
  match x with
  | ⟨0, _⟩ => exact Fin.ext (by blk_simp [idxs t]; omega)
  | ⟨1, _⟩ => exact Fin.ext (by blk_simp [idxs t])
theorem emb11 (t : Fin cfg0.N) (a : Fin 256) (b : Fin 1024) (i : Fin 2048) (hi : i.val = 256 * t.val + a.val) : ((cfg0.win 11).blk t).view.emb (ix2 a b) = ix2 i b := by
  funext x
  match x with
  | ⟨0, _⟩ => exact Fin.ext (by blk_simp [idxs t]; omega)
  | ⟨1, _⟩ => exact Fin.ext (by blk_simp [idxs t])
theorem emb12 (t : Fin cfg0.N) (a : Fin 256) (b : Fin 1024) (i : Fin 2048) (hi : i.val = 256 * t.val + a.val) : ((cfg0.win 12).blk t).view.emb (ix2 a b) = ix2 i b := by
  funext x
  match x with
  | ⟨0, _⟩ => exact Fin.ext (by blk_simp [idxs t]; omega)
  | ⟨1, _⟩ => exact Fin.ext (by blk_simp [idxs t])
theorem emb13 (t : Fin cfg0.N) (a : Fin 8) (b : Fin 1024) : ((cfg0.win 13).blk t).view.emb (ix2 a b) = ix2 a b := by
  funext x
  match x with
  | ⟨0, _⟩ => exact Fin.ext (by blk_simp [idxs t])
  | ⟨1, _⟩ => exact Fin.ext (by blk_simp [idxs t])

/-- The gradient at the layer's output, where the arguments are finite. -/
theorem final_9 (c : Dev nD) (h : Ok m c) : (dats m 0 c).arrAt 9 (cfgs 0).N = Cert.InprojIdeal.Value.gxR (aX m c) (dxM m c) (dnM m c) (agg m c) := by
  refine (dats m 0 c).arrAt_eq_of_covers 9 _ (by decide +kernel) fun t _ y => ?_
  refine (congrFun (after0_9 m c t) y).trans ((dx2_pt m c t y).trans ?_)
  obtain ⟨a, b, rfl⟩ : ∃ (a : Fin 256) (b : Fin 1024), y = ix2 a b := ⟨y 0, y 1, eq_ix2 y⟩
  have hi : 256 * t.val + a.val < 2048 := by have : t.val < 8 := t.isLt; omega
  have fd : ∀ y, Norm.Fin' (dnM m c y) := fun y => by
    obtain ⟨i, k, rfl⟩ : ∃ (i : Fin 2048) (k : Fin 1024), y = ix2 i k := ⟨y 0, y 1, eq_ix2 y⟩
    exact fin_dnM m c i k h
  have hg : ∀ k, (blk m c t).gpg (ix2 0 k) = agg m c (ix2 0 k) := fun k => blk3 m c t 0 k
  rw [emb9 t a b ⟨_, hi⟩ rfl, Cert.InprojIdeal.Value.gxR_at _ _ _ _ h.X fd h.gg, dxM_at m c _ b h, Blk.dx2_at, row_eq m c t a ⟨_, hi⟩ rfl]
  simp only [dnr_eq m c h t a ⟨_, hi⟩ rfl, hg]
  rfl

/-- The gate's normed input. -/
theorem final_10 (c : Dev nD) : (dats m 0 c).arrAt 10 (cfgs 0).N = truncf .bf16 (nwR (aX m c) (agg m c)) := by
  refine (dats m 0 c).arrAt_eq_of_covers 10 _ (by decide +kernel) fun t _ y => ?_
  refine (congrFun (after0_10 m c t) y).trans ((n2_pt m c t y).trans ?_)
  obtain ⟨a, b, rfl⟩ : ∃ (a : Fin 256) (b : Fin 1024), y = ix2 a b := ⟨y 0, y 1, eq_ix2 y⟩
  have hi : 256 * t.val + a.val < 2048 := by have : t.val < 8 := t.isLt; omega
  have hx : ∀ k, (blk m c t).X (ix2 a k) = aX m c (ix2 ⟨_, hi⟩ k) := fun k => blk0 m c t a k ⟨_, hi⟩ rfl
  have hg : ∀ k, (blk m c t).gpg (ix2 0 k) = agg m c (ix2 0 k) := fun k => blk3 m c t 0 k
  rw [emb10 t a b ⟨_, hi⟩ rfl, Blk.n2_at]
  simp only [hx, hg]
  exact (nwR_at ⟨_, hi⟩ b (aX m c) (agg m c)).symm

/-- The gradient at the gate's input. -/
theorem final_11 (c : Dev nD) (h : Ok m c) : (dats m 0 c).arrAt 11 (cfgs 0).N = truncf .bf16 (dpM m c) := by
  refine (dats m 0 c).arrAt_eq_of_covers 11 _ (by decide +kernel) fun t _ y => ?_
  refine (congrFun (after0_11 m c t) y).trans ((dp_pt m c t y).trans ?_)
  obtain ⟨a, b, rfl⟩ : ∃ (a : Fin 256) (b : Fin 1024), y = ix2 a b := ⟨y 0, y 1, eq_ix2 y⟩
  have hi : 256 * t.val + a.val < 2048 := by have : t.val < 8 := t.isLt; omega
  rw [emb11 t a b ⟨_, hi⟩ rfl, Blk.dp_at, row_eq m c t a ⟨_, hi⟩ rfl]
  exact (dpM_at m c ⟨_, hi⟩ b h).symm

/-- The gradient at the embedding. -/
theorem final_12 (c : Dev nD) (h : Ok m c) : (dats m 0 c).arrAt 12 (cfgs 0).N = truncf .bf16 (nbR (emM m c) (deM m c) (agp m c)) := by
  refine (dats m 0 c).arrAt_eq_of_covers 12 _ (by decide +kernel) fun t _ y => ?_
  refine (congrFun (after0_12 m c t) y).trans ((de0_pt m c t y).trans ?_)
  obtain ⟨a, b, rfl⟩ : ∃ (a : Fin 256) (b : Fin 1024), y = ix2 a b := ⟨y 0, y 1, eq_ix2 y⟩
  have hi : 256 * t.val + a.val < 2048 := by have : t.val < 8 := t.isLt; omega
  rw [emb12 t a b ⟨_, hi⟩ rfl, Blk.de0_at, row_eq m c t a ⟨_, hi⟩ rfl]
  exact (de0M_at m c ⟨_, hi⟩ b h).symm

theorem last13 : ∀ t : Fin cfg0.N, (cfg0.win 13).flush t = true → t.val = 7 := (by decide +kernel : ∀ t : Fin grid0.N, (cfg0.win 13).flush t = true → t.val = 7)

/-- The gradients of the three norms' weights and of the gate's bias, and the loss of each column. -/
theorem final_13 (c : Dev nD) (h : Ok m c) : (dats m 0 c).arrAt 13 (cfgs 0).N = acM m c := by
  refine (dats m 0 c).arrAt_eq_of_covers 13 _ (by decide +kernel) fun t hf y => ?_
  refine (congrFun (after0_13 m c t) y).trans ?_
  obtain rfl : t = tL := Fin.ext (last13 t hf)
  obtain ⟨a, b, rfl⟩ : ∃ (a : Fin 8) (b : Fin 1024), y = ix2 a b := ⟨y 0, y 1, eq_ix2 y⟩
  refine (ac_sum m c h a b).trans ?_
  exact congrArg (acM m c) (emb13 _ a b).symm

end Cert.PleIdeal.Value
end
-- ==== Proof.PleClaim.lean ====
module

public import proofs.«01_k».proof.Defs
public import proofs.«01_k».proof.Proof.Gen.PleIdeal.Frame
public import proofs.«01_k».proof.Proof.Gen.PleRefIdeal.Run
public import proofs.«01_k».proof.Proof.Finite
public import proofs.«01_k».proof.Proof.PleSum
public import Idealize.ShloMosaic.Adequacy
public import Idealize.ShloMosaic.Init

@[expose] public section

noncomputable section

namespace Cert.Proof

open Idealize.ShloMosaic Idealize.SL.Sem

/-- The reference of the loss's call ends with its arguments as they were. -/
theorem frame_ple_reference [Cert.PleRefIdeal.Facts] : Cert.quiescent_PleRefIdeal := fun m ρ _ =>
  (θ_run Cert.PleRefIdeal.defs _ _).mono (fun r h => ⟨fun c => (h c).2.2.2.2.2,
      Idealize.ShloMosaic.sem_eq_zero_of_no_sems (by decide) r.2⟩)
    (Cert.PleRefIdeal.Value.run (F := Ideal) m ρ)

section
open Cert.PleRefIdeal
open Cert.PleIdeal.Value (preR emR x3R dfR dyR nbR gtR dpR dnR acR nwR nrmR)
variable (m : (ℓ : Loc nD τ sig) → Buf (Elt Ideal) ℓ) (c : Dev nD)

/-- The reference's terms, of its arguments. -/
abbrev pleA := preR (m ((c.tc : Thread nD τ).loc main_arg0)) (m ((c.tc : Thread nD τ).loc main_arg3)) (m ((c.tc : Thread nD τ).loc main_arg5)) (m ((c.tc : Thread nD τ).loc main_arg4))
abbrev pleE := emR (m ((c.tc : Thread nD τ).loc main_arg1)) (m ((c.tc : Thread nD τ).loc main_arg6))
abbrev pleX3 := x3R (m ((c.tc : Thread nD τ).loc main_arg0)) (pleA m c) (pleE m c) (m ((c.tc : Thread nD τ).loc main_arg7))
abbrev pleD := dfR (pleX3 m c) (m ((c.tc : Thread nD τ).loc main_arg2)) (m ((c.tc : Thread nD τ).loc main_arg8))
abbrev pleDx := nbR (pleX3 m c) (dyR (pleD m c)) (m ((c.tc : Thread nD τ).loc main_arg8))
abbrev pleDe := mulf (gtR (pleA m c)) (pleDx m c)
abbrev pleDp := dpR (pleDx m c) (pleA m c) (pleE m c) (m ((c.tc : Thread nD τ).loc main_arg7))
abbrev pleDn := dnR (pleDp m c) (m ((c.tc : Thread nD τ).loc main_arg4))

/-! Each array of the reference that is used again is one of the terms. -/

theorem ple_v0 : Cert.PleRefIdeal.Value.res_main_v0 (StableHlo.launchContents m c) = Cert.PleIdeal.Value.zR := by
  unfold Cert.PleRefIdeal.Value.res_main_v0
  rfl
theorem ple_v7 : Cert.PleRefIdeal.Value.res_main_v7 (StableHlo.launchContents m c) = Cert.InprojIdeal.Value.msR (m ((c.tc : Thread nD τ).loc main_arg0)) := by
  unfold Cert.PleRefIdeal.Value.res_main_v7
  rfl
theorem ple_v8 : Cert.PleRefIdeal.Value.res_main_v8 (StableHlo.launchContents m c) = Host.rsqrt (Cert.InprojIdeal.Value.msR (m ((c.tc : Thread nD τ).loc main_arg0))) := by
  unfold Cert.PleRefIdeal.Value.res_main_v8
  rw [ple_v7]
theorem ple_v13 : Cert.PleRefIdeal.Value.res_main_v13 (StableHlo.launchContents m c) = nrmR (m ((c.tc : Thread nD τ).loc main_arg0)) := by
  unfold Cert.PleRefIdeal.Value.res_main_v13
  rw [ple_v8]
  rfl
theorem ple_v25 : Cert.PleRefIdeal.Value.res_main_v25 (StableHlo.launchContents m c) = gtR (pleA m c) := by
  unfold Cert.PleRefIdeal.Value.res_main_v25
  rw [ple_v13, ple_v0]
  rfl
theorem ple_v30 : Cert.PleRefIdeal.Value.res_main_v30 (StableHlo.launchContents m c) = pleE m c := by
  unfold Cert.PleRefIdeal.Value.res_main_v30
  rw [ple_v0]
  rfl
theorem ple_v37 : Cert.PleRefIdeal.Value.res_main_v37 (StableHlo.launchContents m c) = Cert.InprojIdeal.Value.msR (pleE m c) := by
  unfold Cert.PleRefIdeal.Value.res_main_v37
  rw [ple_v30]
  rfl
theorem ple_v38 : Cert.PleRefIdeal.Value.res_main_v38 (StableHlo.launchContents m c) = Host.rsqrt (Cert.InprojIdeal.Value.msR (pleE m c)) := by
  unfold Cert.PleRefIdeal.Value.res_main_v38
  rw [ple_v37]
theorem ple_v43 : Cert.PleRefIdeal.Value.res_main_v43 (StableHlo.launchContents m c) = nrmR (pleE m c) := by
  unfold Cert.PleRefIdeal.Value.res_main_v43
  rw [ple_v30, ple_v38]
  rfl
theorem ple_v45 : Cert.PleRefIdeal.Value.res_main_v45 (StableHlo.launchContents m c) = nwR (pleE m c) (m ((c.tc : Thread nD τ).loc main_arg7)) := by
  unfold Cert.PleRefIdeal.Value.res_main_v45
  rw [ple_v43]
  rfl
theorem ple_v47 : Cert.PleRefIdeal.Value.res_main_v47 (StableHlo.launchContents m c) = pleX3 m c := by
  unfold Cert.PleRefIdeal.Value.res_main_v47
  rw [ple_v25, ple_v45]
  rfl
theorem ple_v54 : Cert.PleRefIdeal.Value.res_main_v54 (StableHlo.launchContents m c) = Cert.InprojIdeal.Value.msR (pleX3 m c) := by
  unfold Cert.PleRefIdeal.Value.res_main_v54
  rw [ple_v47]
  rfl
theorem ple_v55 : Cert.PleRefIdeal.Value.res_main_v55 (StableHlo.launchContents m c) = Host.rsqrt (Cert.InprojIdeal.Value.msR (pleX3 m c)) := by
  unfold Cert.PleRefIdeal.Value.res_main_v55
  rw [ple_v54]
theorem ple_v60 : Cert.PleRefIdeal.Value.res_main_v60 (StableHlo.launchContents m c) = nrmR (pleX3 m c) := by
  unfold Cert.PleRefIdeal.Value.res_main_v60
  rw [ple_v47, ple_v55]
  rfl
theorem ple_v63 : Cert.PleRefIdeal.Value.res_main_v63 (StableHlo.launchContents m c) = pleD m c := by
  unfold Cert.PleRefIdeal.Value.res_main_v63
  rw [ple_v60]
  rfl
theorem ple_v77 : Cert.PleRefIdeal.Value.res_main_v77 (StableHlo.launchContents m c) = dyR (pleD m c) := by
  unfold Cert.PleRefIdeal.Value.res_main_v77
  rw [ple_v63]
  rfl
theorem ple_v82 : Cert.PleRefIdeal.Value.res_main_v82 (StableHlo.launchContents m c) = mulf (dyR (pleD m c)) (Cert.PleIdeal.Value.bw (m ((c.tc : Thread nD τ).loc main_arg8))) := by
  unfold Cert.PleRefIdeal.Value.res_main_v82
  rw [ple_v77]
theorem ple_v92 : Cert.PleRefIdeal.Value.res_main_v92 (StableHlo.launchContents m c) = Cert.InprojIdeal.Value.coR (pleX3 m c) (mulf (dyR (pleD m c)) (Cert.PleIdeal.Value.bw (m ((c.tc : Thread nD τ).loc main_arg8)))) := by
  unfold Cert.PleRefIdeal.Value.res_main_v92
  rw [ple_v47, ple_v82, ple_v55, ple_v54]
  rfl
theorem ple_v96 : Cert.PleRefIdeal.Value.res_main_v96 (StableHlo.launchContents m c) = pleDx m c := by
  unfold Cert.PleRefIdeal.Value.res_main_v96
  rw [ple_v82, ple_v55, ple_v47, ple_v92]
  rfl
theorem ple_v97 : Cert.PleRefIdeal.Value.res_main_v97 (StableHlo.launchContents m c) = pleDe m c := by
  unfold Cert.PleRefIdeal.Value.res_main_v97
  rw [ple_v25, ple_v96]
theorem ple_v103 : Cert.PleRefIdeal.Value.res_main_v103 (StableHlo.launchContents m c) = mulf (pleDe m c) (Cert.PleIdeal.Value.bw (m ((c.tc : Thread nD τ).loc main_arg7))) := by
  unfold Cert.PleRefIdeal.Value.res_main_v103
  rw [ple_v97]
theorem ple_v113 : Cert.PleRefIdeal.Value.res_main_v113 (StableHlo.launchContents m c) = Cert.InprojIdeal.Value.coR (pleE m c) (mulf (pleDe m c) (Cert.PleIdeal.Value.bw (m ((c.tc : Thread nD τ).loc main_arg7)))) := by
  unfold Cert.PleRefIdeal.Value.res_main_v113
  rw [ple_v30, ple_v103, ple_v38, ple_v37]
  rfl
theorem ple_v118 : Cert.PleRefIdeal.Value.res_main_v118 (StableHlo.launchContents m c) = pleDp m c := by
  unfold Cert.PleRefIdeal.Value.res_main_v118
  rw [ple_v96, ple_v45, ple_v25]
  rfl
theorem ple_v121 : Cert.PleRefIdeal.Value.res_main_v121 (StableHlo.launchContents m c) = pleDn m c := by
  unfold Cert.PleRefIdeal.Value.res_main_v121
  rw [ple_v118]
  rfl
theorem ple_v126 : Cert.PleRefIdeal.Value.res_main_v126 (StableHlo.launchContents m c) = mulf (pleDn m c) (Cert.PleIdeal.Value.bw (m ((c.tc : Thread nD τ).loc main_arg3))) := by
  unfold Cert.PleRefIdeal.Value.res_main_v126
  rw [ple_v121]
theorem ple_v137 : Cert.PleRefIdeal.Value.res_main_v137 (StableHlo.launchContents m c) = Cert.InprojIdeal.Value.coR (m ((c.tc : Thread nD τ).loc main_arg0)) (mulf (pleDn m c) (Cert.PleIdeal.Value.bw (m ((c.tc : Thread nD τ).loc main_arg3)))) := by
  unfold Cert.PleRefIdeal.Value.res_main_v137
  rw [ple_v126, ple_v8, ple_v7]
  rfl
theorem ple_v165 : Cert.PleRefIdeal.Value.res_main_v165 (StableHlo.launchContents m c) = pleE m c := by
  unfold Cert.PleRefIdeal.Value.res_main_v165
  rw [ple_v0]
  rfl
theorem ple_v179 : Cert.PleRefIdeal.Value.res_main_v179 (StableHlo.launchContents m c) = pleX3 m c := by
  unfold Cert.PleRefIdeal.Value.res_main_v179
  rw [ple_v165, ple_v0]
  rfl
theorem ple_v192 : Cert.PleRefIdeal.Value.res_main_v192 (StableHlo.launchContents m c) = pleD m c := by
  unfold Cert.PleRefIdeal.Value.res_main_v192
  rw [ple_v179]
  rfl

end

open Cert.PleRefIdeal in
open Cert.PleIdeal.Value (preR emR x3R dfR dyR nbR gtR dpR dnR acR nwR nrmR) in
/-- What the reference ends with, by its parts. -/
theorem ple_reference (m : (ℓ : Loc nD τ sig) → Buf (Elt Ideal) ℓ) (ρ : Dev nD → PrngReg) :
    θ_run (Cert.PleRefIdeal.defs (F := Ideal)) (onTc (τ := τ) (main (F := Ideal))) ⟨m, fun _ => 0, ρ⟩ fun r => ∀ c : Dev nD,
      r.2.mem ((c.tc : Thread nD τ).loc main_v141) = Cert.InprojIdeal.Value.gxR (m ((c.tc : Thread nD τ).loc main_arg0)) (pleDx m c) (pleDn m c) (m ((c.tc : Thread nD τ).loc main_arg3))
      ∧ r.2.mem ((c.tc : Thread nD τ).loc main_v210) = truncf .bf16 (nwR (m ((c.tc : Thread nD τ).loc main_arg0)) (m ((c.tc : Thread nD τ).loc main_arg3)))
      ∧ r.2.mem ((c.tc : Thread nD τ).loc main_v211) = truncf .bf16 (pleDp m c)
      ∧ r.2.mem ((c.tc : Thread nD τ).loc main_v212) = truncf .bf16 (nbR (pleE m c) (pleDe m c) (m ((c.tc : Thread nD τ).loc main_arg7)))
      ∧ r.2.mem ((c.tc : Thread nD τ).loc main_v214) = acR (mulf (nrmR (m ((c.tc : Thread nD τ).loc main_arg0))) (pleDn m c)) (pleDp m c) (mulf (nrmR (pleE m c)) (pleDe m c)) (mulf (nrmR (pleX3 m c)) (dyR (pleD m c))) (mulf (pleD m c) (pleD m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun r h c => ⟨(h c).1.trans (by rw [ple_v96, ple_v126, ple_v8, ple_v137]; rfl),
      (h c).2.1.trans rfl,
      (h c).2.2.1.trans (by rw [ple_v118]),
      (h c).2.2.2.1.trans (by rw [ple_v103, ple_v38, ple_v30, ple_v113]; rfl),
      (h c).2.2.2.2.1.trans (by rw [ple_v13, ple_v121, ple_v118, ple_v43, ple_v97, ple_v60, ple_v77, ple_v192]; rfl),
      (h c).2.2.2.2.2⟩) (Cert.PleRefIdeal.Value.run (F := Ideal) m ρ)

open Cert.PleIdeal Cert.PleIdeal.Gen in
/-- What the kernel ends with: its five results as the points leave them. -/
theorem ple_run_blocks (m : (ℓ : Loc nD τ sig) → Buf (Elt Ideal) ℓ) (ρ : Dev nD → PrngReg) :
    θ_run (Cert.PleIdeal.defs (F := Ideal)) (onTc (τ := τ) (main (F := Ideal))) ⟨m, fun _ => 0, ρ⟩ fun r => ∀ c : Dev nD,
      r.2.mem ((c.tc : Thread nD τ).loc main_v4_0) = (dats m 0 c).arrAt 9 cfg0.N
      ∧ r.2.mem ((c.tc : Thread nD τ).loc main_v4_1) = (dats m 0 c).arrAt 10 cfg0.N
      ∧ r.2.mem ((c.tc : Thread nD τ).loc main_v4_2) = (dats m 0 c).arrAt 11 cfg0.N
      ∧ r.2.mem ((c.tc : Thread nD τ).loc main_v4_3) = (dats m 0 c).arrAt 12 cfg0.N
      ∧ r.2.mem ((c.tc : Thread nD τ).loc main_v4_4) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun r h c => ⟨(h.1 c).1 9, (h.1 c).1 10, (h.1 c).1 11, (h.1 c).1 12, (h.1 c).1 13, h.2 c⟩)
    (θ_run_and (run_main (F := Ideal) m ρ) (unchanged (F := Ideal) m ρ))

set_option maxHeartbeats 4000000 in
/-- All five results of the loss's call are the derivatives, where its arguments are finite. -/
theorem ple [Cert.Pre_ple_finite.Facts] : @Cert.algebraic_PleIdeal_PleRefIdeal_pre_ple_finite Cert.PleIdeal.Gen.facts Cert.PleRefIdeal.Gen.facts _ := by
  pair_intro
  · run_from ple_run_blocks m g
  run_from ple_reference m' g'
  · obtain ⟨e0, e1, e2, e3, e4, e5, e6, e7, e8⟩ := hagree c
    obtain ⟨h0, h1, h2, h3, h4, h5, h6, h7, h8⟩ := hpre c
    simp only [pleDn, pleDp, pleDe, pleDx, pleD, pleX3, pleE, pleA, e0, e1, e2, e3, e4, e5, e6, e7, e8]
    exact (Cert.PleIdeal.Value.final_9 m c ⟨Norm.fin_of_pre _ _ h0, Norm.fin_of_pre _ _ h1, Norm.fin_of_pre _ _ h2, Norm.fin_of_pre _ _ h3, Norm.fin_of_pre _ _ h4, Norm.fin_of_pre _ _ h5, Norm.fin_of_pre _ _ h6, Norm.fin_of_pre _ _ h7, Norm.fin_of_pre _ _ h8⟩).symm
  · obtain ⟨e0, e1, e2, e3, e4, e5, e6, e7, e8⟩ := hagree c
    exact (Cert.PleIdeal.Value.final_10 m c).symm
  · obtain ⟨e0, e1, e2, e3, e4, e5, e6, e7, e8⟩ := hagree c
    obtain ⟨h0, h1, h2, h3, h4, h5, h6, h7, h8⟩ := hpre c
    simp only [pleDn, pleDp, pleDe, pleDx, pleD, pleX3, pleE, pleA, e0, e1, e2, e3, e4, e5, e6, e7, e8]
    exact (Cert.PleIdeal.Value.final_11 m c ⟨Norm.fin_of_pre _ _ h0, Norm.fin_of_pre _ _ h1, Norm.fin_of_pre _ _ h2, Norm.fin_of_pre _ _ h3, Norm.fin_of_pre _ _ h4, Norm.fin_of_pre _ _ h5, Norm.fin_of_pre _ _ h6, Norm.fin_of_pre _ _ h7, Norm.fin_of_pre _ _ h8⟩).symm
  · obtain ⟨e0, e1, e2, e3, e4, e5, e6, e7, e8⟩ := hagree c
    obtain ⟨h0, h1, h2, h3, h4, h5, h6, h7, h8⟩ := hpre c
    simp only [pleDn, pleDp, pleDe, pleDx, pleD, pleX3, pleE, pleA, e0, e1, e2, e3, e4, e5, e6, e7, e8]
    exact (Cert.PleIdeal.Value.final_12 m c ⟨Norm.fin_of_pre _ _ h0, Norm.fin_of_pre _ _ h1, Norm.fin_of_pre _ _ h2, Norm.fin_of_pre _ _ h3, Norm.fin_of_pre _ _ h4, Norm.fin_of_pre _ _ h5, Norm.fin_of_pre _ _ h6, Norm.fin_of_pre _ _ h7, Norm.fin_of_pre _ _ h8⟩).symm
  · obtain ⟨e0, e1, e2, e3, e4, e5, e6, e7, e8⟩ := hagree c
    obtain ⟨h0, h1, h2, h3, h4, h5, h6, h7, h8⟩ := hpre c
    simp only [pleDn, pleDp, pleDe, pleDx, pleD, pleX3, pleE, pleA, e0, e1, e2, e3, e4, e5, e6, e7, e8]
    exact (Cert.PleIdeal.Value.final_13 m c ⟨Norm.fin_of_pre _ _ h0, Norm.fin_of_pre _ _ h1, Norm.fin_of_pre _ _ h2, Norm.fin_of_pre _ _ h3, Norm.fin_of_pre _ _ h4, Norm.fin_of_pre _ _ h5, Norm.fin_of_pre _ _ h6, Norm.fin_of_pre _ _ h7, Norm.fin_of_pre _ _ h8⟩).symm

end Cert.Proof

end
-- ==== Proof.MergeFwd.lean ====
module

public import proofs.«01_k».proof.Proof.Gen.MergeFwdIdeal.Value
public import proofs.«01_k».proof.Proof.Gen.MergeFwdRefIdeal
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MergeFwdIdeal.Value
open Cert.MergeFwdIdeal Cert.MergeFwdIdeal.Gen

variable (m : (ℓ : Loc nD τ sig) → Buf (Elt Ideal) ℓ)

theorem idxs : ∀ t : Fin cfg0.N, win0_0.index t = ![t.val, 0]
    ∧ win0_1.index t = ![t.val, 0]
    ∧ win0_2.index t = ![t.val, 0]
    ∧ win0_3.index t = ![t.val, 0]
    ∧ win0_4.index t = ![0, 0, 0]
    ∧ win0_5.index t = ![0, 0]
    ∧ win0_6.index t = ![0, 0]
    ∧ win0_7.index t = ![t.val, 0]
    ∧ win0_8.index t = ![t.val, 0]
    ∧ win0_9.index t = ![t.val, 0]
    ∧ win0_10.index t = ![t.val, 0] :=
  (by decide +kernel : ∀ t : Fin grid0.N, _)

/-! ## The reference's terms -/

/-- The two branches' products. -/
def paR (x : FVec Ideal Cert.MergeFwdRefIdeal.S2048x512 .f32) (w : FVec Ideal Cert.MergeFwdRefIdeal.S512x1024 .f32) : FVec Ideal Cert.MergeFwdRefIdeal.S2048x1024 .f32 :=
  Host.dotGeneral Cert.MergeFwdRefIdeal.dot_S2048x512_S512x1024_S2048x1024_1_0_0_1_n_n none x w
def pbR (x : FVec Ideal Cert.MergeFwdRefIdeal.S2048x1024 .f32) (w : FVec Ideal Cert.MergeFwdRefIdeal.S1024x1024 .f32) : FVec Ideal Cert.MergeFwdRefIdeal.S2048x1024 .f32 :=
  Host.dotGeneral Cert.MergeFwdRefIdeal.dot_S2048x1024_S1024x1024_S2048x1024_1_0_0_1_n_n none x w

open Cert.MergeFwdRefIdeal.Gen in
def gateR (o : Fin 2 → ℕ) (h : Cert.MergeFwdRefIdeal.S2048x2048.Slices o Cert.MergeFwdRefIdeal.S2048x1024) (gp : FVec Ideal Cert.MergeFwdRefIdeal.S2048x2048 .f32) : FVec Ideal Cert.MergeFwdRefIdeal.S2048x1024 .f32 :=
  Host.divf (broadcastInDim Cert.MergeFwdRefIdeal.S2048x1024 ![] bcast_S_S2048x1024 (constant Cert.MergeFwdRefIdeal.S_ .f32 0x3F800000#32)) (addf (broadcastInDim Cert.MergeFwdRefIdeal.S2048x1024 ![] bcast_S_S2048x1024 (constant Cert.MergeFwdRefIdeal.S_ .f32 0x3F800000#32)) (Host.exp (Host.negf (extractStridedSlice Cert.MergeFwdRefIdeal.S2048x1024 o gp h))))

/-- The gated sum of the two branches. -/
def mgR (gp : FVec Ideal Cert.MergeFwdRefIdeal.S2048x2048 .f32) (pa pb : FVec Ideal Cert.MergeFwdRefIdeal.S2048x1024 .f32) : FVec Ideal Cert.MergeFwdRefIdeal.S2048x1024 .f32 :=
  addf (mulf (gateR ![0, 0] Cert.MergeFwdRefIdeal.Gen.slices_S2048x2048_S2048x1024_0_0 gp) pa)
    (mulf (gateR ![0, 1024] Cert.MergeFwdRefIdeal.Gen.slices_S2048x2048_S2048x1024_0_1024 gp) pb)

/-- The layer's residual stream after the merge. -/
def x1R (x mg : FVec Ideal Cert.MergeFwdRefIdeal.S2048x1024 .f32) (w : FVec Ideal Cert.MergeFwdRefIdeal.S1024x1024 .f32) : FVec Ideal Cert.MergeFwdRefIdeal.S2048x1024 .f32 :=
  addf x (Host.dotGeneral Cert.MergeFwdRefIdeal.dot_S2048x1024_S1024x1024_S2048x1024_1_0_0_1_n_n none mg w)

/-- One entry of the gated sum. -/
def mgE (g h a b : EReal) : EReal := Ideal.logistic g * a + Ideal.logistic h * b

theorem paR_at (x w) (i : Fin 2048) (j : Fin 1024) : paR x w (ix2 i j) = ∑ k : Fin 512, x (ix2 i k) * w (ix2 k j) := by
  pointwise [paR]
theorem pbR_at (x w) (i : Fin 2048) (j : Fin 1024) : pbR x w (ix2 i j) = ∑ k : Fin 1024, x (ix2 i k) * w (ix2 k j) := by
  pointwise [pbR]
theorem mgR_at (gp pa pb) (i : Fin 2048) (j : Fin 1024) :
    mgR gp pa pb (ix2 i j) = mgE (gp (ix2 i ⟨j.val, by omega⟩)) (gp (ix2 i ⟨1024 + j.val, by omega⟩)) (pa (ix2 i j)) (pb (ix2 i j)) := by
  pointwise [mgR, gateR, mgE, Ideal.logistic]
theorem x1R_at (x mg w) (i : Fin 2048) (j : Fin 1024) : x1R x mg w (ix2 i j) = x (ix2 i j) + ∑ k : Fin 1024, mg (ix2 i k) * w (ix2 k j) := by
  pointwise [x1R]

/-! ## The kernel's values -/

theorem mg_at (pb : FVec Ideal S256x1024 .f32) (gp : Vec Ideal S256x2048 .f32) (pa : Vec Ideal S256x1024 .f32) (a : Fin 256) (b : Fin 1024) :
    (k0_pay2 pb gp pa : Vec Ideal S256x1024 .bf16) (ix2 a b) = mgE (gp (ix2 a ⟨b.val, by omega⟩)) (gp (ix2 a ⟨1024 + b.val, by omega⟩)) (pa (ix2 a b)) (pb (ix2 a b)) := by
  pointwise [k0_pay2, k0_pay1, mgE]
theorem x1_at (pb : FVec Ideal S256x1024 .f32) (gp : Vec Ideal S256x2048 .f32) (pa : Vec Ideal S256x1024 .f32) (x : Vec Ideal S256x1024 .f32) (w : Vec Ideal S1024x1024 .bf16) (a : Fin 256) (b : Fin 1024) :
    (k0_pay3 pb gp pa x w : Vec Ideal S256x1024 .f32) (ix2 a b) = x (ix2 a b) + ∑ k : Fin 1024, mgE (gp (ix2 a ⟨k.val, by omega⟩)) (gp (ix2 a ⟨1024 + k.val, by omega⟩)) (pa (ix2 a k)) (pb (ix2 a k)) * w (ix2 k b) := by
  pointwise [k0_pay3, k0_pay1, mgE]
theorem pb_at (y : Vec Ideal S256x1024 .f32) (w : Vec Ideal S1024x1024 .bf16) (a : Fin 256) (b : Fin 1024) :
    (k0_pay8 y w : Vec Ideal S256x1024 .f32) (ix2 a b) = ∑ k : Fin 1024, y (ix2 a k) * w (ix2 k b) := by
  pointwise [k0_pay8]

theorem blk0 (c : Dev nD) (t : Fin cfg0.N) (a : Fin 256) (b : Fin 1024) (i : Fin 2048) (hi : i.val = 256 * t.val + a.val) : iblk m c 0 t (ix2 a b) = m ((c : Thread nD τ).loc main_arg0) (ix2 i b) := by
  blk_ext [iblk, V, idxs t]
theorem blk1 (c : Dev nD) (t : Fin cfg0.N) (a : Fin 256) (b : Fin 512) (i : Fin 2048) (hi : i.val = 256 * t.val + a.val) : iblk m c 1 t (ix2 a b) = m ((c : Thread nD τ).loc main_arg1) (ix2 i b) := by
  blk_ext [iblk, V, idxs t]
theorem blk2 (c : Dev nD) (t : Fin cfg0.N) (a : Fin 256) (b : Fin 1024) (i : Fin 2048) (hi : i.val = 256 * t.val + a.val) : iblk m c 2 t (ix2 a b) = m ((c : Thread nD τ).loc main_arg2) (ix2 i b) := by
  blk_ext [iblk, V, idxs t]
theorem blk3 (c : Dev nD) (t : Fin cfg0.N) (a : Fin 256) (b : Fin 2048) (i : Fin 2048) (hi : i.val = 256 * t.val + a.val) : iblk m c 3 t (ix2 a b) = m ((c : Thread nD τ).loc main_arg3) (ix2 i b) := by
  blk_ext [iblk, V, idxs t]
/-- The first branch's weight as the kernel takes it: its columns in four parts. -/
theorem V_w (c : Dev nD) (k : Fin 4) (b : Fin 512) (q : Fin 256) :
    V m c main_v2 (ix3 k b q) = m ((c : Thread nD τ).loc main_arg4) (ix2 b ⟨256 * k.val + q.val, by omega⟩) := by
  entry_read
  pointwise []
  exact congrArg (m ((c : Thread nD τ).loc main_arg4)) (congrArg (ix2 b) (Fin.ext (by simp; omega)))
theorem blk4 (c : Dev nD) (t : Fin cfg0.N) (q : Fin 4) (a : Fin 512) (b : Fin 256) : iblk m c 4 t (ix3 q a b) = m ((c : Thread nD τ).loc main_arg4) (ix2 a ⟨256 * q.val + b.val, by omega⟩) := by
  refine Eq.trans ?_ (V_w m c q a b)
  show V m c main_v2 (((cfg0.win 4).blk t).view.emb (ix3 q a b)) = _
  blk_ext [idxs t]
theorem blk5 (c : Dev nD) (t : Fin cfg0.N) (a b : Fin 1024) : iblk m c 5 t (ix2 a b) = m ((c : Thread nD τ).loc main_arg5) (ix2 a b) := by
  blk_ext! [iblk, V, idxs t]
theorem blk6 (c : Dev nD) (t : Fin cfg0.N) (a b : Fin 1024) : iblk m c 6 t (ix2 a b) = m ((c : Thread nD τ).loc main_arg6) (ix2 a b) := by
  blk_ext! [iblk, V, idxs t]

theorem pay4_at (x : Vec Ideal S256x512 .f32) (w : Vec Ideal S1x512x256 .bf16) (a : Fin 256) (b : Fin 256) :
    (k0_pay4 x w : Vec Ideal S256x256 .f32) (ix2 a b) = ∑ k : Fin 512, x (ix2 a k) * w (ix3 0 k b) := by
  pointwise [k0_pay4]
theorem pay5_at (x : Vec Ideal S256x512 .f32) (w : Vec Ideal S1x512x256 .bf16) (a : Fin 256) (b : Fin 256) :
    (k0_pay5 x w : Vec Ideal S256x256 .f32) (ix2 a b) = ∑ k : Fin 512, x (ix2 a k) * w (ix3 0 k b) := by
  pointwise [k0_pay5]
theorem pay6_at (x : Vec Ideal S256x512 .f32) (w : Vec Ideal S1x512x256 .bf16) (a : Fin 256) (b : Fin 256) :
    (k0_pay6 x w : Vec Ideal S256x256 .f32) (ix2 a b) = ∑ k : Fin 512, x (ix2 a k) * w (ix3 0 k b) := by
  pointwise [k0_pay6]
theorem pay7_at (x : Vec Ideal S256x512 .f32) (w : Vec Ideal S1x512x256 .bf16) (a : Fin 256) (b : Fin 256) :
    (k0_pay7 x w : Vec Ideal S256x256 .f32) (ix2 a b) = ∑ k : Fin 512, x (ix2 a k) * w (ix3 0 k b) := by
  pointwise [k0_pay7]

/-- What a point leaves of the first branch's product: four blocks of columns. -/
def paL (x : Vec Ideal S256x512 .f32) (w : Vec Ideal S4x512x256 .bf16) : List (View.Piece (Elt Ideal) S256x1024 .f32) :=
  [⟨Rect.unit ![0, 768] ![256, 256] inb_S256x1024_S256x256_0_768, k0_pay7 x (View.ld w (Rect.unit ![3, 0, 0] ![1, 512, 256] inb_S4x512x256_S1x512x256_3_0_0))⟩,
   ⟨Rect.unit ![0, 512] ![256, 256] inb_S256x1024_S256x256_0_512, k0_pay6 x (View.ld w (Rect.unit ![2, 0, 0] ![1, 512, 256] inb_S4x512x256_S1x512x256_2_0_0))⟩,
   ⟨Rect.unit ![0, 256] ![256, 256] inb_S256x1024_S256x256_0_256, k0_pay5 x (View.ld w (Rect.unit ![1, 0, 0] ![1, 512, 256] inb_S4x512x256_S1x512x256_1_0_0))⟩,
   ⟨Rect.unit ![0, 0] ![256, 256] inb_S256x1024_S256x256_0_0, k0_pay4 x (View.ld w (Rect.unit ![0, 0, 0] ![1, 512, 256] inb_S4x512x256_S1x512x256_0_0_0))⟩]

theorem paL_at (c : Dev nD) (t : Fin cfg0.N) (a : Fin 256) (b : Fin 1024) (i : Fin 2048) (hi : i.val = 256 * t.val + a.val) :
    View.canon (paL (iblk m c 1 t) (iblk m c 4 t)) (ix2 a b) = paR (m ((c : Thread nD τ).loc main_arg1)) (m ((c : Thread nD τ).loc main_arg4)) (ix2 i b) := by
  unfold paL
  rw [paR_at]
  generalize hy : (ix2 a b : S256x1024.Idx) = y
  canon_tiles x h
  all_goals
    obtain ⟨p, q, rfl⟩ : ∃ (p : Fin 256) (q : Fin 256), x = ix2 p q := ⟨x 0, x 1, eq_ix2 x⟩
    have ha : a.val = p.val := by rw [← hy] at h0; exact h0
    rw [← hy] at h1
  · have hb : b.val = 768 + q.val := h1
    rw [pay7_at]
    refine Finset.sum_congr rfl fun k _ => ?_
    rw [Rows.ld_part 3 _ _ (3 : Fin 4) rfl, blk1 m c t _ _ i (by rw [hi, ha]), blk4]
    exact congrArg _ (congrArg _ (congrArg (ix2 k) (Fin.ext (by simp; omega))))
  · have hb : b.val = 512 + q.val := h1
    rw [pay6_at]
    refine Finset.sum_congr rfl fun k _ => ?_
    rw [Rows.ld_part 2 _ _ (2 : Fin 4) rfl, blk1 m c t _ _ i (by rw [hi, ha]), blk4]
    exact congrArg _ (congrArg _ (congrArg (ix2 k) (Fin.ext (by simp; omega))))
  · have hb : b.val = 256 + q.val := h1
    rw [pay5_at]
    refine Finset.sum_congr rfl fun k _ => ?_
    rw [Rows.ld_part 1 _ _ (1 : Fin 4) rfl, blk1 m c t _ _ i (by rw [hi, ha]), blk4]
    exact congrArg _ (congrArg _ (congrArg (ix2 k) (Fin.ext (by simp; omega))))
  · have hb : b.val = q.val := h1
    rw [pay4_at]
    refine Finset.sum_congr rfl fun k _ => ?_
    rw [Rows.ld_part 0 _ _ (0 : Fin 4) rfl, blk1 m c t _ _ i (by rw [hi, ha]), blk4]
    exact congrArg _ (congrArg _ (congrArg (ix2 k) (Fin.ext (by simp; omega))))

theorem point9 (c : Dev nD) (t : Fin cfg0.N) (y) :
    (outsAt0 m c t).2.2.1 y = k0_pay8 (iblk m c 2 t) (iblk m c 5 t) y := by
  unfold outsAt0
  frame_out
theorem point10 (c : Dev nD) (t : Fin cfg0.N) (y) :
    (outsAt0 m c t).2.2.2 y = k0_pay2 (k0_pay8 (iblk m c 2 t) (iblk m c 5 t)) (iblk m c 3 t) (View.canon (paL (iblk m c 1 t) (iblk m c 4 t))) y := by
  unfold outsAt0
  frame_out
  rw [Rows.rd, View.ld_unit_lit _ _ (by decide)]
  rfl
theorem point8 (c : Dev nD) (t : Fin cfg0.N) (y) :
    (outsAt0 m c t).2.1 y = View.canon (paL (iblk m c 1 t) (iblk m c 4 t)) y := by
  unfold outsAt0
  frame_out
  rfl
theorem point7 (c : Dev nD) (t : Fin cfg0.N) (y) :
    (outsAt0 m c t).1 y = k0_pay3 (k0_pay8 (iblk m c 2 t) (iblk m c 5 t)) (iblk m c 3 t) (View.canon (paL (iblk m c 1 t) (iblk m c 4 t))) (iblk m c 0 t) (iblk m c 6 t) y := by
  unfold outsAt0
  frame_out
  rw [Rows.rd, View.ld_unit_lit _ _ (by decide)]
  rfl

theorem emb7 (t : Fin cfg0.N) (p : Fin 256) (q : Fin 1024) (i : Fin 2048) (hi : i.val = 256 * t.val + p.val) : ((cfg0.win 7).blk t).view.emb (ix2 p q) = ix2 i q := by
  funext a
  match a with
  | ⟨0, _⟩ => exact Fin.ext (by blk_simp [idxs t]; omega)
  | ⟨1, _⟩ => exact Fin.ext (by blk_simp [idxs t])

theorem emb8 (t : Fin cfg0.N) (p : Fin 256) (q : Fin 1024) (i : Fin 2048) (hi : i.val = 256 * t.val + p.val) : ((cfg0.win 8).blk t).view.emb (ix2 p q) = ix2 i q := by
  funext a
  match a with
  | ⟨0, _⟩ => exact Fin.ext (by blk_simp [idxs t]; omega)
  | ⟨1, _⟩ => exact Fin.ext (by blk_simp [idxs t])

theorem emb9 (t : Fin cfg0.N) (p : Fin 256) (q : Fin 1024) (i : Fin 2048) (hi : i.val = 256 * t.val + p.val) : ((cfg0.win 9).blk t).view.emb (ix2 p q) = ix2 i q := by
  funext a
  match a with
  | ⟨0, _⟩ => exact Fin.ext (by blk_simp [idxs t]; omega)
  | ⟨1, _⟩ => exact Fin.ext (by blk_simp [idxs t])

theorem emb10 (t : Fin cfg0.N) (p : Fin 256) (q : Fin 1024) (i : Fin 2048) (hi : i.val = 256 * t.val + p.val) : ((cfg0.win 10).blk t).view.emb (ix2 p q) = ix2 i q := by
  funext a
  match a with
  | ⟨0, _⟩ => exact Fin.ext (by blk_simp [idxs t]; omega)
  | ⟨1, _⟩ => exact Fin.ext (by blk_simp [idxs t])

/-- The reference's arrays of the arguments. -/
abbrev paM (c : Dev nD) := paR (m ((c : Thread nD τ).loc main_arg1)) (m ((c : Thread nD τ).loc main_arg4))
abbrev pbM (c : Dev nD) := pbR (m ((c : Thread nD τ).loc main_arg2)) (m ((c : Thread nD τ).loc main_arg5))
abbrev mgM (c : Dev nD) := mgR (m ((c : Thread nD τ).loc main_arg3)) (paM m c) (pbM m c)

theorem pb_block (c : Dev nD) (t : Fin cfg0.N) (a : Fin 256) (b : Fin 1024) (i : Fin 2048) (hi : i.val = 256 * t.val + a.val) :
    (k0_pay8 (iblk m c 2 t) (iblk m c 5 t) : Vec Ideal S256x1024 .f32) (ix2 a b) = pbM m c (ix2 i b) := by
  refine (pb_at _ _ a b).trans (Eq.trans ?_ (pbR_at _ _ i b).symm)
  simp only [blk2 m c t _ _ i hi, blk5]

/-- The second branch's product, whole. -/
theorem final_9 (c : Dev nD) : (dats m 0 c).arrAt 9 (cfgs 0).N = pbM m c := by
  refine (dats m 0 c).arrAt_eq_of_covers 9 _ (by decide +kernel) fun t _ y => ?_
  obtain ⟨p, q, rfl⟩ : ∃ (p : Fin 256) (q : Fin 1024), y = ix2 p q := ⟨y 0, y 1, eq_ix2 y⟩
  have ht : t.val < 8 := t.isLt
  have hi : 256 * t.val + p.val < 2048 := by omega
  rw [after0_9, emb9 t p q ⟨_, hi⟩ rfl]
  refine (point9 m c t (ix2 p q)).trans ?_
  exact pb_block m c t p q _ rfl

/-- The first branch's product, whole. -/
theorem final_8 (c : Dev nD) : (dats m 0 c).arrAt 8 (cfgs 0).N = paM m c := by
  refine (dats m 0 c).arrAt_eq_of_covers 8 _ (by decide +kernel) fun t _ y => ?_
  obtain ⟨p, q, rfl⟩ : ∃ (p : Fin 256) (q : Fin 1024), y = ix2 p q := ⟨y 0, y 1, eq_ix2 y⟩
  have ht : t.val < 8 := t.isLt
  have hi : 256 * t.val + p.val < 2048 := by omega
  rw [after0_8, emb8 t p q ⟨_, hi⟩ rfl]
  refine (point8 m c t (ix2 p q)).trans ?_
  exact paL_at m c t p q _ rfl

/-- The gated sum, whole. -/
theorem final_10 (c : Dev nD) : (dats m 0 c).arrAt 10 (cfgs 0).N = truncf .bf16 (mgM m c) Cert.MergeFwdRefIdeal.Gen.bitsLt_bf16_f32 := by
  refine (dats m 0 c).arrAt_eq_of_covers 10 _ (by decide +kernel) fun t _ y => ?_
  obtain ⟨p, q, rfl⟩ : ∃ (p : Fin 256) (q : Fin 1024), y = ix2 p q := ⟨y 0, y 1, eq_ix2 y⟩
  have ht : t.val < 8 := t.isLt
  have hi : 256 * t.val + p.val < 2048 := by omega
  rw [after0_10, emb10 t p q ⟨_, hi⟩ rfl]
  refine (point10 m c t (ix2 p q)).trans ?_
  have e : (truncf .bf16 (mgM m c) Cert.MergeFwdRefIdeal.Gen.bitsLt_bf16_f32 : FVec Ideal S2048x1024 .bf16) (ix2 ⟨_, hi⟩ q) = mgM m c (ix2 ⟨_, hi⟩ q) := by
    pointwise []
  refine Eq.trans ?_ e.symm
  refine Eq.trans ?_ (mgR_at _ _ _ ⟨_, hi⟩ q).symm
  rw [mg_at, pb_block m c t p q ⟨_, hi⟩ rfl, paL_at m c t p q ⟨_, hi⟩ rfl, blk3 m c t _ _ ⟨_, hi⟩ rfl, blk3 m c t _ _ ⟨_, hi⟩ rfl]

/-- The residual stream, whole. -/
theorem final_7 (c : Dev nD) : (dats m 0 c).arrAt 7 (cfgs 0).N = x1R (m ((c : Thread nD τ).loc main_arg0)) (mgM m c) (m ((c : Thread nD τ).loc main_arg6)) := by
  refine (dats m 0 c).arrAt_eq_of_covers 7 _ (by decide +kernel) fun t _ y => ?_
  obtain ⟨p, q, rfl⟩ : ∃ (p : Fin 256) (q : Fin 1024), y = ix2 p q := ⟨y 0, y 1, eq_ix2 y⟩
  have ht : t.val < 8 := t.isLt
  have hi : 256 * t.val + p.val < 2048 := by omega
  rw [after0_7, emb7 t p q ⟨_, hi⟩ rfl]
  refine (point7 m c t (ix2 p q)).trans ?_
  refine Eq.trans ?_ (x1R_at _ _ _ ⟨_, hi⟩ q).symm
  rw [x1_at, blk0 m c t _ _ ⟨_, hi⟩ rfl]
  refine congrArg _ (Finset.sum_congr rfl fun k _ => ?_)
  refine Eq.trans ?_ (congrArg₂ (· * ·) (mgR_at _ _ _ ⟨_, hi⟩ k).symm rfl)
  rw [pb_block m c t p k ⟨_, hi⟩ rfl, paL_at m c t p k ⟨_, hi⟩ rfl, blk3 m c t _ _ ⟨_, hi⟩ rfl, blk3 m c t _ _ ⟨_, hi⟩ rfl, blk6]

end Cert.MergeFwdIdeal.Value
-- ==== Proof.MergeFwdClaim.lean ====
module

public import proofs.«01_k».proof.Defs
public import proofs.«01_k».proof.Proof.Gen.MergeFwdIdeal.Frame
public import proofs.«01_k».proof.Proof.Gen.MergeFwdRefIdeal.Run
public import proofs.«01_k».proof.Proof.MergeFwd
public import Idealize.ShloMosaic.Adequacy
public import Idealize.ShloMosaic.Init

@[expose] public section

noncomputable section

namespace Cert.Proof

open Idealize.ShloMosaic Idealize.SL.Sem

/-- The reference of the merge ends with its arguments as they were. -/
theorem frame_merge_fwd_reference : Cert.quiescent_MergeFwdRefIdeal := fun m ρ _ =>
  (θ_run Cert.MergeFwdRefIdeal.defs _ _).mono (fun r h => ⟨fun c => (h c).2.2.2.2,
      Idealize.ShloMosaic.sem_eq_zero_of_no_sems (by decide) r.2⟩)
    (Cert.MergeFwdRefIdeal.Value.run (F := Ideal) m ρ)

set_option maxHeartbeats 4000000 in
/-- All four results of the merge's forward call are the reference's. -/
theorem merge_fwd : @Cert.algebraic_MergeFwdIdeal_MergeFwdRefIdeal Cert.MergeFwdIdeal.Gen.facts Cert.MergeFwdRefIdeal.Gen.facts := by
  pair_intro
  · run_from Cert.MergeFwdIdeal.Value.run_blocks m g
  run_from Cert.MergeFwdRefIdeal.Value.run m' g'
  · exact (Cert.MergeFwdIdeal.Value.final_7 m c).symm
  · exact (Cert.MergeFwdIdeal.Value.final_8 m c).symm
  · exact (Cert.MergeFwdIdeal.Value.final_9 m c).symm
  · exact (Cert.MergeFwdIdeal.Value.final_10 m c).symm

end Cert.Proof

end
-- ==== Proof.FfnDown.lean ====
module

public import proofs.«01_k».proof.Proof.Gen.FfnDownIdeal.Value
public import proofs.«01_k».proof.Proof.Gen.FfnDownRefIdeal
public import proofs.«01_k».proof.Proof.Rows
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

/-! # The feed-forward part's second forward call: the gate and the product back to the stream -/

namespace Cert.FfnDownIdeal.Value
open Cert.FfnDownIdeal Cert.FfnDownIdeal.Gen

variable (m : (ℓ : Loc nD τ sig) → Buf (Elt Ideal) ℓ)

theorem idxs : ∀ t : Fin cfg0.N, win0_0.index t = ![t.val, 0] ∧ win0_1.index t = ![0, t.val, 0] ∧ win0_2.index t = ![0, t.val, 0] ∧ win0_3.index t = ![t.val, 0] :=
  (by decide +kernel : ∀ t : Fin grid0.N, _)

/-- Column `q` of part `k`. -/
abbrev col (k : Fin 4) (q : Fin 704) : Fin 2816 := ⟨704 * k.val + q.val, by omega⟩

/-- One entry of the gated product. -/
def actE (g u : EReal) : EReal := g * Ideal.logistic g * u

/-- The reference's gated product, and its result. -/
def actR (G U : FVec Ideal Cert.FfnDownRefIdeal.S2048x2816 .f32) : FVec Ideal Cert.FfnDownRefIdeal.S2048x2816 .f32 :=
  mulf (mulf G (Host.divf (broadcastInDim Cert.FfnDownRefIdeal.S2048x2816 ![] Cert.FfnDownRefIdeal.Gen.bcast_S_S2048x2816 (constant Cert.FfnDownRefIdeal.S_ .f32 0x3F800000#32))
    (addf (broadcastInDim Cert.FfnDownRefIdeal.S2048x2816 ![] Cert.FfnDownRefIdeal.Gen.bcast_S_S2048x2816 (constant Cert.FfnDownRefIdeal.S_ .f32 0x3F800000#32)) (Host.exp (Host.negf G))))) U
def x2R (X : FVec Ideal Cert.FfnDownRefIdeal.S2048x1024 .f32) (A : FVec Ideal Cert.FfnDownRefIdeal.S2048x2816 .f32) (W : FVec Ideal Cert.FfnDownRefIdeal.S2816x1024 .f32) :
    FVec Ideal Cert.FfnDownRefIdeal.S2048x1024 .f32 :=
  addf X (Host.dotGeneral Cert.FfnDownRefIdeal.dot_S2048x2816_S2816x1024_S2048x1024_1_0_0_1_n_n none A W)

theorem actR_at (G U) (i : Fin 2048) (j : Fin 2816) : actR G U (ix2 i j) = actE (G (ix2 i j)) (U (ix2 i j)) := by
  pointwise [actR, actE, Ideal.logistic]
theorem x2R_at (X A W) (i : Fin 2048) (j : Fin 1024) : x2R X A W (ix2 i j) = X (ix2 i j) + ∑ k : Fin 2816, A (ix2 i k) * W (ix2 k j) := by
  pointwise [x2R]

/-- What the kernel adds for two parts. -/
theorem pay1_at (s : FVec Ideal S256x1024 .f32) (g u : Vec Ideal S1x256x704 .bf16) (w : Vec Ideal S1x704x1024 .bf16) (g' u' : Vec Ideal S1x256x704 .bf16) (w' : Vec Ideal S1x704x1024 .bf16)
    (a : Fin 256) (b : Fin 1024) : (k0_pay1 s g u w g' u' w' : Vec Ideal S256x1024 .f32) (ix2 a b)
      = s (ix2 a b) + ∑ k : Fin 704, actE (g (ix3 0 a k)) (u (ix3 0 a k)) * w (ix3 0 k b) + ∑ k : Fin 704, actE (g' (ix3 0 a k)) (u' (ix3 0 a k)) * w' (ix3 0 k b) := by
  pointwise [k0_pay1, actE]
theorem pay2_at (s : Vec Ideal S256x1024 .f32) (g u : Vec Ideal S1x256x704 .bf16) (w : Vec Ideal S1x704x1024 .bf16) (g' u' : Vec Ideal S1x256x704 .bf16) (w' : Vec Ideal S1x704x1024 .bf16)
    (a : Fin 256) (b : Fin 1024) : (k0_pay2 s g u w g' u' w' : Vec Ideal S256x1024 .f32) (ix2 a b)
      = s (ix2 a b) + ∑ k : Fin 704, actE (g (ix3 0 a k)) (u (ix3 0 a k)) * w (ix3 0 k b) + ∑ k : Fin 704, actE (g' (ix3 0 a k)) (u' (ix3 0 a k)) * w' (ix3 0 k b) := by
  pointwise [k0_pay2, actE]

/-! ## What the call is given -/

abbrev aX (c : Dev nD) : FVec Ideal S2048x1024 .f32 := m ((c : Thread nD τ).loc main_arg0)
abbrev aG (c : Dev nD) : FVec Ideal S2048x2816 .f32 := m ((c : Thread nD τ).loc main_arg1)
abbrev aU (c : Dev nD) : FVec Ideal S2048x2816 .f32 := m ((c : Thread nD τ).loc main_arg2)
abbrev aW (c : Dev nD) : FVec Ideal S2816x1024 .f32 := m ((c : Thread nD τ).loc main_arg3)

theorem V_g (c : Dev nD) (k : Fin 4) (i : Fin 2048) (q : Fin 704) : V m c main_v2 (ix3 k i q) = aG m c (ix2 i (col k q)) := by
  entry_read
  pointwise []
  exact congrArg (aG m c) (congrArg (ix2 i) (Fin.ext (by simp; omega)))
theorem V_u (c : Dev nD) (k : Fin 4) (i : Fin 2048) (q : Fin 704) : V m c main_v5 (ix3 k i q) = aU m c (ix2 i (col k q)) := by
  entry_read
  pointwise []
  exact congrArg (aU m c) (congrArg (ix2 i) (Fin.ext (by simp; omega)))
theorem V_w (c : Dev nD) (k : Fin 4) (q : Fin 704) (b : Fin 1024) : V m c main_v7 (ix3 k q b) = aW m c (ix2 (col k q) b) := by
  entry_read
  pointwise []
  exact congrArg (aW m c) (congrArg (fun z => ix2 z b) (Fin.ext (by simp; omega)))

theorem blk0 (c : Dev nD) (t : Fin cfg0.N) (a : Fin 256) (b : Fin 1024) (i : Fin 2048) (hi : i.val = 256 * t.val + a.val) : iblk m c 0 t (ix2 a b) = aX m c (ix2 i b) := by
  blk_ext [iblk, V, idxs t]

theorem emb1 (t : Fin cfg0.N) (p : Fin 4) (a : Fin 256) (b : Fin 704) (i : Fin 2048) (hi : i.val = 256 * t.val + a.val) :
    ((cfg0.win 1).blk t).view.emb (ix3 p a b) = ix3 p i b := by
  funext x
  match x with
  | ⟨0, _⟩ => exact Fin.ext (by blk_simp [idxs t])
  | ⟨1, _⟩ => exact Fin.ext (by blk_simp [idxs t]; omega)
  | ⟨2, _⟩ => exact Fin.ext (by blk_simp [idxs t])
theorem emb2 (t : Fin cfg0.N) (p : Fin 4) (a : Fin 256) (b : Fin 704) (i : Fin 2048) (hi : i.val = 256 * t.val + a.val) :
    ((cfg0.win 2).blk t).view.emb (ix3 p a b) = ix3 p i b := by
  funext x
  match x with
  | ⟨0, _⟩ => exact Fin.ext (by blk_simp [idxs t])
  | ⟨1, _⟩ => exact Fin.ext (by blk_simp [idxs t]; omega)
  | ⟨2, _⟩ => exact Fin.ext (by blk_simp [idxs t])
theorem emb3 (t : Fin cfg0.N) (p : Fin 256) (q : Fin 1024) (i : Fin 2048) (hi : i.val = 256 * t.val + p.val) : ((cfg0.win 3).blk t).view.emb (ix2 p q) = ix2 i q := by
  funext a
  match a with
  | ⟨0, _⟩ => exact Fin.ext (by blk_simp [idxs t]; omega)
  | ⟨1, _⟩ => exact Fin.ext (by blk_simp [idxs t])

theorem blk1 (c : Dev nD) (t : Fin cfg0.N) (p : Fin 4) (a : Fin 256) (b : Fin 704) (i : Fin 2048) (hi : i.val = 256 * t.val + a.val) :
    iblk m c 1 t (ix3 p a b) = aG m c (ix2 i (col p b)) := by
  show V m c main_v2 (((cfg0.win 1).blk t).view.emb (ix3 p a b)) = _
  rw [emb1 t p a b i hi, V_g]
theorem blk2 (c : Dev nD) (t : Fin cfg0.N) (p : Fin 4) (a : Fin 256) (b : Fin 704) (i : Fin 2048) (hi : i.val = 256 * t.val + a.val) :
    iblk m c 2 t (ix3 p a b) = aU m c (ix2 i (col p b)) := by
  show V m c main_v5 (((cfg0.win 2).blk t).view.emb (ix3 p a b)) = _
  rw [emb2 t p a b i hi, V_u]

/-! ## The weight in scratch -/

theorem canon_w (c : Dev nD) (w) (h : w = ReadAs.same.apply (View.read (Elt Ideal) (View.whole main_v7) (V m c main_v7))) :
    View.canon [⟨Rect.whole S4x704x1024, w⟩] = V m c main_v7 := by
  subst h
  exact Rows.canon_all _

theorem scrA (c : Dev nD) (t : Fin cfg0.N) (h0 : t.val % 8 = 0) : (outsAt0 m c t.val t.isLt).2 = V m c main_v7 := by
  rw [outsAt0_A m c t h0]
  funext y
  frame_out
  rw [canon_w m c _ rfl]

theorem scrB (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  unfold sout0_B_0
  rfl

/-- The weight is in scratch after every point. -/
theorem scr (c : Dev nD) (n : ℕ) (h : n < cfg0.N) : (outsAt0 m c n h).2 = V m c main_v7 := by
  induction n with
  | zero => exact scrA m c ⟨0, h⟩ rfl
  | succ n ih =>
    have h0 : ¬ (n + 1) % 8 = 0 := by have : n + 1 < 8 := h; omega
    exact (scrB m c ⟨n + 1, h⟩ h0).trans (ih _)

/-! ## What each point leaves -/

/-- One block of the result. -/
def x2B (x : Vec Ideal S256x1024 .f32) (g u : Vec Ideal S4x256x704 .bf16) (w : Vec Ideal S4x704x1024 .bf16) : FVec Ideal S256x1024 .f32 :=
  k0_pay1 (k0_pay2 x (View.ld g (Rect.unit ![0, 0, 0] ![1, 256, 704] inb_S4x256x704_S1x256x704_0_0_0)) (View.ld u (Rect.unit ![0, 0, 0] ![1, 256, 704] inb_S4x256x704_S1x256x704_0_0_0))
      (View.ld w (Rect.unit ![0, 0, 0] ![1, 704, 1024] inb_S4x704x1024_S1x704x1024_0_0_0))
      (View.ld g (Rect.unit ![1, 0, 0] ![1, 256, 704] inb_S4x256x704_S1x256x704_1_0_0)) (View.ld u (Rect.unit ![1, 0, 0] ![1, 256, 704] inb_S4x256x704_S1x256x704_1_0_0))
      (View.ld w (Rect.unit ![1, 0, 0] ![1, 704, 1024] inb_S4x704x1024_S1x704x1024_1_0_0)))
    (View.ld g (Rect.unit ![2, 0, 0] ![1, 256, 704] inb_S4x256x704_S1x256x704_2_0_0)) (View.ld u (Rect.unit ![2, 0, 0] ![1, 256, 704] inb_S4x256x704_S1x256x704_2_0_0))
    (View.ld w (Rect.unit ![2, 0, 0] ![1, 704, 1024] inb_S4x704x1024_S1x704x1024_2_0_0))
    (View.ld g (Rect.unit ![3, 0, 0] ![1, 256, 704] inb_S4x256x704_S1x256x704_3_0_0)) (View.ld u (Rect.unit ![3, 0, 0] ![1, 256, 704] inb_S4x256x704_S1x256x704_3_0_0))
    (View.ld w (Rect.unit ![3, 0, 0] ![1, 704, 1024] inb_S4x704x1024_S1x704x1024_3_0_0))

theorem x2_point (c : Dev nD) (t : Fin cfg0.N) (y) :
    (outsAt0 m c t.val t.isLt).1 y = x2B (iblk m c 0 t) (iblk m c 1 t) (iblk m c 2 t) (V m c main_v7) y := by
  by_cases h0 : t.val % 8 = 0
  · rw [outsAt0_A m c t h0]
    frame_out
    rw [Rows.rd, Rows.rd, Rows.rd, Rows.rd, canon_w m c _ rfl]
    rfl
  · rw [outsAt0_B m c t h0]
    frame_out
    rw [read_unread_whole, scr m c]
    rfl

/-- One part of a block of tokens, and one part of the weight. -/
abbrev tk (k : ℕ) (inb : ∀ a, ![k, 0, 0] a + ![1, 256, 704] a ≤ S4x256x704.size a) (G : Vec Ideal S4x256x704 .bf16) : Vec Ideal S1x256x704 .bf16 :=
  View.ld G (Rect.unit (s := S4x256x704) ![k, 0, 0] ![1, 256, 704] inb)
abbrev wt (k : ℕ) (inb : ∀ a, ![k, 0, 0] a + ![1, 704, 1024] a ≤ S4x704x1024.size a) (W : Vec Ideal S4x704x1024 .bf16) : Vec Ideal S1x704x1024 .bf16 :=
  View.ld W (Rect.unit (s := S4x704x1024) ![k, 0, 0] ![1, 704, 1024] inb)

/-- What one part adds. -/
theorem part_sum (g u : Vec Ideal S4x256x704 .bf16) (w : Vec Ideal S4x704x1024 .bf16) (a : Fin 256) (b : Fin 1024) (A W : Fin 2816 → EReal)
    (hA : ∀ k q, actE (g (ix3 k a q)) (u (ix3 k a q)) = A (col k q)) (hW : ∀ k q, w (ix3 k q b) = W (col k q)) (k : ℕ) (h : k < 4) (i j) :
    ∑ q : Fin 704, actE (tk k i g (ix3 0 a q)) (tk k i u (ix3 0 a q)) * wt k j w (ix3 0 q b) = ∑ q : Fin 704, A (col ⟨k, h⟩ q) * W (col ⟨k, h⟩ q) :=
  Finset.sum_congr rfl fun q _ => congrArg₂ (· * ·)
    ((congrArg₂ actE (Rows.ld_part k i g ⟨k, h⟩ rfl a q) (Rows.ld_part k i u ⟨k, h⟩ rfl a q)).trans (hA _ q)) ((Rows.ld_part k j w ⟨k, h⟩ rfl q b).trans (hW _ q))

/-- The block's entries: the sum over the hidden columns, cut in four parts. -/
theorem x2B_at (x : Vec Ideal S256x1024 .f32) (g u : Vec Ideal S4x256x704 .bf16) (w : Vec Ideal S4x704x1024 .bf16) (a : Fin 256) (b : Fin 1024) (A W : Fin 2816 → EReal)
    (hA : ∀ k q, actE (g (ix3 k a q)) (u (ix3 k a q)) = A (col k q)) (hW : ∀ k q, w (ix3 k q b) = W (col k q)) :
    x2B x g u w (ix2 a b) = x (ix2 a b) + ∑ k, A k * W k := by
  unfold x2B
  rw [pay1_at, pay2_at]
  have p := part_sum g u w a b A W hA hW
  refine (congrArg₂ (· + ·) (congrArg₂ (· + ·) (congrArg₂ (· + ·) (congrArg₂ (· + ·) rfl (p 0 (by norm_num) _ _)) (p 1 (by norm_num) _ _)) (p 2 (by norm_num) _ _)) (p 3 (by norm_num) _ _)).trans ?_
  rw [Rows.sum_quarters 704 (by norm_num) (fun k : Fin 2816 => A k * W k)]
  have e0 : ∀ q : Fin 704, col ⟨0, by norm_num⟩ q = ⟨q.val, by omega⟩ := fun q => Fin.ext (by simp)
  have e1 : ∀ q : Fin 704, col ⟨1, by norm_num⟩ q = ⟨704 + q.val, by omega⟩ := fun q => Fin.ext (by simp)
  have e2 : ∀ q : Fin 704, col ⟨2, by norm_num⟩ q = ⟨704 + 704 + q.val, by omega⟩ := fun q => Fin.ext (by simp)
  have e3 : ∀ q : Fin 704, col ⟨3, by norm_num⟩ q = ⟨704 + 704 + 704 + q.val, by omega⟩ := fun q => Fin.ext (by simp)
  simp only [e0, e1, e2, e3, add_assoc]

/-- The residual stream after the feed-forward part, whole. -/
theorem final_3 (c : Dev nD) : (dats m 0 c).arrAt 3 (cfgs 0).N = x2R (aX m c) (actR (aG m c) (aU m c)) (aW m c) := by
  refine (dats m 0 c).arrAt_eq_of_covers 3 _ (by decide +kernel) fun t _ y => ?_
  obtain ⟨p, q, rfl⟩ : ∃ (p : Fin 256) (q : Fin 1024), y = ix2 p q := ⟨y 0, y 1, eq_ix2 y⟩
  have ht : t.val < 8 := t.isLt
  have hi : 256 * t.val + p.val < 2048 := by omega
  rw [after0_3, emb3 t p q ⟨_, hi⟩ rfl]
  refine (x2_point m c t (ix2 p q)).trans (Eq.trans ?_ (x2R_at _ _ _ ⟨_, hi⟩ q).symm)
  rw [← blk0 m c t p q ⟨_, hi⟩ rfl]
  refine x2B_at _ _ _ _ p q (fun k => actR (aG m c) (aU m c) (ix2 ⟨_, hi⟩ k)) (fun k => aW m c (ix2 k q)) (fun k j => ?_) fun k j => V_w m c k j q
  rw [blk1 m c t k p j ⟨_, hi⟩ rfl, blk2 m c t k p j ⟨_, hi⟩ rfl]
  exact (actR_at _ _ ⟨_, hi⟩ (col k j)).symm

end Cert.FfnDownIdeal.Value
-- ==== Proof.FfnDownClaim.lean ====
module

public import proofs.«01_k».proof.Defs
public import proofs.«01_k».proof.Proof.Gen.FfnDownIdeal.Frame
public import proofs.«01_k».proof.Proof.Gen.FfnDownRefIdeal.Run
public import proofs.«01_k».proof.Proof.FfnDown
public import Idealize.ShloMosaic.Adequacy
public import Idealize.ShloMosaic.Init

@[expose] public section

noncomputable section

namespace Cert.Proof

open Idealize.ShloMosaic Idealize.SL.Sem

/-- The reference of the feed-forward part's second call ends with its arguments as they were. -/
theorem frame_ffn_down_reference : Cert.quiescent_FfnDownRefIdeal := fun m ρ _ =>
  (θ_run Cert.FfnDownRefIdeal.defs _ _).mono (fun r h => ⟨fun c => (h c).2,
      Idealize.ShloMosaic.sem_eq_zero_of_no_sems (by decide) r.2⟩)
    (Cert.FfnDownRefIdeal.Value.run (F := Ideal) m ρ)

set_option maxHeartbeats 4000000 in
/-- The result of the feed-forward part's second call is the reference's. -/
theorem ffn_down : @Cert.algebraic_FfnDownIdeal_FfnDownRefIdeal Cert.FfnDownIdeal.Gen.facts Cert.FfnDownRefIdeal.Gen.facts := by
  pair_intro
  · run_from Cert.FfnDownIdeal.Value.run_blocks m g
  run_from Cert.FfnDownRefIdeal.Value.run m' g'
  · exact (Cert.FfnDownIdeal.Value.final_3 m c).symm

end Cert.Proof

end
-- ==== Proof.FfnUp.lean ====
module

public import proofs.«01_k».proof.Proof.Gen.FfnUpIdeal.Value
public import proofs.«01_k».proof.Proof.Gen.FfnUpRefIdeal
public import proofs.«01_k».proof.Proof.Norm
public import proofs.«01_k».proof.Proof.Rows
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

/-! # The feed-forward part's first forward call: the norm and the products with the two weights -/

namespace Cert.FfnUpIdeal.Value
open Cert.FfnUpIdeal Cert.FfnUpIdeal.Gen

variable (m : (ℓ : Loc nD τ sig) → Buf (Elt Ideal) ℓ)

theorem idxs : ∀ t : Fin cfg0.N, win0_0.index t = ![t.val, 0] ∧ win0_1.index t = ![0, 0] ∧ win0_2.index t = ![t.val, 0] ∧ win0_3.index t = ![0, t.val, 0]
    ∧ win0_4.index t = ![0, t.val, 0] := (by decide +kernel : ∀ t : Fin grid0.N, _)

/-- Column `q` of part `k`. -/
abbrev col (k : Fin 4) (q : Fin 704) : Fin 2816 := ⟨704 * k.val + q.val, by omega⟩

/-- One entry of the weighted norm of a row. -/
def nE (x g : Fin 1024 → EReal) (k : Fin 1024) : EReal := x k * Norm.rinv x * g k

/-! ## The reference's terms -/

open Cert.FfnUpRefIdeal Cert.FfnUpRefIdeal.Gen in
/-- The mean squares plus epsilon, and the weighted norm. -/
def msR (X : FVec Ideal S2048x1024 .f32) : FVec Ideal S2048x1 .f32 :=
  addf (Host.divf (broadcastInDim S2048x1 ![0] bcast_S2048_S2048x1_0 (Host.reduceAdd (mulf X X) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))
open Cert.FfnUpRefIdeal Cert.FfnUpRefIdeal.Gen in
def h2R (X : FVec Ideal S2048x1024 .f32) (g : FVec Ideal S1x1024 .f32) : FVec Ideal S2048x1024 .f32 :=
  mulf (mulf X (broadcastInDim S2048x1024 ![0, 1] bcast_S2048x1_S2048x1024_0_1 (Host.rsqrt (msR X)))) (broadcastInDim S2048x1024 ![0, 1] bcast_S1x1024_S2048x1024_0_1 g)
open Cert.FfnUpRefIdeal Cert.FfnUpRefIdeal.Gen in
/-- Its product with a weight, cut in four by columns. -/
def upR (H : FVec Ideal S2048x1024 .f32) (W : FVec Ideal S1024x2816 .f32) : FVec Ideal S4x2048x704 .bf16 :=
  truncf .bf16 (transpose S4x2048x704 [1, 0, 2] (shapeCast _ (Host.dotGeneral dot_S2048x1024_S1024x2816_S2048x2816_1_0_0_1_n_n none H W) shapeCasts_S2048x2816_S2048x4x704) transposes_S2048x4x704_S4x2048x704_1_0_2) Cert.FfnUpRefIdeal.Gen.bitsLt_bf16_f32

theorem msR_at (X) (i : Fin 2048) : msR X (ix2 i 0) = Norm.msq (fun k => X (ix2 i k)) := by
  pointwise [msR, Norm.msq]
theorem h2R_at (X g) (i : Fin 2048) (j : Fin 1024) : h2R X g (ix2 i j) = nE (fun k => X (ix2 i k)) (fun k => g (ix2 0 k)) j := by
  have e : h2R X g (ix2 i j) = X (ix2 i j) * Ideal.rsqrt (msR X (ix2 i 0)) * g (ix2 0 j) := by pointwise [h2R]
  rw [e, msR_at]; rfl
theorem upR_at (H W) (k : Fin 4) (i : Fin 2048) (q : Fin 704) : upR H W (ix3 k i q) = ∑ j : Fin 1024, H (ix2 i j) * W (ix2 j (col k q)) := by
  pointwise [upR]
  exact Finset.sum_congr rfl fun j _ => congrArg _ (congrArg W (congrArg (ix2 j) (Fin.ext (by simp; omega))))

/-! ## The kernel's payloads -/

theorem pay4_at (x : Vec Ideal S256x1024 .f32) (g : Vec Ideal S1x1024 .f32) (a : Fin 256) (b : Fin 1024) :
    (k0_pay4 x g : Vec Ideal S256x1024 .bf16) (ix2 a b) = nE (fun k => x (ix2 a k)) (fun k => g (ix2 0 k)) b := by
  pointwise [k0_pay4, nE, Norm.rinv, Norm.msq]
theorem pay5_eq (x : Vec Ideal S256x1024 .f32) (g : Vec Ideal S1x1024 .f32) (a : Fin 256) (b : Fin 1024) :
    (k0_pay5 x g : Vec Ideal S256x1024 .bf16) (ix2 a b) = k0_pay4 x g (ix2 a b) := by
  pointwise [k0_pay5]
theorem pay9_at (h : FVec Ideal S256x1024 .bf16) (w : Vec Ideal S1x704x1024 .bf16) (a : Fin 256) (q : Fin 704) :
    (k0_pay9 h w : Vec Ideal S1x256x704 .bf16) (ix3 0 a q) = ∑ k : Fin 1024, h (ix2 a k) * w (ix3 0 q k) := by
  pointwise [k0_pay9]

/-- One part of a weight. -/
abbrev wt (k : ℕ) (inb : ∀ a, ![k, 0, 0] a + ![1, 704, 1024] a ≤ S4x704x1024.size a) (W : Vec Ideal S4x704x1024 .bf16) : Vec Ideal S1x704x1024 .bf16 :=
  View.ld W (Rect.unit (s := S4x704x1024) ![k, 0, 0] ![1, 704, 1024] inb)

/-- The four parts of a product, as they are stored. -/
def upL (h : FVec Ideal S256x1024 .bf16) (W : Vec Ideal S4x704x1024 .bf16) : List (View.Piece (Elt Ideal) S4x256x704 .bf16) :=
  [⟨Rect.unit (s := S4x256x704) ![3, 0, 0] S1x256x704.size inb_S4x256x704_S1x256x704_3_0_0, k0_pay9 h (wt 3 inb_S4x704x1024_S1x704x1024_3_0_0 W)⟩,
   ⟨Rect.unit (s := S4x256x704) ![2, 0, 0] S1x256x704.size inb_S4x256x704_S1x256x704_2_0_0, k0_pay9 h (wt 2 inb_S4x704x1024_S1x704x1024_2_0_0 W)⟩,
   ⟨Rect.unit (s := S4x256x704) ![1, 0, 0] S1x256x704.size inb_S4x256x704_S1x256x704_1_0_0, k0_pay9 h (wt 1 inb_S4x704x1024_S1x704x1024_1_0_0 W)⟩,
   ⟨Rect.unit (s := S4x256x704) ![0, 0, 0] S1x256x704.size inb_S4x256x704_S1x256x704_0_0_0, k0_pay9 h (wt 0 inb_S4x704x1024_S1x704x1024_0_0_0 W)⟩]

theorem part_at (h : FVec Ideal S256x1024 .bf16) (W : Vec Ideal S4x704x1024 .bf16) (k : ℕ) (hk : k < 4) (j) (a : Fin 256) (q : Fin 704) :
    (k0_pay9 h (wt k j W) : Vec Ideal S1x256x704 .bf16) (ix3 0 a q) = ∑ l : Fin 1024, h (ix2 a l) * W (ix3 ⟨k, hk⟩ q l) := by
  rw [pay9_at]
  exact Finset.sum_congr rfl fun l _ => congrArg _ (Rows.ld_part k j W ⟨k, hk⟩ rfl q l)

theorem upL_at (h : FVec Ideal S256x1024 .bf16) (W : Vec Ideal S4x704x1024 .bf16) (p : Fin 4) (a : Fin 256) (q : Fin 704) :
    View.canon (upL h W) (ix3 p a q) = ∑ l : Fin 1024, h (ix2 a l) * W (ix3 p q l) := by
  refine Rows.canon_parts (Val := Elt Ideal) (e := .bf16) (A := 256) (C := 704) _ _ _ _ _ _ _ _ _ p a q (fun p => ∑ l : Fin 1024, h (ix2 a l) * W (ix3 p q l)) ?_ ?_ ?_ ?_
  · exact part_at h W 0 (by norm_num) _ a q
  · exact part_at h W 1 (by norm_num) _ a q
  · exact part_at h W 2 (by norm_num) _ a q
  · exact part_at h W 3 (by norm_num) _ a q

/-! ## What the call is given -/

abbrev aX (c : Dev nD) : FVec Ideal S2048x1024 .f32 := m ((c : Thread nD τ).loc main_arg0)
abbrev ag (c : Dev nD) : FVec Ideal S1x1024 .f32 := m ((c : Thread nD τ).loc main_arg1)
abbrev aWg (c : Dev nD) : FVec Ideal S1024x2816 .f32 := m ((c : Thread nD τ).loc main_arg2)
abbrev aWu (c : Dev nD) : FVec Ideal S1024x2816 .f32 := m ((c : Thread nD τ).loc main_arg3)

theorem V_wg (c : Dev nD) (k : Fin 4) (q : Fin 704) (b : Fin 1024) : V m c main_v2 (ix3 k q b) = aWg m c (ix2 b (col k q)) := by
  entry_read
  pointwise []
  exact congrArg (aWg m c) (congrArg (ix2 b) (Fin.ext (by simp; omega)))
theorem V_wu (c : Dev nD) (k : Fin 4) (q : Fin 704) (b : Fin 1024) : V m c main_v5 (ix3 k q b) = aWu m c (ix2 b (col k q)) := by
  entry_read
  pointwise []
  exact congrArg (aWu m c) (congrArg (ix2 b) (Fin.ext (by simp; omega)))

theorem blk0 (c : Dev nD) (t : Fin cfg0.N) (a : Fin 256) (b : Fin 1024) (i : Fin 2048) (hi : i.val = 256 * t.val + a.val) : iblk m c 0 t (ix2 a b) = aX m c (ix2 i b) := by
  blk_ext [iblk, V, idxs t]
theorem blk1 (c : Dev nD) (t : Fin cfg0.N) (a : Fin 1) (b : Fin 1024) : iblk m c 1 t (ix2 a b) = ag m c (ix2 a b) := by
  blk_ext! [iblk, V, idxs t]

theorem emb2 (t : Fin cfg0.N) (p : Fin 256) (q : Fin 1024) (i : Fin 2048) (hi : i.val = 256 * t.val + p.val) : ((cfg0.win 2).blk t).view.emb (ix2 p q) = ix2 i q := by
  funext a
  match a with
  | ⟨0, _⟩ => exact Fin.ext (by blk_simp [idxs t]; omega)
  | ⟨1, _⟩ => exact Fin.ext (by blk_simp [idxs t])
theorem emb3 (t : Fin cfg0.N) (p : Fin 4) (a : Fin 256) (b : Fin 704) (i : Fin 2048) (hi : i.val = 256 * t.val + a.val) :
    ((cfg0.win 3).blk t).view.emb (ix3 p a b) = ix3 p i b := by
  funext x
  match x with
  | ⟨0, _⟩ => exact Fin.ext (by blk_simp [idxs t])
  | ⟨1, _⟩ => exact Fin.ext (by blk_simp [idxs t]; omega)
  | ⟨2, _⟩ => exact Fin.ext (by blk_simp [idxs t])
theorem emb4 (t : Fin cfg0.N) (p : Fin 4) (a : Fin 256) (b : Fin 704) (i : Fin 2048) (hi : i.val = 256 * t.val + a.val) :
    ((cfg0.win 4).blk t).view.emb (ix3 p a b) = ix3 p i b := by
  funext x
  match x with
  | ⟨0, _⟩ => exact Fin.ext (by blk_simp [idxs t])
  | ⟨1, _⟩ => exact Fin.ext (by blk_simp [idxs t]; omega)
  | ⟨2, _⟩ => exact Fin.ext (by blk_simp [idxs t])

/-! ## The weights in scratch -/

theorem canon_w (v) (w : Vec Ideal S4x704x1024 .bf16) (h : w = v) : View.canon [⟨Rect.whole S4x704x1024, w⟩] = v := by
  subst h
  exact Rows.canon_all _
abbrev cwg (c : Dev nD) := canon_w (V m c main_v2) (ReadAs.same.apply (View.read (Elt Ideal) (View.whole main_v2) (V m c main_v2))) rfl
abbrev cwu (c : Dev nD) := canon_w (V m c main_v5) (ReadAs.same.apply (View.read (Elt Ideal) (View.whole main_v5) (V m c main_v5))) rfl

/-- The two weights in scratch. -/
abbrev ScrIs (c : Dev nD) (x : Vec Ideal S4x704x1024 .bf16 × Vec Ideal S4x704x1024 .bf16) : Prop := x = (V m c main_v2, V m c main_v5)

theorem scrA (c : Dev nD) (t : Fin cfg0.N) (h0 : t.val % 8 = 0) : ScrIs m c (outsAt0 m c t.val t.isLt).2.2.2 := by
  rw [outsAt0_A m c t h0]
  refine Prod.ext ?_ ?_
  · funext y
    frame_out
    rw [cwg m c]
  · funext y
    frame_out
    rw [cwu m c]

theorem scrB (c : Dev nD) (t : Fin cfg0.N) (h0 : ¬t.val % 8 = 0) :
    (outsAt0 m c t.val t.isLt).2.2.2 = (outsAt0 m c (t.val - 1) (Nat.lt_of_le_of_lt (Nat.sub_le _ _) t.isLt)).2.2.2 := by
  rw [outsAt0_B m c t h0]
  unfold sout0_B_0 sout0_B_1
  rfl

/-- They are there after every point. -/
theorem scr (c : Dev nD) (n : ℕ) (h : n < cfg0.N) : ScrIs m c (outsAt0 m c n h).2.2.2 := by
  induction n with
  | zero => exact scrA m c ⟨0, h⟩ rfl
  | succ n ih =>
    have h0 : ¬ (n + 1) % 8 = 0 := by have : n + 1 < 8 := h; omega
    exact (scrB m c ⟨n + 1, h⟩ h0).trans (ih _)
theorem sg (c : Dev nD) (n : ℕ) (h : n < cfg0.N) : (outsAt0 m c n h).2.2.2.1 = V m c main_v2 := congrArg (fun x => x.1) (scr m c n h)
theorem su (c : Dev nD) (n : ℕ) (h : n < cfg0.N) : (outsAt0 m c n h).2.2.2.2 = V m c main_v5 := congrArg (fun x => x.2) (scr m c n h)

/-! ## What each point leaves -/

/-- The block of the norm. -/
abbrev hT (c : Dev nD) (t : Fin cfg0.N) : FVec Ideal S256x1024 .bf16 := k0_pay4 (iblk m c 0 t) (iblk m c 1 t)

theorem h_point (c : Dev nD) (t : Fin cfg0.N) (y) : (outsAt0 m c t.val t.isLt).1 y = k0_pay5 (iblk m c 0 t) (iblk m c 1 t) y := by
  by_cases h0 : t.val % 8 = 0
  · rw [outsAt0_A m c t h0]
    frame_out
  · rw [outsAt0_B m c t h0]
    frame_out
theorem g_point (c : Dev nD) (t : Fin cfg0.N) (y) : (outsAt0 m c t.val t.isLt).2.1 y = View.canon (upL (hT m c t) (V m c main_v2)) y := by
  by_cases h0 : t.val % 8 = 0
  · rw [outsAt0_A m c t h0]
    frame_out
    rw [Rows.rd, Rows.rd, Rows.rd, Rows.rd, cwg m c]
    rfl
  · rw [outsAt0_B m c t h0]
    frame_out
    rw [read_unread_whole, sg m c]
    rfl
theorem u_point (c : Dev nD) (t : Fin cfg0.N) (y) : (outsAt0 m c t.val t.isLt).2.2.1 y = View.canon (upL (hT m c t) (V m c main_v5)) y := by
  by_cases h0 : t.val % 8 = 0
  · rw [outsAt0_A m c t h0]
    frame_out
    rw [Rows.rd, Rows.rd, Rows.rd, Rows.rd, cwu m c]
    rfl
  · rw [outsAt0_B m c t h0]
    frame_out
    rw [read_unread_whole, su m c]
    rfl

theorem hT_at (c : Dev nD) (t : Fin cfg0.N) (a : Fin 256) (b : Fin 1024) (i : Fin 2048) (hi : i.val = 256 * t.val + a.val) :
    hT m c t (ix2 a b) = h2R (aX m c) (ag m c) (ix2 i b) := by
  refine (pay4_at _ _ a b).trans (Eq.trans ?_ (h2R_at (aX m c) (ag m c) i b).symm)
  simp only [blk0 m c t a _ i hi, blk1 m c t]

/-! ## The results, whole -/

/-- The weighted norm. -/
theorem final_2 (c : Dev nD) : (dats m 0 c).arrAt 2 (cfgs 0).N = truncf .bf16 (h2R (aX m c) (ag m c)) Cert.FfnUpRefIdeal.Gen.bitsLt_bf16_f32 := by
  refine (dats m 0 c).arrAt_eq_of_covers 2 _ (by decide +kernel) fun t _ y => ?_
  obtain ⟨p, q, rfl⟩ : ∃ (p : Fin 256) (q : Fin 1024), y = ix2 p q := ⟨y 0, y 1, eq_ix2 y⟩
  have hi : 256 * t.val + p.val < 2048 := by have : t.val < 8 := t.isLt; omega
  rw [after0_2, emb2 t p q ⟨_, hi⟩ rfl]
  refine (h_point m c t (ix2 p q)).trans ((pay5_eq _ _ p q).trans ?_)
  refine (hT_at m c t p q ⟨_, hi⟩ rfl).trans ?_
  pointwise []

/-- Its products with the two weights. -/
theorem final_3 (c : Dev nD) : (dats m 0 c).arrAt 3 (cfgs 0).N = upR (h2R (aX m c) (ag m c)) (aWg m c) := by
  refine (dats m 0 c).arrAt_eq_of_covers 3 _ (by decide +kernel) fun t _ y => ?_
  refine (congrFun (after0_3 m c t) y).trans ((g_point m c t y).trans ?_)
  obtain ⟨p, a, q, rfl⟩ : ∃ (p : Fin 4) (a : Fin 256) (q : Fin 704), y = ix3 p a q := ⟨y 0, y 1, y 2, eq_ix3 y⟩
  have hi : 256 * t.val + a.val < 2048 := by have : t.val < 8 := t.isLt; omega
  rw [upL_at, emb3 t p a q ⟨_, hi⟩ rfl, upR_at]
  exact Finset.sum_congr rfl fun l _ => congrArg₂ (· * ·) (hT_at m c t a l ⟨_, hi⟩ rfl) (V_wg m c p q l)
theorem final_4 (c : Dev nD) : (dats m 0 c).arrAt 4 (cfgs 0).N = upR (h2R (aX m c) (ag m c)) (aWu m c) := by
  refine (dats m 0 c).arrAt_eq_of_covers 4 _ (by decide +kernel) fun t _ y => ?_
  refine (congrFun (after0_4 m c t) y).trans ((u_point m c t y).trans ?_)
  obtain ⟨p, a, q, rfl⟩ : ∃ (p : Fin 4) (a : Fin 256) (q : Fin 704), y = ix3 p a q := ⟨y 0, y 1, y 2, eq_ix3 y⟩
  have hi : 256 * t.val + a.val < 2048 := by have : t.val < 8 := t.isLt; omega
  rw [upL_at, emb4 t p a q ⟨_, hi⟩ rfl, upR_at]
  exact Finset.sum_congr rfl fun l _ => congrArg₂ (· * ·) (hT_at m c t a l ⟨_, hi⟩ rfl) (V_wu m c p q l)

end Cert.FfnUpIdeal.Value
-- ==== Proof.FfnUpClaim.lean ====
module

public import proofs.«01_k».proof.Defs
public import proofs.«01_k».proof.Proof.Gen.FfnUpIdeal.Frame
public import proofs.«01_k».proof.Proof.Gen.FfnUpRefIdeal.Run
public import proofs.«01_k».proof.Proof.FfnUp
public import Idealize.ShloMosaic.Adequacy
public import Idealize.ShloMosaic.Init

@[expose] public section

noncomputable section

namespace Cert.Proof

open Idealize.ShloMosaic Idealize.SL.Sem

/-- The reference of the feed-forward part's first call ends with its arguments as they were. -/
theorem frame_ffn_up_reference : Cert.quiescent_FfnUpRefIdeal := fun m ρ _ =>
  (θ_run Cert.FfnUpRefIdeal.defs _ _).mono (fun r h => ⟨fun c => (h c).2.2.2,
      Idealize.ShloMosaic.sem_eq_zero_of_no_sems (by decide) r.2⟩)
    (Cert.FfnUpRefIdeal.Value.run (F := Ideal) m ρ)

set_option maxHeartbeats 4000000 in
/-- The three results of the feed-forward part's first call are the reference's. -/
theorem ffn_up : @Cert.algebraic_FfnUpIdeal_FfnUpRefIdeal Cert.FfnUpIdeal.Gen.facts Cert.FfnUpRefIdeal.Gen.facts := by
  pair_intro
  · run_from Cert.FfnUpIdeal.Value.run_blocks m g
  run_from Cert.FfnUpRefIdeal.Value.run m' g'
  · exact (Cert.FfnUpIdeal.Value.final_2 m c).symm
  · exact (Cert.FfnUpIdeal.Value.final_3 m c).symm
  · exact (Cert.FfnUpIdeal.Value.final_4 m c).symm

end Cert.Proof

end
-- ==== Proof.InprojFwd.lean ====
module

public import proofs.«01_k».proof.Proof.Gen.InprojFwdIdeal.Value
public import proofs.«01_k».proof.Proof.Gen.InprojFwdRefIdeal
public import proofs.«01_k».proof.Proof.Norm
public import proofs.«01_k».proof.Proof.Rows
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

/-! # The input projection's forward call: the norm, the product, and its columns dealt out to three results -/

namespace Cert.InprojFwdIdeal.Value
open Cert.InprojFwdIdeal Cert.InprojFwdIdeal.Gen

variable (m : (ℓ : Loc nD τ sig) → Buf (Elt Ideal) ℓ)

theorem idxs : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] := (by decide +kernel : ∀ t : Fin grid0.N, _)

/-- Column `q` of part `k`. -/
abbrev col (k : Fin 4) (q : Fin 896) : Fin 3584 := ⟨896 * k.val + q.val, by omega⟩

/-- One entry of the weighted norm of a row. -/
def nE (x g : Fin 1024 → EReal) (k : Fin 1024) : EReal := x k * Norm.rinv x * g k

/-! ## The reference's terms -/

open Cert.InprojFwdRefIdeal Cert.InprojFwdRefIdeal.Gen in
/-- The mean squares plus epsilon, the weighted norm, and the projection. -/
def msR (X : FVec Ideal S2048x1024 .f32) : FVec Ideal S2048x1 .f32 :=
  addf (Host.divf (broadcastInDim S2048x1 ![0] bcast_S2048_S2048x1_0 (Host.reduceAdd (mulf X X) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))
open Cert.InprojFwdRefIdeal Cert.InprojFwdRefIdeal.Gen in
def hR (X : FVec Ideal S2048x1024 .f32) (g : FVec Ideal S1x1024 .f32) : FVec Ideal S2048x1024 .f32 :=
  mulf (mulf X (broadcastInDim S2048x1024 ![0, 1] bcast_S2048x1_S2048x1024_0_1 (Host.rsqrt (msR X)))) (broadcastInDim S2048x1024 ![0, 1] bcast_S1x1024_S2048x1024_0_1 g)
open Cert.InprojFwdRefIdeal Cert.InprojFwdRefIdeal.Gen in
def zR (H : FVec Ideal S2048x1024 .f32) (W : FVec Ideal S1024x3584 .f32) (b : FVec Ideal S1x3584 .f32) : FVec Ideal S2048x3584 .f32 :=
  addf (Host.dotGeneral dot_S2048x1024_S1024x3584_S2048x3584_1_0_0_1_n_n none H W) (broadcastInDim S2048x3584 ![0, 1] bcast_S1x3584_S2048x3584_0_1 b)

theorem msR_at (X) (i : Fin 2048) : msR X (ix2 i 0) = Norm.msq (fun k => X (ix2 i k)) := by
  pointwise [msR, Norm.msq]
theorem hR_at (X g) (i : Fin 2048) (j : Fin 1024) : hR X g (ix2 i j) = nE (fun k => X (ix2 i k)) (fun k => g (ix2 0 k)) j := by
  have e : hR X g (ix2 i j) = X (ix2 i j) * Ideal.rsqrt (msR X (ix2 i 0)) * g (ix2 0 j) := by pointwise [hR]
  rw [e, msR_at]; rfl
theorem zR_at (H W b) (i : Fin 2048) (j : Fin 3584) : zR H W b (ix2 i j) = ∑ k : Fin 1024, H (ix2 i k) * W (ix2 k j) + b (ix2 0 j) := by
  pointwise [zR]

/-- The three slices of the projection. -/
abbrev uaR (Z : FVec Ideal Cert.InprojFwdRefIdeal.S2048x3584 .f32) : FVec Ideal Cert.InprojFwdRefIdeal.S2048x512 .f32 :=
  extractStridedSlice Cert.InprojFwdRefIdeal.S2048x512 ![0, 0] Z Cert.InprojFwdRefIdeal.Gen.slices_S2048x3584_S2048x512_0_0
abbrev ubR (Z : FVec Ideal Cert.InprojFwdRefIdeal.S2048x3584 .f32) : FVec Ideal Cert.InprojFwdRefIdeal.S2048x1024 .f32 :=
  extractStridedSlice Cert.InprojFwdRefIdeal.S2048x1024 ![0, 512] Z Cert.InprojFwdRefIdeal.Gen.slices_S2048x3584_S2048x1024_0_512
abbrev gpR (Z : FVec Ideal Cert.InprojFwdRefIdeal.S2048x3584 .f32) : FVec Ideal Cert.InprojFwdRefIdeal.S2048x2048 .f32 :=
  extractStridedSlice Cert.InprojFwdRefIdeal.S2048x2048 ![0, 1536] Z Cert.InprojFwdRefIdeal.Gen.slices_S2048x3584_S2048x2048_0_1536

theorem uaR_at (Z) (i : Fin 2048) (j : Fin 512) : uaR Z (ix2 i j) = Z (ix2 i ⟨j.val, by omega⟩) := by
  pointwise [uaR]
theorem ubR_at (Z) (i : Fin 2048) (j : Fin 1024) : ubR Z (ix2 i j) = Z (ix2 i ⟨512 + j.val, by omega⟩) := by
  pointwise [ubR]
theorem gpR_at (Z) (i : Fin 2048) (j : Fin 2048) : gpR Z (ix2 i j) = Z (ix2 i ⟨1536 + j.val, by omega⟩) := by
  pointwise [gpR]

/-! ## The kernel's payloads -/

theorem pay6_at (x : Vec Ideal S256x1024 .f32) (g : Vec Ideal S1x1024 .f32) (a : Fin 256) (b : Fin 1024) :
    (k0_pay6 x g : Vec Ideal S256x1024 .bf16) (ix2 a b) = nE (fun k => x (ix2 a k)) (fun k => g (ix2 0 k)) b := by
  pointwise [k0_pay6, nE, Norm.rinv, Norm.msq]
theorem pay7_at (x : Vec Ideal S256x1024 .f32) (g : Vec Ideal S1x1024 .f32) (a : Fin 256) (b : Fin 1024) :
    (k0_pay7 x g : Vec Ideal S256x1024 .bf16) (ix2 a b) = k0_pay6 x g (ix2 a b) := by
  pointwise [k0_pay7]
theorem pay5_at (h : FVec Ideal S256x1024 .bf16) (w : Vec Ideal S1x1024x896 .bf16) (v : Vec Ideal S1x896 .f32) (a : Fin 256) (q : Fin 896) :
    (k0_pay5 h w v : Vec Ideal S256x896 .f32) (ix2 a q) = ∑ k : Fin 1024, h (ix2 a k) * w (ix3 0 k q) + v (ix2 0 q) := by
  pointwise [k0_pay5]
theorem pay9_at (x : Vec Ideal S256x1024 .f32) (g : Vec Ideal S1x1024 .f32) (w : Vec Ideal S1x1024x896 .bf16) (v : Vec Ideal S1x896 .f32) (a : Fin 256) (q : Fin 512) :
    (k0_pay9 x g w v : Vec Ideal S256x512 .f32) (ix2 a q) = k0_pay5 (k0_pay6 x g) w v (ix2 a ⟨q.val, by omega⟩) := by
  have e : k0_pay8 x g w v = k0_pay5 (k0_pay6 x g) w v := rfl
  rw [← e]
  pointwise [k0_pay9]
theorem pay10_at (x : Vec Ideal S256x1024 .f32) (g : Vec Ideal S1x1024 .f32) (w : Vec Ideal S1x1024x896 .bf16) (v : Vec Ideal S1x896 .f32) (a : Fin 256) (q : Fin 384) :
    (k0_pay10 x g w v : Vec Ideal S256x384 .f32) (ix2 a q) = k0_pay5 (k0_pay6 x g) w v (ix2 a ⟨512 + q.val, by omega⟩) := by
  have e : k0_pay8 x g w v = k0_pay5 (k0_pay6 x g) w v := rfl
  rw [← e]
  pointwise [k0_pay10]
theorem pay2_at (h : FVec Ideal S256x1024 .bf16) (w : Vec Ideal S1x1024x896 .bf16) (v : Vec Ideal S1x896 .f32) (a : Fin 256) (q : Fin 640) :
    (k0_pay2 h w v : Vec Ideal S256x640 .f32) (ix2 a q) = k0_pay5 h w v (ix2 a ⟨q.val, by omega⟩) := by
  have e : k0_pay1 h w v = k0_pay5 h w v := rfl
  rw [← e]
  pointwise [k0_pay2]
theorem pay3_at (h : FVec Ideal S256x1024 .bf16) (w : Vec Ideal S1x1024x896 .bf16) (v : Vec Ideal S1x896 .f32) (a : Fin 256) (q : Fin 256) :
    (k0_pay3 h w v : Vec Ideal S256x256 .f32) (ix2 a q) = k0_pay5 h w v (ix2 a ⟨640 + q.val, by omega⟩) := by
  have e : k0_pay1 h w v = k0_pay5 h w v := rfl
  rw [← e]
  pointwise [k0_pay3]

/-- One part of the weight, and of the bias. -/
abbrev wt (k : ℕ) (inb : ∀ a, ![k, 0, 0] a + ![1, 1024, 896] a ≤ S4x1024x896.size a) (W : Vec Ideal S4x1024x896 .bf16) : Vec Ideal S1x1024x896 .bf16 :=
  View.ld W (Rect.unit (s := S4x1024x896) ![k, 0, 0] ![1, 1024, 896] inb)
abbrev bt (k : ℕ) (inb : ∀ a, ![0, k] a + ![1, 896] a ≤ S1x3584.size a) (b : Vec Ideal S1x3584 .f32) : Vec Ideal S1x896 .f32 :=
  View.ld b (Rect.unit (s := S1x3584) ![0, k] ![1, 896] inb)
theorem bt_at (k : ℕ) (inb) (b : Vec Ideal S1x3584 .f32) (q : Fin 896) (j : Fin 3584) (hj : j.val = k + q.val) : bt k inb b (ix2 0 q) = b (ix2 0 j) := by
  refine congrArg b (funext fun x => ?_)
  match x with
  | ⟨0, _⟩ => exact Fin.ext (by simp)
  | ⟨1, _⟩ => exact Fin.ext (by simp [hj])

/-- A part of a block's projection. -/
theorem part_at (h : FVec Ideal S256x1024 .bf16) (W : Vec Ideal S4x1024x896 .bf16) (b : Vec Ideal S1x3584 .f32) (k k' : ℕ) (hk : k < 4) (hk' : k' = 896 * k) (i j) (a : Fin 256) (q : Fin 896) :
    (k0_pay5 h (wt k i W) (bt k' j b) : Vec Ideal S256x896 .f32) (ix2 a q) = ∑ l : Fin 1024, h (ix2 a l) * W (ix3 ⟨k, hk⟩ l q) + b (ix2 0 (col ⟨k, hk⟩ q)) := by
  rw [pay5_at]
  exact congrArg₂ (· + ·) (Finset.sum_congr rfl fun l _ => congrArg _ (Rows.ld_part k i W ⟨k, hk⟩ rfl l q)) (bt_at k' j b q _ (by rw [hk']))

/-- What a list of stores leaves, its last store being some columns of a block. -/
theorem canon_cols {N C : ℕ} (r D : ℕ) (inb : ∀ a, ![0, r] a + ![N, D] a ≤ (⟨2, ![N, C]⟩ : Shape).size a)
    (w : (⟨2, ![N, D]⟩ : Shape).Idx → Elt Ideal .f32) (L : List (View.Piece (Elt Ideal) ⟨2, ![N, C]⟩ .f32)) (p : Fin N) (q : Fin C) :
    View.canon (⟨Rect.unit (s := ⟨2, ![N, C]⟩) ![0, r] ![N, D] inb, w⟩ :: L) (ix2 p q)
      = if h : r ≤ q.val ∧ q.val < r + D then w (ix2 p ⟨q.val - r, by omega⟩) else View.canon L (ix2 p q) := by
  split_ifs with h
  · have e : (Rect.unit (s := ⟨2, ![N, C]⟩) ![0, r] ![N, D] inb).emb (ix2 p (⟨q.val - r, by omega⟩ : Fin D)) = ix2 p q := by
      funext a
      match a with
      | ⟨0, _⟩ => exact Fin.ext (by simp)
      | ⟨1, _⟩ => exact Fin.ext (by simp; omega)
    rw [← e]
    exact View.canon_cons_emb (Rect.unit (s := ⟨2, ![N, C]⟩) ![0, r] ![N, D] inb) w L _
  · refine View.canon_cons_of_not_mem _ L fun hm => h ?_
    have := (Rect.mem_set_unit (inb := inb)).mp hm 1
    simp at this
    omega

/-- What a point stores of the second and of the third slice. -/
def ubL (x : Vec Ideal S256x1024 .f32) (g : Vec Ideal S1x1024 .f32) (W : Vec Ideal S4x1024x896 .bf16) (b : Vec Ideal S1x3584 .f32) : List (View.Piece (Elt Ideal) S256x1024 .f32) :=
  [⟨Rect.unit ![0, 384] ![256, 640] inb_S256x1024_S256x640_0_384, k0_pay2 (k0_pay6 x g) (wt 1 inb_S4x1024x896_S1x1024x896_1_0_0 W) (bt 896 inb_S1x3584_S1x896_0_896 b)⟩,
   ⟨Rect.unit ![0, 0] ![256, 384] inb_S256x1024_S256x384_0_0, k0_pay10 x g (wt 0 inb_S4x1024x896_S1x1024x896_0_0_0 W) (bt 0 inb_S1x3584_S1x896_0_0 b)⟩]
def gpL (h : FVec Ideal S256x1024 .bf16) (W : Vec Ideal S4x1024x896 .bf16) (b : Vec Ideal S1x3584 .f32) : List (View.Piece (Elt Ideal) S256x2048 .f32) :=
  [⟨Rect.unit ![0, 1152] ![256, 896] inb_S256x2048_S256x896_0_1152, k0_pay5 h (wt 3 inb_S4x1024x896_S1x1024x896_3_0_0 W) (bt 2688 inb_S1x3584_S1x896_0_2688 b)⟩,
   ⟨Rect.unit ![0, 256] ![256, 896] inb_S256x2048_S256x896_0_256, k0_pay4 h (wt 2 inb_S4x1024x896_S1x1024x896_2_0_0 W) (bt 1792 inb_S1x3584_S1x896_0_1792 b)⟩,
   ⟨Rect.unit ![0, 0] ![256, 256] inb_S256x2048_S256x256_0_0, k0_pay3 h (wt 1 inb_S4x1024x896_S1x1024x896_1_0_0 W) (bt 896 inb_S1x3584_S1x896_0_896 b)⟩]

/-! ## What the call is given -/

abbrev aX (c : Dev nD) : FVec Ideal S2048x1024 .f32 := m ((c : Thread nD τ).loc main_arg0)
abbrev ag (c : Dev nD) : FVec Ideal S1x1024 .f32 := m ((c : Thread nD τ).loc main_arg1)
abbrev aW (c : Dev nD) : FVec Ideal S1024x3584 .f32 := m ((c : Thread nD τ).loc main_arg2)
abbrev ab (c : Dev nD) : FVec Ideal S1x3584 .f32 := m ((c : Thread nD τ).loc main_arg3)
abbrev HM (c : Dev nD) : FVec Ideal S2048x1024 .f32 := hR (aX m c) (ag m c)
abbrev ZM (c : Dev nD) : FVec Ideal Cert.InprojFwdRefIdeal.S2048x3584 .f32 := zR (HM m c) (aW m c) (ab m c)

theorem V_w (c : Dev nD) (k : Fin 4) (l : Fin 1024) (q : Fin 896) : V m c main_v2 (ix3 k l q) = aW m c (ix2 l (col k q)) := by
  entry_read
  pointwise []
  exact congrArg (aW m c) (congrArg (ix2 l) (Fin.ext (by simp; omega)))

theorem blk0 (c : Dev nD) (t : Fin cfg0.N) (a : Fin 256) (b : Fin 1024) (i : Fin 2048) (hi : i.val = 256 * t.val + a.val) : iblk m c 0 t (ix2 a b) = aX m c (ix2 i b) := by
  blk_ext [iblk, V, idxs t]
theorem blk1 (c : Dev nD) (t : Fin cfg0.N) (a : Fin 1) (b : Fin 1024) : iblk m c 1 t (ix2 a b) = ag m c (ix2 a b) := by
  blk_ext! [iblk, V, idxs t]
theorem blk2 (c : Dev nD) (t : Fin cfg0.N) (a : Fin 1) (b : Fin 3584) : iblk m c 2 t (ix2 a b) = ab m c (ix2 a b) := by
  blk_ext! [iblk, V, idxs t]

theorem emb3 (t : Fin cfg0.N) (p : Fin 256) (q : Fin 1024) (i : Fin 2048) (hi : i.val = 256 * t.val + p.val) : ((cfg0.win 3).blk t).view.emb (ix2 p q) = ix2 i q := by
  funext a
  match a with
  | ⟨0, _⟩ => exact Fin.ext (by blk_simp [idxs t]; omega)
  | ⟨1, _⟩ => exact Fin.ext (by blk_simp [idxs t])
theorem emb4 (t : Fin cfg0.N) (p : Fin 256) (q : Fin 512) (i : Fin 2048) (hi : i.val = 256 * t.val + p.val) : ((cfg0.win 4).blk t).view.emb (ix2 p q) = ix2 i q := by
  funext a
  match a with
  | ⟨0, _⟩ => exact Fin.ext (by blk_simp [idxs t]; omega)
  | ⟨1, _⟩ => exact Fin.ext (by blk_simp [idxs t])
theorem emb5 (t : Fin cfg0.N) (p : Fin 256) (q : Fin 1024) (i : Fin 2048) (hi : i.val = 256 * t.val + p.val) : ((cfg0.win 5).blk t).view.emb (ix2 p q) = ix2 i q := by
  funext a
  match a with
  | ⟨0, _⟩ => exact Fin.ext (by blk_simp [idxs t]; omega)
  | ⟨1, _⟩ => exact Fin.ext (by blk_simp [idxs t])
theorem emb6 (t : Fin cfg0.N) (p : Fin 256) (q : Fin 2048) (i : Fin 2048) (hi : i.val = 256 * t.val + p.val) : ((cfg0.win 6).blk t).view.emb (ix2 p q) = ix2 i q := by
  funext a
  match a with
  | ⟨0, _⟩ => exact Fin.ext (by blk_simp [idxs t]; omega)
  | ⟨1, _⟩ => exact Fin.ext (by blk_simp [idxs t])

/-! ## The weight in scratch -/

theorem canon_w (v) (w : Vec Ideal S4x1024x896 .bf16) (h : w = v) : View.canon [⟨Rect.whole S4x1024x896, w⟩] = v := by
  subst h
  exact Rows.canon_all _
abbrev cw (c : Dev nD) := canon_w (V m c main_v2) (ReadAs.same.apply (View.read (Elt Ideal) (View.whole main_v2) (V m c main_v2))) rfl

theorem scrA (c : Dev nD) (t : Fin cfg0.N) (h0 : t.val % 8 = 0) : (outsAt0 m c t.val t.isLt).2.2.2.2 = V m c main_v2 := by
  rw [outsAt0_A m c t h0]
  funext y
  frame_out
  rw [cw m c]

theorem scrB (c : Dev nD) (t : Fin cfg0.N) (h0 : ¬t.val % 8 = 0) :
    (outsAt0 m c t.val t.isLt).2.2.2.2 = (outsAt0 m c (t.val - 1) (Nat.lt_of_le_of_lt (Nat.sub_le _ _) t.isLt)).2.2.2.2 := by
  rw [outsAt0_B m c t h0]
  unfold sout0_B_0
  rfl

/-- The weight is there after every point. -/
theorem scr (c : Dev nD) (n : ℕ) (h : n < cfg0.N) : (outsAt0 m c n h).2.2.2.2 = V m c main_v2 := by
  induction n with
  | zero => exact scrA m c ⟨0, h⟩ rfl
  | succ n ih =>
    have h0 : ¬ (n + 1) % 8 = 0 := by have : n + 1 < 8 := h; omega
    exact (scrB m c ⟨n + 1, h⟩ h0).trans (ih _)

/-! ## What each point leaves -/

/-- The block of the norm. -/
abbrev hT (c : Dev nD) (t : Fin cfg0.N) : FVec Ideal S256x1024 .bf16 := k0_pay6 (iblk m c 0 t) (iblk m c 1 t)

theorem h_point (c : Dev nD) (t : Fin cfg0.N) (y) : (outsAt0 m c t.val t.isLt).1 y = k0_pay7 (iblk m c 0 t) (iblk m c 1 t) y := by
  by_cases h0 : t.val % 8 = 0
  · rw [outsAt0_A m c t h0]
    frame_out
  · rw [outsAt0_B m c t h0]
    frame_out
theorem ua_point (c : Dev nD) (t : Fin cfg0.N) (y) : (outsAt0 m c t.val t.isLt).2.1 y = k0_pay9 (iblk m c 0 t) (iblk m c 1 t) (wt 0 inb_S4x1024x896_S1x1024x896_0_0_0 (V m c main_v2)) (bt 0 inb_S1x3584_S1x896_0_0 (iblk m c 2 t)) y := by
  by_cases h0 : t.val % 8 = 0
  · rw [outsAt0_A m c t h0]
    frame_out
    simp only [Rows.rd, cw m c]
  · rw [outsAt0_B m c t h0]
    frame_out
    simp only [read_unread_whole, scr m c]
theorem ub_point (c : Dev nD) (t : Fin cfg0.N) (y) : (outsAt0 m c t.val t.isLt).2.2.1 y = View.canon (ubL (iblk m c 0 t) (iblk m c 1 t) (V m c main_v2) (iblk m c 2 t)) y := by
  by_cases h0 : t.val % 8 = 0
  · rw [outsAt0_A m c t h0]
    frame_out
    simp only [Rows.rd, cw m c]
    rfl
  · rw [outsAt0_B m c t h0]
    frame_out
    simp only [read_unread_whole, scr m c]
    rfl
theorem gp_point (c : Dev nD) (t : Fin cfg0.N) (y) : (outsAt0 m c t.val t.isLt).2.2.2.1 y = View.canon (gpL (hT m c t) (V m c main_v2) (iblk m c 2 t)) y := by
  by_cases h0 : t.val % 8 = 0
  · rw [outsAt0_A m c t h0]
    frame_out
    simp only [Rows.rd, cw m c]
    rfl
  · rw [outsAt0_B m c t h0]
    frame_out
    simp only [read_unread_whole, scr m c]
    rfl

theorem hT_at (c : Dev nD) (t : Fin cfg0.N) (a : Fin 256) (b : Fin 1024) (i : Fin 2048) (hi : i.val = 256 * t.val + a.val) :
    hT m c t (ix2 a b) = HM m c (ix2 i b) := by
  refine (pay6_at _ _ a b).trans (Eq.trans ?_ (hR_at (aX m c) (ag m c) i b).symm)
  simp only [blk0 m c t a _ i hi, blk1 m c t]

/-- A part of a block's projection is the reference's. -/
theorem z_at (c : Dev nD) (t : Fin cfg0.N) (k k' : ℕ) (hk : k < 4) (hk' : k' = 896 * k) (i' j') (a : Fin 256) (q : Fin 896) (i : Fin 2048) (hi : i.val = 256 * t.val + a.val)
    (j : Fin 3584) (hj : j.val = 896 * k + q.val) :
    (k0_pay5 (hT m c t) (wt k i' (V m c main_v2)) (bt k' j' (iblk m c 2 t)) : Vec Ideal S256x896 .f32) (ix2 a q) = ZM m c (ix2 i j) := by
  obtain rfl : j = col ⟨k, hk⟩ q := Fin.ext hj
  refine (part_at _ _ _ k k' hk hk' i' j' a q).trans (Eq.trans ?_ (zR_at (HM m c) (aW m c) (ab m c) i _).symm)
  exact congrArg₂ (· + ·) (Finset.sum_congr rfl fun l _ => congrArg₂ (· * ·) (hT_at m c t a l i hi) (V_w m c _ l q)) (blk2 m c t 0 _)

theorem ub_at (c : Dev nD) (t : Fin cfg0.N) (a : Fin 256) (b : Fin 1024) (i : Fin 2048) (hi : i.val = 256 * t.val + a.val) :
    View.canon (ubL (iblk m c 0 t) (iblk m c 1 t) (V m c main_v2) (iblk m c 2 t)) (ix2 a b) = ZM m c (ix2 i ⟨512 + b.val, by omega⟩) := by
  refine (canon_cols (N := 256) (C := 1024) 384 640 _ _ _ a b).trans ?_
  split_ifs with h
  · exact (pay2_at _ _ _ a _).trans (z_at m c t 1 896 (by norm_num) (by norm_num) _ _ a _ i hi _ (by simp; omega))
  · refine (canon_cols (N := 256) (C := 1024) 0 384 _ _ _ a b).trans ?_
    rw [dif_pos (by omega)]
    exact (pay10_at _ _ _ _ a _).trans (z_at m c t 0 0 (by norm_num) (by norm_num) _ _ a _ i hi _ (by simp))

theorem gp_at (c : Dev nD) (t : Fin cfg0.N) (a : Fin 256) (b : Fin 2048) (i : Fin 2048) (hi : i.val = 256 * t.val + a.val) :
    View.canon (gpL (hT m c t) (V m c main_v2) (iblk m c 2 t)) (ix2 a b) = ZM m c (ix2 i ⟨1536 + b.val, by omega⟩) := by
  refine (canon_cols (N := 256) (C := 2048) 1152 896 _ _ _ a b).trans ?_
  split_ifs with h
  · exact z_at m c t 3 2688 (by norm_num) (by norm_num) _ _ a _ i hi _ (by simp; omega)
  · refine (canon_cols (N := 256) (C := 2048) 256 896 _ _ _ a b).trans ?_
    split_ifs with h'
    · exact z_at m c t 2 1792 (by norm_num) (by norm_num) _ _ a _ i hi _ (by simp; omega)
    · refine (canon_cols (N := 256) (C := 2048) 0 256 _ _ _ a b).trans ?_
      rw [dif_pos (by omega)]
      exact (pay3_at _ _ _ a _).trans (z_at m c t 1 896 (by norm_num) (by norm_num) _ _ a _ i hi _ (by simp; omega))

/-! ## The results, whole -/

/-- The weighted norm. -/
theorem final_3 (c : Dev nD) : (dats m 0 c).arrAt 3 (cfgs 0).N = truncf .bf16 (HM m c) Cert.InprojFwdRefIdeal.Gen.bitsLt_bf16_f32 := by
  refine (dats m 0 c).arrAt_eq_of_covers 3 _ (by decide +kernel) fun t _ y => ?_
  obtain ⟨p, q, rfl⟩ : ∃ (p : Fin 256) (q : Fin 1024), y = ix2 p q := ⟨y 0, y 1, eq_ix2 y⟩
  have hi : 256 * t.val + p.val < 2048 := by have : t.val < 8 := t.isLt; omega
  rw [after0_3, emb3 t p q ⟨_, hi⟩ rfl]
  refine (h_point m c t (ix2 p q)).trans ((pay7_at _ _ p q).trans ?_)
  refine (hT_at m c t p q ⟨_, hi⟩ rfl).trans ?_
  pointwise []

/-- The three slices of the projection. -/
theorem final_4 (c : Dev nD) : (dats m 0 c).arrAt 4 (cfgs 0).N = uaR (ZM m c) := by
  refine (dats m 0 c).arrAt_eq_of_covers 4 _ (by decide +kernel) fun t _ y => ?_
  obtain ⟨p, q, rfl⟩ : ∃ (p : Fin 256) (q : Fin 512), y = ix2 p q := ⟨y 0, y 1, eq_ix2 y⟩
  have hi : 256 * t.val + p.val < 2048 := by have : t.val < 8 := t.isLt; omega
  rw [after0_4, emb4 t p q ⟨_, hi⟩ rfl]
  refine (ua_point m c t (ix2 p q)).trans ((pay9_at _ _ _ _ p q).trans (Eq.trans ?_ (uaR_at _ ⟨_, hi⟩ q).symm))
  exact z_at m c t 0 0 (by norm_num) (by norm_num) _ _ p _ _ rfl _ (by simp)
theorem final_5 (c : Dev nD) : (dats m 0 c).arrAt 5 (cfgs 0).N = ubR (ZM m c) := by
  refine (dats m 0 c).arrAt_eq_of_covers 5 _ (by decide +kernel) fun t _ y => ?_
  obtain ⟨p, q, rfl⟩ : ∃ (p : Fin 256) (q : Fin 1024), y = ix2 p q := ⟨y 0, y 1, eq_ix2 y⟩
  have hi : 256 * t.val + p.val < 2048 := by have : t.val < 8 := t.isLt; omega
  rw [after0_5, emb5 t p q ⟨_, hi⟩ rfl]
  exact (ub_point m c t (ix2 p q)).trans ((ub_at m c t p q ⟨_, hi⟩ rfl).trans (ubR_at _ ⟨_, hi⟩ q).symm)
theorem final_6 (c : Dev nD) : (dats m 0 c).arrAt 6 (cfgs 0).N = gpR (ZM m c) := by
  refine (dats m 0 c).arrAt_eq_of_covers 6 _ (by decide +kernel) fun t _ y => ?_
  obtain ⟨p, q, rfl⟩ : ∃ (p : Fin 256) (q : Fin 2048), y = ix2 p q := ⟨y 0, y 1, eq_ix2 y⟩
  have hi : 256 * t.val + p.val < 2048 := by have : t.val < 8 := t.isLt; omega
  rw [after0_6, emb6 t p q ⟨_, hi⟩ rfl]
  exact (gp_point m c t (ix2 p q)).trans ((gp_at m c t p q ⟨_, hi⟩ rfl).trans (gpR_at _ ⟨_, hi⟩ q).symm)

end Cert.InprojFwdIdeal.Value
-- ==== Proof.InprojFwdClaim.lean ====
module

public import proofs.«01_k».proof.Defs
public import proofs.«01_k».proof.Proof.Gen.InprojFwdIdeal.Frame
public import proofs.«01_k».proof.Proof.Gen.InprojFwdRefIdeal.Run
public import proofs.«01_k».proof.Proof.InprojFwd
public import Idealize.ShloMosaic.Adequacy
public import Idealize.ShloMosaic.Init

@[expose] public section

noncomputable section

namespace Cert.Proof

open Idealize.ShloMosaic Idealize.SL.Sem

/-- The reference of the input projection's forward call ends with its arguments as they were. -/
theorem frame_inproj_fwd_reference : Cert.quiescent_InprojFwdRefIdeal := fun m ρ _ =>
  (θ_run Cert.InprojFwdRefIdeal.defs _ _).mono (fun r h => ⟨fun c => (h c).2.2.2.2,
      Idealize.ShloMosaic.sem_eq_zero_of_no_sems (by decide) r.2⟩)
    (Cert.InprojFwdRefIdeal.Value.run (F := Ideal) m ρ)

set_option maxHeartbeats 4000000 in
/-- The four results of the input projection's forward call are the reference's. -/
theorem inproj_fwd : @Cert.algebraic_InprojFwdIdeal_InprojFwdRefIdeal Cert.InprojFwdIdeal.Gen.facts Cert.InprojFwdRefIdeal.Gen.facts := by
  pair_intro
  · run_from Cert.InprojFwdIdeal.Value.run_blocks m g
  run_from Cert.InprojFwdRefIdeal.Value.run m' g'
  · exact (Cert.InprojFwdIdeal.Value.final_3 m c).symm
  · exact (Cert.InprojFwdIdeal.Value.final_4 m c).symm
  · exact (Cert.InprojFwdIdeal.Value.final_5 m c).symm
  · exact (Cert.InprojFwdIdeal.Value.final_6 m c).symm

end Cert.Proof

end
-- ==== Proof.DownWeight.lean ====
module

public import proofs.«01_k».proof.Proof.Gen.DownWeightIdeal.Value
public import proofs.«01_k».proof.Proof.Gen.DownWeightRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

/-! # The gradient of the feed-forward part's second weight -/

namespace Cert.DownWeightIdeal.Value
open Cert.DownWeightIdeal Cert.DownWeightIdeal.Gen

variable (m : (ℓ : Loc nD τ sig) → Buf (Elt Ideal) ℓ)

theorem idxs : ∀ t : Fin cfg0.N, win0_0.index t = ![t.val, 0, 0] ∧ win0_1.index t = ![0, 0] ∧ win0_2.index t = ![t.val, 0, 0] :=
  (by decide +kernel : ∀ t : Fin grid0.N, _)

/-- Column `q` of part `k`. -/
abbrev col (k : Fin 4) (q : Fin 704) : Fin 2816 := ⟨704 * k.val + q.val, by omega⟩

/-- The reference's gradient, its rows cut in four parts. -/
def dwR (A : FVec Ideal Cert.DownWeightRefIdeal.S2048x2816 .f32) (X : FVec Ideal Cert.DownWeightRefIdeal.S2048x1024 .f32) : FVec Ideal Cert.DownWeightRefIdeal.S4x704x1024 .f32 :=
  shapeCast _ (transpose Cert.DownWeightRefIdeal.S2816x1024 [1, 0]
    (Host.dotGeneral Cert.DownWeightRefIdeal.dot_S2048x1024_S2048x2816_S1024x2816_0_0_1_1_n_n none X A)
    Cert.DownWeightRefIdeal.Gen.transposes_S1024x2816_S2816x1024_1_0) Cert.DownWeightRefIdeal.Gen.shapeCasts_S2816x1024_S4x704x1024

theorem dwR_at (A X) (k : Fin 4) (q : Fin 704) (j : Fin 1024) : dwR A X (ix3 k q j) = ∑ i : Fin 2048, A (ix2 i (col k q)) * X (ix2 i j) := by
  pointwise [dwR]
  refine Finset.sum_congr rfl fun i _ => ?_
  rw [mul_comm]
  congr 1
  exact congrArg A (congrArg (ix2 i) (Fin.ext (by simp; omega)))

theorem pay1_at (a : Vec Ideal S1x2048x704 .bf16) (x : Vec Ideal S2048x1024 .f32) (q : Fin 704) (j : Fin 1024) :
    (k0_pay1 a x : Vec Ideal S1x704x1024 .f32) (ix3 0 q j) = ∑ i : Fin 2048, a (ix3 0 i q) * x (ix2 i j) := by
  pointwise [k0_pay1]

abbrev aA (c : Dev nD) : FVec Ideal S2048x2816 .f32 := m ((c : Thread nD τ).loc main_arg0)
abbrev aX (c : Dev nD) : FVec Ideal S2048x1024 .f32 := m ((c : Thread nD τ).loc main_arg1)

theorem V_a (c : Dev nD) (k : Fin 4) (i : Fin 2048) (q : Fin 704) : V m c main_v2 (ix3 k i q) = aA m c (ix2 i (col k q)) := by
  entry_read
  pointwise []
  exact congrArg (aA m c) (congrArg (ix2 i) (Fin.ext (by simp; omega)))

theorem emb0 (t : Fin cfg0.N) (a : Fin 2048) (b : Fin 704) (k : Fin 4) (hk : k.val = t.val) : ((cfg0.win 0).blk t).view.emb (ix3 0 a b) = ix3 k a b := by
  funext x
  match x with
  | ⟨0, _⟩ => exact Fin.ext (by blk_simp [idxs t]; omega)
  | ⟨1, _⟩ => exact Fin.ext (by blk_simp [idxs t])
  | ⟨2, _⟩ => exact Fin.ext (by blk_simp [idxs t])
theorem emb2 (t : Fin cfg0.N) (a : Fin 704) (b : Fin 1024) (k : Fin 4) (hk : k.val = t.val) : ((cfg0.win 2).blk t).view.emb (ix3 0 a b) = ix3 k a b := by
  funext x
  match x with
  | ⟨0, _⟩ => exact Fin.ext (by blk_simp [idxs t]; omega)
  | ⟨1, _⟩ => exact Fin.ext (by blk_simp [idxs t])
  | ⟨2, _⟩ => exact Fin.ext (by blk_simp [idxs t])
theorem blk0 (c : Dev nD) (t : Fin cfg0.N) (i : Fin 2048) (q : Fin 704) (k : Fin 4) (hk : k.val = t.val) :
    iblk m c 0 t (ix3 0 i q) = aA m c (ix2 i (col k q)) := by
  show V m c main_v2 (((cfg0.win 0).blk t).view.emb (ix3 0 i q)) = _
  rw [emb0 t i q k hk, V_a]
theorem blk1 (c : Dev nD) (t : Fin cfg0.N) (i : Fin 2048) (j : Fin 1024) : iblk m c 1 t (ix2 i j) = aX m c (ix2 i j) := by
  blk_ext! [iblk, V, idxs t]

theorem idx_zero (y : S1x704x1024.Idx) : y = ix3 (0 : Fin 1) (y 1 : Fin 704) (y 2 : Fin 1024) :=
  (eq_ix3 y).trans (congrArg (fun a : Fin 1 => ix3 a (y 1 : Fin 704) (y 2 : Fin 1024)) (Subsingleton.elim (α := Fin 1) (y 0) 0))

/-- The gradient, whole. -/
theorem final_2 (c : Dev nD) : (dats m 0 c).arrAt 2 (cfgs 0).N = dwR (aA m c) (aX m c) := by
  refine (dats m 0 c).arrAt_eq_of_covers 2 _ (by decide +kernel) fun t _ y => ?_
  obtain ⟨q, j, rfl⟩ : ∃ (q : Fin 704) (j : Fin 1024), y = ix3 (0 : Fin 1) q j := ⟨_, _, idx_zero y⟩
  have ht : t.val < 4 := t.isLt
  rw [after0_2, emb2 t q j ⟨t.val, ht⟩ rfl]
  frame_out
  refine (pay1_at _ _ q j).trans (Eq.trans ?_ (dwR_at _ _ _ q j).symm)
  exact Finset.sum_congr rfl fun i _ => congrArg₂ (· * ·) (blk0 m c t i q ⟨t.val, ht⟩ rfl) (blk1 m c t i j)

end Cert.DownWeightIdeal.Value
-- ==== Proof.DownWeightClaim.lean ====
module

public import proofs.«01_k».proof.Defs
public import proofs.«01_k».proof.Proof.Gen.DownWeightIdeal.Frame
public import proofs.«01_k».proof.Proof.Gen.DownWeightRefIdeal.Run
public import proofs.«01_k».proof.Proof.DownWeight
public import Idealize.ShloMosaic.Adequacy
public import Idealize.ShloMosaic.Init

@[expose] public section

noncomputable section

namespace Cert.Proof

open Idealize.ShloMosaic Idealize.SL.Sem

/-- The reference of the second weight's gradient ends with its arguments as they were. -/
theorem frame_down_weight_reference : Cert.quiescent_DownWeightRefIdeal := fun m ρ _ =>
  (θ_run Cert.DownWeightRefIdeal.defs _ _).mono (fun r h => ⟨fun c => (h c).2,
      Idealize.ShloMosaic.sem_eq_zero_of_no_sems (by decide) r.2⟩)
    (Cert.DownWeightRefIdeal.Value.run (F := Ideal) m ρ)

set_option maxHeartbeats 4000000 in
/-- The gradient of the feed-forward part's second weight is the reference's. -/
theorem down_weight : @Cert.algebraic_DownWeightIdeal_DownWeightRefIdeal Cert.DownWeightIdeal.Gen.facts Cert.DownWeightRefIdeal.Gen.facts := by
  pair_intro
  · run_from Cert.DownWeightIdeal.Value.run_blocks m g
  run_from Cert.DownWeightRefIdeal.Value.run m' g'
  · exact (Cert.DownWeightIdeal.Value.final_2 m c).symm

end Cert.Proof

end
-- ==== Proof.AdamW.lean ====
module

public import proofs.«01_k».proof.Proof.Gen.AdamWIdeal.Value
public import proofs.«01_k».proof.Proof.Gen.AdamWRefIdeal
public import Idealize.ShloMosaic.Lib.Pipeline.ValueKit

@[expose] public section

noncomputable section

open Idealize.ShloMosaic Idealize.ShloMosaic.TcCoe Idealize.SL.Sem
open Idealize.ShloMosaic.Pipeline (Dat)

/-! # The optimiser's step for one weight -/

namespace Cert.AdamWIdeal.Value
open Cert.AdamWIdeal Cert.AdamWIdeal.Gen

variable (m : (ℓ : Loc nD τ sig) → Buf (Elt Ideal) ℓ)

theorem idxs : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- One number spread over the weight. -/
abbrev spread (b : BitVec 32) : FVec Ideal Cert.AdamWRefIdeal.S704x1024 .f32 :=
  broadcastInDim Cert.AdamWRefIdeal.S704x1024 ![] Cert.AdamWRefIdeal.Gen.bcast_S_S704x1024 (constant Cert.AdamWRefIdeal.S_ .f32 b)

/-- The reference's new first and second moment, and its step. -/
def mR (g m : FVec Ideal Cert.AdamWRefIdeal.S704x1024 .f32) : FVec Ideal Cert.AdamWRefIdeal.S704x1024 .f32 :=
  addf (mulf (spread 0x3F666666#32) m) (mulf (spread 0x3DCCCCCD#32) g)
def vR (g v : FVec Ideal Cert.AdamWRefIdeal.S704x1024 .f32) : FVec Ideal Cert.AdamWRefIdeal.S704x1024 .f32 :=
  addf (mulf (spread 0x3F7FBE77#32) v) (mulf (spread 0x3A83126F#32) (mulf g g))
def stepR (w m' v' : FVec Ideal Cert.AdamWRefIdeal.S704x1024 .f32) : FVec Ideal Cert.AdamWRefIdeal.S704x1024 .f32 :=
  mulf (spread 0xBA83126F#32) (addf (Host.divf (Host.divf m' (spread 0x3F26BD02#32)) (addf (Host.sqrt (Host.divf v' (spread 0x3C231ACC#32))) (spread 0x322BCC77#32)))
    (mulf (spread 0x3C23D70A#32) w))

abbrev aW (c : Dev nD) : FVec Ideal S704x1024 .f32 := m ((c : Thread nD τ).loc main_arg0)
abbrev aG (c : Dev nD) : FVec Ideal S704x1024 .f32 := m ((c : Thread nD τ).loc main_arg1)
abbrev aM (c : Dev nD) : FVec Ideal S704x1024 .f32 := m ((c : Thread nD τ).loc main_arg2)
abbrev aV (c : Dev nD) : FVec Ideal S704x1024 .f32 := m ((c : Thread nD τ).loc main_arg3)

theorem point4 (c : Dev nD) (t : Fin cfg0.N) (y) : iblk m c 1 t y = aG m c (((cfg0.win 4).blk t).view.emb y) := by
  blk_point [iblk, V, idxs t]
theorem point6 (c : Dev nD) (t : Fin cfg0.N) (y) :
    k0_pay1 (iblk m c 1 t) (iblk m c 2 t) y = mR (aG m c) (aM m c) (((cfg0.win 6).blk t).view.emb y) := by
  pointwise [k0_pay1, mR]
  blk_point [iblk, V, idxs t]
theorem point7 (c : Dev nD) (t : Fin cfg0.N) (y) :
    k0_pay2 (iblk m c 1 t) (iblk m c 3 t) y = vR (aG m c) (aV m c) (((cfg0.win 7).blk t).view.emb y) := by
  pointwise [k0_pay2, vR]
  blk_point [iblk, V, idxs t]
theorem point5 (c : Dev nD) (t : Fin cfg0.N) (y) :
    k0_pay3 (iblk m c 0 t) (iblk m c 1 t) (iblk m c 2 t) (iblk m c 3 t) y
      = stepR (aW m c) (mR (aG m c) (aM m c)) (vR (aG m c) (aV m c)) (((cfg0.win 5).blk t).view.emb y) := by
  pointwise [k0_pay3, k0_pay1, k0_pay2, stepR, mR, vR]
  blk_point [iblk, V, idxs t]

/-- The gradient handed through, the step and the two moments, whole. -/
theorem final_4 (c : Dev nD) : (dats m 0 c).arrAt 4 (cfgs 0).N = aG m c := by
  refine (dats m 0 c).arrAt_eq_of_covers 4 _ (by decide +kernel) fun t _ y => ?_
  rw [after0_4]
  frame_out
  exact point4 m c t y
theorem final_5 (c : Dev nD) : (dats m 0 c).arrAt 5 (cfgs 0).N = stepR (aW m c) (mR (aG m c) (aM m c)) (vR (aG m c) (aV m c)) := by
  refine (dats m 0 c).arrAt_eq_of_covers 5 _ (by decide +kernel) fun t _ y => ?_
  rw [after0_5]
  frame_out
  exact point5 m c t y
theorem final_6 (c : Dev nD) : (dats m 0 c).arrAt 6 (cfgs 0).N = mR (aG m c) (aM m c) := by
  refine (dats m 0 c).arrAt_eq_of_covers 6 _ (by decide +kernel) fun t _ y => ?_
  rw [after0_6]
  frame_out
  exact point6 m c t y
theorem final_7 (c : Dev nD) : (dats m 0 c).arrAt 7 (cfgs 0).N = vR (aG m c) (aV m c) := by
  refine (dats m 0 c).arrAt_eq_of_covers 7 _ (by decide +kernel) fun t _ y => ?_
  rw [after0_7]
  frame_out
  exact point7 m c t y

end Cert.AdamWIdeal.Value
-- ==== Proof.AdamWClaim.lean ====
module

public import proofs.«01_k».proof.Defs
public import proofs.«01_k».proof.Proof.Gen.AdamWIdeal.Frame
public import proofs.«01_k».proof.Proof.Gen.AdamWRefIdeal.Run
public import proofs.«01_k».proof.Proof.AdamW
public import Idealize.ShloMosaic.Adequacy
public import Idealize.ShloMosaic.Init

@[expose] public section

noncomputable section

namespace Cert.Proof

open Idealize.ShloMosaic Idealize.SL.Sem

/-- The reference of the optimiser's step ends with its arguments as they were. -/
theorem frame_adamw_reference : Cert.quiescent_AdamWRefIdeal := fun m ρ _ =>
  (θ_run Cert.AdamWRefIdeal.defs _ _).mono (fun r h => ⟨fun c => (h c).2.2.2.2,
      Idealize.ShloMosaic.sem_eq_zero_of_no_sems (by decide) r.2⟩)
    (Cert.AdamWRefIdeal.Value.run (F := Ideal) m ρ)

set_option maxHeartbeats 4000000 in
/-- All four results of the optimiser's step are the reference's. -/
theorem adamw : @Cert.algebraic_AdamWIdeal_AdamWRefIdeal Cert.AdamWIdeal.Gen.facts Cert.AdamWRefIdeal.Gen.facts := by
  pair_intro
  · run_from Cert.AdamWIdeal.Value.run_blocks m g
  run_from Cert.AdamWRefIdeal.Value.run m' g'
  · exact (Cert.AdamWIdeal.Value.final_4 m c).symm
  · exact (Cert.AdamWIdeal.Value.final_5 m c).symm
  · exact (Cert.AdamWIdeal.Value.final_6 m c).symm
  · exact (Cert.AdamWIdeal.Value.final_7 m c).symm

end Cert.Proof

end
-- ==== Proof.DiagBlocks.lean ====
module

public import proofs.«01_k».proof.Proof.Gen.DiagBlocksIdeal.Value
public import proofs.«01_k».proof.Proof.Gen.DiagBlocksRefIdeal
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

/-! # The gradient of the blocks on a diagonal

The kernel multiplies 128 columns of the one array with 512 of the other, and keeps of each such product the blocks on
its diagonal; the reference multiplies block by block. -/

namespace Cert.DiagBlocksIdeal.Value
open Cert.DiagBlocksIdeal Cert.DiagBlocksIdeal.Gen

variable (m : (ℓ : Loc nD τ sig) → Buf (Elt Ideal) ℓ)

/-! ## The mask -/

/-- The mask's row blocks and column blocks, as the kernel's words divide them. -/
abbrev quo (x d : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt d 0#32)) (Scalar.extui (Scalar.cmpi .slt d 0#32))))
    (IntOp.cmpi .ne (IntOp.remsi ArithUnit.vector x d) 0#32)) (IntOp.subi (IntOp.divsi ArithUnit.vector x d) 1#32) (IntOp.divsi ArithUnit.vector x d)

theorem quo_16 : ∀ p : Fin 128, quo (BitVec.ofNat 32 p.val) 16#32 = BitVec.ofNat 32 (p.val / 16) := by decide +kernel
theorem quo_64 : ∀ q : Fin 512, quo (BitVec.ofNat 32 q.val) 64#32 = BitVec.ofNat 32 (q.val / 64) := by decide +kernel
theorem same : ∀ a b : Fin 8, IntOp.cmpi .eq (BitVec.ofNat 32 a.val) (BitVec.ofNat 32 b.val) = if a.val = b.val then 1#1 else 0#1 := by decide +kernel

theorem own_at (p : Fin 128) (q : Fin 512) : k0_pay7 k0_pay4 k0_pay5 k0_pay6 (ix2 p q) = if p.val / 16 = q.val / 64 then 1#1 else 0#1 := by
  have e : k0_pay7 k0_pay4 k0_pay5 k0_pay6 (ix2 p q) = IntOp.cmpi .eq (quo (BitVec.ofNat 32 p.val) 16#32) (quo (BitVec.ofNat 32 q.val) 64#32) := by
    pointwise [k0_pay7, k0_pay4, k0_pay5, k0_pay6]
  rw [e, quo_16, quo_64]
  exact same ⟨p.val / 16, by omega⟩ ⟨q.val / 64, by omega⟩

/-- Row `p` of the block that column `q` lies in. -/
abbrev row (p : Fin 16) (q : Fin 512) : Fin 128 := ⟨16 * (q.val / 64) + p.val, by omega⟩

/-- The sum over the masked rows is the one kept. -/
theorem kept (p : Fin 16) (q : Fin 512) (f : Fin 128 → EReal) :
    ∑ x : Fin 8, Scalar.select (k0_pay7 k0_pay4 k0_pay5 k0_pay6 (ix2 (⟨x.val * 16 + p.val, by omega⟩ : Fin 128) q)) (f ⟨x.val * 16 + p.val, by omega⟩) 0 = f (row p q) := by
  rw [Finset.sum_eq_single (⟨q.val / 64, by omega⟩ : Fin 8)]
  · rw [own_at, if_pos (by simp; omega)]
    refine Eq.trans (if_pos rfl) (congrArg f (Fin.ext ?_))
    simp; omega
  · intro x _ hx
    rw [own_at, if_neg (by intro h; exact hx (Fin.ext (by simp at h ⊢; omega)))]
    exact if_neg (by decide)
  · intro h
    exact absurd (Finset.mem_univ _) h

theorem pay8_at (v : Vec Ideal S1x128x512 .f32) (p : Fin 16) (q : Fin 512) : (k0_pay8 k0_pay4 k0_pay5 k0_pay6 v : Vec Ideal S16x512 .f32) (ix2 p q) = v (ix3 0 (row p q) q) := by
  pointwise [k0_pay8]
  exact kept p q fun a => v (ix3 0 a q)
theorem pay9_at (v : Vec Ideal S1x128x512 .f32) (p : Fin 16) (q : Fin 512) : (k0_pay9 k0_pay4 k0_pay5 k0_pay6 v : Vec Ideal S16x512 .f32) (ix2 p q) = v (ix3 0 (row p q) q) :=
  pay8_at v p q
theorem pay10_at (v : Vec Ideal S1x128x512 .f32) (p : Fin 16) (q : Fin 512) : (k0_pay10 k0_pay4 k0_pay5 k0_pay6 v : Vec Ideal S16x512 .f32) (ix2 p q) = v (ix3 0 (row p q) q) :=
  pay8_at v p q
theorem pay12_at (v : Vec Ideal S1x128x512 .f32) (p : Fin 16) (q : Fin 512) : (k0_pay12 (k0_pay11 k0_pay4 k0_pay5 k0_pay6 v) : Vec Ideal S16x512 .f32) (ix2 p q) = v (ix3 0 (row p q) q) :=
  pay8_at v p q
theorem pay13_at (v : Vec Ideal S1x128x512 .f32) (p : Fin 16) (q : Fin 512) : (k0_pay13 (k0_pay7 k0_pay4 k0_pay5 k0_pay6) v : Vec Ideal S16x512 .f32) (ix2 p q) = v (ix3 0 (row p q) q) :=
  pay8_at v p q
theorem pay14_at (v : Vec Ideal S1x128x512 .f32) (p : Fin 16) (q : Fin 512) : (k0_pay14 (k0_pay7 k0_pay4 k0_pay5 k0_pay6) v : Vec Ideal S16x512 .f32) (ix2 p q) = v (ix3 0 (row p q) q) :=
  pay8_at v p q
theorem pay15_at (v : Vec Ideal S1x128x512 .f32) (p : Fin 16) (q : Fin 512) : (k0_pay15 (k0_pay7 k0_pay4 k0_pay5 k0_pay6) v : Vec Ideal S16x512 .f32) (ix2 p q) = v (ix3 0 (row p q) q) :=
  pay8_at v p q
theorem pay3_at (v : Vec Ideal S1x128x512 .f32) (p : Fin 16) (q : Fin 512) : (k0_pay3 (k0_pay16 (k0_pay7 k0_pay4 k0_pay5 k0_pay6) v) : Vec Ideal S16x512 .f32) (ix2 p q) = v (ix3 0 (row p q) q) :=
  pay8_at v p q

/-! ## What a point adds -/

abbrev ca (j : Fin 4) (p : Fin 128) : Fin 512 := ⟨128 * j.val + p.val, by omega⟩
abbrev cb (j : Fin 4) (q : Fin 512) : Fin 2048 := ⟨512 * j.val + q.val, by omega⟩
/-- The product of part `j` of a point's rows. -/
def sl (a : Vec Ideal S1024x512 .f32) (b : Vec Ideal S1024x2048 .f32) (j : Fin 4) (p : Fin 128) (q : Fin 512) : EReal :=
  ∑ i : Fin 1024, a (ix2 i (ca j p)) * b (ix2 i (cb j q))

section
variable (a : Vec Ideal S1024x512 .f32) (b : Vec Ideal S1024x2048 .f32) (v : Vec Ideal S1x128x512 .f32) (p : Fin 128) (q : Fin 512)
theorem pay27_at : (k0_pay27 (k0_pay19 a) b v : Vec Ideal S1x128x512 .f32) (ix3 0 p q) = v (ix3 0 p q) + sl a b 0 p q := by
  pointwise [k0_pay27, k0_pay19, k0_pay26]
  simp [sl, ca, cb]
theorem pay28_at : (k0_pay28 (k0_pay19 a) b v : Vec Ideal S1x128x512 .f32) (ix3 0 p q) = v (ix3 0 p q) + sl a b 1 p q := by
  pointwise [k0_pay28, k0_pay19, k0_pay26]
  simp [sl, ca, cb]
theorem pay1_at : (k0_pay1 (k0_pay19 a) (k0_pay26 b) v : Vec Ideal S1x128x512 .f32) (ix3 0 p q) = v (ix3 0 p q) + sl a b 2 p q := by
  pointwise [k0_pay1, k0_pay19, k0_pay26]
  simp [sl, ca, cb]
theorem pay2_at : (k0_pay2 (k0_pay19 a) (k0_pay26 b) v : Vec Ideal S1x128x512 .f32) (ix3 0 p q) = v (ix3 0 p q) + sl a b 3 p q := by
  pointwise [k0_pay2, k0_pay19, k0_pay26]
  simp [sl, ca, cb]
theorem pay21_at : (k0_pay21 a b v : Vec Ideal S1x128x512 .f32) (ix3 0 p q) = v (ix3 0 p q) + sl a b 0 p q := pay27_at a b v p q
theorem pay22_at : (k0_pay22 a b v : Vec Ideal S1x128x512 .f32) (ix3 0 p q) = v (ix3 0 p q) + sl a b 1 p q := pay28_at a b v p q
theorem pay24_at : (k0_pay24 (k0_pay23 a b v) : Vec Ideal S1x128x512 .f32) (ix3 0 p q) = v (ix3 0 p q) + sl a b 2 p q := pay1_at a b v p q
theorem pay25_at : (k0_pay25 (k0_pay19 a) (k0_pay20 b) v : Vec Ideal S1x128x512 .f32) (ix3 0 p q) = v (ix3 0 p q) + sl a b 3 p q := pay2_at a b v p q
end

/-- What a store of everything leaves. -/
theorem canon_zero (w : Vec Ideal S4x128x512 .f32) : View.canon [(⟨Rect.unit (s := S4x128x512) ![0, 0, 0] ![4, 128, 512] inb_S4x128x512_S4x128x512_0_0_0, w⟩ : View.Piece (Elt Ideal) S4x128x512 .f32)] = w := by
  funext y
  have h := View.canon_cons_emb (Rect.unit (s := S4x128x512) ![0, 0, 0] ![4, 128, 512] inb_S4x128x512_S4x128x512_0_0_0) w [] y
  rwa [show (Rect.unit (s := S4x128x512) ![0, 0, 0] ![4, 128, 512] inb_S4x128x512_S4x128x512_0_0_0).emb y = y from by
    funext x
    match x with
    | ⟨0, _⟩ => exact Fin.ext (by simp)
    | ⟨1, _⟩ => exact Fin.ext (by simp)
    | ⟨2, _⟩ => exact Fin.ext (by simp)] at h

theorem pay17_at (y) : (k0_pay17 (F := Ideal) : FVec Ideal S4x128x512 .f32) y = (0 : EReal) := by
  obtain ⟨j, p, q, rfl⟩ : ∃ (j : Fin 4) (p : Fin 128) (q : Fin 512), y = ix3 j p q := ⟨_, _, _, eq_ix3 y⟩
  pointwise [k0_pay17]
theorem pay18_at (y) : (k0_pay18 (F := Ideal) : FVec Ideal S4x128x512 .f32) y = (0 : EReal) := pay17_at y

/-- The first point: what each part read was the zeros stored before. -/
theorem s0_A (c : Dev nD) (t : Fin cfg0.N) (h0 : t.val % 2 = 0) (h1 : ¬t.val % 2 = 1) (j : Fin 4) (p : Fin 128) (q : Fin 512) :
    (outsAt0 m c t.val t.isLt).2.2.1 (ix3 j p q) = 0 + sl (iblk m c 0 t) (iblk m c 1 t) j p q := by
  rw [outsAt0_A m c t h0 h1]
  frame_out
  refine Rows.canon_parts (Val := Elt Ideal) (e := .f32) _ _ _ _ _ _ _ _ _ j p q (fun j => (0 : EReal) + sl (iblk m c 0 t) (iblk m c 1 t) j p q) ?_ ?_ ?_ ?_
  · refine (pay21_at _ _ _ p q).trans (congrArg (· + sl (iblk m c 0 t) (iblk m c 1 t) 0 p q) ?_)
    rw [Rows.rd, canon_zero]
    exact pay17_at _
  · refine (pay22_at _ _ _ p q).trans (congrArg (· + sl (iblk m c 0 t) (iblk m c 1 t) 1 p q) ?_)
    rw [Rows.rd, Rows.ld_part 1 _ _ 1 rfl, Rows.canon_part 0, if_neg (by decide), canon_zero]
    exact pay17_at _
  · refine (pay24_at _ _ _ p q).trans (congrArg (· + sl (iblk m c 0 t) (iblk m c 1 t) 2 p q) ?_)
    rw [Rows.rd, Rows.ld_part 2 _ _ 2 rfl, Rows.canon_part 1, if_neg (by decide), Rows.canon_part 0, if_neg (by decide), canon_zero]
    exact pay17_at _
  · refine (pay25_at _ _ _ p q).trans (congrArg (· + sl (iblk m c 0 t) (iblk m c 1 t) 3 p q) ?_)
    rw [Rows.rd, Rows.ld_part 3 _ _ 3 rfl, Rows.canon_part 2, if_neg (by decide), Rows.canon_part 1, if_neg (by decide), Rows.canon_part 0, if_neg (by decide), canon_zero]
    exact pay17_at _
theorem s1_A (c : Dev nD) (t : Fin cfg0.N) (h0 : t.val % 2 = 0) (h1 : ¬t.val % 2 = 1) (j : Fin 4) (p : Fin 128) (q : Fin 512) :
    (outsAt0 m c t.val t.isLt).2.2.2 (ix3 j p q) = 0 + sl (iblk m c 0 t) (iblk m c 2 t) j p q := by
  rw [outsAt0_A m c t h0 h1]
  frame_out
  refine Rows.canon_parts (Val := Elt Ideal) (e := .f32) _ _ _ _ _ _ _ _ _ j p q (fun j => (0 : EReal) + sl (iblk m c 0 t) (iblk m c 2 t) j p q) ?_ ?_ ?_ ?_
  · refine (pay27_at _ _ _ p q).trans (congrArg (· + sl (iblk m c 0 t) (iblk m c 2 t) 0 p q) ?_)
    rw [Rows.rd, canon_zero]
    exact pay18_at _
  · refine (pay28_at _ _ _ p q).trans (congrArg (· + sl (iblk m c 0 t) (iblk m c 2 t) 1 p q) ?_)
    rw [Rows.rd, Rows.ld_part 1 _ _ 1 rfl, Rows.canon_part 0, if_neg (by decide), canon_zero]
    exact pay18_at _
  · refine (pay1_at _ _ _ p q).trans (congrArg (· + sl (iblk m c 0 t) (iblk m c 2 t) 2 p q) ?_)
    rw [Rows.rd, Rows.ld_part 2 _ _ 2 rfl, Rows.canon_part 1, if_neg (by decide), Rows.canon_part 0, if_neg (by decide), canon_zero]
    exact pay18_at _
  · refine (pay2_at _ _ _ p q).trans (congrArg (· + sl (iblk m c 0 t) (iblk m c 2 t) 3 p q) ?_)
    rw [Rows.rd, Rows.ld_part 3 _ _ 3 rfl, Rows.canon_part 2, if_neg (by decide), Rows.canon_part 1, if_neg (by decide), Rows.canon_part 0, if_neg (by decide), canon_zero]
    exact pay18_at _

/-! ## The last point -/

/-- The four parts, each of what was there. -/
abbrev part (r : ℕ) (inb : ∀ a, ![r, 0, 0] a + ![1, 128, 512] a ≤ S4x128x512.size a) (R : Vec Ideal S4x128x512 .f32) : Vec Ideal S1x128x512 .f32 :=
  View.ld R (Rect.unit (s := S4x128x512) ![r, 0, 0] ![1, 128, 512] inb)
section
variable (f0 f1 f2 f3 : Vec Ideal S1x128x512 .f32 → Vec Ideal S1x128x512 .f32)
def accL (R : Vec Ideal S4x128x512 .f32) : List (View.Piece (Elt Ideal) S4x128x512 .f32) :=
  [⟨Rect.unit (s := S4x128x512) ![3, 0, 0] ![1, 128, 512] inb_S4x128x512_S1x128x512_3_0_0, f3 (part 3 inb_S4x128x512_S1x128x512_3_0_0 R)⟩,
   ⟨Rect.unit (s := S4x128x512) ![2, 0, 0] ![1, 128, 512] inb_S4x128x512_S1x128x512_2_0_0, f2 (part 2 inb_S4x128x512_S1x128x512_2_0_0 R)⟩,
   ⟨Rect.unit (s := S4x128x512) ![1, 0, 0] ![1, 128, 512] inb_S4x128x512_S1x128x512_1_0_0, f1 (part 1 inb_S4x128x512_S1x128x512_1_0_0 R)⟩,
   ⟨Rect.unit (s := S4x128x512) ![0, 0, 0] ![1, 128, 512] inb_S4x128x512_S1x128x512_0_0_0, f0 (part 0 inb_S4x128x512_S1x128x512_0_0_0 R)⟩]
variable (s : Fin 4 → Fin 128 → Fin 512 → EReal) (h0 : ∀ v p q, f0 v (ix3 0 p q) = v (ix3 0 p q) + s 0 p q) (h1 : ∀ v p q, f1 v (ix3 0 p q) = v (ix3 0 p q) + s 1 p q)
  (h2 : ∀ v p q, f2 v (ix3 0 p q) = v (ix3 0 p q) + s 2 p q) (h3 : ∀ v p q, f3 v (ix3 0 p q) = v (ix3 0 p q) + s 3 p q)
include h0 h1 h2 h3
theorem acc_at (R : Vec Ideal S4x128x512 .f32) (j : Fin 4) (p : Fin 128) (q : Fin 512) : View.canon (accL f0 f1 f2 f3 R) (ix3 j p q) = R (ix3 j p q) + s j p q := by
  refine Rows.canon_parts _ _ _ _ _ _ _ _ _ j p q (fun j => R (ix3 j p q) + s j p q) ?_ ?_ ?_ ?_
  · exact (h0 _ p q).trans (congrArg (· + s 0 p q) (Rows.ld_part 0 _ R 0 rfl p q))
  · exact (h1 _ p q).trans (congrArg (· + s 1 p q) (Rows.ld_part 1 _ R 1 rfl p q))
  · exact (h2 _ p q).trans (congrArg (· + s 2 p q) (Rows.ld_part 2 _ R 2 rfl p q))
  · exact (h3 _ p q).trans (congrArg (· + s 3 p q) (Rows.ld_part 3 _ R 3 rfl p q))

variable (o0 o1 o2 o3 : Vec Ideal S1x128x512 .f32 → Vec Ideal S16x512 .f32)
/-- What the last point stores: of each part the blocks on its diagonal. -/
def outL (R : Vec Ideal S4x128x512 .f32) : List (View.Piece (Elt Ideal) S16x2048 .f32) :=
  [⟨Rect.unit (s := S16x2048) ![0, 1536] ![16, 512] inb_S16x2048_S16x512_0_1536, o3 (part 3 inb_S4x128x512_S1x128x512_3_0_0 R)⟩,
   ⟨Rect.unit (s := S16x2048) ![0, 1024] ![16, 512] inb_S16x2048_S16x512_0_1024, o2 (part 2 inb_S4x128x512_S1x128x512_2_0_0 R)⟩,
   ⟨Rect.unit (s := S16x2048) ![0, 512] ![16, 512] inb_S16x2048_S16x512_0_512, o1 (part 1 inb_S4x128x512_S1x128x512_1_0_0 R)⟩,
   ⟨Rect.unit (s := S16x2048) ![0, 0] ![16, 512] inb_S16x2048_S16x512_0_0, o0 (part 0 inb_S4x128x512_S1x128x512_0_0_0 R)⟩]
end

theorem emb_col (k : Fin 4) (r : ℕ) (hr : r = 512 * k.val) (inb : ∀ a, ![0, r] a + ![16, 512] a ≤ S16x2048.size a) (p : Fin 16) (q : Fin 512) :
    (Rect.unit (s := S16x2048) ![0, r] ![16, 512] inb).emb (ix2 p q) = ix2 p (cb k q) := by
  funext a
  match a with
  | ⟨0, _⟩ => exact Fin.ext (by simp)
  | ⟨1, _⟩ => exact Fin.ext (by simp [hr])
theorem canon_col (k k' : Fin 4) (r : ℕ) (hr : r = 512 * k.val) (inb : ∀ a, ![0, r] a + ![16, 512] a ≤ S16x2048.size a)
    (w : Vec Ideal S16x512 .f32) (L : List (View.Piece (Elt Ideal) S16x2048 .f32)) (p : Fin 16) (q : Fin 512) :
    View.canon (⟨Rect.unit (s := S16x2048) ![0, r] ![16, 512] inb, w⟩ :: L) (ix2 p (cb k' q)) = if k' = k then w (ix2 p q) else View.canon L (ix2 p (cb k' q)) := by
  split_ifs with h
  · subst h
    rw [← emb_col k' r hr inb p q]
    exact View.canon_cons_emb (Rect.unit (s := S16x2048) ![0, r] ![16, 512] inb) w L _
  · refine View.canon_cons_of_not_mem _ L fun hm => h (Fin.ext ?_)
    have := (Rect.mem_set_unit (inb := inb)).mp hm 1
    simp at this
    omega

theorem out_at (o0 o1 o2 o3 : Vec Ideal S1x128x512 .f32 → Vec Ideal S16x512 .f32) (h0 : ∀ v p q, o0 v (ix2 p q) = v (ix3 0 (row p q) q)) (h1 : ∀ v p q, o1 v (ix2 p q) = v (ix3 0 (row p q) q))
    (h2 : ∀ v p q, o2 v (ix2 p q) = v (ix3 0 (row p q) q)) (h3 : ∀ v p q, o3 v (ix2 p q) = v (ix3 0 (row p q) q)) (R : Vec Ideal S4x128x512 .f32) (j : Fin 4) (p : Fin 16) (q : Fin 512) :
    View.canon (outL o0 o1 o2 o3 R) (ix2 p (cb j q)) = R (ix3 j (row p q) q) := by
  unfold outL
  rw [canon_col 3 j 1536 rfl, canon_col 2 j 1024 rfl, canon_col 1 j 512 rfl, canon_col 0 j 0 rfl, h0, h1, h2, h3]
  split_ifs with e3 e2 e1 e0
  · subst e3; exact Rows.ld_part 3 _ R 3 rfl _ q
  · subst e2; exact Rows.ld_part 2 _ R 2 rfl _ q
  · subst e1; exact Rows.ld_part 1 _ R 1 rfl _ q
  · subst e0; exact Rows.ld_part 0 _ R 0 rfl _ q
  · exfalso; omega

/-- What the point before left in the two scratches. -/
abbrev p0 (c : Dev nD) (t : Fin cfg0.N) : Vec Ideal S4x128x512 .f32 := (outsAt0 m c (t.val - 1) (Nat.lt_of_le_of_lt (Nat.sub_le _ _) t.isLt)).2.2.1
abbrev p1 (c : Dev nD) (t : Fin cfg0.N) : Vec Ideal S4x128x512 .f32 := (outsAt0 m c (t.val - 1) (Nat.lt_of_le_of_lt (Nat.sub_le _ _) t.isLt)).2.2.2

theorem o0_B (c : Dev nD) (t : Fin cfg0.N) (h0 : ¬t.val % 2 = 0) (h1 : t.val % 2 = 1) (j : Fin 4) (p : Fin 16) (q : Fin 512) :
    (outsAt0 m c t.val t.isLt).1 (ix2 p (cb j q)) = p0 m c t (ix3 j (row p q) q) + sl (iblk m c 0 t) (iblk m c 1 t) j (row p q) q := by
  rw [outsAt0_B m c t h0 h1]
  frame_out
  simp only [Rows.rd, read_unread_whole]
  refine Eq.trans ?_ (acc_at (fun v => k0_pay21 (iblk m c 0 t) (iblk m c 1 t) v) (fun v => k0_pay22 (iblk m c 0 t) (iblk m c 1 t) v) (fun v => k0_pay24 (k0_pay23 (iblk m c 0 t) (iblk m c 1 t) v)) (fun v => k0_pay25 (k0_pay19 (iblk m c 0 t)) (k0_pay20 (iblk m c 1 t)) v) (sl (iblk m c 0 t) (iblk m c 1 t)) (pay21_at (iblk m c 0 t) (iblk m c 1 t)) (pay22_at (iblk m c 0 t) (iblk m c 1 t)) (pay24_at (iblk m c 0 t) (iblk m c 1 t)) (pay25_at (iblk m c 0 t) (iblk m c 1 t)) (p0 m c t) j (row p q) q)
  exact out_at (fun v => k0_pay8 k0_pay4 k0_pay5 k0_pay6 v) (fun v => k0_pay9 k0_pay4 k0_pay5 k0_pay6 v) (fun v => k0_pay10 k0_pay4 k0_pay5 k0_pay6 v) (fun v => k0_pay12 (k0_pay11 k0_pay4 k0_pay5 k0_pay6 v)) pay8_at pay9_at pay10_at pay12_at _ j p q
theorem o1_B (c : Dev nD) (t : Fin cfg0.N) (h0 : ¬t.val % 2 = 0) (h1 : t.val % 2 = 1) (j : Fin 4) (p : Fin 16) (q : Fin 512) :
    (outsAt0 m c t.val t.isLt).2.1 (ix2 p (cb j q)) = p1 m c t (ix3 j (row p q) q) + sl (iblk m c 0 t) (iblk m c 2 t) j (row p q) q := by
  rw [outsAt0_B m c t h0 h1]
  frame_out
  simp only [Rows.rd, read_unread_whole]
  refine Eq.trans ?_ (acc_at (fun v => k0_pay27 (k0_pay19 (iblk m c 0 t)) (iblk m c 2 t) v) (fun v => k0_pay28 (k0_pay19 (iblk m c 0 t)) (iblk m c 2 t) v) (fun v => k0_pay1 (k0_pay19 (iblk m c 0 t)) (k0_pay26 (iblk m c 2 t)) v) (fun v => k0_pay2 (k0_pay19 (iblk m c 0 t)) (k0_pay26 (iblk m c 2 t)) v) (sl (iblk m c 0 t) (iblk m c 2 t)) (pay27_at (iblk m c 0 t) (iblk m c 2 t)) (pay28_at (iblk m c 0 t) (iblk m c 2 t)) (pay1_at (iblk m c 0 t) (iblk m c 2 t)) (pay2_at (iblk m c 0 t) (iblk m c 2 t)) (p1 m c t) j (row p q) q)
  exact out_at (fun v => k0_pay13 (k0_pay7 k0_pay4 k0_pay5 k0_pay6) v) (fun v => k0_pay14 (k0_pay7 k0_pay4 k0_pay5 k0_pay6) v) (fun v => k0_pay15 (k0_pay7 k0_pay4 k0_pay5 k0_pay6) v) (fun v => k0_pay3 (k0_pay16 (k0_pay7 k0_pay4 k0_pay5 k0_pay6) v)) pay13_at pay14_at pay15_at pay3_at _ j p q

/-! ## The results -/

/-- The reference's gradient. -/
def dR (A : FVec Ideal Cert.DiagBlocksRefIdeal.S2048x512 .f32) (X : FVec Ideal Cert.DiagBlocksRefIdeal.S2048x2048 .f32) : FVec Ideal Cert.DiagBlocksRefIdeal.S16x2048 .f32 :=
  open Cert.DiagBlocksRefIdeal Cert.DiagBlocksRefIdeal.Gen in
  shapeCast _ (transpose S16x32x64 [1, 0, 2] (transpose S32x16x64 [0, 2, 1] (Host.dotGeneral dot_S32x64x2048_S2048x32x16_S32x64x16_2_0_1_2_0_1 none
    (transpose S32x64x2048 [1, 2, 0] (shapeCast _ X shapeCasts_S2048x2048_S2048x32x64) transposes_S2048x32x64_S32x64x2048_1_2_0)
    (shapeCast _ A shapeCasts_S2048x512_S2048x32x16)) transposes_S32x64x16_S32x16x64_0_2_1) transposes_S32x16x64_S16x32x64_1_0_2) shapeCasts_S16x32x64_S16x2048

theorem dR_at (A X) (p : Fin 16) (j : Fin 4) (q : Fin 512) : dR A X (ix2 p (cb j q)) = ∑ i : Fin 2048, A (ix2 i (ca j (row p q))) * X (ix2 i (cb j q)) := by
  pointwise [dR]
  refine Finset.sum_congr rfl fun i _ => ?_
  rw [mul_comm]
  exact congrArg₂ (· * ·) (congrArg A (congrArg (ix2 i) (Fin.ext (by simp; omega)))) (congrArg X (congrArg (ix2 i) (Fin.ext (by simp; omega))))

abbrev aU (c : Dev nD) : FVec Ideal S2048x512 .f32 := m ((c : Thread nD τ).loc main_arg0)
abbrev aR (c : Dev nD) : FVec Ideal S2048x2048 .f32 := m ((c : Thread nD τ).loc main_arg1)
abbrev aI (c : Dev nD) : FVec Ideal S2048x2048 .f32 := m ((c : Thread nD τ).loc main_arg2)

theorem idxs : ∀ t : Fin cfg0.N, win0_0.index t = ![t.val, 0] ∧ win0_1.index t = ![t.val, 0] ∧ win0_2.index t = ![t.val, 0] ∧ win0_3.index t = ![0, 0] ∧ win0_4.index t = ![0, 0] :=
  (by decide +kernel : ∀ t : Fin grid0.N, _)
theorem blk0 (c : Dev nD) (t : Fin cfg0.N) (a : Fin 1024) (b : Fin 512) (i : Fin 2048) (hi : i.val = 1024 * t.val + a.val) : iblk m c 0 t (ix2 a b) = aU m c (ix2 i b) := by
  blk_ext! [iblk, V, idxs t]
theorem blk1 (c : Dev nD) (t : Fin cfg0.N) (a : Fin 1024) (b : Fin 2048) (i : Fin 2048) (hi : i.val = 1024 * t.val + a.val) : iblk m c 1 t (ix2 a b) = aR m c (ix2 i b) := by
  blk_ext! [iblk, V, idxs t]
theorem blk2 (c : Dev nD) (t : Fin cfg0.N) (a : Fin 1024) (b : Fin 2048) (i : Fin 2048) (hi : i.val = 1024 * t.val + a.val) : iblk m c 2 t (ix2 a b) = aI m c (ix2 i b) := by
  blk_ext! [iblk, V, idxs t]
theorem emb3 (t : Fin cfg0.N) (p : Fin 16) (q : Fin 2048) : ((cfg0.win 3).blk t).view.emb (ix2 p q) = ix2 p q := by
  funext x
  match x with
  | ⟨0, _⟩ => exact Fin.ext (by blk_simp [idxs t])
  | ⟨1, _⟩ => exact Fin.ext (by blk_simp [idxs t])
theorem emb4 (t : Fin cfg0.N) (p : Fin 16) (q : Fin 2048) : ((cfg0.win 4).blk t).view.emb (ix2 p q) = ix2 p q := by
  funext x
  match x with
  | ⟨0, _⟩ => exact Fin.ext (by blk_simp [idxs t])
  | ⟨1, _⟩ => exact Fin.ext (by blk_simp [idxs t])

/-- The two points. -/
abbrev tF : Fin cfg0.N := ⟨0, by rw [show cfg0.N = 2 from N_0]; norm_num⟩
abbrev tL : Fin cfg0.N := ⟨1, by rw [show cfg0.N = 2 from N_0]; norm_num⟩

theorem halves (f : Fin 2048 → EReal) : ∑ i, f i = ∑ a : Fin 1024, f ⟨a.val, by omega⟩ + ∑ a : Fin 1024, f ⟨1024 + a.val, by omega⟩ :=
  Fin.sum_univ_add (a := 1024) (b := 1024) f

/-- A column of the result lies in one of the four parts. -/
theorem cut (y : S16x2048.Idx) : ∃ (p : Fin 16) (j : Fin 4) (q : Fin 512), y = ix2 p (cb j q) := by
  have hq : (y 1 : Fin 2048).val < 2048 := (y 1 : Fin 2048).isLt
  refine ⟨y 0, ⟨(y 1 : Fin 2048).val / 512, by omega⟩, ⟨(y 1 : Fin 2048).val % 512, by omega⟩, (eq_ix2 y).trans (congrArg (ix2 (y 0)) (Fin.ext ?_))⟩
  simp; omega

theorem last3 : ∀ t : Fin cfg0.N, (cfg0.win 3).flush t = true → t.val = 1 := (by decide +kernel : ∀ t : Fin grid0.N, (cfg0.win 3).flush t = true → t.val = 1)
theorem last4 : ∀ t : Fin cfg0.N, (cfg0.win 4).flush t = true → t.val = 1 := (by decide +kernel : ∀ t : Fin grid0.N, (cfg0.win 4).flush t = true → t.val = 1)

theorem final_3 (c : Dev nD) : (dats m 0 c).arrAt 3 (cfgs 0).N = dR (aU m c) (aR m c) := by
  refine (dats m 0 c).arrAt_eq_of_covers 3 _ (by decide +kernel) fun t hf y => ?_
  refine (congrFun (after0_3 m c t) y).trans ?_
  obtain rfl : t = tL := Fin.ext (last3 t hf)
  obtain ⟨p, j, q, rfl⟩ := cut y
  refine Eq.trans ?_ (congrArg (dR (aU m c) (aR m c)) (emb3 tL p (cb j q))).symm
  rw [dR_at, halves]
  refine (o0_B m c tL (by decide) rfl j p q).trans (congrArg₂ (· + ·) ((s0_A m c tF rfl (by decide) j _ q).trans ((zero_add _).trans ?_)) ?_)
  · exact Finset.sum_congr rfl fun a _ => congrArg₂ (· * ·) (blk0 m c tF a _ _ (by simp)) (blk1 m c tF a _ _ (by simp))
  · exact Finset.sum_congr rfl fun a _ => congrArg₂ (· * ·) (blk0 m c tL a _ _ (by simp)) (blk1 m c tL a _ _ (by simp))
theorem final_4 (c : Dev nD) : (dats m 0 c).arrAt 4 (cfgs 0).N = dR (aU m c) (aI m c) := by
  refine (dats m 0 c).arrAt_eq_of_covers 4 _ (by decide +kernel) fun t hf y => ?_
  refine (congrFun (after0_4 m c t) y).trans ?_
  obtain rfl : t = tL := Fin.ext (last4 t hf)
  obtain ⟨p, j, q, rfl⟩ := cut y
  refine Eq.trans ?_ (congrArg (dR (aU m c) (aI m c)) (emb4 tL p (cb j q))).symm
  rw [dR_at, halves]
  refine (o1_B m c tL (by decide) rfl j p q).trans (congrArg₂ (· + ·) ((s1_A m c tF rfl (by decide) j _ q).trans ((zero_add _).trans ?_)) ?_)
  · exact Finset.sum_congr rfl fun a _ => congrArg₂ (· * ·) (blk0 m c tF a _ _ (by simp)) (blk2 m c tF a _ _ (by simp))
  · exact Finset.sum_congr rfl fun a _ => congrArg₂ (· * ·) (blk0 m c tL a _ _ (by simp)) (blk2 m c tL a _ _ (by simp))

end Cert.DiagBlocksIdeal.Value

end
-- ==== Proof.DiagBlocksClaim.lean ====
module

public import proofs.«01_k».proof.Defs
public import proofs.«01_k».proof.Proof.Gen.DiagBlocksIdeal.Frame
public import proofs.«01_k».proof.Proof.Gen.DiagBlocksRefIdeal.Run
public import proofs.«01_k».proof.Proof.DiagBlocks
public import Idealize.ShloMosaic.Adequacy
public import Idealize.ShloMosaic.Init

@[expose] public section

noncomputable section

namespace Cert.Proof

open Idealize.ShloMosaic Idealize.SL.Sem

/-- The reference of the diagonal blocks' gradient ends with its arguments as they were. -/
theorem frame_blocks_reference : Cert.quiescent_DiagBlocksRefIdeal := fun m ρ _ =>
  (θ_run Cert.DiagBlocksRefIdeal.defs _ _).mono (fun r h => ⟨fun c => (h c).2.2,
      Idealize.ShloMosaic.sem_eq_zero_of_no_sems (by decide) r.2⟩)
    (Cert.DiagBlocksRefIdeal.Value.run (F := Ideal) m ρ)

set_option maxHeartbeats 4000000 in
/-- The gradients of the blocks on the diagonal, both of them, are the reference's. -/
theorem blocks : @Cert.algebraic_DiagBlocksIdeal_DiagBlocksRefIdeal Cert.DiagBlocksIdeal.Gen.facts Cert.DiagBlocksRefIdeal.Gen.facts := by
  pair_intro
  · run_from Cert.DiagBlocksIdeal.Value.run_blocks m g
  run_from Cert.DiagBlocksRefIdeal.Value.run m' g'
  · exact (Cert.DiagBlocksIdeal.Value.final_3 m c).symm
  · exact (Cert.DiagBlocksIdeal.Value.final_4 m c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.InprojIdeal.Value
public import proofs.«01_k».proof.Proof.Gen.InprojRefIdeal.Run
public import proofs.«01_k».proof.Proof.Gen.Inproj
public import proofs.«01_k».proof.Proof.Gen.Inproj.Frame
public import proofs.«01_k».proof.Proof.Gen.Pre_inproj_finite
public import proofs.«01_k».proof.Proof.Gen.FfnRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.Pre_ffn_finite
public import proofs.«01_k».proof.Proof.Gen.PleIdeal.Value
public import proofs.«01_k».proof.Proof.Gen.PleRefIdeal.Run
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.Pre_ple_finite
public import proofs.«01_k».proof.Proof.Gen.MergeFwd
public import proofs.«01_k».proof.Proof.Gen.MergeFwd.Frame
public import proofs.«01_k».proof.Proof.Gen.MergeFwdIdeal
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.InprojFwd
public import proofs.«01_k».proof.Proof.Gen.InprojFwd.Frame
public import proofs.«01_k».proof.Proof.Gen.InprojFwdIdeal
public import proofs.«01_k».proof.Proof.Gen.InprojFwdIdeal.Frame
public import proofs.«01_k».proof.Proof.Gen.InprojFwdIdeal.Value
public import proofs.«01_k».proof.Proof.Gen.InprojFwdRefIdeal
public import proofs.«01_k».proof.Proof.Gen.InprojFwdRefIdeal.Run
public import proofs.«01_k».proof.Proof.Gen.DownWeight
public import proofs.«01_k».proof.Proof.Gen.DownWeight.Frame
public import proofs.«01_k».proof.Proof.Gen.DownWeightIdeal
public import proofs.«01_k».proof.Proof.Gen.DownWeightIdeal.Frame
public import proofs.«01_k».proof.Proof.Gen.DownWeightIdeal.Value
public import proofs.«01_k».proof.Proof.Gen.DownWeightRefIdeal
public import proofs.«01_k».proof.Proof.Gen.DownWeightRefIdeal.Run
public import proofs.«01_k».proof.Proof.Gen.AdamW
public import proofs.«01_k».proof.Proof.Gen.AdamW.Frame
public import proofs.«01_k».proof.Proof.Gen.AdamWIdeal
public import proofs.«01_k».proof.Proof.Gen.AdamWIdeal.Frame
public import proofs.«01_k».proof.Proof.Gen.AdamWIdeal.Value
public import proofs.«01_k».proof.Proof.Gen.AdamWRefIdeal
public import proofs.«01_k».proof.Proof.Gen.AdamWRefIdeal.Run
public import proofs.«01_k».proof.Proof.Gen.DiagBlocks
public import proofs.«01_k».proof.Proof.Gen.DiagBlocks.Frame
public import proofs.«01_k».proof.Proof.Gen.DiagBlocksIdeal
public import proofs.«01_k».proof.Proof.Gen.DiagBlocksIdeal.Frame
public import proofs.«01_k».proof.Proof.Gen.DiagBlocksIdeal.Value
public import proofs.«01_k».proof.Proof.Gen.DiagBlocksRefIdeal
public import proofs.«01_k».proof.Proof.Gen.DiagBlocksRefIdeal.Run
public import proofs.«01_k».proof.Proof.Merge
public import proofs.«01_k».proof.Proof.InprojClaim
public import proofs.«01_k».proof.Proof.FfnClaim
public import proofs.«01_k».proof.Proof.PleClaim
public import proofs.«01_k».proof.Proof.MergeFwdClaim
public import proofs.«01_k».proof.Proof.FfnDownClaim
public import proofs.«01_k».proof.Proof.FfnUpClaim
public import proofs.«01_k».proof.Proof.InprojFwdClaim
public import proofs.«01_k».proof.Proof.DownWeightClaim
public import proofs.«01_k».proof.Proof.AdamWClaim
public import proofs.«01_k».proof.Proof.DiagBlocksClaim
public import Idealize.ShloMosaic.Adequacy
public import Idealize.ShloMosaic.Init

@[expose] public section

noncomputable section

namespace Cert.Proof

open Idealize.ShloMosaic Idealize.SL.Sem Cert.Kernel

/-- The reference of the merge ends with its arguments as they were. -/
theorem frame_merge_reference : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

set_option maxHeartbeats 4000000 in
/-- All five results of the merge's backward call are the derivatives. -/
theorem merge : Cert.algebraic_KernelIdeal_ReferenceIdeal := by
  pair_intro
  · run_from Cert.KernelIdeal.Gen.run_main m g
  run_from Cert.ReferenceIdeal.Value.run m' g'
  · exact (Cert.KernelIdeal.Value.final_7 m c).symm
  · exact (Cert.KernelIdeal.Value.final_8 m c).symm
  · refine Eq.trans ?_ (Cert.KernelIdeal.Value.final_9 m c).symm
    unfold Cert.KernelIdeal.Value.dgR
    with_reducible rfl
  · exact (Cert.KernelIdeal.Value.final_10 m c).symm
  · exact (Cert.KernelIdeal.Value.final_11 m c).symm

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Inproj.Gen.facts, Cert.InprojIdeal.Gen.facts, Cert.InprojRefIdeal.Gen.facts,
  Cert.Ple.Gen.facts, Cert.PleIdeal.Gen.facts, Cert.PleRefIdeal.Gen.facts,
  Cert.MergeFwd.Gen.facts, Cert.MergeFwdIdeal.Gen.facts, Cert.MergeFwdRefIdeal.Gen.facts,
  Cert.FfnDown.Gen.facts, Cert.FfnDownIdeal.Gen.facts, Cert.FfnDownRefIdeal.Gen.facts,
  Cert.FfnUp.Gen.facts, Cert.FfnUpIdeal.Gen.facts, Cert.FfnUpRefIdeal.Gen.facts,
  Cert.InprojFwd.Gen.facts, Cert.InprojFwdIdeal.Gen.facts, Cert.InprojFwdRefIdeal.Gen.facts,
  Cert.DownWeight.Gen.facts, Cert.DownWeightIdeal.Gen.facts, Cert.DownWeightRefIdeal.Gen.facts,
  Cert.AdamW.Gen.facts, Cert.AdamWIdeal.Gen.facts, Cert.AdamWRefIdeal.Gen.facts,
  Cert.DiagBlocks.Gen.facts, Cert.DiagBlocksIdeal.Gen.facts, Cert.DiagBlocksRefIdeal.Gen.facts,
  Cert.Pre_ffn_finite.Gen.facts, Cert.Pre_inproj_finite.Gen.facts, Cert.Pre_ple_finite.Gen.facts,
  fun m ρ _ => Cert.Kernel.Gen.frame m ρ, fun m ρ _ => Cert.KernelIdeal.Gen.frame m ρ, frame_merge_reference,
  fun m ρ _ => Cert.Ffn.Gen.frame m ρ, fun m ρ _ => Cert.FfnIdeal.Gen.frame m ρ, fun m ρ _ => Cert.FfnIdeal.Gen.frame m ρ,
  frame_ffn_reference, fun m ρ _ => frame_ffn_reference m ρ trivial,
  fun m ρ _ => Cert.Inproj.Gen.frame m ρ, fun m ρ _ => Cert.InprojIdeal.Gen.frame m ρ, fun m ρ _ => Cert.InprojIdeal.Gen.frame m ρ,
  frame_inproj_reference, fun m ρ _ => frame_inproj_reference m ρ trivial,
  fun m ρ _ => Cert.Ple.Gen.frame m ρ, fun m ρ _ => Cert.PleIdeal.Gen.frame m ρ, fun m ρ _ => Cert.PleIdeal.Gen.frame m ρ,
  frame_ple_reference, fun m ρ _ => frame_ple_reference m ρ trivial,
  fun m ρ _ => Cert.MergeFwd.Gen.frame m ρ, fun m ρ _ => Cert.MergeFwdIdeal.Gen.frame m ρ, frame_merge_fwd_reference,
  fun m ρ _ => Cert.FfnDown.Gen.frame m ρ, fun m ρ _ => Cert.FfnDownIdeal.Gen.frame m ρ, frame_ffn_down_reference,
  fun m ρ _ => Cert.FfnUp.Gen.frame m ρ, fun m ρ _ => Cert.FfnUpIdeal.Gen.frame m ρ, frame_ffn_up_reference,
  fun m ρ _ => Cert.InprojFwd.Gen.frame m ρ, fun m ρ _ => Cert.InprojFwdIdeal.Gen.frame m ρ, frame_inproj_fwd_reference,
  fun m ρ _ => Cert.DownWeight.Gen.frame m ρ, fun m ρ _ => Cert.DownWeightIdeal.Gen.frame m ρ, frame_down_weight_reference,
  fun m ρ _ => Cert.AdamW.Gen.frame m ρ, fun m ρ _ => Cert.AdamWIdeal.Gen.frame m ρ, frame_adamw_reference,
  fun m ρ _ => Cert.DiagBlocks.Gen.frame m ρ, fun m ρ _ => Cert.DiagBlocksIdeal.Gen.frame m ρ, frame_blocks_reference,
  trivial, merge, trivial, ffn, trivial, inproj, trivial, ple,
  trivial, merge_fwd, trivial, ffn_down, trivial, ffn_up, trivial, inproj_fwd,
  trivial, down_weight, trivial, adamw, trivial, blocks⟩

end Cert.Proof

end
